-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite_in [hPre_finite_in : Cert.Pre_finite_in.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite_in.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).1 = (fun _ => 1#1)
    ∧ (Cert.Pre_finite_in.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.1 = (fun _ => 1#1)
    ∧ (Cert.Pre_finite_in.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite_in [hPre_finite_in : Cert.Pre_finite_in.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite_in.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).1 = (fun _ => 1#1)
    ∧ (Cert.Pre_finite_in.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.1 = (fun _ => 1#1)
    ∧ (Cert.Pre_finite_in.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite_in [hKernel12Ideal : Cert.Kernel12Ideal.Facts] [hPre_finite_in : Cert.Pre_finite_in.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite_in m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite_in [hReference12Ideal : Cert.Reference12Ideal.Facts] [hPre_finite_in : Cert.Pre_finite_in.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite_in m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v126) = v1 c
          ∧ r.2.mem ((c.tc : Thread Cert.ReferenceIdeal.nD Cert.ReferenceIdeal.τ).loc Cert.ReferenceIdeal.main_v127) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite_in [hKernel12Ideal : Cert.Kernel12Ideal.Facts] [hReference12Ideal : Cert.Reference12Ideal.Facts] [hPre_finite_in : Cert.Pre_finite_in.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite_in m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v10_0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10_0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v38) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v0) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v0) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v1) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v1) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v1) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v1) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hPre_finite : Cert.Pre_finite.Facts) (hPre_finite_in : Cert.Pre_finite_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite_in (hKernel12Ideal := hKernel12Ideal) (hPre_finite_in := hPre_finite_in)
    ∧ quiescent_Reference12Ideal (hReference12Ideal := hReference12Ideal)
    ∧ quiescent_Reference12Ideal_pre_finite_in (hReference12Ideal := hReference12Ideal) (hPre_finite_in := hPre_finite_in)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite_in (hKernel12Ideal := hKernel12Ideal) (hReference12Ideal := hReference12Ideal) (hPre_finite_in := hPre_finite_in)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
-- ==== Pre_finite.lean ====
abbrev S2x4352x4x96 : Shape := ⟨4, ![2, 4352, 4, 96]⟩
abbrev S2x4352x4x64 : Shape := ⟨4, ![2, 4352, 4, 64]⟩
abbrev S2x4x4352x64 : Shape := ⟨4, ![2, 4, 4352, 64]⟩
abbrev S4x1x64 : Shape := ⟨3, ![4, 1, 64]⟩
abbrev S2x4x68x64x64 : Shape := ⟨5, ![2, 4, 68, 64, 64]⟩
abbrev S_ : Shape := ⟨0, ![]⟩

class Facts : Prop where
  bcast_S_S2x4352x4x96 : S_.BroadcastsInDim S2x4352x4x96 (![] : Fin 0 → Fin S2x4352x4x96.rank)
  bcast_S_S2x4352x4x64 : S_.BroadcastsInDim S2x4352x4x64 (![] : Fin 0 → Fin S2x4352x4x64.rank)

variable [Facts]

def fn {F : FTy → Type} [FloatOps F] (main_arg0 : FVec F S2x4352x4x96 .f32) (main_arg1 : FVec F S2x4352x4x96 .f32) (main_arg2 : FVec F S2x4352x4x64 .f32) (main_arg3 : FVec F S2x4352x4x64 .f32) (main_arg4 : FVec F S2x4x4352x64 .f32) (main_arg5 : FVec F S2x4x4352x64 .f32) (main_arg6 : FVec F S2x4x4352x64 .f32) (main_arg7 : FVec F S4x1x64 .f32) (main_arg8 : FVec F S2x4x68x64x64 .f32) (main_arg9 : FVec F S2x4x4352x64 .f32) : IVec S2x4352x4x96 1 × IVec S2x4352x4x96 1 × IVec S2x4352x4x64 1 × IVec S2x4352x4x64 1 :=
  let main_v0 : FVec F S2x4352x4x96 .f32 := Host.absf main_arg0
  let main_cst : FVec F S_ .f32 := constant S_ .f32 0x7F800000#32
  let main_v1 : FVec F S2x4352x4x96 .f32 := broadcastInDim S2x4352x4x96 ![] bcast_S_S2x4352x4x96 main_cst
  let main_v2 : IVec S2x4352x4x96 1 := cmpf .olt main_v0 main_v1
  let main_v3 : FVec F S2x4352x4x96 .f32 := Host.absf main_arg1
  let main_cst_0 : FVec F S_ .f32 := constant S_ .f32 0x7F800000#32
  let main_v4 : FVec F S2x4352x4x96 .f32 := broadcastInDim S2x4352x4x96 ![] bcast_S_S2x4352x4x96 main_cst_0
  let main_v5 : IVec S2x4352x4x96 1 := cmpf .olt main_v3 main_v4
  let main_v6 : FVec F S2x4352x4x64 .f32 := Host.absf main_arg2
  let main_cst_1 : FVec F S_ .f32 := constant S_ .f32 0x7F800000#32
  let main_v7 : FVec F S2x4352x4x64 .f32 := broadcastInDim S2x4352x4x64 ![] bcast_S_S2x4352x4x64 main_cst_1
  let main_v8 : IVec S2x4352x4x64 1 := cmpf .olt main_v6 main_v7
  let main_v9 : FVec F S2x4352x4x64 .f32 := Host.absf main_arg3
  let main_cst_2 : FVec F S_ .f32 := constant S_ .f32 0x7F800000#32
  let main_v10 : FVec F S2x4352x4x64 .f32 := broadcastInDim S2x4352x4x64 ![] bcast_S_S2x4352x4x64 main_cst_2
  let main_v11 : IVec S2x4352x4x64 1 := cmpf .olt main_v9 main_v10
  (main_v2, main_v5, main_v8, main_v11)
-- ==== Pre_finite_in.lean ====
abbrev S2x4352x4x96 : Shape := ⟨4, ![2, 4352, 4, 96]⟩
abbrev S2x4352x4x64 : Shape := ⟨4, ![2, 4352, 4, 64]⟩
abbrev S2x4x4352x64 : Shape := ⟨4, ![2, 4, 4352, 64]⟩
abbrev S4x1x64 : Shape := ⟨3, ![4, 1, 64]⟩
abbrev S_ : Shape := ⟨0, ![]⟩

class Facts : Prop where
  bcast_S_S2x4352x4x96 : S_.BroadcastsInDim S2x4352x4x96 (![] : Fin 0 → Fin S2x4352x4x96.rank)
  bcast_S_S2x4352x4x64 : S_.BroadcastsInDim S2x4352x4x64 (![] : Fin 0 → Fin S2x4352x4x64.rank)

variable [Facts]

def fn {F : FTy → Type} [FloatOps F] (main_arg0 : FVec F S2x4352x4x96 .f32) (main_arg1 : FVec F S2x4352x4x96 .f32) (main_arg2 : FVec F S2x4352x4x64 .f32) (main_arg3 : FVec F S2x4x4352x64 .f32) (main_arg4 : FVec F S2x4x4352x64 .f32) (main_arg5 : FVec F S2x4x4352x64 .f32) (main_arg6 : FVec F S4x1x64 .f32) : IVec S2x4352x4x96 1 × IVec S2x4352x4x96 1 × IVec S2x4352x4x64 1 :=
  let main_v0 : FVec F S2x4352x4x96 .f32 := Host.absf main_arg0
  let main_cst : FVec F S_ .f32 := constant S_ .f32 0x7F800000#32
  let main_v1 : FVec F S2x4352x4x96 .f32 := broadcastInDim S2x4352x4x96 ![] bcast_S_S2x4352x4x96 main_cst
  let main_v2 : IVec S2x4352x4x96 1 := cmpf .olt main_v0 main_v1
  let main_v3 : FVec F S2x4352x4x96 .f32 := Host.absf main_arg1
  let main_cst_0 : FVec F S_ .f32 := constant S_ .f32 0x7F800000#32
  let main_v4 : FVec F S2x4352x4x96 .f32 := broadcastInDim S2x4352x4x96 ![] bcast_S_S2x4352x4x96 main_cst_0
  let main_v5 : IVec S2x4352x4x96 1 := cmpf .olt main_v3 main_v4
  let main_v6 : FVec F S2x4352x4x64 .f32 := Host.absf main_arg2
  let main_cst_1 : FVec F S_ .f32 := constant S_ .f32 0x7F800000#32
  let main_v7 : FVec F S2x4352x4x64 .f32 := broadcastInDim S2x4352x4x64 ![] bcast_S_S2x4352x4x64 main_cst_1
  let main_v8 : IVec S2x4352x4x64 1 := cmpf .olt main_v6 main_v7
  (main_v2, main_v5, main_v8)
-- ==== Kernel.lean ====
abbrev S2x4352x4x96 : Shape := ⟨4, ![2, 4352, 4, 96]⟩
abbrev S2x4352x4x64 : Shape := ⟨4, ![2, 4352, 4, 64]⟩
abbrev S2x4x4352x64 : Shape := ⟨4, ![2, 4, 4352, 64]⟩
abbrev S4x1x64 : Shape := ⟨3, ![4, 1, 64]⟩
abbrev S2x4x68x64x64 : Shape := ⟨5, ![2, 4, 68, 64, 64]⟩
abbrev S2x4096x4x96 : Shape := ⟨4, ![2, 4096, 4, 96]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x4096x64 : Shape := ⟨4, ![2, 4, 4096, 64]⟩
abbrev S2x256x4x96 : Shape := ⟨4, ![2, 256, 4, 96]⟩
abbrev S2x256x4x64 : Shape := ⟨4, ![2, 256, 4, 64]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x256x64 : Shape := ⟨4, ![2, 4, 256, 64]⟩
abbrev S2x4x1x4352x64 : Shape := ⟨5, ![2, 4, 1, 4352, 64]⟩
abbrev S2x4x4352x1 : Shape := ⟨4, ![2, 4, 4352, 1]⟩
abbrev S2x4x1x4352x1 : Shape := ⟨5, ![2, 4, 1, 4352, 1]⟩
abbrev S2x4x1x4352x128 : Shape := ⟨5, ![2, 4, 1, 4352, 128]⟩
abbrev S2x4x4352x96 : Shape := ⟨4, ![2, 4, 4352, 96]⟩
abbrev S2x4x1x4352x96 : Shape := ⟨5, ![2, 4, 1, 4352, 96]⟩
abbrev S2x4x96x4352 : Shape := ⟨4, ![2, 4, 96, 4352]⟩
abbrev S2x4x64x4352 : Shape := ⟨4, ![2, 4, 64, 4352]⟩
abbrev S2x1x1x256x96 : Shape := ⟨5, ![2, 1, 1, 256, 96]⟩
abbrev S2x1x96x4352 : Shape := ⟨4, ![2, 1, 96, 4352]⟩
abbrev S2x1x64x4352 : Shape := ⟨4, ![2, 1, 64, 4352]⟩
abbrev S2x4x64x64 : Shape := ⟨4, ![2, 4, 64, 64]⟩
abbrev S2x4x1x64x64 : Shape := ⟨5, ![2, 4, 1, 64, 64]⟩
abbrev S2x1x1x256x64 : Shape := ⟨5, ![2, 1, 1, 256, 64]⟩
abbrev S2x1x1x256x128 : Shape := ⟨5, ![2, 1, 1, 256, 128]⟩
abbrev S2x96x4352 : Shape := ⟨3, ![2, 96, 4352]⟩
abbrev S2x64x4352 : Shape := ⟨3, ![2, 64, 4352]⟩
abbrev S1x1x1x64x64 : Shape := ⟨5, ![1, 1, 1, 64, 64]⟩
abbrev S64x64 : Shape := ⟨2, ![64, 64]⟩
abbrev S1x1x64x64 : Shape := ⟨4, ![1, 1, 64, 64]⟩
abbrev S1x1x64 : Shape := ⟨3, ![1, 1, 64]⟩
abbrev S1x64 : Shape := ⟨2, ![1, 64]⟩
abbrev S16x16 : Shape := ⟨2, ![16, 16]⟩
abbrev S64x1 : Shape := ⟨2, ![64, 1]⟩
abbrev S16x64 : Shape := ⟨2, ![16, 64]⟩
abbrev S16x1x64 : Shape := ⟨3, ![16, 1, 64]⟩
abbrev S1x16x64 : Shape := ⟨3, ![1, 16, 64]⟩
abbrev S16x16x64 : Shape := ⟨3, ![16, 16, 64]⟩
abbrev S64x16 : Shape := ⟨2, ![64, 16]⟩
abbrev S64 : Shape := ⟨1, ![64]⟩
abbrev S63x64 : Shape := ⟨2, ![63, 64]⟩
abbrev S16x16x1 : Shape := ⟨3, ![16, 16, 1]⟩
abbrev S48x64 : Shape := ⟨2, ![48, 64]⟩
abbrev S15x64 : Shape := ⟨2, ![15, 64]⟩
abbrev S32x64 : Shape := ⟨2, ![32, 64]⟩
abbrev S1x1x96x4352 : Shape := ⟨4, ![1, 1, 96, 4352]⟩
abbrev S96x4352 : Shape := ⟨2, ![96, 4352]⟩
abbrev S1x1x64x4352 : Shape := ⟨4, ![1, 1, 64, 4352]⟩
abbrev S64x4352 : Shape := ⟨2, ![64, 4352]⟩
abbrev S1x1x1x256x96 : Shape := ⟨5, ![1, 1, 1, 256, 96]⟩
abbrev S1x256x96 : Shape := ⟨3, ![1, 256, 96]⟩
abbrev S256x96 : Shape := ⟨2, ![256, 96]⟩
abbrev S1x1x1x256x64 : Shape := ⟨5, ![1, 1, 1, 256, 64]⟩
abbrev S1x256x64 : Shape := ⟨3, ![1, 256, 64]⟩
abbrev S256x64 : Shape := ⟨2, ![256, 64]⟩
abbrev S1x1x1x256x128 : Shape := ⟨5, ![1, 1, 1, 256, 128]⟩
abbrev S1x256x128 : Shape := ⟨3, ![1, 256, 128]⟩
abbrev S256x128 : Shape := ⟨2, ![256, 128]⟩
abbrev S256x1 : Shape := ⟨2, ![256, 1]⟩
abbrev S256x4352 : Shape := ⟨2, ![256, 4352]⟩
abbrev S256 : Shape := ⟨1, ![256]⟩
abbrev S1x1x96x256 : Shape := ⟨4, ![1, 1, 96, 256]⟩
abbrev S96x256 : Shape := ⟨2, ![96, 256]⟩
abbrev S1x1x64x256 : Shape := ⟨4, ![1, 1, 64, 256]⟩
abbrev S64x256 : Shape := ⟨2, ![64, 256]⟩
abbrev S256x256 : Shape := ⟨2, ![256, 256]⟩

abbrev nBuf : Space → Nat
  | .hbm => 70
  | .vmem => 37
  | .smem => 0
  | _ => 0

abbrev bufTy : (tb : Table) → Fin (tcTables nBuf tb) → BufTy
  | .hbm, ⟨0, _⟩ => ⟨S2x4352x4x96, .f32⟩
  | .hbm, ⟨1, _⟩ => ⟨S2x4352x4x96, .f32⟩
  | .hbm, ⟨2, _⟩ => ⟨S2x4352x4x64, .f32⟩
  | .hbm, ⟨3, _⟩ => ⟨S2x4352x4x64, .f32⟩
  | .hbm, ⟨4, _⟩ => ⟨S2x4x4352x64, .f32⟩
  | .hbm, ⟨5, _⟩ => ⟨S2x4x4352x64, .f32⟩
  | .hbm, ⟨6, _⟩ => ⟨S2x4x4352x64, .f32⟩
  | .hbm, ⟨7, _⟩ => ⟨S4x1x64, .f32⟩
  | .hbm, ⟨8, _⟩ => ⟨S2x4x68x64x64, .f32⟩
  | .hbm, ⟨9, _⟩ => ⟨S2x4x4352x64, .f32⟩
  | .hbm, ⟨10, _⟩ => ⟨S2x4096x4x96, .f32⟩
  | .hbm, ⟨11, _⟩ => ⟨S2x4x4096x4352, .f32⟩
  | .hbm, ⟨12, _⟩ => ⟨S_, .f32⟩
  | .hbm, ⟨13, _⟩ => ⟨S2x4x4096x4352, .f32⟩
  | .hbm, ⟨14, _⟩ => ⟨S2x4x4096x4352, .f32⟩
  | .hbm, ⟨15, _⟩ => ⟨S_, .f32⟩
  | .hbm, ⟨16, _⟩ => ⟨S2x4x4096, .f32⟩
  | .hbm, ⟨17, _⟩ => ⟨S2x4x4096x1, .f32⟩
  | .hbm, ⟨18, _⟩ => ⟨S2x4x4096x4352, .f32⟩
  | .hbm, ⟨19, _⟩ => ⟨S2x4x4096x4352, .f32⟩
  | .hbm, ⟨20, _⟩ => ⟨S2x4x4096x4352, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x4352, .f32⟩
  | .hbm, ⟨25, _⟩ => ⟨S2x4x4096x4352, .f32⟩
  | .hbm, ⟨26, _⟩ => ⟨S2x4x4096x64, .f32⟩
  | .hbm, ⟨27, _⟩ => ⟨S2x4x4096x1, .f32⟩
  | .hbm, ⟨28, _⟩ => ⟨S2x4x4096x1, .f32⟩
  | .hbm, ⟨29, _⟩ => ⟨S2x256x4x96, .f32⟩
  | .hbm, ⟨30, _⟩ => ⟨S2x256x4x96, .f32⟩
  | .hbm, ⟨31, _⟩ => ⟨S2x256x4x64, .f32⟩
  | .hbm, ⟨32, _⟩ => ⟨S2x4x256x256, .f32⟩
  | .hbm, ⟨33, _⟩ => ⟨S_, .f32⟩
  | .hbm, ⟨34, _⟩ => ⟨S2x4x256x256, .f32⟩
  | .hbm, ⟨35, _⟩ => ⟨S2x4x256x256, .f32⟩
  | .hbm, ⟨36, _⟩ => ⟨S_, .f32⟩
  | .hbm, ⟨37, _⟩ => ⟨S2x4x256, .f32⟩
  | .hbm, ⟨38, _⟩ => ⟨S2x4x256x1, .f32⟩
  | .hbm, ⟨39, _⟩ => ⟨S2x4x256x256, .f32⟩
  | .hbm, ⟨40, _⟩ => ⟨S2x4x256x256, .f32⟩
  | .hbm, ⟨41, _⟩ => ⟨S2x4x256x256, .f32⟩
  | .hbm, ⟨42, _⟩ => ⟨S_, .f32⟩
  | .hbm, ⟨43, _⟩ => ⟨S2x4x256, .f32⟩
  | .hbm, ⟨44, _⟩ => ⟨S2x4x256x1, .f32⟩
  | .hbm, ⟨45, _⟩ => ⟨S2x4x256x256, .f32⟩
  | .hbm, ⟨46, _⟩ => ⟨S2x4x256x256, .f32⟩
  | .hbm, ⟨47, _⟩ => ⟨S2x4x256x64, .f32⟩
  | .hbm, ⟨48, _⟩ => ⟨S2x4x256x1, .f32⟩
  | .hbm, ⟨49, _⟩ => ⟨S2x4x256x1, .f32⟩
  | .hbm, ⟨50, _⟩ => ⟨S2x4x4352x64, .f32⟩
  | .hbm, ⟨51, _⟩ => ⟨S2x4x1x4352x64, .f32⟩
  | .hbm, ⟨52, _⟩ => ⟨S2x4x4352x1, .f32⟩
  | .hbm, ⟨53, _⟩ => ⟨S2x4x1x4352x1, .f32⟩
  | .hbm, ⟨54, _⟩ => ⟨S2x4x1x4352x128, .f32⟩
  | .hbm, ⟨55, _⟩ => ⟨S2x4x4352x96, .f32⟩
  | .hbm, ⟨56, _⟩ => ⟨S2x4x1x4352x96, .f32⟩
  | .hbm, ⟨57, _⟩ => ⟨S2x4x96x4352, .f32⟩
  | .hbm, ⟨58, _⟩ => ⟨S2x4x64x4352, .f32⟩
  | .hbm, ⟨59, _⟩ => ⟨S2x4x96x4352, .bf16⟩
  | .hbm, ⟨60, _⟩ => ⟨S2x4x64x4352, .bf16⟩
  | .hbm, ⟨61, _⟩ => ⟨S2x4x4352x64, .f32⟩
  | .hbm, ⟨62, _⟩ => ⟨S2x4x1x4352x64, .f32⟩
  | .hbm, ⟨63, _⟩ => ⟨S2x4x1x4352x96, .f32⟩
  | .hbm, ⟨64, _⟩ => ⟨S2x4x96x4352, .f32⟩
  | .hbm, ⟨65, _⟩ => ⟨S2x4x64x4352, .f32⟩
  | .hbm, ⟨66, _⟩ => ⟨S2x4x4352x64, .f32⟩
  | .hbm, ⟨67, _⟩ => ⟨S2x4x4352x64, .f32⟩
  | .hbm, ⟨68, _⟩ => ⟨S2x4x4352x64, .f32⟩
  | .hbm, ⟨69, _⟩ => ⟨S4x1x64, .f32⟩
  | .local _ .vmem, ⟨0, _⟩ => ⟨S2x1x1x256x96, .f32⟩
  | .local _ .vmem, ⟨1, _⟩ => ⟨S2x1x1x256x96, .f32⟩
  | .local _ .vmem, ⟨2, _⟩ => ⟨S2x1x96x4352, .bf16⟩
  | .local _ .vmem, ⟨3, _⟩ => ⟨S2x1x96x4352, .bf16⟩
  | .local _ .vmem, ⟨4, _⟩ => ⟨S2x1x64x4352, .bf16⟩
  | .local _ .vmem, ⟨5, _⟩ => ⟨S2x1x64x4352, .bf16⟩
  | .local _ .vmem, ⟨6, _⟩ => ⟨S2x4x64x64, .f32⟩
  | .local _ .vmem, ⟨7, _⟩ => ⟨S2x4x64x64, .f32⟩
  | .local _ .vmem, ⟨8, _⟩ => ⟨S2x4x64x64, .f32⟩
  | .local _ .vmem, ⟨9, _⟩ => ⟨S2x4x64x64, .f32⟩
  | .local _ .vmem, ⟨10, _⟩ => ⟨S2x4x64x64, .f32⟩
  | .local _ .vmem, ⟨11, _⟩ => ⟨S2x4x64x64, .f32⟩
  | .local _ .vmem, ⟨12, _⟩ => ⟨S4x1x64, .f32⟩
  | .local _ .vmem, ⟨13, _⟩ => ⟨S2x4x1x64x64, .f32⟩
  | .local _ .vmem, ⟨14, _⟩ => ⟨S2x4x1x64x64, .f32⟩
  | .local _ .vmem, ⟨15, _⟩ => ⟨S2x1x1x256x64, .f32⟩
  | .local _ .vmem, ⟨16, _⟩ => ⟨S2x1x1x256x64, .f32⟩
  | .local _ .vmem, ⟨17, _⟩ => ⟨S2x1x1x256x128, .f32⟩
  | .local _ .vmem, ⟨18, _⟩ => ⟨S2x1x1x256x128, .f32⟩
  | .local _ .vmem, ⟨19, _⟩ => ⟨S2x1x1x256x64, .f32⟩
  | .local _ .vmem, ⟨20, _⟩ => ⟨S2x1x1x256x64, .f32⟩
  | .local _ .vmem, ⟨21, _⟩ => ⟨S2x4x64x64, .f32⟩
  | .local _ .vmem, ⟨22, _⟩ => ⟨S2x4x64x64, .f32⟩
  | .local _ .vmem, ⟨23, _⟩ => ⟨S2x1x1x256x96, .f32⟩
  | .local _ .vmem, ⟨24, _⟩ => ⟨S2x1x1x256x96, .f32⟩
  | .local _ .vmem, ⟨25, _⟩ => ⟨S2x1x96x4352, .f32⟩
  | .local _ .vmem, ⟨26, _⟩ => ⟨S2x1x96x4352, .f32⟩
  | .local _ .vmem, ⟨27, _⟩ => ⟨S2x1x64x4352, .f32⟩
  | .local _ .vmem, ⟨28, _⟩ => ⟨S2x1x64x4352, .f32⟩
  | .local _ .vmem, ⟨29, _⟩ => ⟨S2x4x64x64, .f32⟩
  | .local _ .vmem, ⟨30, _⟩ => ⟨S2x4x64x64, .f32⟩
  | .local _ .vmem, ⟨31, _⟩ => ⟨S2x4x64x64, .f32⟩
  | .local _ .vmem, ⟨32, _⟩ => ⟨S2x4x64x64, .f32⟩
  | .local _ .vmem, ⟨33, _⟩ => ⟨S2x4x64x64, .f32⟩
  | .local _ .vmem, ⟨34, _⟩ => ⟨S2x4x64x64, .f32⟩
  | .local _ .vmem, ⟨35, _⟩ => ⟨S4x1x64, .f32⟩
  | .local _ .vmem, ⟨36, _⟩ => ⟨S2x4x64x64, .f32⟩
  | _, _ => ⟨S2x4352x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47_0 : Ref sig .tc := ⟨.hbm, 63, rfl⟩
abbrev main_v47_1 : Ref sig .tc := ⟨.hbm, 64, rfl⟩
abbrev main_v47_2 : Ref sig .tc := ⟨.hbm, 65, rfl⟩
abbrev main_v47_3 : Ref sig .tc := ⟨.hbm, 66, rfl⟩
abbrev main_v47_4 : Ref sig .tc := ⟨.hbm, 67, rfl⟩
abbrev main_v47_5 : Ref sig .tc := ⟨.hbm, 68, rfl⟩
abbrev main_v47_6 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_scratch0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35

abbrev nD : Nat := 1
abbrev τ : Topo := Topo.v7x

variable {F : FTy → Type} [FloatOps F]

abbrev grid0 : Pipeline.Grid := ⟨1, ![68], ![false]⟩

def k0_cond3 (i : grid0.Coords) : BitVec 1 :=
  let arg0 : BitVec 32 := BitVec.ofNat 32 (i 0).val
  let c17_i32_3 : BitVec 32 := 17#32
  let v7 : BitVec 32 := Scalar.remsi arg0 c17_i32_3
  let c256_i32 : BitVec 32 := 256#32
  let v8 : BitVec 32 := Scalar.muli v7 c256_i32
  let c4096_i32 : BitVec 32 := 4096#32
  let v9 : BitVec 1 := Scalar.cmpi .slt v8 c4096_i32
  let v10 : BitVec 32 := Scalar.extui v9
  let c0_i32_4 : BitVec 32 := 0#32
  let v11 : BitVec 1 := Scalar.cmpi .ne v10 c0_i32_4
  v11

def k0_cond4 (i : grid0.Coords) : BitVec 1 :=
  let arg0 : BitVec 32 := BitVec.ofNat 32 (i 0).val
  let c17_i32_5 : BitVec 32 := 17#32
  let v12 : BitVec 32 := Scalar.remsi arg0 c17_i32_5
  let c256_i32_6 : BitVec 32 := 256#32
  let v13 : BitVec 32 := Scalar.muli v12 c256_i32_6
  let c4096_i32_7 : BitVec 32 := 4096#32
  let v14 : BitVec 1 := Scalar.cmpi .sge v13 c4096_i32_7
  let v15 : BitVec 32 := Scalar.extui v14
  let c0_i32_8 : BitVec 32 := 0#32
  let v16 : BitVec 1 := Scalar.cmpi .ne v15 c0_i32_8
  v16

def k0_cond2 (i : grid0.Coords) : BitVec 1 :=
  let arg0 : BitVec 32 := BitVec.ofNat 32 (i 0).val
  let c17_i32 : BitVec 32 := 17#32
  let v3 : BitVec 32 := Scalar.remsi arg0 c17_i32
  let c0_i32_1 : BitVec 32 := 0#32
  let v4 : BitVec 1 := Scalar.cmpi .eq v3 c0_i32_1
  let v5 : BitVec 32 := Scalar.extui v4
  let c0_i32_2 : BitVec 32 := 0#32
  let v6 : BitVec 1 := Scalar.cmpi .ne v5 c0_i32_2
  v6

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_1 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 4 → Nat :=
  let arg0 : BitVec 32 := BitVec.ofNat 32 (i 0).val
  let c67_i32 : BitVec 32 := 67#32
  let v0 : BitVec 32 := Scalar.subi c67_i32 arg0
  let c64_i32 : BitVec 32 := 64#32
  let v1 : BitVec 32 := Scalar.addi v0 c64_i32
  let c68_i32 : BitVec 32 := 68#32
  let v2 : BitVec 32 := Scalar.remsi v1 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_4 (i : grid0.Coords) : Fin 4 → Nat :=
  let arg0 : BitVec 32 := BitVec.ofNat 32 (i 0).val
  let c67_i32 : BitVec 32 := 67#32
  let v0 : BitVec 32 := Scalar.subi c67_i32 arg0
  let c64_i32 : BitVec 32 := 64#32
  let v1 : BitVec 32 := Scalar.addi v0 c64_i32
  let c68_i32 : BitVec 32 := 68#32
  let v2 : BitVec 32 := Scalar.remsi v1 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_5 (i : grid0.Coords) : Fin 4 → Nat :=
  let arg0 : BitVec 32 := BitVec.ofNat 32 (i 0).val
  let c67_i32 : BitVec 32 := 67#32
  let v0 : BitVec 32 := Scalar.subi c67_i32 arg0
  let c64_i32 : BitVec 32 := 64#32
  let v1 : BitVec 32 := Scalar.addi v0 c64_i32
  let c68_i32 : BitVec 32 := 68#32
  let v2 : BitVec 32 := Scalar.remsi v1 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc0_transform_8 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_9 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_10 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_11 (i : grid0.Coords) : Fin 4 → Nat :=
  let arg0 : BitVec 32 := BitVec.ofNat 32 (i 0).val
  let c67_i32 : BitVec 32 := 67#32
  let v0 : BitVec 32 := Scalar.subi c67_i32 arg0
  let c64_i32 : BitVec 32 := 64#32
  let v1 : BitVec 32 := Scalar.addi v0 c64_i32
  let c68_i32 : BitVec 32 := 68#32
  let v2 : BitVec 32 := Scalar.remsi v1 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_12 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_13 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_14 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_15 (i : grid0.Coords) : Fin 4 → Nat :=
  let arg0 : BitVec 32 := BitVec.ofNat 32 (i 0).val
  let c67_i32 : BitVec 32 := 67#32
  let v0 : BitVec 32 := Scalar.subi c67_i32 arg0
  let c64_i32 : BitVec 32 := 64#32
  let v1 : BitVec 32 := Scalar.addi v0 c64_i32
  let c68_i32 : BitVec 32 := 68#32
  let v2 : BitVec 32 := Scalar.remsi v1 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_16 (i : grid0.Coords) : Fin 4 → Nat :=
  let arg0 : BitVec 32 := BitVec.ofNat 32 (i 0).val
  let c67_i32 : BitVec 32 := 67#32
  let v0 : BitVec 32 := Scalar.subi c67_i32 arg0
  let c64_i32 : BitVec 32 := 64#32
  let v1 : BitVec 32 := Scalar.addi v0 c64_i32
  let c68_i32 : BitVec 32 := 68#32
  let v2 : BitVec 32 := Scalar.remsi v1 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_17 (i : grid0.Coords) : Fin 4 → Nat :=
  let arg0 : BitVec 32 := BitVec.ofNat 32 (i 0).val
  let c67_i32 : BitVec 32 := 67#32
  let v0 : BitVec 32 := Scalar.subi c67_i32 arg0
  let c64_i32 : BitVec 32 := 64#32
  let v1 : BitVec 32 := Scalar.addi v0 c64_i32
  let c68_i32 : BitVec 32 := 68#32
  let v2 : BitVec 32 := Scalar.remsi v1 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v2.toNat, c0_i32_1.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x1x1x256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x96x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4x1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x1x256x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x1x1x256x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x4x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x1x256x96 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x96x4352 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x64x4352 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x4x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x4x64x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2x4x64x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S4x1x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S2x4352x4x96 : Shape := ⟨4, ![2, 4352, 4, 96]⟩
abbrev S2x4352x4x64 : Shape := ⟨4, ![2, 4352, 4, 64]⟩
abbrev S2x4x4352x64 : Shape := ⟨4, ![2, 4, 4352, 64]⟩
abbrev S4x1x64 : Shape := ⟨3, ![4, 1, 64]⟩
abbrev S2x4x68x64x64 : Shape := ⟨5, ![2, 4, 68, 64, 64]⟩
abbrev S2x4096x4x96 : Shape := ⟨4, ![2, 4096, 4, 96]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4096x4x64 : Shape := ⟨4, ![2, 4096, 4, 64]⟩
abbrev S2x256x4x96 : Shape := ⟨4, ![2, 256, 4, 96]⟩
abbrev S2x256x4x64 : Shape := ⟨4, ![2, 256, 4, 64]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x4x256x96 : Shape := ⟨4, ![2, 4, 256, 96]⟩
abbrev S2x4x64x4352 : Shape := ⟨4, ![2, 4, 64, 4352]⟩
abbrev S2x4x4352x96 : Shape := ⟨4, ![2, 4, 4352, 96]⟩
abbrev S2x4x4096x96 : Shape := ⟨4, ![2, 4, 4096, 96]⟩
abbrev S2x4x1x4352x96 : Shape := ⟨5, ![2, 4, 1, 4352, 96]⟩
abbrev S2x4x96x4352 : Shape := ⟨4, ![2, 4, 96, 4352]⟩

abbrev nBuf : Space → Nat
  | .hbm => 170
  | .vmem => 0
  | .smem => 0
  | _ => 0

abbrev hbmTy0_0 (i : Nat) : BufTy := match i % 128 with
  | 0 => ⟨S2x4352x4x96, .f32⟩
  | 1 => ⟨S2x4352x4x96, .f32⟩
  | 2 => ⟨S2x4352x4x64, .f32⟩
  | 3 => ⟨S2x4352x4x64, .f32⟩
  | 4 => ⟨S2x4x4352x64, .f32⟩
  | 5 => ⟨S2x4x4352x64, .f32⟩
  | 6 => ⟨S2x4x4352x64, .f32⟩
  | 7 => ⟨S4x1x64, .f32⟩
  | 8 => ⟨S2x4x68x64x64, .f32⟩
  | 9 => ⟨S2x4x4352x64, .f32⟩
  | 10 => ⟨S2x4096x4x96, .f32⟩
  | 11 => ⟨S2x4x4096x4352, .f32⟩
  | 12 => ⟨S_, .f32⟩
  | 13 => ⟨S2x4x4096x4352, .f32⟩
  | 14 => ⟨S2x4x4096x4352, .f32⟩
  | 15 => ⟨S_, .f32⟩
  | 16 => ⟨S2x4x4096, .f32⟩
  | 17 => ⟨S2x4x4096x1, .f32⟩
  | 18 => ⟨S2x4x4096x4352, .f32⟩
  | 19 => ⟨S2x4x4096x4352, .i1⟩
  | 20 => ⟨S2x4x4096x4352, .f32⟩
  | 21 => ⟨S_, .f32⟩
  | 22 => ⟨S2x4x4096, .f32⟩
  | 23 => ⟨S_, .f32⟩
  | 24 => ⟨S2x4x4096, .f32⟩
  | 25 => ⟨S2x4x4096, .f32⟩
  | 26 => ⟨S_, .f32⟩
  | 27 => ⟨S2x4x4096, .f32⟩
  | 28 => ⟨S2x4x4096, .i1⟩
  | 29 => ⟨S_, .f32⟩
  | 30 => ⟨S2x4x4096, .f32⟩
  | 31 => ⟨S2x4x4096, .i1⟩
  | 32 => ⟨S_, .f32⟩
  | 33 => ⟨S2x4x4096, .f32⟩
  | 34 => ⟨S_, .f32⟩
  | 35 => ⟨S2x4x4096, .f32⟩
  | 36 => ⟨S_, .f32⟩
  | 37 => ⟨S2x4x4096, .f32⟩
  | 38 => ⟨S2x4x4096, .f32⟩
  | 39 => ⟨S2x4x4096, .f32⟩
  | 40 => ⟨S2x4x4096x1, .f32⟩
  | 41 => ⟨S2x4x4096x4352, .f32⟩
  | 42 => ⟨S2x4x4096x4352, .f32⟩
  | 43 => ⟨S2x4x4096x4352, .f32⟩
  | 44 => ⟨S_, .f32⟩
  | 45 => ⟨S2x4x4096, .f32⟩
  | 46 => ⟨S2x4x4096x1, .f32⟩
  | 47 => ⟨S2x4x4096x4352, .f32⟩
  | 48 => ⟨S2x4x4096x4352, .f32⟩
  | 49 => ⟨S2x4x4096x1, .f32⟩
  | 50 => ⟨S_, .f32⟩
  | 51 => ⟨S2x4x4096x1, .f32⟩
  | 52 => ⟨S2x4x4096x1, .f32⟩
  | 53 => ⟨S2x4x64x4096, .f32⟩
  | 54 => ⟨S2x4096x4x64, .f32⟩
  | 55 => ⟨S2x256x4x96, .f32⟩
  | 56 => ⟨S2x256x4x96, .f32⟩
  | 57 => ⟨S2x256x4x64, .f32⟩
  | 58 => ⟨S2x4x256x256, .f32⟩
  | 59 => ⟨S_, .f32⟩
  | 60 => ⟨S2x4x256x256, .f32⟩
  | 61 => ⟨S2x4x256x256, .f32⟩
  | 62 => ⟨S_, .f32⟩
  | 63 => ⟨S2x4x256, .f32⟩
  | 64 => ⟨S2x4x256x1, .f32⟩
  | 65 => ⟨S2x4x256x256, .f32⟩
  | 66 => ⟨S2x4x256x256, .i1⟩
  | 67 => ⟨S2x4x256x256, .f32⟩
  | 68 => ⟨S_, .f32⟩
  | 69 => ⟨S2x4x256, .f32⟩
  | 70 => ⟨S_, .f32⟩
  | 71 => ⟨S2x4x256, .f32⟩
  | 72 => ⟨S2x4x256, .f32⟩
  | 73 => ⟨S_, .f32⟩
  | 74 => ⟨S2x4x256, .f32⟩
  | 75 => ⟨S2x4x256, .i1⟩
  | 76 => ⟨S_, .f32⟩
  | 77 => ⟨S2x4x256, .f32⟩
  | 78 => ⟨S2x4x256, .i1⟩
  | 79 => ⟨S_, .f32⟩
  | 80 => ⟨S2x4x256, .f32⟩
  | 81 => ⟨S_, .f32⟩
  | 82 => ⟨S2x4x256, .f32⟩
  | 83 => ⟨S_, .f32⟩
  | 84 => ⟨S2x4x256, .f32⟩
  | 85 => ⟨S2x4x256, .f32⟩
  | 86 => ⟨S2x4x256, .f32⟩
  | 87 => ⟨S2x4x256x1, .f32⟩
  | 88 => ⟨S2x4x256x256, .f32⟩
  | 89 => ⟨S2x4x256x256, .f32⟩
  | 90 => ⟨S2x4x256x256, .f32⟩
  | 91 => ⟨S_, .f32⟩
  | 92 => ⟨S2x4x256, .f32⟩
  | 93 => ⟨S2x4x256x1, .f32⟩
  | 94 => ⟨S2x4x256x256, .f32⟩
  | 95 => ⟨S2x4x256x256, .f32⟩
  | 96 => ⟨S2x4x256x1, .f32⟩
  | 97 => ⟨S_, .f32⟩
  | 98 => ⟨S2x4x256x1, .f32⟩
  | 99 => ⟨S2x4x256x1, .f32⟩
  | 100 => ⟨S2x4x64x256, .f32⟩
  | 101 => ⟨S2x256x4x64, .f32⟩
  | 102 => ⟨S2x4352x4x64, .f32⟩
  | 103 => ⟨S2x4096x4x64, .f32⟩
  | 104 => ⟨S2x256x4x64, .f32⟩
  | 105 => ⟨S2x4x64x256, .f32⟩
  | 106 => ⟨S2x4x256x256, .f32⟩
  | 107 => ⟨S2x4x64x256, .f32⟩
  | 108 => ⟨S2x256x4x64, .f32⟩
  | 109 => ⟨S2x4x256x256, .f32⟩
  | 110 => ⟨S2x4x256x256, .f32⟩
  | 111 => ⟨S2x4x256x256, .f32⟩
  | 112 => ⟨S_, .f32⟩
  | 113 => ⟨S2x4x256, .f32⟩
  | 114 => ⟨S2x4x256x1, .f32⟩
  | 115 => ⟨S2x4x256x1, .f32⟩
  | 116 => ⟨S2x4x256x256, .f32⟩
  | 117 => ⟨S2x4x256x256, .f32⟩
  | 118 => ⟨S_, .f32⟩
  | 119 => ⟨S2x4x256, .f32⟩
  | 120 => ⟨S2x4x256x256, .f32⟩
  | 121 => ⟨S2x4x256x256, .f32⟩
  | 122 => ⟨S2x4x256x256, .f32⟩
  | 123 => ⟨S_, .f32⟩
  | 124 => ⟨S2x4x256x256, .f32⟩
  | 125 => ⟨S2x4x256x256, .f32⟩
  | 126 => ⟨S2x4x256x96, .f32⟩
  | 127 => ⟨S2x256x4x96, .f32⟩
  | _ => ⟨S2x4352x4x96, .f32⟩

abbrev hbmTy0_1 (i : Nat) : BufTy := match i % 128 with
  | 0 => ⟨S2x4x256x96, .f32⟩
  | 1 => ⟨S2x256x4x96, .f32⟩
  | 2 => ⟨S_, .f32⟩
  | 3 => ⟨S2x4352x4x64, .f32⟩
  | 4 => ⟨S_, .f32⟩
  | 5 => ⟨S2x4352x4x96, .f32⟩
  | 6 => ⟨S_, .f32⟩
  | 7 => ⟨S2x4352x4x96, .f32⟩
  | 8 => ⟨S2x4x64x4096, .f32⟩
  | 9 => ⟨S2x4x4096x4352, .f32⟩
  | 10 => ⟨S2x4x64x4352, .f32⟩
  | 11 => ⟨S2x4352x4x64, .f32⟩
  | 12 => ⟨S2x4352x4x64, .f32⟩
  | 13 => ⟨S2x4x4096x4352, .f32⟩
  | 14 => ⟨S2x4x4096x4352, .f32⟩
  | 15 => ⟨S2x4x4096x4352, .f32⟩
  | 16 => ⟨S_, .f32⟩
  | 17 => ⟨S2x4x4096, .f32⟩
  | 18 => ⟨S2x4x4096x1, .f32⟩
  | 19 => ⟨S2x4x4096x1, .f32⟩
  | 20 => ⟨S2x4x4096x4352, .f32⟩
  | 21 => ⟨S2x4x4096x4352, .f32⟩
  | 22 => ⟨S_, .f32⟩
  | 23 => ⟨S2x4x4096, .f32⟩
  | 24 => ⟨S2x4x4096x4352, .f32⟩
  | 25 => ⟨S2x4x4096x4352, .f32⟩
  | 26 => ⟨S2x4x4096x4352, .f32⟩
  | 27 => ⟨S_, .f32⟩
  | 28 => ⟨S2x4x4096x4352, .f32⟩
  | 29 => ⟨S2x4x4096x4352, .f32⟩
  | 30 => ⟨S2x4x4352x96, .f32⟩
  | 31 => ⟨S2x4352x4x96, .f32⟩
  | 32 => ⟨S2x4352x4x96, .f32⟩
  | 33 => ⟨S2x4x4096x96, .f32⟩
  | 34 => ⟨S2x4096x4x96, .f32⟩
  | 35 => ⟨S_, .f32⟩
  | 36 => ⟨S2x4352x4x96, .f32⟩
  | 37 => ⟨S2x4352x4x96, .f32⟩
  | 38 => ⟨S2x4x4352x96, .f32⟩
  | 39 => ⟨S2x4x1x4352x96, .f32⟩
  | 40 => ⟨S2x4x96x4352, .f32⟩
  | 41 => ⟨S2x4x64x4352, .f32⟩
  | _ => ⟨S2x4352x4x96, .f32⟩

abbrev hbmTy (i : Nat) : BufTy := match i / 128 with
  | 0 => hbmTy0_0 i
  | 1 => hbmTy0_1 i
  | _ => ⟨S2x4352x4x96, .f32⟩

abbrev bufTy : (tb : Table) → Fin (tcTables nBuf tb) → BufTy
  | .hbm, ⟨i, _⟩ => hbmTy i
  | _, _ => ⟨S2x4352x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_v16 : Ref sig .tc := ⟨.hbm, 33, rfl⟩
abbrev main_cst_6 : Ref sig .tc := ⟨.hbm, 34, rfl⟩
abbrev main_v17 : Ref sig .tc := ⟨.hbm, 35, rfl⟩
abbrev main_cst_7 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_10 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_12 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_v47 : Ref sig .tc := ⟨.hbm, 72, rfl⟩
abbrev main_cst_14 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_cst_17 : Ref sig .tc := ⟨.hbm, 81, rfl⟩
abbrev main_v53 : Ref sig .tc := ⟨.hbm, 82, rfl⟩
abbrev main_cst_18 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_19 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_20 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_22 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_23 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_cst_25 : Ref sig .tc := ⟨.hbm, 132, rfl⟩
abbrev main_v96 : Ref sig .tc := ⟨.hbm, 133, rfl⟩
abbrev main_cst_26 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_27 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_28 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_cst_29 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_cst_30 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩

abbrev nD : Nat := 1
abbrev τ : Topo := Topo.v7x

variable {F : FTy → Type} [FloatOps F]
-- ==== Kernel2.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S256x1024 : Shape := ⟨2, ![256, 1024]⟩
abbrev S256x4096 : Shape := ⟨2, ![256, 4096]⟩

abbrev nBuf : Space → Nat
  | .hbm => 11
  | .vmem => 12
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S4096x1024, .f32⟩
  | .hbm, ⟨3, _⟩ => ⟨S8704x1024, .f32⟩
  | .hbm, ⟨4, _⟩ => ⟨S1024x4096, .bf16⟩
  | .hbm, ⟨5, _⟩ => ⟨S4096x1024, .bf16⟩
  | .hbm, ⟨6, _⟩ => ⟨S1024x4096, .bf16⟩
  | .hbm, ⟨7, _⟩ => ⟨S4096x1024, .bf16⟩
  | .hbm, ⟨8, _⟩ => ⟨S8704x1024, .f32⟩
  | .hbm, ⟨9, _⟩ => ⟨S8704x4096, .bf16⟩
  | .hbm, ⟨10, _⟩ => ⟨S8704x4096, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x4096, .bf16⟩
  | .local _ .vmem, ⟨5, _⟩ => ⟨S4096x1024, .bf16⟩
  | .local _ .vmem, ⟨6, _⟩ => ⟨S256x1024, .f32⟩
  | .local _ .vmem, ⟨7, _⟩ => ⟨S256x1024, .f32⟩
  | .local _ .vmem, ⟨8, _⟩ => ⟨S256x4096, .bf16⟩
  | .local _ .vmem, ⟨9, _⟩ => ⟨S256x4096, .bf16⟩
  | .local _ .vmem, ⟨10, _⟩ => ⟨S256x4096, .bf16⟩
  | .local _ .vmem, ⟨11, _⟩ => ⟨S256x4096, .bf16⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S4096x1024, .f32⟩
  | .hbm, ⟨3, _⟩ => ⟨S8704x1024, .f32⟩
  | .hbm, ⟨4, _⟩ => ⟨S8704x4096, .f32⟩
  | .hbm, ⟨5, _⟩ => ⟨S_, .f32⟩
  | .hbm, ⟨6, _⟩ => ⟨S8704x4096, .f32⟩
  | .hbm, ⟨7, _⟩ => ⟨S8704x4096, .f32⟩
  | .hbm, ⟨8, _⟩ => ⟨S_, .f32⟩
  | .hbm, ⟨9, _⟩ => ⟨S8704x4096, .f32⟩
  | .hbm, ⟨10, _⟩ => ⟨S8704x4096, .i1⟩
  | .hbm, ⟨11, _⟩ => ⟨S_, .f32⟩
  | .hbm, ⟨12, _⟩ => ⟨S8704x4096, .f32⟩
  | .hbm, ⟨13, _⟩ => ⟨S8704x4096, .f32⟩
  | .hbm, ⟨14, _⟩ => ⟨S_, .f32⟩
  | .hbm, ⟨15, _⟩ => ⟨S8704x4096, .f32⟩
  | .hbm, ⟨16, _⟩ => ⟨S8704x4096, .f32⟩
  | .hbm, ⟨17, _⟩ => ⟨S8704x1024, .f32⟩
  | .hbm, ⟨18, _⟩ => ⟨S8704x4096, .f32⟩
  | .hbm, ⟨19, _⟩ => ⟨S8704x4096, .f32⟩
  | .hbm, ⟨20, _⟩ => ⟨S_, .f32⟩
  | .hbm, ⟨21, _⟩ => ⟨S8704x4096, .f32⟩
  | .hbm, ⟨22, _⟩ => ⟨S8704x4096, .f32⟩
  | .hbm, ⟨23, _⟩ => ⟨S8704x1024, .f32⟩
  | .hbm, ⟨24, _⟩ => ⟨S8704x4096, .f32⟩
  | .hbm, ⟨25, _⟩ => ⟨S_, .f32⟩
  | .hbm, ⟨26, _⟩ => ⟨S8704x4096, .f32⟩
  | .hbm, ⟨27, _⟩ => ⟨S8704x4096, .f32⟩
  | .hbm, ⟨28, _⟩ => ⟨S_, .f32⟩
  | .hbm, ⟨29, _⟩ => ⟨S8704x4096, .f32⟩
  | .hbm, ⟨30, _⟩ => ⟨S8704x4096, .i1⟩
  | .hbm, ⟨31, _⟩ => ⟨S_, .f32⟩
  | .hbm, ⟨32, _⟩ => ⟨S8704x4096, .f32⟩
  | .hbm, ⟨33, _⟩ => ⟨S8704x4096, .f32⟩
  | .hbm, ⟨34, _⟩ => ⟨S_, .f32⟩
  | .hbm, ⟨35, _⟩ => ⟨S8704x4096, .f32⟩
  | .hbm, ⟨36, _⟩ => ⟨S8704x4096, .f32⟩
  | .hbm, ⟨37, _⟩ => ⟨S8704x1024, .f32⟩
  | .hbm, ⟨38, _⟩ => ⟨S8704x4096, .f32⟩
  | .hbm, ⟨39, _⟩ => ⟨S8704x4096, .f32⟩
  | .hbm, ⟨40, _⟩ => ⟨S_, .f32⟩
  | .hbm, ⟨41, _⟩ => ⟨S8704x4096, .f32⟩
  | .hbm, ⟨42, _⟩ => ⟨S8704x4096, .f32⟩
  | .hbm, ⟨43, _⟩ => ⟨S8704x4096, .f32⟩
  | .hbm, ⟨44, _⟩ => ⟨S_, .f32⟩
  | .hbm, ⟨45, _⟩ => ⟨S8704x4096, .f32⟩
  | .hbm, ⟨46, _⟩ => ⟨S8704x4096, .f32⟩
  | .hbm, ⟨47, _⟩ => ⟨S8704x4096, .f32⟩
  | .hbm, ⟨48, _⟩ => ⟨S8704x4096, .bf16⟩
  | .hbm, ⟨49, _⟩ => ⟨S8704x4096, .bf16⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call2_cst : Ref sig .tc := ⟨.hbm, 44, rfl⟩
abbrev main_call2_v0 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Kernel3.lean ====
abbrev S8704x1024 : Shape := ⟨2, ![8704, 1024]⟩
abbrev S8704x4096 : Shape := ⟨2, ![8704, 4096]⟩
abbrev S1024x4096 : Shape := ⟨2, ![1024, 4096]⟩
abbrev S512x1024 : Shape := ⟨2, ![512, 1024]⟩
abbrev S512x2048 : Shape := ⟨2, ![512, 2048]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S8704x4096, .f32⟩
  | .hbm, ⟨2, _⟩ => ⟨S8704x4096, .bf16⟩
  | .hbm, ⟨3, _⟩ => ⟨S1024x4096, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S1024x2048, .f32⟩
  | .local _ .vmem, ⟨5, _⟩ => ⟨S1024x2048, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 17], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8704x1024 : Shape := ⟨2, ![8704, 1024]⟩
abbrev S8704x4096 : Shape := ⟨2, ![8704, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x4096, .f32⟩
  | .hbm, ⟨2, _⟩ => ⟨S_, .f32⟩
  | .hbm, ⟨3, _⟩ => ⟨S1024x4096, .f32⟩
  | .hbm, ⟨4, _⟩ => ⟨S8704x4096, .f32⟩
  | .hbm, ⟨5, _⟩ => ⟨S4096x1024, .f32⟩
  | .hbm, ⟨6, _⟩ => ⟨S1024x4096, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8704x4096 : Shape := ⟨2, ![8704, 4096]⟩
abbrev S8704x1024 : Shape := ⟨2, ![8704, 1024]⟩
abbrev S4096x1024 : Shape := ⟨2, ![4096, 1024]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S8704x4096, .bf16⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 17], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8704x4096 : Shape := ⟨2, ![8704, 4096]⟩
abbrev S8704x1024 : Shape := ⟨2, ![8704, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x1024, .f32⟩
  | .hbm, ⟨2, _⟩ => ⟨S_, .f32⟩
  | .hbm, ⟨3, _⟩ => ⟨S4096x1024, .f32⟩
  | .hbm, ⟨4, _⟩ => ⟨S8704x1024, .f32⟩
  | .hbm, ⟨5, _⟩ => ⟨S1024x4096, .f32⟩
  | .hbm, ⟨6, _⟩ => ⟨S4096x1024, .f32⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8704x1024 : Shape := ⟨2, ![8704, 1024]⟩
abbrev S1024x4096 : Shape := ⟨2, ![1024, 4096]⟩
abbrev S4096x1024 : Shape := ⟨2, ![4096, 1024]⟩
abbrev S256x1024 : Shape := ⟨2, ![256, 1024]⟩
abbrev S256x4096 : Shape := ⟨2, ![256, 4096]⟩

abbrev nBuf : Space → Nat
  | .hbm => 8
  | .vmem => 6
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S4096x1024, .f32⟩
  | .hbm, ⟨3, _⟩ => ⟨S1024x4096, .bf16⟩
  | .hbm, ⟨4, _⟩ => ⟨S4096x1024, .bf16⟩
  | .hbm, ⟨5, _⟩ => ⟨S1024x4096, .bf16⟩
  | .hbm, ⟨6, _⟩ => ⟨S4096x1024, .bf16⟩
  | .hbm, ⟨7, _⟩ => ⟨S8704x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S4096x1024, .bf16⟩
  | .local _ .vmem, ⟨4, _⟩ => ⟨S256x1024, .f32⟩
  | .local _ .vmem, ⟨5, _⟩ => ⟨S256x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8704x1024 : Shape := ⟨2, ![8704, 1024]⟩
abbrev S1024x4096 : Shape := ⟨2, ![1024, 4096]⟩
abbrev S4096x1024 : Shape := ⟨2, ![4096, 1024]⟩
abbrev S8704x4096 : Shape := ⟨2, ![8704, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x4096, .f32⟩
  | .hbm, ⟨2, _⟩ => ⟨S4096x1024, .f32⟩
  | .hbm, ⟨3, _⟩ => ⟨S8704x4096, .f32⟩
  | .hbm, ⟨4, _⟩ => ⟨S_, .f32⟩
  | .hbm, ⟨5, _⟩ => ⟨S8704x4096, .f32⟩
  | .hbm, ⟨6, _⟩ => ⟨S8704x4096, .f32⟩
  | .hbm, ⟨7, _⟩ => ⟨S8704x4096, .f32⟩
  | .hbm, ⟨8, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel6.lean ====
abbrev S8704x1024 : Shape := ⟨2, ![8704, 1024]⟩
abbrev S8704x2560 : Shape := ⟨2, ![8704, 2560]⟩
abbrev S1024x2560 : Shape := ⟨2, ![1024, 2560]⟩
abbrev S512x1024 : Shape := ⟨2, ![512, 1024]⟩
abbrev S512x2560 : Shape := ⟨2, ![512, 2560]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S8704x2560, .f32⟩
  | .hbm, ⟨2, _⟩ => ⟨S1024x2560, .f32⟩
  | .local _ .vmem, ⟨0, _⟩ => ⟨S512x1024, .f32⟩
  | .local _ .vmem, ⟨1, _⟩ => ⟨S512x1024, .f32⟩
  | .local _ .vmem, ⟨2, _⟩ => ⟨S512x2560, .f32⟩
  | .local _ .vmem, ⟨3, _⟩ => ⟨S512x2560, .f32⟩
  | .local _ .vmem, ⟨4, _⟩ => ⟨S1024x2560, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 17], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2560 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8704x1024 : Shape := ⟨2, ![8704, 1024]⟩
abbrev S8704x2560 : Shape := ⟨2, ![8704, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x2560, .f32⟩
  | .hbm, ⟨2, _⟩ => ⟨S_, .f32⟩
  | .hbm, ⟨3, _⟩ => ⟨S1024x2560, .f32⟩
  | .hbm, ⟨4, _⟩ => ⟨S8704x2560, .f32⟩
  | .hbm, ⟨5, _⟩ => ⟨S2560x1024, .f32⟩
  | .hbm, ⟨6, _⟩ => ⟨S1024x2560, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S8704x2560 : Shape := ⟨2, ![8704, 2560]⟩
abbrev S1024x2560 : Shape := ⟨2, ![1024, 2560]⟩
abbrev S8704x1024 : Shape := ⟨2, ![8704, 1024]⟩
abbrev S512x2560 : Shape := ⟨2, ![512, 2560]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x2560, .f32⟩
  | .hbm, ⟨1, _⟩ => ⟨S1024x2560, .f32⟩
  | .hbm, ⟨2, _⟩ => ⟨S1024x2560, .bf16⟩
  | .hbm, ⟨3, _⟩ => ⟨S8704x1024, .f32⟩
  | .local _ .vmem, ⟨0, _⟩ => ⟨S512x2560, .f32⟩
  | .local _ .vmem, ⟨1, _⟩ => ⟨S512x2560, .f32⟩
  | .local _ .vmem, ⟨2, _⟩ => ⟨S1024x2560, .bf16⟩
  | .local _ .vmem, ⟨3, _⟩ => ⟨S512x1024, .f32⟩
  | .local _ .vmem, ⟨4, _⟩ => ⟨S512x1024, .f32⟩
  | _, _ => ⟨S8704x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S8704x2560 : Shape := ⟨2, ![8704, 2560]⟩
abbrev S1024x2560 : Shape := ⟨2, ![1024, 2560]⟩
abbrev S_ : Shape := ⟨0, ![]⟩
abbrev S8704x1024 : Shape := ⟨2, ![8704, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8704x2560, .f32⟩
  | .hbm, ⟨1, _⟩ => ⟨S1024x2560, .f32⟩
  | .hbm, ⟨2, _⟩ => ⟨S_, .f32⟩
  | .hbm, ⟨3, _⟩ => ⟨S8704x1024, .f32⟩
  | .hbm, ⟨4, _⟩ => ⟨S8704x2560, .f32⟩
  | .hbm, ⟨5, _⟩ => ⟨S8704x1024, .f32⟩
  | _, _ => ⟨S8704x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S8704x1024 : Shape := ⟨2, ![8704, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 17], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .ne arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8704x1024 : Shape := ⟨2, ![8704, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S8704x1024, .f32⟩
  | .hbm, ⟨2, _⟩ => ⟨S_, .f32⟩
  | .hbm, ⟨3, _⟩ => ⟨S1024x1024, .f32⟩
  | .hbm, ⟨4, _⟩ => ⟨S8704x1024, .f32⟩
  | .hbm, ⟨5, _⟩ => ⟨S1024x1024, .f32⟩
  | .hbm, ⟨6, _⟩ => ⟨S1024x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S8704x1024 : Shape := ⟨2, ![8704, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S1024x1024, .bf16⟩
  | .hbm, ⟨3, _⟩ => ⟨S8704x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8704x1024 : Shape := ⟨2, ![8704, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S_, .f32⟩
  | .hbm, ⟨3, _⟩ => ⟨S8704x1024, .f32⟩
  | .hbm, ⟨4, _⟩ => ⟨S8704x1024, .f32⟩
  | .hbm, ⟨5, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S8704x1024 : Shape := ⟨2, ![8704, 1024]⟩
abbrev S1024x2560 : Shape := ⟨2, ![1024, 2560]⟩
abbrev S8704x2560 : Shape := ⟨2, ![8704, 2560]⟩
abbrev S512x1024 : Shape := ⟨2, ![512, 1024]⟩
abbrev S512x2560 : Shape := ⟨2, ![512, 2560]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x2560, .f32⟩
  | .hbm, ⟨2, _⟩ => ⟨S1024x2560, .bf16⟩
  | .hbm, ⟨3, _⟩ => ⟨S8704x2560, .f32⟩
  | .local _ .vmem, ⟨0, _⟩ => ⟨S512x1024, .f32⟩
  | .local _ .vmem, ⟨1, _⟩ => ⟨S512x1024, .f32⟩
  | .local _ .vmem, ⟨2, _⟩ => ⟨S1024x2560, .bf16⟩
  | .local _ .vmem, ⟨3, _⟩ => ⟨S512x2560, .f32⟩
  | .local _ .vmem, ⟨4, _⟩ => ⟨S512x2560, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S8704x1024 : Shape := ⟨2, ![8704, 1024]⟩
abbrev S1024x2560 : Shape := ⟨2, ![1024, 2560]⟩
abbrev S8704x2560 : Shape := ⟨2, ![8704, 2560]⟩

abbrev nBuf : Space → Nat
  | .hbm => 3
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x2560, .f32⟩
  | .hbm, ⟨2, _⟩ => ⟨S8704x2560, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S8704x1024 : Shape := ⟨2, ![8704, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S1024x1024, .bf16⟩
  | .hbm, ⟨3, _⟩ => ⟨S8704x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S8704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S8704x1024 : Shape := ⟨2, ![8704, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8704x1024, .f32⟩
  | .hbm, ⟨1, _⟩ => ⟨S1024x1024, .f32⟩
  | .hbm, ⟨2, _⟩ => ⟨S8704x1024, .f32⟩
  | _, _ => ⟨S8704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2x4352x4x96 : Shape := ⟨4, ![2, 4352, 4, 96]⟩
abbrev S2x4352x4x64 : Shape := ⟨4, ![2, 4352, 4, 64]⟩
abbrev S2x4x4352x64 : Shape := ⟨4, ![2, 4, 4352, 64]⟩
abbrev S4x1x64 : Shape := ⟨3, ![4, 1, 64]⟩
abbrev S2x4x4352x96 : Shape := ⟨4, ![2, 4, 4352, 96]⟩
abbrev S2x4x1x4352x96 : Shape := ⟨5, ![2, 4, 1, 4352, 96]⟩
abbrev S2x4x96x4352 : Shape := ⟨4, ![2, 4, 96, 4352]⟩
abbrev S2x4x64x4352 : Shape := ⟨4, ![2, 4, 64, 4352]⟩
abbrev S2x4x1x4352x64 : Shape := ⟨5, ![2, 4, 1, 4352, 64]⟩
abbrev S2x4x1x4352x128 : Shape := ⟨5, ![2, 4, 1, 4352, 128]⟩
abbrev S2x4x68x64x64 : Shape := ⟨5, ![2, 4, 68, 64, 64]⟩
abbrev S2x1x1x256x96 : Shape := ⟨5, ![2, 1, 1, 256, 96]⟩
abbrev S2x1x96x4352 : Shape := ⟨4, ![2, 1, 96, 4352]⟩
abbrev S2x1x64x4352 : Shape := ⟨4, ![2, 1, 64, 4352]⟩
abbrev S2x4x64x64 : Shape := ⟨4, ![2, 4, 64, 64]⟩
abbrev S2x1x1x256x64 : Shape := ⟨5, ![2, 1, 1, 256, 64]⟩
abbrev S2x1x1x256x128 : Shape := ⟨5, ![2, 1, 1, 256, 128]⟩
abbrev S2x4x1x64x64 : Shape := ⟨5, ![2, 4, 1, 64, 64]⟩
abbrev S1x1x64x64 : Shape := ⟨4, ![1, 1, 64, 64]⟩
abbrev S64x64 : Shape := ⟨2, ![64, 64]⟩
abbrev S1x1x1x64x64 : Shape := ⟨5, ![1, 1, 1, 64, 64]⟩
abbrev S1x1x64 : Shape := ⟨3, ![1, 1, 64]⟩
abbrev S1x64 : Shape := ⟨2, ![1, 64]⟩
abbrev S16x16 : Shape := ⟨2, ![16, 16]⟩
abbrev S64x1 : Shape := ⟨2, ![64, 1]⟩
abbrev S16x64 : Shape := ⟨2, ![16, 64]⟩
abbrev S16x1x64 : Shape := ⟨3, ![16, 1, 64]⟩
abbrev S1x16x64 : Shape := ⟨3, ![1, 16, 64]⟩
abbrev S16x16x64 : Shape := ⟨3, ![16, 16, 64]⟩
abbrev S64x16 : Shape := ⟨2, ![64, 16]⟩
abbrev S1x1x96x4352 : Shape := ⟨4, ![1, 1, 96, 4352]⟩
abbrev S96x4352 : Shape := ⟨2, ![96, 4352]⟩
abbrev S1x1x64x4352 : Shape := ⟨4, ![1, 1, 64, 4352]⟩
abbrev S64x4352 : Shape := ⟨2, ![64, 4352]⟩
abbrev S1x1x1x256x96 : Shape := ⟨5, ![1, 1, 1, 256, 96]⟩
abbrev S1x256x96 : Shape := ⟨3, ![1, 256, 96]⟩
abbrev S256x96 : Shape := ⟨2, ![256, 96]⟩
abbrev S64x96 : Shape := ⟨2, ![64, 96]⟩
abbrev S64 : Shape := ⟨1, ![64]⟩
abbrev S256x64 : Shape := ⟨2, ![256, 64]⟩
abbrev S256x1 : Shape := ⟨2, ![256, 1]⟩
abbrev S1x256x64 : Shape := ⟨3, ![1, 256, 64]⟩
abbrev S1x1x1x256x64 : Shape := ⟨5, ![1, 1, 1, 256, 64]⟩
abbrev S256x128 : Shape := ⟨2, ![256, 128]⟩
abbrev S1x256x128 : Shape := ⟨3, ![1, 256, 128]⟩
abbrev S1x1x1x256x128 : Shape := ⟨5, ![1, 1, 1, 256, 128]⟩
abbrev S1x1x96x256 : Shape := ⟨4, ![1, 1, 96, 256]⟩
abbrev S96x256 : Shape := ⟨2, ![96, 256]⟩
abbrev S1x1x64x256 : Shape := ⟨4, ![1, 1, 64, 256]⟩
abbrev S64x256 : Shape := ⟨2, ![64, 256]⟩

abbrev nBuf : Space → Nat
  | .hbm => 21
  | .vmem => 22
  | .smem => 0
  | _ => 0

abbrev bufTy : (tb : Table) → Fin (tcTables nBuf tb) → BufTy
  | .hbm, ⟨0, _⟩ => ⟨S2x4352x4x96, .f32⟩
  | .hbm, ⟨1, _⟩ => ⟨S2x4352x4x96, .f32⟩
  | .hbm, ⟨2, _⟩ => ⟨S2x4352x4x64, .f32⟩
  | .hbm, ⟨3, _⟩ => ⟨S2x4x4352x64, .f32⟩
  | .hbm, ⟨4, _⟩ => ⟨S2x4x4352x64, .f32⟩
  | .hbm, ⟨5, _⟩ => ⟨S2x4x4352x64, .f32⟩
  | .hbm, ⟨6, _⟩ => ⟨S4x1x64, .f32⟩
  | .hbm, ⟨7, _⟩ => ⟨S2x4x4352x96, .f32⟩
  | .hbm, ⟨8, _⟩ => ⟨S2x4x1x4352x96, .f32⟩
  | .hbm, ⟨9, _⟩ => ⟨S2x4x96x4352, .f32⟩
  | .hbm, ⟨10, _⟩ => ⟨S2x4x64x4352, .f32⟩
  | .hbm, ⟨11, _⟩ => ⟨S2x4x4352x96, .f32⟩
  | .hbm, ⟨12, _⟩ => ⟨S2x4x1x4352x96, .f32⟩
  | .hbm, ⟨13, _⟩ => ⟨S2x4x96x4352, .f32⟩
  | .hbm, ⟨14, _⟩ => ⟨S2x4x96x4352, .bf16⟩
  | .hbm, ⟨15, _⟩ => ⟨S2x4x64x4352, .f32⟩
  | .hbm, ⟨16, _⟩ => ⟨S2x4x64x4352, .bf16⟩
  | .hbm, ⟨17, _⟩ => ⟨S2x4x1x4352x64, .f32⟩
  | .hbm, ⟨18, _⟩ => ⟨S2x4x1x4352x128, .f32⟩
  | .hbm, ⟨19, _⟩ => ⟨S2x4x4352x64, .f32⟩
  | .hbm, ⟨20, _⟩ => ⟨S2x4x68x64x64, .f32⟩
  | .local _ .vmem, ⟨0, _⟩ => ⟨S2x1x1x256x96, .f32⟩
  | .local _ .vmem, ⟨1, _⟩ => ⟨S2x1x1x256x96, .f32⟩
  | .local _ .vmem, ⟨2, _⟩ => ⟨S2x1x96x4352, .bf16⟩
  | .local _ .vmem, ⟨3, _⟩ => ⟨S2x1x96x4352, .bf16⟩
  | .local _ .vmem, ⟨4, _⟩ => ⟨S2x1x64x4352, .bf16⟩
  | .local _ .vmem, ⟨5, _⟩ => ⟨S2x1x64x4352, .bf16⟩
  | .local _ .vmem, ⟨6, _⟩ => ⟨S2x4x64x64, .f32⟩
  | .local _ .vmem, ⟨7, _⟩ => ⟨S2x4x64x64, .f32⟩
  | .local _ .vmem, ⟨8, _⟩ => ⟨S2x4x64x64, .f32⟩
  | .local _ .vmem, ⟨9, _⟩ => ⟨S2x4x64x64, .f32⟩
  | .local _ .vmem, ⟨10, _⟩ => ⟨S2x4x64x64, .f32⟩
  | .local _ .vmem, ⟨11, _⟩ => ⟨S2x4x64x64, .f32⟩
  | .local _ .vmem, ⟨12, _⟩ => ⟨S4x1x64, .f32⟩
  | .local _ .vmem, ⟨13, _⟩ => ⟨S2x1x1x256x64, .f32⟩
  | .local _ .vmem, ⟨14, _⟩ => ⟨S2x1x1x256x64, .f32⟩
  | .local _ .vmem, ⟨15, _⟩ => ⟨S2x1x1x256x128, .f32⟩
  | .local _ .vmem, ⟨16, _⟩ => ⟨S2x1x1x256x128, .f32⟩
  | .local _ .vmem, ⟨17, _⟩ => ⟨S2x4x64x64, .f32⟩
  | .local _ .vmem, ⟨18, _⟩ => ⟨S2x4x64x64, .f32⟩
  | .local _ .vmem, ⟨19, _⟩ => ⟨S2x4x1x64x64, .f32⟩
  | .local _ .vmem, ⟨20, _⟩ => ⟨S2x4x1x64x64, .f32⟩
  | .local _ .vmem, ⟨21, _⟩ => ⟨S2x4x64x64, .f32⟩
  | _, _ => ⟨S2x4352x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![68], ![false]⟩

def k0_cond2 (i : grid0.Coords) : BitVec 1 :=
  let arg0 : BitVec 32 := BitVec.ofNat 32 (i 0).val
  let c17_i32 : BitVec 32 := 17#32
  let v3 : BitVec 32 := Scalar.remsi arg0 c17_i32
  let c256_i32 : BitVec 32 := 256#32
  let v4 : BitVec 32 := Scalar.muli v3 c256_i32
  let c4096_i32 : BitVec 32 := 4096#32
  let v5 : BitVec 1 := Scalar.cmpi .slt v4 c4096_i32
  let v6 : BitVec 32 := Scalar.extui v5
  let c0_i32_1 : BitVec 32 := 0#32
  let v7 : BitVec 1 := Scalar.cmpi .ne v6 c0_i32_1
  v7

def k0_cond3 (i : grid0.Coords) : BitVec 1 :=
  let arg0 : BitVec 32 := BitVec.ofNat 32 (i 0).val
  let c17_i32_2 : BitVec 32 := 17#32
  let v8 : BitVec 32 := Scalar.remsi arg0 c17_i32_2
  let c256_i32_3 : BitVec 32 := 256#32
  let v9 : BitVec 32 := Scalar.muli v8 c256_i32_3
  let c4096_i32_4 : BitVec 32 := 4096#32
  let v10 : BitVec 1 := Scalar.cmpi .sge v9 c4096_i32_4
  let v11 : BitVec 32 := Scalar.extui v10
  let c0_i32_5 : BitVec 32 := 0#32
  let v12 : BitVec 1 := Scalar.cmpi .ne v11 c0_i32_5
  v12

def cc0_transform_0 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_1 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 4 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_3 (i : grid0.Coords) : Fin 4 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_4 (i : grid0.Coords) : Fin 4 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_5 (i : grid0.Coords) : Fin 4 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_8 (i : grid0.Coords) : Fin 5 → Nat :=
  let arg0 : BitVec 32 := BitVec.ofNat 32 (i 0).val
  let c17_i32 : BitVec 32 := 17#32
  let v0 : BitVec 32 := Scalar.divsi arg0 c17_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c17_i32 c0_i32_1
  let v7 : BitVec 32 := Scalar.extui v6
  let c0_i32_2 : BitVec 32 := 0#32
  let v8 : BitVec 1 := Scalar.cmpi .slt c17_i32 c0_i32_2
  let v9 : BitVec 32 := Scalar.extui v8
  let v10 : BitVec 32 := Scalar.subi v7 v9
  let v11 : BitVec 1 := Scalar.cmpi .ne v5 v10
  let v12 : BitVec 32 := Scalar.remsi arg0 c17_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c17_i32_4 : BitVec 32 := 17#32
  let v17 : BitVec 32 := Scalar.remsi arg0 c17_i32_4
  let c0_i32_5 : BitVec 32 := 0#32
  let c0_i32_6 : BitVec 32 := 0#32
  let c0_i32_7 : BitVec 32 := 0#32
  let c0_i32_8 : BitVec 32 := 0#32
  ![c0_i32_5.toNat, v16.toNat, c0_i32_6.toNat, v17.toNat, c0_i32_7.toNat]

def cc0_transform_9 (i : grid0.Coords) : Fin 4 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c0_i32 : BitVec 32 := 0#32
  let c0_i32_0 : BitVec 32 := 0#32
  let c0_i32_1 : BitVec 32 := 0#32
  let c0_i32_2 : BitVec 32 := 0#32
  ![c0_i32.toNat, c0_i32_0.toNat, v1.toNat, c0_i32_1.toNat]

def cc0_transform_10 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S2x1x1x256x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x96x4352 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x64x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x4x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x4x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x1x1x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1x1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x4x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x1x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference12Ideal.lean ====
abbrev S2x4352x4x96 : Shape := ⟨4, ![2, 4352, 4, 96]⟩
abbrev S2x4352x4x64 : Shape := ⟨4, ![2, 4352, 4, 64]⟩
abbrev S2x4x4352x64 : Shape := ⟨4, ![2, 4, 4352, 64]⟩
abbrev S4x1x64 : Shape := ⟨3, ![4, 1, 64]⟩
abbrev S2x4096x4x96 : Shape := ⟨4, ![2, 4096, 4, 96]⟩
abbrev S2x4x4096x4352 : Shape := ⟨4, ![2, 4, 4096, 4352]⟩
abbrev S_ : Shape := ⟨0, ![]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩
abbrev S2x4096x4x64 : Shape := ⟨4, ![2, 4096, 4, 64]⟩
abbrev S2x256x4x96 : Shape := ⟨4, ![2, 256, 4, 96]⟩
abbrev S2x256x4x64 : Shape := ⟨4, ![2, 256, 4, 64]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x4x64x256 : Shape := ⟨4, ![2, 4, 64, 256]⟩
abbrev S2x4x1x4352x64 : Shape := ⟨5, ![2, 4, 1, 4352, 64]⟩

abbrev nBuf : Space → Nat
  | .hbm => 54
  | .vmem => 0
  | .smem => 0
  | _ => 0

abbrev bufTy : (tb : Table) → Fin (tcTables nBuf tb) → BufTy
  | .hbm, ⟨0, _⟩ => ⟨S2x4352x4x96, .f32⟩
  | .hbm, ⟨1, _⟩ => ⟨S2x4352x4x96, .f32⟩
  | .hbm, ⟨2, _⟩ => ⟨S2x4352x4x64, .f32⟩
  | .hbm, ⟨3, _⟩ => ⟨S2x4x4352x64, .f32⟩
  | .hbm, ⟨4, _⟩ => ⟨S2x4x4352x64, .f32⟩
  | .hbm, ⟨5, _⟩ => ⟨S2x4x4352x64, .f32⟩
  | .hbm, ⟨6, _⟩ => ⟨S4x1x64, .f32⟩
  | .hbm, ⟨7, _⟩ => ⟨S2x4096x4x96, .f32⟩
  | .hbm, ⟨8, _⟩ => ⟨S2x4x4096x4352, .f32⟩
  | .hbm, ⟨9, _⟩ => ⟨S_, .f32⟩
  | .hbm, ⟨10, _⟩ => ⟨S2x4x4096x4352, .f32⟩
  | .hbm, ⟨11, _⟩ => ⟨S2x4x4096x4352, .f32⟩
  | .hbm, ⟨12, _⟩ => ⟨S_, .f32⟩
  | .hbm, ⟨13, _⟩ => ⟨S2x4x4096, .f32⟩
  | .hbm, ⟨14, _⟩ => ⟨S_, .f32⟩
  | .hbm, ⟨15, _⟩ => ⟨S2x4x4096, .f32⟩
  | .hbm, ⟨16, _⟩ => ⟨S2x4x4096, .f32⟩
  | .hbm, ⟨17, _⟩ => ⟨S2x4x4096x1, .f32⟩
  | .hbm, ⟨18, _⟩ => ⟨S2x4x4096x4352, .f32⟩
  | .hbm, ⟨19, _⟩ => ⟨S2x4x4096x4352, .f32⟩
  | .hbm, ⟨20, _⟩ => ⟨S2x4x4096x4352, .f32⟩
  | .hbm, ⟨21, _⟩ => ⟨S_, .f32⟩
  | .hbm, ⟨22, _⟩ => ⟨S2x4x4096, .f32⟩
  | .hbm, ⟨23, _⟩ => ⟨S2x4x4096x1, .f32⟩
  | .hbm, ⟨24, _⟩ => ⟨S2x4x4096x4352, .f32⟩
  | .hbm, ⟨25, _⟩ => ⟨S2x4x4096x4352, .f32⟩
  | .hbm, ⟨26, _⟩ => ⟨S2x4x64x4096, .f32⟩
  | .hbm, ⟨27, _⟩ => ⟨S2x4096x4x64, .f32⟩
  | .hbm, ⟨28, _⟩ => ⟨S2x256x4x96, .f32⟩
  | .hbm, ⟨29, _⟩ => ⟨S2x256x4x96, .f32⟩
  | .hbm, ⟨30, _⟩ => ⟨S2x256x4x64, .f32⟩
  | .hbm, ⟨31, _⟩ => ⟨S2x4x256x256, .f32⟩
  | .hbm, ⟨32, _⟩ => ⟨S_, .f32⟩
  | .hbm, ⟨33, _⟩ => ⟨S2x4x256x256, .f32⟩
  | .hbm, ⟨34, _⟩ => ⟨S2x4x256x256, .f32⟩
  | .hbm, ⟨35, _⟩ => ⟨S_, .f32⟩
  | .hbm, ⟨36, _⟩ => ⟨S2x4x256, .f32⟩
  | .hbm, ⟨37, _⟩ => ⟨S_, .f32⟩
  | .hbm, ⟨38, _⟩ => ⟨S2x4x256, .f32⟩
  | .hbm, ⟨39, _⟩ => ⟨S2x4x256, .f32⟩
  | .hbm, ⟨40, _⟩ => ⟨S2x4x256x1, .f32⟩
  | .hbm, ⟨41, _⟩ => ⟨S2x4x256x256, .f32⟩
  | .hbm, ⟨42, _⟩ => ⟨S2x4x256x256, .f32⟩
  | .hbm, ⟨43, _⟩ => ⟨S2x4x256x256, .f32⟩
  | .hbm, ⟨44, _⟩ => ⟨S_, .f32⟩
  | .hbm, ⟨45, _⟩ => ⟨S2x4x256, .f32⟩
  | .hbm, ⟨46, _⟩ => ⟨S2x4x256x1, .f32⟩
  | .hbm, ⟨47, _⟩ => ⟨S2x4x256x256, .f32⟩
  | .hbm, ⟨48, _⟩ => ⟨S2x4x256x256, .f32⟩
  | .hbm, ⟨49, _⟩ => ⟨S2x4x64x256, .f32⟩
  | .hbm, ⟨50, _⟩ => ⟨S2x256x4x64, .f32⟩
  | .hbm, ⟨51, _⟩ => ⟨S2x4352x4x64, .f32⟩
  | .hbm, ⟨52, _⟩ => ⟨S2x4x4352x64, .f32⟩
  | .hbm, ⟨53, _⟩ => ⟨S2x4x1x4352x64, .f32⟩
  | _, _ => ⟨S2x4352x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Kernel13.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel13Ideal.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S2048x1536 : Shape := ⟨2, ![2048, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel14Ideal.lean ====
abbrev S2048x1536 : Shape := ⟨2, ![2048, 1536]⟩
abbrev S128x1536 : Shape := ⟨2, ![128, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference14Ideal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel15Ideal.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference15Ideal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S2048x600 : Shape := ⟨2, ![2048, 600]⟩
abbrev S256x600 : Shape := ⟨2, ![256, 600]⟩

abbrev nBuf : Space → Nat
  | .hbm => 7
  | .vmem => 14
  | .smem => 0
  | _ => 0

abbrev bufTy : (tb : Table) → Fin (tcTables nBuf tb) → BufTy
  | .hbm, ⟨0, _⟩ => ⟨S2048x600, .f32⟩
  | .hbm, ⟨1, _⟩ => ⟨S2048x600, .f32⟩
  | .hbm, ⟨2, _⟩ => ⟨S2048x600, .f32⟩
  | .hbm, ⟨3, _⟩ => ⟨S2048x600, .f32⟩
  | .hbm, ⟨4, _⟩ => ⟨S2048x600, .f32⟩
  | .hbm, ⟨5, _⟩ => ⟨S2048x600, .f32⟩
  | .hbm, ⟨6, _⟩ => ⟨S2048x600, .f32⟩
  | .local _ .vmem, ⟨0, _⟩ => ⟨S256x600, .f32⟩
  | .local _ .vmem, ⟨1, _⟩ => ⟨S256x600, .f32⟩
  | .local _ .vmem, ⟨2, _⟩ => ⟨S256x600, .f32⟩
  | .local _ .vmem, ⟨3, _⟩ => ⟨S256x600, .f32⟩
  | .local _ .vmem, ⟨4, _⟩ => ⟨S256x600, .f32⟩
  | .local _ .vmem, ⟨5, _⟩ => ⟨S256x600, .f32⟩
  | .local _ .vmem, ⟨6, _⟩ => ⟨S256x600, .f32⟩
  | .local _ .vmem, ⟨7, _⟩ => ⟨S256x600, .f32⟩
  | .local _ .vmem, ⟨8, _⟩ => ⟨S256x600, .f32⟩
  | .local _ .vmem, ⟨9, _⟩ => ⟨S256x600, .f32⟩
  | .local _ .vmem, ⟨10, _⟩ => ⟨S256x600, .f32⟩
  | .local _ .vmem, ⟨11, _⟩ => ⟨S256x600, .f32⟩
  | .local _ .vmem, ⟨12, _⟩ => ⟨S256x600, .f32⟩
  | .local _ .vmem, ⟨13, _⟩ => ⟨S256x600, .f32⟩
  | _, _ => ⟨S2048x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel17Ideal.lean ====
abbrev S2048x600 : Shape := ⟨2, ![2048, 600]⟩
abbrev S256x600 : Shape := ⟨2, ![256, 600]⟩

abbrev nBuf : Space → Nat
  | .hbm => 7
  | .vmem => 14
  | .smem => 0
  | _ => 0

abbrev bufTy : (tb : Table) → Fin (tcTables nBuf tb) → BufTy
  | .hbm, ⟨0, _⟩ => ⟨S2048x600, .f32⟩
  | .hbm, ⟨1, _⟩ => ⟨S2048x600, .f32⟩
  | .hbm, ⟨2, _⟩ => ⟨S2048x600, .f32⟩
  | .hbm, ⟨3, _⟩ => ⟨S2048x600, .f32⟩
  | .hbm, ⟨4, _⟩ => ⟨S2048x600, .f32⟩
  | .hbm, ⟨5, _⟩ => ⟨S2048x600, .f32⟩
  | .hbm, ⟨6, _⟩ => ⟨S2048x600, .f32⟩
  | .local _ .vmem, ⟨0, _⟩ => ⟨S256x600, .f32⟩
  | .local _ .vmem, ⟨1, _⟩ => ⟨S256x600, .f32⟩
  | .local _ .vmem, ⟨2, _⟩ => ⟨S256x600, .f32⟩
  | .local _ .vmem, ⟨3, _⟩ => ⟨S256x600, .f32⟩
  | .local _ .vmem, ⟨4, _⟩ => ⟨S256x600, .f32⟩
  | .local _ .vmem, ⟨5, _⟩ => ⟨S256x600, .f32⟩
  | .local _ .vmem, ⟨6, _⟩ => ⟨S256x600, .f32⟩
  | .local _ .vmem, ⟨7, _⟩ => ⟨S256x600, .f32⟩
  | .local _ .vmem, ⟨8, _⟩ => ⟨S256x600, .f32⟩
  | .local _ .vmem, ⟨9, _⟩ => ⟨S256x600, .f32⟩
  | .local _ .vmem, ⟨10, _⟩ => ⟨S256x600, .f32⟩
  | .local _ .vmem, ⟨11, _⟩ => ⟨S256x600, .f32⟩
  | .local _ .vmem, ⟨12, _⟩ => ⟨S256x600, .f32⟩
  | .local _ .vmem, ⟨13, _⟩ => ⟨S256x600, .f32⟩
  | _, _ => ⟨S2048x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference17Ideal.lean ====
abbrev S2048x600 : Shape := ⟨2, ![2048, 600]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x600, .f32⟩
  | .hbm, ⟨1, _⟩ => ⟨S2048x600, .f32⟩
  | .hbm, ⟨2, _⟩ => ⟨S2048x600, .f32⟩
  | .hbm, ⟨3, _⟩ => ⟨S2048x600, .f32⟩
  | .hbm, ⟨4, _⟩ => ⟨S_, .f32⟩
  | .hbm, ⟨5, _⟩ => ⟨S2048x600, .f32⟩
  | .hbm, ⟨6, _⟩ => ⟨S2048x600, .f32⟩
  | .hbm, ⟨7, _⟩ => ⟨S_, .f32⟩
  | .hbm, ⟨8, _⟩ => ⟨S2048x600, .f32⟩
  | .hbm, ⟨9, _⟩ => ⟨S2048x600, .f32⟩
  | .hbm, ⟨10, _⟩ => ⟨S2048x600, .f32⟩
  | .hbm, ⟨11, _⟩ => ⟨S_, .f32⟩
  | .hbm, ⟨12, _⟩ => ⟨S2048x600, .f32⟩
  | .hbm, ⟨13, _⟩ => ⟨S2048x600, .f32⟩
  | .hbm, ⟨14, _⟩ => ⟨S2048x600, .f32⟩
  | .hbm, ⟨15, _⟩ => ⟨S_, .f32⟩
  | .hbm, ⟨16, _⟩ => ⟨S2048x600, .f32⟩
  | .hbm, ⟨17, _⟩ => ⟨S2048x600, .f32⟩
  | .hbm, ⟨18, _⟩ => ⟨S2048x600, .f32⟩
  | .hbm, ⟨19, _⟩ => ⟨S_, .f32⟩
  | .hbm, ⟨20, _⟩ => ⟨S2048x600, .f32⟩
  | .hbm, ⟨21, _⟩ => ⟨S2048x600, .f32⟩
  | .hbm, ⟨22, _⟩ => ⟨S_, .f32⟩
  | .hbm, ⟨23, _⟩ => ⟨S2048x600, .f32⟩
  | .hbm, ⟨24, _⟩ => ⟨S2048x600, .f32⟩
  | .hbm, ⟨25, _⟩ => ⟨S2048x600, .f32⟩
  | .hbm, ⟨26, _⟩ => ⟨S_, .f32⟩
  | .hbm, ⟨27, _⟩ => ⟨S2048x600, .f32⟩
  | .hbm, ⟨28, _⟩ => ⟨S2048x600, .f32⟩
  | .hbm, ⟨29, _⟩ => ⟨S2048x600, .f32⟩
  | .hbm, ⟨30, _⟩ => ⟨S_, .f32⟩
  | .hbm, ⟨31, _⟩ => ⟨S2048x600, .f32⟩
  | .hbm, ⟨32, _⟩ => ⟨S2048x600, .f32⟩
  | .hbm, ⟨33, _⟩ => ⟨S2048x600, .f32⟩
  | .hbm, ⟨34, _⟩ => ⟨S_, .f32⟩
  | .hbm, ⟨35, _⟩ => ⟨S2048x600, .f32⟩
  | .hbm, ⟨36, _⟩ => ⟨S2048x600, .f32⟩
  | _, _ => ⟨S2048x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel18Ideal.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference18Ideal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S2x192 : Shape := ⟨2, ![2, 192]⟩

abbrev nBuf : Space → Nat
  | .hbm => 7
  | .vmem => 7
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S2x192, .f32⟩
  | .hbm, ⟨5, _⟩ => ⟨S2x192, .f32⟩
  | .hbm, ⟨6, _⟩ => ⟨S2x192, .f32⟩
  | .local _ .vmem, ⟨0, _⟩ => ⟨S2x192, .f32⟩
  | .local _ .vmem, ⟨1, _⟩ => ⟨S2x192, .f32⟩
  | .local _ .vmem, ⟨2, _⟩ => ⟨S2x192, .f32⟩
  | .local _ .vmem, ⟨3, _⟩ => ⟨S2x192, .f32⟩
  | .local _ .vmem, ⟨4, _⟩ => ⟨S2x192, .f32⟩
  | .local _ .vmem, ⟨5, _⟩ => ⟨S2x192, .f32⟩
  | .local _ .vmem, ⟨6, _⟩ => ⟨S2x192, .f32⟩
  | _, _ => ⟨S2x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel19Ideal.lean ====
abbrev S2x192 : Shape := ⟨2, ![2, 192]⟩

abbrev nBuf : Space → Nat
  | .hbm => 7
  | .vmem => 7
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S2x192, .f32⟩
  | .hbm, ⟨5, _⟩ => ⟨S2x192, .f32⟩
  | .hbm, ⟨6, _⟩ => ⟨S2x192, .f32⟩
  | .local _ .vmem, ⟨0, _⟩ => ⟨S2x192, .f32⟩
  | .local _ .vmem, ⟨1, _⟩ => ⟨S2x192, .f32⟩
  | .local _ .vmem, ⟨2, _⟩ => ⟨S2x192, .f32⟩
  | .local _ .vmem, ⟨3, _⟩ => ⟨S2x192, .f32⟩
  | .local _ .vmem, ⟨4, _⟩ => ⟨S2x192, .f32⟩
  | .local _ .vmem, ⟨5, _⟩ => ⟨S2x192, .f32⟩
  | .local _ .vmem, ⟨6, _⟩ => ⟨S2x192, .f32⟩
  | _, _ => ⟨S2x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference19Ideal.lean ====
abbrev S2x192 : Shape := ⟨2, ![2, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x192, .f32⟩
  | .hbm, ⟨1, _⟩ => ⟨S2x192, .f32⟩
  | .hbm, ⟨2, _⟩ => ⟨S2x192, .f32⟩
  | .hbm, ⟨3, _⟩ => ⟨S2x192, .f32⟩
  | .hbm, ⟨4, _⟩ => ⟨S_, .f32⟩
  | .hbm, ⟨5, _⟩ => ⟨S2x192, .f32⟩
  | .hbm, ⟨6, _⟩ => ⟨S2x192, .f32⟩
  | .hbm, ⟨7, _⟩ => ⟨S_, .f32⟩
  | .hbm, ⟨8, _⟩ => ⟨S2x192, .f32⟩
  | .hbm, ⟨9, _⟩ => ⟨S2x192, .f32⟩
  | .hbm, ⟨10, _⟩ => ⟨S2x192, .f32⟩
  | .hbm, ⟨11, _⟩ => ⟨S_, .f32⟩
  | .hbm, ⟨12, _⟩ => ⟨S2x192, .f32⟩
  | .hbm, ⟨13, _⟩ => ⟨S2x192, .f32⟩
  | .hbm, ⟨14, _⟩ => ⟨S2x192, .f32⟩
  | .hbm, ⟨15, _⟩ => ⟨S_, .f32⟩
  | .hbm, ⟨16, _⟩ => ⟨S2x192, .f32⟩
  | .hbm, ⟨17, _⟩ => ⟨S2x192, .f32⟩
  | .hbm, ⟨18, _⟩ => ⟨S2x192, .f32⟩
  | .hbm, ⟨19, _⟩ => ⟨S_, .f32⟩
  | .hbm, ⟨20, _⟩ => ⟨S2x192, .f32⟩
  | .hbm, ⟨21, _⟩ => ⟨S2x192, .f32⟩
  | .hbm, ⟨22, _⟩ => ⟨S_, .f32⟩
  | .hbm, ⟨23, _⟩ => ⟨S2x192, .f32⟩
  | .hbm, ⟨24, _⟩ => ⟨S2x192, .f32⟩
  | .hbm, ⟨25, _⟩ => ⟨S2x192, .f32⟩
  | .hbm, ⟨26, _⟩ => ⟨S_, .f32⟩
  | .hbm, ⟨27, _⟩ => ⟨S2x192, .f32⟩
  | .hbm, ⟨28, _⟩ => ⟨S2x192, .f32⟩
  | .hbm, ⟨29, _⟩ => ⟨S2x192, .f32⟩
  | .hbm, ⟨30, _⟩ => ⟨S_, .f32⟩
  | .hbm, ⟨31, _⟩ => ⟨S2x192, .f32⟩
  | .hbm, ⟨32, _⟩ => ⟨S2x192, .f32⟩
  | .hbm, ⟨33, _⟩ => ⟨S2x192, .f32⟩
  | .hbm, ⟨34, _⟩ => ⟨S_, .f32⟩
  | .hbm, ⟨35, _⟩ => ⟨S2x192, .f32⟩
  | .hbm, ⟨36, _⟩ => ⟨S2x192, .f32⟩
  | _, _ => ⟨S2x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S384x96 : Shape := ⟨2, ![384, 96]⟩

abbrev nBuf : Space → Nat
  | .hbm => 7
  | .vmem => 7
  | .smem => 0
  | _ => 0

abbrev bufTy : (tb : Table) → Fin (tcTables nBuf tb) → BufTy
  | .hbm, ⟨0, _⟩ => ⟨S384x96, .f32⟩
  | .hbm, ⟨1, _⟩ => ⟨S384x96, .f32⟩
  | .hbm, ⟨2, _⟩ => ⟨S384x96, .f32⟩
  | .hbm, ⟨3, _⟩ => ⟨S384x96, .f32⟩
  | .hbm, ⟨4, _⟩ => ⟨S384x96, .f32⟩
  | .hbm, ⟨5, _⟩ => ⟨S384x96, .f32⟩
  | .hbm, ⟨6, _⟩ => ⟨S384x96, .f32⟩
  | .local _ .vmem, ⟨0, _⟩ => ⟨S384x96, .f32⟩
  | .local _ .vmem, ⟨1, _⟩ => ⟨S384x96, .f32⟩
  | .local _ .vmem, ⟨2, _⟩ => ⟨S384x96, .f32⟩
  | .local _ .vmem, ⟨3, _⟩ => ⟨S384x96, .f32⟩
  | .local _ .vmem, ⟨4, _⟩ => ⟨S384x96, .f32⟩
  | .local _ .vmem, ⟨5, _⟩ => ⟨S384x96, .f32⟩
  | .local _ .vmem, ⟨6, _⟩ => ⟨S384x96, .f32⟩
  | _, _ => ⟨S384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
abbrev S384x96 : Shape := ⟨2, ![384, 96]⟩

abbrev nBuf : Space → Nat
  | .hbm => 7
  | .vmem => 7
  | .smem => 0
  | _ => 0

abbrev bufTy : (tb : Table) → Fin (tcTables nBuf tb) → BufTy
  | .hbm, ⟨0, _⟩ => ⟨S384x96, .f32⟩
  | .hbm, ⟨1, _⟩ => ⟨S384x96, .f32⟩
  | .hbm, ⟨2, _⟩ => ⟨S384x96, .f32⟩
  | .hbm, ⟨3, _⟩ => ⟨S384x96, .f32⟩
  | .hbm, ⟨4, _⟩ => ⟨S384x96, .f32⟩
  | .hbm, ⟨5, _⟩ => ⟨S384x96, .f32⟩
  | .hbm, ⟨6, _⟩ => ⟨S384x96, .f32⟩
  | .local _ .vmem, ⟨0, _⟩ => ⟨S384x96, .f32⟩
  | .local _ .vmem, ⟨1, _⟩ => ⟨S384x96, .f32⟩
  | .local _ .vmem, ⟨2, _⟩ => ⟨S384x96, .f32⟩
  | .local _ .vmem, ⟨3, _⟩ => ⟨S384x96, .f32⟩
  | .local _ .vmem, ⟨4, _⟩ => ⟨S384x96, .f32⟩
  | .local _ .vmem, ⟨5, _⟩ => ⟨S384x96, .f32⟩
  | .local _ .vmem, ⟨6, _⟩ => ⟨S384x96, .f32⟩
  | _, _ => ⟨S384x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S384x96 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference20Ideal.lean ====
abbrev S384x96 : Shape := ⟨2, ![384, 96]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S384x96, .f32⟩
  | .hbm, ⟨1, _⟩ => ⟨S384x96, .f32⟩
  | .hbm, ⟨2, _⟩ => ⟨S384x96, .f32⟩
  | .hbm, ⟨3, _⟩ => ⟨S384x96, .f32⟩
  | .hbm, ⟨4, _⟩ => ⟨S_, .f32⟩
  | .hbm, ⟨5, _⟩ => ⟨S384x96, .f32⟩
  | .hbm, ⟨6, _⟩ => ⟨S384x96, .f32⟩
  | .hbm, ⟨7, _⟩ => ⟨S_, .f32⟩
  | .hbm, ⟨8, _⟩ => ⟨S384x96, .f32⟩
  | .hbm, ⟨9, _⟩ => ⟨S384x96, .f32⟩
  | .hbm, ⟨10, _⟩ => ⟨S384x96, .f32⟩
  | .hbm, ⟨11, _⟩ => ⟨S_, .f32⟩
  | .hbm, ⟨12, _⟩ => ⟨S384x96, .f32⟩
  | .hbm, ⟨13, _⟩ => ⟨S384x96, .f32⟩
  | .hbm, ⟨14, _⟩ => ⟨S384x96, .f32⟩
  | .hbm, ⟨15, _⟩ => ⟨S_, .f32⟩
  | .hbm, ⟨16, _⟩ => ⟨S384x96, .f32⟩
  | .hbm, ⟨17, _⟩ => ⟨S384x96, .f32⟩
  | .hbm, ⟨18, _⟩ => ⟨S384x96, .f32⟩
  | .hbm, ⟨19, _⟩ => ⟨S_, .f32⟩
  | .hbm, ⟨20, _⟩ => ⟨S384x96, .f32⟩
  | .hbm, ⟨21, _⟩ => ⟨S384x96, .f32⟩
  | .hbm, ⟨22, _⟩ => ⟨S_, .f32⟩
  | .hbm, ⟨23, _⟩ => ⟨S384x96, .f32⟩
  | .hbm, ⟨24, _⟩ => ⟨S384x96, .f32⟩
  | .hbm, ⟨25, _⟩ => ⟨S384x96, .f32⟩
  | .hbm, ⟨26, _⟩ => ⟨S_, .f32⟩
  | .hbm, ⟨27, _⟩ => ⟨S384x96, .f32⟩
  | .hbm, ⟨28, _⟩ => ⟨S384x96, .f32⟩
  | .hbm, ⟨29, _⟩ => ⟨S384x96, .f32⟩
  | .hbm, ⟨30, _⟩ => ⟨S_, .f32⟩
  | .hbm, ⟨31, _⟩ => ⟨S384x96, .f32⟩
  | .hbm, ⟨32, _⟩ => ⟨S384x96, .f32⟩
  | .hbm, ⟨33, _⟩ => ⟨S384x96, .f32⟩
  | .hbm, ⟨34, _⟩ => ⟨S_, .f32⟩
  | .hbm, ⟨35, _⟩ => ⟨S384x96, .f32⟩
  | .hbm, ⟨36, _⟩ => ⟨S384x96, .f32⟩
  | _, _ => ⟨S384x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel21Ideal.lean ====
abbrev S2x128 : Shape := ⟨2, ![2, 128]⟩

abbrev nBuf : Space → Nat
  | .hbm => 7
  | .vmem => 7
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference21Ideal.lean ====
abbrev S2x128 : Shape := ⟨2, ![2, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S2x128, .f32⟩
  | .hbm, ⟨7, _⟩ => ⟨S_, .f32⟩
  | .hbm, ⟨8, _⟩ => ⟨S2x128, .f32⟩
  | .hbm, ⟨9, _⟩ => ⟨S2x128, .f32⟩
  | .hbm, ⟨10, _⟩ => ⟨S2x128, .f32⟩
  | .hbm, ⟨11, _⟩ => ⟨S_, .f32⟩
  | .hbm, ⟨12, _⟩ => ⟨S2x128, .f32⟩
  | .hbm, ⟨13, _⟩ => ⟨S2x128, .f32⟩
  | .hbm, ⟨14, _⟩ => ⟨S2x128, .f32⟩
  | .hbm, ⟨15, _⟩ => ⟨S_, .f32⟩
  | .hbm, ⟨16, _⟩ => ⟨S2x128, .f32⟩
  | .hbm, ⟨17, _⟩ => ⟨S2x128, .f32⟩
  | .hbm, ⟨18, _⟩ => ⟨S2x128, .f32⟩
  | .hbm, ⟨19, _⟩ => ⟨S_, .f32⟩
  | .hbm, ⟨20, _⟩ => ⟨S2x128, .f32⟩
  | .hbm, ⟨21, _⟩ => ⟨S2x128, .f32⟩
  | .hbm, ⟨22, _⟩ => ⟨S_, .f32⟩
  | .hbm, ⟨23, _⟩ => ⟨S2x128, .f32⟩
  | .hbm, ⟨24, _⟩ => ⟨S2x128, .f32⟩
  | .hbm, ⟨25, _⟩ => ⟨S2x128, .f32⟩
  | .hbm, ⟨26, _⟩ => ⟨S_, .f32⟩
  | .hbm, ⟨27, _⟩ => ⟨S2x128, .f32⟩
  | .hbm, ⟨28, _⟩ => ⟨S2x128, .f32⟩
  | .hbm, ⟨29, _⟩ => ⟨S2x128, .f32⟩
  | .hbm, ⟨30, _⟩ => ⟨S_, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S_, .f32⟩
  | .hbm, ⟨35, _⟩ => ⟨S2x128, .f32⟩
  | .hbm, ⟨36, _⟩ => ⟨S2x128, .f32⟩
  | _, _ => ⟨S2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel22Ideal.lean ====
abbrev S256x128 : Shape := ⟨2, ![256, 128]⟩

abbrev nBuf : Space → Nat
  | .hbm => 7
  | .vmem => 7
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference22Ideal.lean ====
abbrev S256x128 : Shape := ⟨2, ![256, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S256x128, .f32⟩
  | .hbm, ⟨7, _⟩ => ⟨S_, .f32⟩
  | .hbm, ⟨8, _⟩ => ⟨S256x128, .f32⟩
  | .hbm, ⟨9, _⟩ => ⟨S256x128, .f32⟩
  | .hbm, ⟨10, _⟩ => ⟨S256x128, .f32⟩
  | .hbm, ⟨11, _⟩ => ⟨S_, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S_, .f32⟩
  | .hbm, ⟨16, _⟩ => ⟨S256x128, .f32⟩
  | .hbm, ⟨17, _⟩ => ⟨S256x128, .f32⟩
  | .hbm, ⟨18, _⟩ => ⟨S256x128, .f32⟩
  | .hbm, ⟨19, _⟩ => ⟨S_, .f32⟩
  | .hbm, ⟨20, _⟩ => ⟨S256x128, .f32⟩
  | .hbm, ⟨21, _⟩ => ⟨S256x128, .f32⟩
  | .hbm, ⟨22, _⟩ => ⟨S_, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S_, .f32⟩
  | .hbm, ⟨27, _⟩ => ⟨S256x128, .f32⟩
  | .hbm, ⟨28, _⟩ => ⟨S256x128, .f32⟩
  | .hbm, ⟨29, _⟩ => ⟨S256x128, .f32⟩
  | .hbm, ⟨30, _⟩ => ⟨S_, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S_, .f32⟩
  | .hbm, ⟨35, _⟩ => ⟨S256x128, .f32⟩
  | .hbm, ⟨36, _⟩ => ⟨S256x128, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel23Ideal.lean ====
abbrev S4x64 : Shape := ⟨2, ![4, 64]⟩

abbrev nBuf : Space → Nat
  | .hbm => 7
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S4x64, .f32⟩
  | .hbm, ⟨5, _⟩ => ⟨S4x64, .f32⟩
  | .hbm, ⟨6, _⟩ => ⟨S4x64, .f32⟩
  | .local _ .vmem, ⟨0, _⟩ => ⟨S4x64, .f32⟩
  | .local _ .vmem, ⟨1, _⟩ => ⟨S4x64, .f32⟩
  | .local _ .vmem, ⟨2, _⟩ => ⟨S4x64, .f32⟩
  | .local _ .vmem, ⟨3, _⟩ => ⟨S4x64, .f32⟩
  | .local _ .vmem, ⟨4, _⟩ => ⟨S4x64, .f32⟩
  | .local _ .vmem, ⟨5, _⟩ => ⟨S4x64, .f32⟩
  | .local _ .vmem, ⟨6, _⟩ => ⟨S4x64, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference23Ideal.lean ====
abbrev S4x64 : Shape := ⟨2, ![4, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel24Ideal.lean ====
abbrev S512x1024 : Shape := ⟨2, ![512, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S2048x1024 : Shape := ⟨2, ![2048, 1024]⟩
abbrev S128x1024 : Shape := ⟨2, ![128, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference25Ideal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S8x472x128 : Shape := ⟨3, ![8, 472, 128]⟩
abbrev S472x128 : Shape := ⟨2, ![472, 128]⟩
abbrev S1x472x128 : Shape := ⟨3, ![1, 472, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x472x128, .f32⟩
  | .hbm, ⟨1, _⟩ => ⟨S472x128, .f32⟩
  | .local _ .vmem, ⟨0, _⟩ => ⟨S8x472x128, .f32⟩
  | .local _ .vmem, ⟨1, _⟩ => ⟨S472x128, .f32⟩
  | _, _ => ⟨S8x472x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x472x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S472x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel26Ideal.lean ====
abbrev S8x472x128 : Shape := ⟨3, ![8, 472, 128]⟩
abbrev S472x128 : Shape := ⟨2, ![472, 128]⟩
abbrev S1x472x128 : Shape := ⟨3, ![1, 472, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x472x128, .f32⟩
  | .hbm, ⟨1, _⟩ => ⟨S472x128, .f32⟩
  | .local _ .vmem, ⟨0, _⟩ => ⟨S8x472x128, .f32⟩
  | .local _ .vmem, ⟨1, _⟩ => ⟨S472x128, .f32⟩
  | _, _ => ⟨S8x472x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x472x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S472x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference26Ideal.lean ====
abbrev S8x472x128 : Shape := ⟨3, ![8, 472, 128]⟩
abbrev S_ : Shape := ⟨0, ![]⟩
abbrev S472x128 : Shape := ⟨2, ![472, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x472x128, .f32⟩
  | .hbm, ⟨1, _⟩ => ⟨S_, .f32⟩
  | .hbm, ⟨2, _⟩ => ⟨S472x128, .f32⟩
  | _, _ => ⟨S8x472x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel27.lean ====
abbrev S32x2x6144 : Shape := ⟨3, ![32, 2, 6144]⟩
abbrev S2x6144 : Shape := ⟨2, ![2, 6144]⟩
abbrev S1x2x6144 : Shape := ⟨3, ![1, 2, 6144]⟩

abbrev nBuf : Space → Nat
  | .hbm => 2
  | .vmem => 2
  | .smem => 0
  | _ => 0

abbrev bufTy : (tb : Table) → Fin (tcTables nBuf tb) → BufTy
  | .hbm, ⟨0, _⟩ => ⟨S32x2x6144, .f32⟩
  | .hbm, ⟨1, _⟩ => ⟨S2x6144, .f32⟩
  | .local _ .vmem, ⟨0, _⟩ => ⟨S32x2x6144, .f32⟩
  | .local _ .vmem, ⟨1, _⟩ => ⟨S2x6144, .f32⟩
  | _, _ => ⟨S32x2x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel27Ideal.lean ====
abbrev S32x2x6144 : Shape := ⟨3, ![32, 2, 6144]⟩
abbrev S2x6144 : Shape := ⟨2, ![2, 6144]⟩
abbrev S1x2x6144 : Shape := ⟨3, ![1, 2, 6144]⟩

abbrev nBuf : Space → Nat
  | .hbm => 2
  | .vmem => 2
  | .smem => 0
  | _ => 0

abbrev bufTy : (tb : Table) → Fin (tcTables nBuf tb) → BufTy
  | .hbm, ⟨0, _⟩ => ⟨S32x2x6144, .f32⟩
  | .hbm, ⟨1, _⟩ => ⟨S2x6144, .f32⟩
  | .local _ .vmem, ⟨0, _⟩ => ⟨S32x2x6144, .f32⟩
  | .local _ .vmem, ⟨1, _⟩ => ⟨S2x6144, .f32⟩
  | _, _ => ⟨S32x2x6144, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S32x2x6144 : Shape := ⟨3, ![32, 2, 6144]⟩
abbrev S_ : Shape := ⟨0, ![]⟩
abbrev S2x6144 : Shape := ⟨2, ![2, 6144]⟩

abbrev nBuf : Space → Nat
  | .hbm => 3
  | .vmem => 0
  | .smem => 0
  | _ => 0

abbrev bufTy : (tb : Table) → Fin (tcTables nBuf tb) → BufTy
  | .hbm, ⟨0, _⟩ => ⟨S32x2x6144, .f32⟩
  | .hbm, ⟨1, _⟩ => ⟨S_, .f32⟩
  | .hbm, ⟨2, _⟩ => ⟨S2x6144, .f32⟩
  | _, _ => ⟨S32x2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S4x1x1024 : Shape := ⟨3, ![4, 1, 1024]⟩
abbrev S1x1024 : Shape := ⟨2, ![1, 1024]⟩
abbrev S1x1x1024 : Shape := ⟨3, ![1, 1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1x1024, .f32⟩
  | .hbm, ⟨1, _⟩ => ⟨S1x1024, .f32⟩
  | .local _ .vmem, ⟨0, _⟩ => ⟨S4x1x1024, .f32⟩
  | .local _ .vmem, ⟨1, _⟩ => ⟨S1x1024, .f32⟩
  | _, _ => ⟨S4x1x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel28Ideal.lean ====
abbrev S4x1x1024 : Shape := ⟨3, ![4, 1, 1024]⟩
abbrev S1x1024 : Shape := ⟨2, ![1, 1024]⟩
abbrev S1x1x1024 : Shape := ⟨3, ![1, 1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1x1024, .f32⟩
  | .hbm, ⟨1, _⟩ => ⟨S1x1024, .f32⟩
  | .local _ .vmem, ⟨0, _⟩ => ⟨S4x1x1024, .f32⟩
  | .local _ .vmem, ⟨1, _⟩ => ⟨S1x1024, .f32⟩
  | _, _ => ⟨S4x1x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference28Ideal.lean ====
abbrev S4x1x1024 : Shape := ⟨3, ![4, 1, 1024]⟩
abbrev S_ : Shape := ⟨0, ![]⟩
abbrev S1x1024 : Shape := ⟨2, ![1, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4x1x1024, .f32⟩
  | .hbm, ⟨1, _⟩ => ⟨S_, .f32⟩
  | .hbm, ⟨2, _⟩ => ⟨S1x1024, .f32⟩
  | _, _ => ⟨S4x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel29.lean ====
abbrev S4x1024x600 : Shape := ⟨3, ![4, 1024, 600]⟩
abbrev S1024x600 : Shape := ⟨2, ![1024, 600]⟩
abbrev S4x256x600 : Shape := ⟨3, ![4, 256, 600]⟩
abbrev S256x600 : Shape := ⟨2, ![256, 600]⟩
abbrev S1x256x600 : Shape := ⟨3, ![1, 256, 600]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x600, .bf16⟩
  | .hbm, ⟨1, _⟩ => ⟨S1024x600, .f32⟩
  | .local _ .vmem, ⟨0, _⟩ => ⟨S4x256x600, .bf16⟩
  | .local _ .vmem, ⟨1, _⟩ => ⟨S4x256x600, .bf16⟩
  | .local _ .vmem, ⟨2, _⟩ => ⟨S256x600, .f32⟩
  | .local _ .vmem, ⟨3, _⟩ => ⟨S256x600, .f32⟩
  | _, _ => ⟨S4x1024x600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel29Ideal.lean ====
abbrev S4x1024x600 : Shape := ⟨3, ![4, 1024, 600]⟩
abbrev S1024x600 : Shape := ⟨2, ![1024, 600]⟩
abbrev S4x256x600 : Shape := ⟨3, ![4, 256, 600]⟩
abbrev S256x600 : Shape := ⟨2, ![256, 600]⟩
abbrev S1x256x600 : Shape := ⟨3, ![1, 256, 600]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x600, .bf16⟩
  | .hbm, ⟨1, _⟩ => ⟨S1024x600, .f32⟩
  | .local _ .vmem, ⟨0, _⟩ => ⟨S4x256x600, .bf16⟩
  | .local _ .vmem, ⟨1, _⟩ => ⟨S4x256x600, .bf16⟩
  | .local _ .vmem, ⟨2, _⟩ => ⟨S256x600, .f32⟩
  | .local _ .vmem, ⟨3, _⟩ => ⟨S256x600, .f32⟩
  | _, _ => ⟨S4x1024x600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x600 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference29Ideal.lean ====
abbrev S4x1024x600 : Shape := ⟨3, ![4, 1024, 600]⟩
abbrev S_ : Shape := ⟨0, ![]⟩
abbrev S1024x600 : Shape := ⟨2, ![1024, 600]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x600, .bf16⟩
  | .hbm, ⟨1, _⟩ => ⟨S4x1024x600, .f32⟩
  | .hbm, ⟨2, _⟩ => ⟨S_, .f32⟩
  | .hbm, ⟨3, _⟩ => ⟨S1024x600, .f32⟩
  | _, _ => ⟨S4x1024x600, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel30.lean ====
abbrev S4x192x96 : Shape := ⟨3, ![4, 192, 96]⟩
abbrev S192x96 : Shape := ⟨2, ![192, 96]⟩
abbrev S1x192x96 : Shape := ⟨3, ![1, 192, 96]⟩

abbrev nBuf : Space → Nat
  | .hbm => 2
  | .vmem => 2
  | .smem => 0
  | _ => 0

abbrev bufTy : (tb : Table) → Fin (tcTables nBuf tb) → BufTy
  | .hbm, ⟨0, _⟩ => ⟨S4x192x96, .bf16⟩
  | .hbm, ⟨1, _⟩ => ⟨S192x96, .f32⟩
  | .local _ .vmem, ⟨0, _⟩ => ⟨S4x192x96, .bf16⟩
  | .local _ .vmem, ⟨1, _⟩ => ⟨S192x96, .f32⟩
  | _, _ => ⟨S4x192x96, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel30Ideal.lean ====
abbrev S4x192x96 : Shape := ⟨3, ![4, 192, 96]⟩
abbrev S192x96 : Shape := ⟨2, ![192, 96]⟩
abbrev S1x192x96 : Shape := ⟨3, ![1, 192, 96]⟩

abbrev nBuf : Space → Nat
  | .hbm => 2
  | .vmem => 2
  | .smem => 0
  | _ => 0

abbrev bufTy : (tb : Table) → Fin (tcTables nBuf tb) → BufTy
  | .hbm, ⟨0, _⟩ => ⟨S4x192x96, .bf16⟩
  | .hbm, ⟨1, _⟩ => ⟨S192x96, .f32⟩
  | .local _ .vmem, ⟨0, _⟩ => ⟨S4x192x96, .bf16⟩
  | .local _ .vmem, ⟨1, _⟩ => ⟨S192x96, .f32⟩
  | _, _ => ⟨S4x192x96, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x192x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S192x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference30Ideal.lean ====
abbrev S4x192x96 : Shape := ⟨3, ![4, 192, 96]⟩
abbrev S_ : Shape := ⟨0, ![]⟩
abbrev S192x96 : Shape := ⟨2, ![192, 96]⟩

abbrev nBuf : Space → Nat
  | .hbm => 4
  | .vmem => 0
  | .smem => 0
  | _ => 0

abbrev bufTy : (tb : Table) → Fin (tcTables nBuf tb) → BufTy
  | .hbm, ⟨0, _⟩ => ⟨S4x192x96, .bf16⟩
  | .hbm, ⟨1, _⟩ => ⟨S4x192x96, .f32⟩
  | .hbm, ⟨2, _⟩ => ⟨S_, .f32⟩
  | .hbm, ⟨3, _⟩ => ⟨S192x96, .f32⟩
  | _, _ => ⟨S4x192x96, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel31.lean ====
abbrev S4x128x128 : Shape := ⟨3, ![4, 128, 128]⟩
abbrev S128x128 : Shape := ⟨2, ![128, 128]⟩
abbrev S1x128x128 : Shape := ⟨3, ![1, 128, 128]⟩

abbrev nBuf : Space → Nat
  | .hbm => 2
  | .vmem => 2
  | .smem => 0
  | _ => 0

abbrev bufTy : (tb : Table) → Fin (tcTables nBuf tb) → BufTy
  | .hbm, ⟨0, _⟩ => ⟨S4x128x128, .bf16⟩
  | .hbm, ⟨1, _⟩ => ⟨S128x128, .f32⟩
  | .local _ .vmem, ⟨0, _⟩ => ⟨S4x128x128, .bf16⟩
  | .local _ .vmem, ⟨1, _⟩ => ⟨S128x128, .f32⟩
  | _, _ => ⟨S4x128x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel31Ideal.lean ====
abbrev S4x128x128 : Shape := ⟨3, ![4, 128, 128]⟩
abbrev S128x128 : Shape := ⟨2, ![128, 128]⟩
abbrev S1x128x128 : Shape := ⟨3, ![1, 128, 128]⟩

abbrev nBuf : Space → Nat
  | .hbm => 2
  | .vmem => 2
  | .smem => 0
  | _ => 0

abbrev bufTy : (tb : Table) → Fin (tcTables nBuf tb) → BufTy
  | .hbm, ⟨0, _⟩ => ⟨S4x128x128, .bf16⟩
  | .hbm, ⟨1, _⟩ => ⟨S128x128, .f32⟩
  | .local _ .vmem, ⟨0, _⟩ => ⟨S4x128x128, .bf16⟩
  | .local _ .vmem, ⟨1, _⟩ => ⟨S128x128, .f32⟩
  | _, _ => ⟨S4x128x128, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference31Ideal.lean ====
abbrev S4x128x128 : Shape := ⟨3, ![4, 128, 128]⟩
abbrev S_ : Shape := ⟨0, ![]⟩
abbrev S128x128 : Shape := ⟨2, ![128, 128]⟩

abbrev nBuf : Space → Nat
  | .hbm => 4
  | .vmem => 0
  | .smem => 0
  | _ => 0

abbrev bufTy : (tb : Table) → Fin (tcTables nBuf tb) → BufTy
  | .hbm, ⟨0, _⟩ => ⟨S4x128x128, .bf16⟩
  | .hbm, ⟨1, _⟩ => ⟨S4x128x128, .f32⟩
  | .hbm, ⟨2, _⟩ => ⟨S_, .f32⟩
  | .hbm, ⟨3, _⟩ => ⟨S128x128, .f32⟩
  | _, _ => ⟨S4x128x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel32.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Kernel32Ideal.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x256x1024, .bf16⟩
  | .hbm, ⟨1, _⟩ => ⟨S256x1024, .f32⟩
  | .local _ .vmem, ⟨0, _⟩ => ⟨S4x256x1024, .bf16⟩
  | .local _ .vmem, ⟨1, _⟩ => ⟨S256x1024, .f32⟩
  | _, _ => ⟨S4x256x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference32Ideal.lean ====
abbrev S4x256x1024 : Shape := ⟨3, ![4, 256, 1024]⟩
abbrev S_ : Shape := ⟨0, ![]⟩
abbrev S256x1024 : Shape := ⟨2, ![256, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .bf16⟩
  | .hbm, ⟨1, _⟩ => ⟨S4x256x1024, .f32⟩
  | .hbm, ⟨2, _⟩ => ⟨S_, .f32⟩
  | .hbm, ⟨3, _⟩ => ⟨S256x1024, .f32⟩
  | _, _ => ⟨S4x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel33.lean ====
abbrev S4x1024x1024 : Shape := ⟨3, ![4, 1024, 1024]⟩
abbrev S1024x1024 : Shape := ⟨2, ![1024, 1024]⟩
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .f32⟩
  | .local _ .vmem, ⟨0, _⟩ => ⟨S4x256x1024, .bf16⟩
  | .local _ .vmem, ⟨1, _⟩ => ⟨S4x256x1024, .bf16⟩
  | .local _ .vmem, ⟨2, _⟩ => ⟨S256x1024, .f32⟩
  | .local _ .vmem, ⟨3, _⟩ => ⟨S256x1024, .f32⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference33Ideal.lean ====
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .f32⟩
  | .hbm, ⟨2, _⟩ => ⟨S_, .f32⟩
  | .hbm, ⟨3, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Outs.lean ====
/- What the body leaves at each grid point, case by case: the four runs of the body at a point's memrefs and input blocks, the
   covers of their stores, and the outputs' and the carried scratch's contents after each point. -/
module

public import proofs.«01_k».proof.Proof.Gen.KernelIdeal.Frame.RunA
public import proofs.«01_k».proof.Proof.Gen.KernelIdeal.Frame.RunB
public import proofs.«01_k».proof.Proof.Gen.KernelIdeal.Frame.RunC
public import proofs.«01_k».proof.Proof.Gen.KernelIdeal.Frame.RunD

@[expose] public section

-- membership in a rectangle of the windows' extents looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the outputs' buffers and the carried scratch hold: the seven outputs in window order, then the scratch. -/
abbrev Outs (F : FTy → Type) := Vec F S2x1x1x256x96 .f32 × Vec F S2x1x96x4352 .f32 × Vec F S2x1x64x4352 .f32 × Vec F S2x4x64x64 .f32 × Vec F S2x4x64x64 .f32 × Vec F S2x4x64x64 .f32 × Vec F S4x1x64 .f32 × Vec F S2x4x64x64 .f32

/-! ## Case A: the first point -/

/-- The body's run at point `t`. -/
def runA (c : Dev nD) (t : Fin cfg0.N) (h0 : t.val % 68 = 0) (h1 : t.val % 17 = 0) (h2 : ¬(t.val % 17 = 16)) (h3 : ¬t.val % 17 = 16) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) ((hcond0_0 t).mpr h0) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)

theorem coverA_12 (c : Dev nD) (t : Fin cfg0.N) (h0 : t.val % 68 = 0) (h1 : t.val % 17 = 0) (h2 : ¬(t.val % 17 = 16)) (h3 : ¬t.val % 17 = 16) (y : S2x1x1x256x96.Idx) :
    ∃ pc ∈ (runA m c t h0 h1 h2 h3).1, y ∈ pc.1.set :=
  View.cover_of_tiledL (runA m c t h0 h1 h2 h3).1 S1x1x1x256x96.size (by sl_kernel_rfl) y
theorem coverA_13 (c : Dev nD) (t : Fin cfg0.N) (h0 : t.val % 68 = 0) (h1 : t.val % 17 = 0) (h2 : ¬(t.val % 17 = 16)) (h3 : ¬t.val % 17 = 16) (y : S2x1x96x4352.Idx) :
    ∃ pc ∈ (runA m c t h0 h1 h2 h3).2.1, y ∈ pc.1.set :=
  View.cover_of_tiledBy (runA m c t h0 h1 h2 h3).2.1 ![1, 1, 96, 4352] (by sl_kernel_rfl) y
theorem coverA_14 (c : Dev nD) (t : Fin cfg0.N) (h0 : t.val % 68 = 0) (h1 : t.val % 17 = 0) (h2 : ¬(t.val % 17 = 16)) (h3 : ¬t.val % 17 = 16) (y : S2x1x64x4352.Idx) :
    ∃ pc ∈ (runA m c t h0 h1 h2 h3).2.2.1, y ∈ pc.1.set :=
  View.cover_of_tiledBy (runA m c t h0 h1 h2 h3).2.2.1 ![1, 1, 64, 4352] (by sl_kernel_rfl) y
theorem coverA_15 (c : Dev nD) (t : Fin cfg0.N) (h0 : t.val % 68 = 0) (h1 : t.val % 17 = 0) (h2 : ¬(t.val % 17 = 16)) (h3 : ¬t.val % 17 = 16) (y : S2x4x64x64.Idx) :
    ∃ pc ∈ (runA m c t h0 h1 h2 h3).2.2.2.1, y ∈ pc.1.set :=
  View.cover_of_tiledL (runA m c t h0 h1 h2 h3).2.2.2.1 S1x1x64x64.size (by sl_kernel_rfl) y
theorem coverA_16 (c : Dev nD) (t : Fin cfg0.N) (h0 : t.val % 68 = 0) (h1 : t.val % 17 = 0) (h2 : ¬(t.val % 17 = 16)) (h3 : ¬t.val % 17 = 16) (y : S2x4x64x64.Idx) :
    ∃ pc ∈ (runA m c t h0 h1 h2 h3).2.2.2.2.1, y ∈ pc.1.set :=
  View.cover_of_tiledL (runA m c t h0 h1 h2 h3).2.2.2.2.1 S1x1x64x64.size (by sl_kernel_rfl) y
theorem coverA_17 (c : Dev nD) (t : Fin cfg0.N) (h0 : t.val % 68 = 0) (h1 : t.val % 17 = 0) (h2 : ¬(t.val % 17 = 16)) (h3 : ¬t.val % 17 = 16) (y : S2x4x64x64.Idx) :
    ∃ pc ∈ (runA m c t h0 h1 h2 h3).2.2.2.2.2.1, y ∈ pc.1.set :=
  View.cover_of_tiledL (runA m c t h0 h1 h2 h3).2.2.2.2.2.1 S1x1x64x64.size (by sl_kernel_rfl) y
theorem coverA_18 (c : Dev nD) (t : Fin cfg0.N) (h0 : t.val % 68 = 0) (h1 : t.val % 17 = 0) (h2 : ¬(t.val % 17 = 16)) (h3 : ¬t.val % 17 = 16) (y : S4x1x64.Idx) :
    ∃ pc ∈ (runA m c t h0 h1 h2 h3).2.2.2.2.2.2.1, y ∈ pc.1.set :=
  View.cover_of_tiledBy (runA m c t h0 h1 h2 h3).2.2.2.2.2.2.1 ![1, 1, 64] (by sl_kernel_rfl) y
theorem coverA_s (c : Dev nD) (t : Fin cfg0.N) (h0 : t.val % 68 = 0) (h1 : t.val % 17 = 0) (h2 : ¬(t.val % 17 = 16)) (h3 : ¬t.val % 17 = 16) (y : S2x4x64x64.Idx) :
    ∃ pc ∈ (runA m c t h0 h1 h2 h3).2.2.2.2.2.2.2.1, y ∈ pc.1.set :=
  View.cover_of_wholeMem (runA m c t h0 h1 h2 h3).2.2.2.2.2.2.2.1 (by sl_whole_mem) y

/-- What the point leaves: the stores of its run, read back. -/
def outsA (c : Dev nD) (t : Fin cfg0.N) (h0 : t.val % 68 = 0) (h1 : t.val % 17 = 0) (h2 : ¬(t.val % 17 = 16)) (h3 : ¬t.val % 17 = 16) : Outs F :=
  (VO0_12.read (Elt F) (VO0_12.writes (Elt F) VO0_12.junk (runA m c t h0 h1 h2 h3).1),
    VO0_13.read (Elt F) (VO0_13.writes (Elt F) VO0_13.junk (runA m c t h0 h1 h2 h3).2.1),
    VO0_14.read (Elt F) (VO0_14.writes (Elt F) VO0_14.junk (runA m c t h0 h1 h2 h3).2.2.1),
    VO0_15.read (Elt F) (VO0_15.writes (Elt F) VO0_15.junk (runA m c t h0 h1 h2 h3).2.2.2.1),
    VO0_16.read (Elt F) (VO0_16.writes (Elt F) VO0_16.junk (runA m c t h0 h1 h2 h3).2.2.2.2.1),
    VO0_17.read (Elt F) (VO0_17.writes (Elt F) VO0_17.junk (runA m c t h0 h1 h2 h3).2.2.2.2.2.1),
    VO0_18.read (Elt F) (VO0_18.writes (Elt F) VO0_18.junk (runA m c t h0 h1 h2 h3).2.2.2.2.2.2.1),
    VS0_0.read (Elt F) (VS0_0.writes (Elt F) VS0_0.junk (runA m c t h0 h1 h2 h3).2.2.2.2.2.2.2.1))

/-! ## Case B: a latent tile that is not a head's first -/

/-- The body's run at point `t`, over what the point before left. -/
def runB (c : Dev nD) (t : Fin cfg0.N) (h0 : ¬t.val % 68 = 0) (h1 : ¬t.val % 17 = 0) (h2 : ¬(t.val % 17 = 16)) (h3 : ¬t.val % 17 = 16) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.2.2.2.1 p.2.2.2.2.2.2.2

theorem coverB_12 (c : Dev nD) (t : Fin cfg0.N) (h0 : ¬t.val % 68 = 0) (h1 : ¬t.val % 17 = 0) (h2 : ¬(t.val % 17 = 16)) (h3 : ¬t.val % 17 = 16) (p : Outs F) (y : S2x1x1x256x96.Idx) :
    ∃ pc ∈ (runB m c t h0 h1 h2 h3 p).1, y ∈ pc.1.set :=
  View.cover_of_tiledL (runB m c t h0 h1 h2 h3 p).1 S1x1x1x256x96.size (by sl_kernel_rfl) y
theorem coverB_13 (c : Dev nD) (t : Fin cfg0.N) (h0 : ¬t.val % 68 = 0) (h1 : ¬t.val % 17 = 0) (h2 : ¬(t.val % 17 = 16)) (h3 : ¬t.val % 17 = 16) (p : Outs F) (y : S2x1x96x4352.Idx) :
    ∃ pc ∈ (runB m c t h0 h1 h2 h3 p).2.1, y ∈ pc.1.set :=
  View.cover_of_tiledL (runB m c t h0 h1 h2 h3 p).2.1 S1x1x96x4352.size (by sl_kernel_rfl) y
theorem coverB_14 (c : Dev nD) (t : Fin cfg0.N) (h0 : ¬t.val % 68 = 0) (h1 : ¬t.val % 17 = 0) (h2 : ¬(t.val % 17 = 16)) (h3 : ¬t.val % 17 = 16) (p : Outs F) (y : S2x1x64x4352.Idx) :
    ∃ pc ∈ (runB m c t h0 h1 h2 h3 p).2.2.1, y ∈ pc.1.set :=
  View.cover_of_tiledL (runB m c t h0 h1 h2 h3 p).2.2.1 S1x1x64x4352.size (by sl_kernel_rfl) y
theorem coverB_15 (c : Dev nD) (t : Fin cfg0.N) (h0 : ¬t.val % 68 = 0) (h1 : ¬t.val % 17 = 0) (h2 : ¬(t.val % 17 = 16)) (h3 : ¬t.val % 17 = 16) (p : Outs F) (y : S2x4x64x64.Idx) :
    ∃ pc ∈ (runB m c t h0 h1 h2 h3 p).2.2.2.1, y ∈ pc.1.set :=
  View.cover_of_tiledL (runB m c t h0 h1 h2 h3 p).2.2.2.1 S1x1x64x64.size (by sl_kernel_rfl) y
theorem coverB_16 (c : Dev nD) (t : Fin cfg0.N) (h0 : ¬t.val % 68 = 0) (h1 : ¬t.val % 17 = 0) (h2 : ¬(t.val % 17 = 16)) (h3 : ¬t.val % 17 = 16) (p : Outs F) (y : S2x4x64x64.Idx) :
    ∃ pc ∈ (runB m c t h0 h1 h2 h3 p).2.2.2.2.1, y ∈ pc.1.set :=
  View.cover_of_tiledL (runB m c t h0 h1 h2 h3 p).2.2.2.2.1 S1x1x64x64.size (by sl_kernel_rfl) y
theorem coverB_17 (c : Dev nD) (t : Fin cfg0.N) (h0 : ¬t.val % 68 = 0) (h1 : ¬t.val % 17 = 0) (h2 : ¬(t.val % 17 = 16)) (h3 : ¬t.val % 17 = 16) (p : Outs F) (y : S2x4x64x64.Idx) :
    ∃ pc ∈ (runB m c t h0 h1 h2 h3 p).2.2.2.2.2.1, y ∈ pc.1.set :=
  View.cover_of_tiledL (runB m c t h0 h1 h2 h3 p).2.2.2.2.2.1 S1x1x64x64.size (by sl_kernel_rfl) y
theorem coverB_18 (c : Dev nD) (t : Fin cfg0.N) (h0 : ¬t.val % 68 = 0) (h1 : ¬t.val % 17 = 0) (h2 : ¬(t.val % 17 = 16)) (h3 : ¬t.val % 17 = 16) (p : Outs F) (y : S4x1x64.Idx) :
    ∃ pc ∈ (runB m c t h0 h1 h2 h3 p).2.2.2.2.2.2.1, y ∈ pc.1.set :=
  View.cover_of_tiledL (runB m c t h0 h1 h2 h3 p).2.2.2.2.2.2.1 S1x1x64.size (by sl_kernel_rfl) y
theorem coverB_s (c : Dev nD) (t : Fin cfg0.N) (h0 : ¬t.val % 68 = 0) (h1 : ¬t.val % 17 = 0) (h2 : ¬(t.val % 17 = 16)) (h3 : ¬t.val % 17 = 16) (p : Outs F) (y : S2x4x64x64.Idx) :
    ∃ pc ∈ (runB m c t h0 h1 h2 h3 p).2.2.2.2.2.2.2.1, y ∈ pc.1.set :=
  View.cover_of_tiledL (runB m c t h0 h1 h2 h3 p).2.2.2.2.2.2.2.1 S1x1x64x64.size (by sl_kernel_rfl) y

/-- What the point leaves: the stores of its run, read back. -/
def outsB (c : Dev nD) (t : Fin cfg0.N) (h0 : ¬t.val % 68 = 0) (h1 : ¬t.val % 17 = 0) (h2 : ¬(t.val % 17 = 16)) (h3 : ¬t.val % 17 = 16) (p : Outs F) : Outs F :=
  (VO0_12.read (Elt F) (VO0_12.writes (Elt F) VO0_12.junk (runB m c t h0 h1 h2 h3 p).1),
    VO0_13.read (Elt F) (VO0_13.writes (Elt F) VO0_13.junk (runB m c t h0 h1 h2 h3 p).2.1),
    VO0_14.read (Elt F) (VO0_14.writes (Elt F) VO0_14.junk (runB m c t h0 h1 h2 h3 p).2.2.1),
    VO0_15.read (Elt F) (VO0_15.writes (Elt F) VO0_15.junk (runB m c t h0 h1 h2 h3 p).2.2.2.1),
    VO0_16.read (Elt F) (VO0_16.writes (Elt F) VO0_16.junk (runB m c t h0 h1 h2 h3 p).2.2.2.2.1),
    VO0_17.read (Elt F) (VO0_17.writes (Elt F) VO0_17.junk (runB m c t h0 h1 h2 h3 p).2.2.2.2.2.1),
    VO0_18.read (Elt F) (VO0_18.writes (Elt F) VO0_18.junk (runB m c t h0 h1 h2 h3 p).2.2.2.2.2.2.1),
    VS0_0.read (Elt F) (VS0_0.writes (Elt F) VS0_0.junk (runB m c t h0 h1 h2 h3 p).2.2.2.2.2.2.2.1))

/-! ## Case C: a head's context tile -/

/-- The body's run at point `t`, over what the point before left. -/
def runC (c : Dev nD) (t : Fin cfg0.N) (h0 : ¬t.val % 68 = 0) (h1 : ¬t.val % 17 = 0) (h2 : ¬¬(t.val % 17 = 16)) (h3 : t.val % 17 = 16) (p : Outs F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.2.2.2.1 p.2.2.2.2.2.2.2

theorem coverC_12 (c : Dev nD) (t : Fin cfg0.N) (h0 : ¬t.val % 68 = 0) (h1 : ¬t.val % 17 = 0) (h2 : ¬¬(t.val % 17 = 16)) (h3 : t.val % 17 = 16) (p : Outs F) (y : S2x1x1x256x96.Idx) :
    ∃ pc ∈ (runC m c t h0 h1 h2 h3 p).1, y ∈ pc.1.set :=
  View.cover_of_tiledL (runC m c t h0 h1 h2 h3 p).1 S1x1x1x256x96.size (by sl_kernel_rfl) y
theorem coverC_15 (c : Dev nD) (t : Fin cfg0.N) (h0 : ¬t.val % 68 = 0) (h1 : ¬t.val % 17 = 0) (h2 : ¬¬(t.val % 17 = 16)) (h3 : t.val % 17 = 16) (p : Outs F) (y : S2x4x64x64.Idx) :
    ∃ pc ∈ (runC m c t h0 h1 h2 h3 p).2.2.2.1, y ∈ pc.1.set :=
  View.cover_of_tiledL (runC m c t h0 h1 h2 h3 p).2.2.2.1 S1x1x64x64.size (by sl_kernel_rfl) y
theorem coverC_16 (c : Dev nD) (t : Fin cfg0.N) (h0 : ¬t.val % 68 = 0) (h1 : ¬t.val % 17 = 0) (h2 : ¬¬(t.val % 17 = 16)) (h3 : t.val % 17 = 16) (p : Outs F) (y : S2x4x64x64.Idx) :
    ∃ pc ∈ (runC m c t h0 h1 h2 h3 p).2.2.2.2.1, y ∈ pc.1.set :=
  View.cover_of_tiledL (runC m c t h0 h1 h2 h3 p).2.2.2.2.1 S1x1x64x64.size (by sl_kernel_rfl) y
theorem coverC_17 (c : Dev nD) (t : Fin cfg0.N) (h0 : ¬t.val % 68 = 0) (h1 : ¬t.val % 17 = 0) (h2 : ¬¬(t.val % 17 = 16)) (h3 : t.val % 17 = 16) (p : Outs F) (y : S2x4x64x64.Idx) :
    ∃ pc ∈ (runC m c t h0 h1 h2 h3 p).2.2.2.2.2.1, y ∈ pc.1.set :=
  View.cover_of_tiledL (runC m c t h0 h1 h2 h3 p).2.2.2.2.2.1 S1x1x64x64.size (by sl_kernel_rfl) y
theorem coverC_18 (c : Dev nD) (t : Fin cfg0.N) (h0 : ¬t.val % 68 = 0) (h1 : ¬t.val % 17 = 0) (h2 : ¬¬(t.val % 17 = 16)) (h3 : t.val % 17 = 16) (p : Outs F) (y : S4x1x64.Idx) :
    ∃ pc ∈ (runC m c t h0 h1 h2 h3 p).2.2.2.2.2.2.1, y ∈ pc.1.set :=
  View.cover_of_tiledL (runC m c t h0 h1 h2 h3 p).2.2.2.2.2.2.1 S1x1x64.size (by sl_kernel_rfl) y
theorem coverC_s (c : Dev nD) (t : Fin cfg0.N) (h0 : ¬t.val % 68 = 0) (h1 : ¬t.val % 17 = 0) (h2 : ¬¬(t.val % 17 = 16)) (h3 : t.val % 17 = 16) (p : Outs F) (y : S2x4x64x64.Idx) :
    ∃ pc ∈ (runC m c t h0 h1 h2 h3 p).2.2.2.2.2.2.2.1, y ∈ pc.1.set :=
  View.cover_of_tiledL (runC m c t h0 h1 h2 h3 p).2.2.2.2.2.2.2.1 S1x1x64x64.size (by sl_kernel_rfl) y

/-- What the point leaves: the stores of its run, read back. -/
def outsC (c : Dev nD) (t : Fin cfg0.N) (h0 : ¬t.val % 68 = 0) (h1 : ¬t.val % 17 = 0) (h2 : ¬¬(t.val % 17 = 16)) (h3 : t.val % 17 = 16) (p : Outs F) : Outs F :=
  (VO0_12.read (Elt F) (VO0_12.writes (Elt F) VO0_12.junk (runC m c t h0 h1 h2 h3 p).1),
    (ms0_13 t).view.read (Elt F) ((ms0_13 t).view.writes (Elt F) ((hs0_13 t).unread p.2.1) (runC m c t h0 h1 h2 h3 p).2.1),
    (ms0_14 t).view.read (Elt F) ((ms0_14 t).view.writes (Elt F) ((hs0_14 t).unread p.2.2.1) (runC m c t h0 h1 h2 h3 p).2.2.1),
    VO0_15.read (Elt F) (VO0_15.writes (Elt F) VO0_15.junk (runC m c t h0 h1 h2 h3 p).2.2.2.1),
    VO0_16.read (Elt F) (VO0_16.writes (Elt F) VO0_16.junk (runC m c t h0 h1 h2 h3 p).2.2.2.2.1),
    VO0_17.read (Elt F) (VO0_17.writes (Elt F) VO0_17.junk (runC m c t h0 h1 h2 h3 p).2.2.2.2.2.1),
    VO0_18.read (Elt F) (VO0_18.writes (Elt F) VO0_18.junk (runC m c t h0 h1 h2 h3 p).2.2.2.2.2.2.1),
    VS0_0.read (Elt F) (VS0_0.writes (Elt F) VS0_0.junk (runC m c t h0 h1 h2 h3 p).2.2.2.2.2.2.2.1))

/-! ## Case D: the first tile of a later head -/

/-- The body's run at point `t`, over what the point before left. -/
def runD (c : Dev nD) (t : Fin cfg0.N) (h0 : ¬t.val % 68 = 0) (h1 : t.val % 17 = 0) (h2 : ¬(t.val % 17 = 16)) (h3 : ¬t.val % 17 = 16) (p : Outs F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (fun h => h0 ((hcond0_0 t).mp h)) ((hcond0_1 t).mpr h1) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.2.2.2.2.2.1 p.2.2.2.2.2.2.2

theorem coverD_12 (c : Dev nD) (t : Fin cfg0.N) (h0 : ¬t.val % 68 = 0) (h1 : t.val % 17 = 0) (h2 : ¬(t.val % 17 = 16)) (h3 : ¬t.val % 17 = 16) (p : Outs F) (y : S2x1x1x256x96.Idx) :
    ∃ pc ∈ (runD m c t h0 h1 h2 h3 p).1, y ∈ pc.1.set :=
  View.cover_of_tiledL (runD m c t h0 h1 h2 h3 p).1 S1x1x1x256x96.size (by sl_kernel_rfl) y
theorem coverD_13 (c : Dev nD) (t : Fin cfg0.N) (h0 : ¬t.val % 68 = 0) (h1 : t.val % 17 = 0) (h2 : ¬(t.val % 17 = 16)) (h3 : ¬t.val % 17 = 16) (p : Outs F) (y : S2x1x96x4352.Idx) :
    ∃ pc ∈ (runD m c t h0 h1 h2 h3 p).2.1, y ∈ pc.1.set :=
  View.cover_of_tiledBy (runD m c t h0 h1 h2 h3 p).2.1 ![1, 1, 96, 4352] (by sl_kernel_rfl) y
theorem coverD_14 (c : Dev nD) (t : Fin cfg0.N) (h0 : ¬t.val % 68 = 0) (h1 : t.val % 17 = 0) (h2 : ¬(t.val % 17 = 16)) (h3 : ¬t.val % 17 = 16) (p : Outs F) (y : S2x1x64x4352.Idx) :
    ∃ pc ∈ (runD m c t h0 h1 h2 h3 p).2.2.1, y ∈ pc.1.set :=
  View.cover_of_tiledBy (runD m c t h0 h1 h2 h3 p).2.2.1 ![1, 1, 64, 4352] (by sl_kernel_rfl) y
theorem coverD_15 (c : Dev nD) (t : Fin cfg0.N) (h0 : ¬t.val % 68 = 0) (h1 : t.val % 17 = 0) (h2 : ¬(t.val % 17 = 16)) (h3 : ¬t.val % 17 = 16) (p : Outs F) (y : S2x4x64x64.Idx) :
    ∃ pc ∈ (runD m c t h0 h1 h2 h3 p).2.2.2.1, y ∈ pc.1.set :=
  View.cover_of_tiledL (runD m c t h0 h1 h2 h3 p).2.2.2.1 S1x1x64x64.size (by sl_kernel_rfl) y
theorem coverD_16 (c : Dev nD) (t : Fin cfg0.N) (h0 : ¬t.val % 68 = 0) (h1 : t.val % 17 = 0) (h2 : ¬(t.val % 17 = 16)) (h3 : ¬t.val % 17 = 16) (p : Outs F) (y : S2x4x64x64.Idx) :
    ∃ pc ∈ (runD m c t h0 h1 h2 h3 p).2.2.2.2.1, y ∈ pc.1.set :=
  View.cover_of_tiledL (runD m c t h0 h1 h2 h3 p).2.2.2.2.1 S1x1x64x64.size (by sl_kernel_rfl) y
theorem coverD_17 (c : Dev nD) (t : Fin cfg0.N) (h0 : ¬t.val % 68 = 0) (h1 : t.val % 17 = 0) (h2 : ¬(t.val % 17 = 16)) (h3 : ¬t.val % 17 = 16) (p : Outs F) (y : S2x4x64x64.Idx) :
    ∃ pc ∈ (runD m c t h0 h1 h2 h3 p).2.2.2.2.2.1, y ∈ pc.1.set :=
  View.cover_of_tiledL (runD m c t h0 h1 h2 h3 p).2.2.2.2.2.1 S1x1x64x64.size (by sl_kernel_rfl) y
theorem coverD_18 (c : Dev nD) (t : Fin cfg0.N) (h0 : ¬t.val % 68 = 0) (h1 : t.val % 17 = 0) (h2 : ¬(t.val % 17 = 16)) (h3 : ¬t.val % 17 = 16) (p : Outs F) (y : S4x1x64.Idx) :
    ∃ pc ∈ (runD m c t h0 h1 h2 h3 p).2.2.2.2.2.2.1, y ∈ pc.1.set :=
  View.cover_of_tiledL (runD m c t h0 h1 h2 h3 p).2.2.2.2.2.2.1 S1x1x64.size (by sl_kernel_rfl) y
theorem coverD_s (c : Dev nD) (t : Fin cfg0.N) (h0 : ¬t.val % 68 = 0) (h1 : t.val % 17 = 0) (h2 : ¬(t.val % 17 = 16)) (h3 : ¬t.val % 17 = 16) (p : Outs F) (y : S2x4x64x64.Idx) :
    ∃ pc ∈ (runD m c t h0 h1 h2 h3 p).2.2.2.2.2.2.2.1, y ∈ pc.1.set :=
  View.cover_of_tiledL (runD m c t h0 h1 h2 h3 p).2.2.2.2.2.2.2.1 S1x1x64x64.size (by sl_kernel_rfl) y

/-- What the point leaves: the stores of its run, read back. -/
def outsD (c : Dev nD) (t : Fin cfg0.N) (h0 : ¬t.val % 68 = 0) (h1 : t.val % 17 = 0) (h2 : ¬(t.val % 17 = 16)) (h3 : ¬t.val % 17 = 16) (p : Outs F) : Outs F :=
  (VO0_12.read (Elt F) (VO0_12.writes (Elt F) VO0_12.junk (runD m c t h0 h1 h2 h3 p).1),
    VO0_13.read (Elt F) (VO0_13.writes (Elt F) VO0_13.junk (runD m c t h0 h1 h2 h3 p).2.1),
    VO0_14.read (Elt F) (VO0_14.writes (Elt F) VO0_14.junk (runD m c t h0 h1 h2 h3 p).2.2.1),
    VO0_15.read (Elt F) (VO0_15.writes (Elt F) VO0_15.junk (runD m c t h0 h1 h2 h3 p).2.2.2.1),
    VO0_16.read (Elt F) (VO0_16.writes (Elt F) VO0_16.junk (runD m c t h0 h1 h2 h3 p).2.2.2.2.1),
    VO0_17.read (Elt F) (VO0_17.writes (Elt F) VO0_17.junk (runD m c t h0 h1 h2 h3 p).2.2.2.2.2.1),
    VO0_18.read (Elt F) (VO0_18.writes (Elt F) VO0_18.junk (runD m c t h0 h1 h2 h3 p).2.2.2.2.2.2.1),
    VS0_0.read (Elt F) (VS0_0.writes (Elt F) VS0_0.junk (runD m c t h0 h1 h2 h3 p).2.2.2.2.2.2.2.1))

/-! ## After each point -/

/-- One point's step: the case its number selects, over what the point before left. -/
def step (c : Dev nD) (t : Fin cfg0.N) (p : Outs F) : Outs F :=
  if h0 : t.val % 68 = 0 then outsA m c t h0 (by omega) (by omega) (by omega)
  else if h1 : t.val % 17 = 0 then outsD m c t h0 h1 (by omega) (by omega) p
  else if h3 : t.val % 17 = 16 then outsC m c t h0 h1 (not_not.mpr h3) h3 p
  else outsB m c t h0 h1 h3 h3 p

/-- The contents after the body at position `n`. -/
def outsAt (c : Dev nD) : (n : ℕ) → n < cfg0.N → Outs F
  | 0, hn => outsA m c ⟨0, hn⟩ (Nat.zero_mod _) (Nat.zero_mod _) (by rw [Nat.zero_mod]; decide) (by rw [Nat.zero_mod]; decide)
  | n + 1, hn => step m c ⟨n + 1, hn⟩ (outsAt c n (Nat.lt_of_succ_lt hn))

/-- What the point before `t` left (its own contents, at the first point). -/
abbrev before (c : Dev nD) (t : Fin cfg0.N) : Outs F := outsAt m c (t.val - 1) (Nat.lt_of_le_of_lt (Nat.sub_le _ _) t.isLt)

theorem outsAt_A (c : Dev nD) (t : Fin cfg0.N) (h0 : t.val % 68 = 0) (h1 : t.val % 17 = 0) (h2 : ¬(t.val % 17 = 16)) (h3 : ¬t.val % 17 = 16) :
    outsAt m c t.val t.isLt = outsA m c t h0 h1 h2 h3 := by
  obtain ⟨n, hn⟩ := t
  cases n with
  | zero => exact rfl
  | succ n => exact dif_pos h0

theorem outsAt_B (c : Dev nD) (t : Fin cfg0.N) (h0 : ¬t.val % 68 = 0) (h1 : ¬t.val % 17 = 0) (h2 : ¬(t.val % 17 = 16)) (h3 : ¬t.val % 17 = 16) :
    outsAt m c t.val t.isLt = outsB m c t h0 h1 h2 h3 (before m c t) := by
  obtain ⟨n, hn⟩ := t
  cases n with
  | zero => exact absurd (Nat.zero_mod _) h0
  | succ n => exact (dif_neg h0).trans ((dif_neg h1).trans (dif_neg h3))

theorem outsAt_C (c : Dev nD) (t : Fin cfg0.N) (h0 : ¬t.val % 68 = 0) (h1 : ¬t.val % 17 = 0) (h2 : ¬¬(t.val % 17 = 16)) (h3 : t.val % 17 = 16) :
    outsAt m c t.val t.isLt = outsC m c t h0 h1 h2 h3 (before m c t) := by
  obtain ⟨n, hn⟩ := t
  cases n with
  | zero => exact absurd (Nat.zero_mod _) h0
  | succ n => exact (dif_neg h0).trans ((dif_neg h1).trans (dif_pos h3))

theorem outsAt_D (c : Dev nD) (t : Fin cfg0.N) (h0 : ¬t.val % 68 = 0) (h1 : t.val % 17 = 0) (h2 : ¬(t.val % 17 = 16)) (h3 : ¬t.val % 17 = 16) :
    outsAt m c t.val t.isLt = outsD m c t h0 h1 h2 h3 (before m c t) := by
  obtain ⟨n, hn⟩ := t
  cases n with
  | zero => exact absurd (Nat.zero_mod _) h0
  | succ n => exact (dif_neg h0).trans (dif_pos h1)

end Cert.KernelIdeal.Hand

end
-- ==== Proof.Frame.lean ====
/- The pipeline's proof data over the contents after each point, the body's obligation at every point, the run of @main and
   the frame, over any float values. -/
module

public import proofs.«01_k».proof.Proof.Outs
public import Idealize.ShloMosaic.Lib.Claim

@[expose] public section

-- membership in a rectangle of the windows' extents looks once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The region invariant before position `n` with a scratch the kernel CARRIES between points: before the first point the
    class's (Lib/Pipeline/Frame.lean `ΦA`: every scratch at anything); afterwards the scoped rest with each carried scratch
    at what the point before left in it (`outsAt`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt`; the invariant the class's
    (`PhiS`: the class's `ΦA` before the first point, then the scoped rest with the carried scratch at `outsAt`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt m c t.val t.isLt).1
    | ⟨13, _⟩ => (outsAt m c t.val t.isLt).2.1
    | ⟨14, _⟩ => (outsAt m c t.val t.isLt).2.2.1
    | ⟨15, _⟩ => (outsAt m c t.val t.isLt).2.2.2.1
    | ⟨16, _⟩ => (outsAt m c t.val t.isLt).2.2.2.2.1
    | ⟨17, _⟩ => (outsAt m c t.val t.isLt).2.2.2.2.2.1
    | ⟨18, _⟩ => (outsAt m c t.val t.isLt).2.2.2.2.2.2.1
    | ⟨_ + 19, h⟩ => absurd h (Nat.not_lt.2 (Nat.le_add_left _ _))
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt m c t.val t.isLt).1 := by dsimp only [dats]
theorem after0_13 (c : Dev nD) (t : Fin cfg0.N) : (dats m 0 c).after 13 t = (outsAt m c t.val t.isLt).2.1 := by dsimp only [dats]
theorem after0_14 (c : Dev nD) (t : Fin cfg0.N) : (dats m 0 c).after 14 t = (outsAt m c t.val t.isLt).2.2.1 := by dsimp only [dats]
theorem after0_15 (c : Dev nD) (t : Fin cfg0.N) : (dats m 0 c).after 15 t = (outsAt m c t.val t.isLt).2.2.2.1 := by dsimp only [dats]
theorem after0_16 (c : Dev nD) (t : Fin cfg0.N) : (dats m 0 c).after 16 t = (outsAt m c t.val t.isLt).2.2.2.2.1 := by dsimp only [dats]
theorem after0_17 (c : Dev nD) (t : Fin cfg0.N) : (dats m 0 c).after 17 t = (outsAt m c t.val t.isLt).2.2.2.2.2.1 := by dsimp only [dats]
theorem after0_18 (c : Dev nD) (t : Fin cfg0.N) : (dats m 0 c).after 18 t = (outsAt m c t.val t.isLt).2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 68 := lt_of_lt_of_eq t.isLt (show cfg0.N = 68 from N_0)
  rw [after0_13, after0_13]
  by_cases h0 : t.val % 68 = 0
  · by_cases h1 : t.val % 17 = 0
    · by_cases h2 : ¬(t.val % 17 = 16)
      · by_cases h3 : t.val % 17 = 16
        · exfalso; omega
        · rw [liveAt0_13_A t ((hcond0_0 t).mpr h0) ((hcond0_1 t).mpr h1) ((hcond0_2 t).mpr h2) (fun h => h3 ((hcond0_3 t).mp h))] at hi
          exact absurd hi Bool.false_ne_true
      · exfalso; omega
    · exfalso; omega
  · by_cases h1 : t.val % 17 = 0
    · by_cases h2 : ¬(t.val % 17 = 16)
      · by_cases h3 : t.val % 17 = 16
        · exfalso; omega
        · rw [liveAt0_13_D t (fun h => h0 ((hcond0_0 t).mp h)) ((hcond0_1 t).mpr h1) ((hcond0_2 t).mpr h2) (fun h => h3 ((hcond0_3 t).mp h))] at hi
          exact absurd hi Bool.false_ne_true
      · exfalso; omega
    · by_cases h2 : ¬(t.val % 17 = 16)
      · by_cases h3 : t.val % 17 = 16
        · exfalso; omega
        · rw [liveAt0_13_B t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 17 = 16
        · rw [liveAt0_13_C t (fun h => h0 ((hcond0_0 t).mp h)) (fun h => h1 ((hcond0_1 t).mp h)) (fun h => h2 ((hcond0_2 t).mp h)) ((hcond0_3 t).mpr h3)] at hi
          exact absurd hi Bool.false_ne_true
        · exfalso; omega

/-- Output 14's contents CARRY through the points that leave it idle: at such a point, its buffer not fresh, the proof data's
    `after` is the point before's (the case there stores nothing into the window and its term says so; a case that stores
    into it is not idle there by `liveAt0_14_κ`) — the hypothesis of Lib/Pipeline/TableIdle.lean `Dat.before_out_traj`. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 68 := lt_of_lt_of_eq t.isLt (show cfg0.N = 68 from N_0)
  rw [after0_14, after0_14]
  by_cases h0 : t.val % 68 = 0
  · by_cases h1 : t.val % 17 = 0
    · by_cases h2 : ¬(t.val % 17 = 16)
      · by_cases h3 : t.val % 17 = 16
        · exfalso; omega
        · rw [liveAt0_14_A t ((hcond0_0 t).mpr h0) ((hcond0_1 t).mpr h1) ((hcond0_2 t).mpr h2) (fun h => h3 ((hcond0_3 t).mp h))] at hi
          exact absurd hi Bool.false_ne_true
      · exfalso; omega
    · exfalso; omega
  · by_cases h1 : t.val % 17 = 0
    · by_cases h2 : ¬(t.val % 17 = 16)
      · by_cases h3 : t.val % 17 = 16
        · exfalso; omega
        · rw [liveAt0_14_D t (fun h => h0 ((hcond0_0 t).mp h)) ((hcond0_1 t).mpr h1) ((hcond0_2 t).mpr h2) (fun h => h3 ((hcond0_3 t).mp h))] at hi
          exact absurd hi Bool.false_ne_true
      · exfalso; omega
    · by_cases h2 : ¬(t.val % 17 = 16)
      · by_cases h3 : t.val % 17 = 16
        · exfalso; omega
        · rw [liveAt0_14_B t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 17 = 16
        · rw [liveAt0_14_C t (fun h => h0 ((hcond0_0 t).mp h)) (fun h => h1 ((hcond0_1 t).mp h)) (fun h => h2 ((hcond0_2 t).mp h)) ((hcond0_3 t).mpr h3)] at hi
          exact absurd hi Bool.false_ne_true
        · exfalso; omega

/-- Output 18's contents CARRY through the points that leave it idle: at such a point, its buffer not fresh, the proof data's
    `after` is the point before's (the case there stores nothing into the window and its term says so; a case that stores
    into it is not idle there by `liveAt0_18_κ`) — the hypothesis of Lib/Pipeline/TableIdle.lean `Dat.before_out_traj`. -/
theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t _ hi _
  have hN : t.val < 68 := lt_of_lt_of_eq t.isLt (show cfg0.N = 68 from N_0)
  rw [after0_18, after0_18]
  by_cases h0 : t.val % 68 = 0
  · by_cases h1 : t.val % 17 = 0
    · by_cases h2 : ¬(t.val % 17 = 16)
      · by_cases h3 : t.val % 17 = 16
        · exfalso; omega
        · rw [liveAt0_18_A t ((hcond0_0 t).mpr h0) ((hcond0_1 t).mpr h1) ((hcond0_2 t).mpr h2) (fun h => h3 ((hcond0_3 t).mp h))] at hi
          exact absurd hi Bool.false_ne_true
      · exfalso; omega
    · exfalso; omega
  · by_cases h1 : t.val % 17 = 0
    · by_cases h2 : ¬(t.val % 17 = 16)
      · by_cases h3 : t.val % 17 = 16
        · exfalso; omega
        · rw [liveAt0_18_D t (fun h => h0 ((hcond0_0 t).mp h)) ((hcond0_1 t).mpr h1) ((hcond0_2 t).mpr h2) (fun h => h3 ((hcond0_3 t).mp h))] at hi
          exact absurd hi Bool.false_ne_true
      · exfalso; omega
    · by_cases h2 : ¬(t.val % 17 = 16)
      · by_cases h3 : t.val % 17 = 16
        · exfalso; omega
        · rw [liveAt0_18_B t (fun h => h0 ((hcond0_0 t).mp h)) (fun h => h1 ((hcond0_1 t).mp h)) ((hcond0_2 t).mpr h2) (fun h => h3 ((hcond0_3 t).mp h))] at hi
          exact absurd hi Bool.false_ne_true
      · by_cases h3 : t.val % 17 = 16
        · rw [liveAt0_18_C t (fun h => h0 ((hcond0_0 t).mp h)) (fun h => h1 ((hcond0_1 t).mp h)) (fun h => h2 ((hcond0_2 t).mp h)) ((hcond0_3 t).mpr h3)] at hi
          exact absurd hi Bool.false_ne_true
        · exfalso; omega
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 68 = 0) (h1 : ¬t.val % 17 = 0) (h2 : ¬(t.val % 17 = 16)) (h3 : ¬t.val % 17 = 16) (d) :
    (dats m 0 c).before 13 t d = (outsAt m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_B t (fun h => h0 ((hcond0_0 t).mp h)) (fun h => h1 ((hcond0_1 t).mp h)) ((hcond0_2 t).mpr h2) (fun h => h3 ((hcond0_3 t).mp h))]; exact Bool.false_ne_true)]
  dsimp only [dats]
/-- At a point of case B output 14's current staging buffer holds what the point before left: the buffer is not fresh
    there (`notFresh0_14_B`: stored into since the region's entry or the last write-back, carried through the points that
    leave it idle by `hcarry0_14`; Lib/Pipeline/TableIdle.lean `Dat.before_out_traj`). -/
theorem before0_14_B (c : Dev nD) (t : Fin cfg0.N) (h0 : ¬t.val % 68 = 0) (h1 : ¬t.val % 17 = 0) (h2 : ¬(t.val % 17 = 16)) (h3 : ¬t.val % 17 = 16) (d) :
    (dats m 0 c).before 14 t d = (outsAt m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_B t (fun h => h0 ((hcond0_0 t).mp h)) (fun h => h1 ((hcond0_1 t).mp h)) ((hcond0_2 t).mpr h2) (fun h => h3 ((hcond0_3 t).mp h))]; exact Bool.false_ne_true)]
  dsimp only [dats]
/-- At a point of case B output 18's current staging buffer holds what the point before left: the buffer is not fresh
    there (`notFresh0_18_B`: stored into since the region's entry or the last write-back, carried through the points that
    leave it idle by `hcarry0_18`; Lib/Pipeline/TableIdle.lean `Dat.before_out_traj`). -/
theorem before0_18_B (c : Dev nD) (t : Fin cfg0.N) (h0 : ¬t.val % 68 = 0) (h1 : ¬t.val % 17 = 0) (h2 : ¬(t.val % 17 = 16)) (h3 : ¬t.val % 17 = 16) (d) :
    (dats m 0 c).before 18 t d = (outsAt m c (t.val - 1) (Nat.lt_of_le_of_lt (Nat.sub_le _ _) t.isLt)).2.2.2.2.2.2.1 := by
  rw [Dat.before_out_traj _ 18 rfl (fun _ _ => rfl) (hcarry0_18 m c) t.val t rfl d,
    if_neg (by rw [notFresh0_18_B t (fun h => h0 ((hcond0_0 t).mp h)) (fun h => h1 ((hcond0_1 t).mp h)) ((hcond0_2 t).mpr h2) (fun h => h3 ((hcond0_3 t).mp h))]; exact Bool.false_ne_true)]
  dsimp only [dats]
/-- At a point of case C output 13's current staging buffer holds what the point before left: the buffer is not fresh
    there (`notFresh0_13_C`: stored into since the region's entry or the last write-back, carried through the points that
    leave it idle by `hcarry0_13`; Lib/Pipeline/TableIdle.lean `Dat.before_out_traj`). -/
theorem before0_13_C (c : Dev nD) (t : Fin cfg0.N) (h0 : ¬t.val % 68 = 0) (h1 : ¬t.val % 17 = 0) (h2 : ¬¬(t.val % 17 = 16)) (h3 : t.val % 17 = 16) (d) :
    (dats m 0 c).before 13 t d = (outsAt m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_C t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case C output 14's current staging buffer holds what the point before left: the buffer is not fresh
    there (`notFresh0_14_C`: stored into since the region's entry or the last write-back, carried through the points that
    leave it idle by `hcarry0_14`; Lib/Pipeline/TableIdle.lean `Dat.before_out_traj`). -/
theorem before0_14_C (c : Dev nD) (t : Fin cfg0.N) (h0 : ¬t.val % 68 = 0) (h1 : ¬t.val % 17 = 0) (h2 : ¬¬(t.val % 17 = 16)) (h3 : t.val % 17 = 16) (d) :
    (dats m 0 c).before 14 t d = (outsAt m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_C t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case C output 18's current staging buffer holds what the point before left: the buffer is not fresh
    there (`notFresh0_18_C`: stored into since the region's entry or the last write-back, carried through the points that
    leave it idle by `hcarry0_18`; Lib/Pipeline/TableIdle.lean `Dat.before_out_traj`). -/
theorem before0_18_C (c : Dev nD) (t : Fin cfg0.N) (h0 : ¬t.val % 68 = 0) (h1 : ¬t.val % 17 = 0) (h2 : ¬¬(t.val % 17 = 16)) (h3 : t.val % 17 = 16) (d) :
    (dats m 0 c).before 18 t d = (outsAt m c (t.val - 1) (Nat.lt_of_le_of_lt (Nat.sub_le _ _) t.isLt)).2.2.2.2.2.2.1 := by
  rw [Dat.before_out_traj _ 18 rfl (fun _ _ => rfl) (hcarry0_18 m c) t.val t rfl d,
    if_neg (by rw [notFresh0_18_C t (fun h => h0 ((hcond0_0 t).mp h)) (fun h => h1 ((hcond0_1 t).mp h)) (fun h => h2 ((hcond0_2 t).mp h)) ((hcond0_3 t).mpr h3)]; exact Bool.false_ne_true)]
  dsimp only [dats]
/-- At a point of case D output 18's current staging buffer holds what the point before left: the buffer is not fresh
    there (`notFresh0_18_D`: stored into since the region's entry or the last write-back, carried through the points that
    leave it idle by `hcarry0_18`; Lib/Pipeline/TableIdle.lean `Dat.before_out_traj`). -/
theorem before0_18_D (c : Dev nD) (t : Fin cfg0.N) (h0 : ¬t.val % 68 = 0) (h1 : t.val % 17 = 0) (h2 : ¬(t.val % 17 = 16)) (h3 : ¬t.val % 17 = 16) (d) :
    (dats m 0 c).before 18 t d = (outsAt m c (t.val - 1) (Nat.lt_of_le_of_lt (Nat.sub_le _ _) t.isLt)).2.2.2.2.2.2.1 := by
  rw [Dat.before_out_traj _ 18 rfl (fun _ _ => rfl) (hcarry0_18 m c) t.val t rfl d,
    if_neg (by rw [notFresh0_18_D t (fun h => h0 ((hcond0_0 t).mp h)) ((hcond0_1 t).mpr h1) ((hcond0_2 t).mpr h2) (fun h => h3 ((hcond0_3 t).mp h))]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 32000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).owesAt () t.succ = (dats m 0 c).owesAt () t.castSucc from rfl]
  rw [show (dats m 0 c).Φ t.succ = PhiS m c (t.val + 1) t.isLt from rfl, PhiS_succ]
  have hN : t.val < 68 := lt_of_lt_of_eq t.isLt (show cfg0.N = 68 from N_0)
  by_cases h0 : t.val % 68 = 0
  · by_cases h1 : t.val % 17 = 0
    · by_cases h2 : ¬(t.val % 17 = 16)
      · by_cases h3 : t.val % 17 = 16
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12_A t ((hcond0_0 t).mpr h0) ((hcond0_1 t).mpr h1) ((hcond0_2 t).mpr h2) (fun h => h3 ((hcond0_3 t).mp h))], after0_12]
          rw [show (dats m 0 c).leavesExact 13 t = owns (c : Thread nD τ) (ms0_13 t) fullShare ((dats m 0 c).after 13 t) from by
      unfold Dat.leavesExact; rw [liveAt0_13_A t ((hcond0_0 t).mpr h0) ((hcond0_1 t).mpr h1) ((hcond0_2 t).mpr h2) (fun h => h3 ((hcond0_3 t).mp h))], after0_13]
          rw [show (dats m 0 c).leavesExact 14 t = owns (c : Thread nD τ) (ms0_14 t) fullShare ((dats m 0 c).after 14 t) from by
      unfold Dat.leavesExact; rw [liveAt0_14_A t ((hcond0_0 t).mpr h0) ((hcond0_1 t).mpr h1) ((hcond0_2 t).mpr h2) (fun h => h3 ((hcond0_3 t).mp h))], after0_14]
          rw [show (dats m 0 c).leavesExact 15 t = owns (c : Thread nD τ) (ms0_15 t) fullShare ((dats m 0 c).after 15 t) from by
      unfold Dat.leavesExact; rw [liveAt0_15_A t ((hcond0_0 t).mpr h0) ((hcond0_1 t).mpr h1) ((hcond0_2 t).mpr h2) (fun h => h3 ((hcond0_3 t).mp h))], after0_15]
          rw [show (dats m 0 c).leavesExact 16 t = owns (c : Thread nD τ) (ms0_16 t) fullShare ((dats m 0 c).after 16 t) from by
      unfold Dat.leavesExact; rw [liveAt0_16_A t ((hcond0_0 t).mpr h0) ((hcond0_1 t).mpr h1) ((hcond0_2 t).mpr h2) (fun h => h3 ((hcond0_3 t).mp h))], after0_16]
          rw [show (dats m 0 c).leavesExact 17 t = owns (c : Thread nD τ) (ms0_17 t) fullShare ((dats m 0 c).after 17 t) from by
      unfold Dat.leavesExact; rw [liveAt0_17_A t ((hcond0_0 t).mpr h0) ((hcond0_1 t).mpr h1) ((hcond0_2 t).mpr h2) (fun h => h3 ((hcond0_3 t).mp h))], after0_17]
          rw [show (dats m 0 c).leavesExact 18 t = owns (c : Thread nD τ) (ms0_18 t) fullShare ((dats m 0 c).after 18 t) from by
      unfold Dat.leavesExact; rw [liveAt0_18_A t ((hcond0_0 t).mpr h0) ((hcond0_1 t).mpr h1) ((hcond0_2 t).mpr h2) (fun h => h3 ((hcond0_3 t).mp h))], after0_18]
          by_cases hz : t.val = 0
          · rw [PhiS_castSucc m c t, PhiS_zero m c _ _ hz, PhiA0_eq]
            rw [outsAt_A m c t h0 h1 h2 h3]
            unfold outsA; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
            iapply ((runA m c t h0 h1 h2 h3).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexists _; iexact H12
            isplitl [H13]; · iexists _; iexact H13
            isplitl [H14]; · iexists _; iexact H14
            isplitl [H15]; · iexists _; iexact H15
            isplitl [H16]; · iexists _; iexact H16
            isplitl [H17]; · iexists _; iexact H17
            isplitl [H18]; · iexists _; iexact H18
            isplitl [HS0]; · iexact HS0
            iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
            isplitl [HS0 Hg]
            · isplitl [HS0]
              · unfold owns; iexists _; isplitr
                swap; · iexact HS0
                ipureintro; exact View.read_writes_of_cover _ _ _ _ _ (coverA_s m c t h0 h1 h2 h3)
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]
            · unfold owns; iexists _; isplitr
              swap; · iexact H12
              ipureintro; exact View.read_writes_of_cover _ _ _ _ _ (coverA_12 m c t h0 h1 h2 h3)
            isplitl [H13]
            · unfold owns; iexists _; isplitr
              swap; · iexact H13
              ipureintro; exact View.read_writes_of_cover _ _ _ _ _ (coverA_13 m c t h0 h1 h2 h3)
            isplitl [H14]
            · unfold owns; iexists _; isplitr
              swap; · iexact H14
              ipureintro; exact View.read_writes_of_cover _ _ _ _ _ (coverA_14 m c t h0 h1 h2 h3)
            isplitl [H15]
            · unfold owns; iexists _; isplitr
              swap; · iexact H15
              ipureintro; exact View.read_writes_of_cover _ _ _ _ _ (coverA_15 m c t h0 h1 h2 h3)
            isplitl [H16]
            · unfold owns; iexists _; isplitr
              swap; · iexact H16
              ipureintro; exact View.read_writes_of_cover _ _ _ _ _ (coverA_16 m c t h0 h1 h2 h3)
            isplitl [H17]
            · unfold owns; iexists _; isplitr
              swap; · iexact H17
              ipureintro; exact View.read_writes_of_cover _ _ _ _ _ (coverA_17 m c t h0 h1 h2 h3)
            unfold owns; iexists _; isplitr
            swap; · iexact H18
            ipureintro; exact View.read_writes_of_cover _ _ _ _ _ (coverA_18 m c t h0 h1 h2 h3)
          · exfalso; have hN : t.val < 68 := lt_of_lt_of_eq t.isLt (show cfg0.N = 68 from N_0); omega
      · exfalso; omega
    · exfalso; omega
  · by_cases h1 : t.val % 17 = 0
    · by_cases h2 : ¬(t.val % 17 = 16)
      · by_cases h3 : t.val % 17 = 16
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12_D t (fun h => h0 ((hcond0_0 t).mp h)) ((hcond0_1 t).mpr h1) ((hcond0_2 t).mpr h2) (fun h => h3 ((hcond0_3 t).mp h))], after0_12]
          rw [show (dats m 0 c).leavesExact 13 t = owns (c : Thread nD τ) (ms0_13 t) fullShare ((dats m 0 c).after 13 t) from by
      unfold Dat.leavesExact; rw [liveAt0_13_D t (fun h => h0 ((hcond0_0 t).mp h)) ((hcond0_1 t).mpr h1) ((hcond0_2 t).mpr h2) (fun h => h3 ((hcond0_3 t).mp h))], after0_13]
          rw [show (dats m 0 c).leavesExact 14 t = owns (c : Thread nD τ) (ms0_14 t) fullShare ((dats m 0 c).after 14 t) from by
      unfold Dat.leavesExact; rw [liveAt0_14_D t (fun h => h0 ((hcond0_0 t).mp h)) ((hcond0_1 t).mpr h1) ((hcond0_2 t).mpr h2) (fun h => h3 ((hcond0_3 t).mp h))], after0_14]
          rw [show (dats m 0 c).leavesExact 15 t = owns (c : Thread nD τ) (ms0_15 t) fullShare ((dats m 0 c).after 15 t) from by
      unfold Dat.leavesExact; rw [liveAt0_15_D t (fun h => h0 ((hcond0_0 t).mp h)) ((hcond0_1 t).mpr h1) ((hcond0_2 t).mpr h2) (fun h => h3 ((hcond0_3 t).mp h))], after0_15]
          rw [show (dats m 0 c).leavesExact 16 t = owns (c : Thread nD τ) (ms0_16 t) fullShare ((dats m 0 c).after 16 t) from by
      unfold Dat.leavesExact; rw [liveAt0_16_D t (fun h => h0 ((hcond0_0 t).mp h)) ((hcond0_1 t).mpr h1) ((hcond0_2 t).mpr h2) (fun h => h3 ((hcond0_3 t).mp h))], after0_16]
          rw [show (dats m 0 c).leavesExact 17 t = owns (c : Thread nD τ) (ms0_17 t) fullShare ((dats m 0 c).after 17 t) from by
      unfold Dat.leavesExact; rw [liveAt0_17_D t (fun h => h0 ((hcond0_0 t).mp h)) ((hcond0_1 t).mpr h1) ((hcond0_2 t).mpr h2) (fun h => h3 ((hcond0_3 t).mp h))], after0_17]
          rw [show (dats m 0 c).leavesExact 18 t = owns (c : Thread nD τ) (ms0_18 t) fullShare ((dats m 0 c).after 18 t) from by
      unfold Dat.leavesExact; rw [liveAt0_18_D t (fun h => h0 ((hcond0_0 t).mp h)) ((hcond0_1 t).mpr h1) ((hcond0_2 t).mpr h2) (fun h => h3 ((hcond0_3 t).mp h))], after0_18]
          by_cases hz : t.val = 0
          · exfalso; have hN : t.val < 68 := lt_of_lt_of_eq t.isLt (show cfg0.N = 68 from N_0); omega
          · rw [PhiS_castSucc m c t, PhiS_pos m c _ _ hz]
            rw [outsAt_D m c t h0 h1 h2 h3]
            simp only [before0_18_D m c t h0 h1 h2 h3]
            unfold outsD; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
            iapply ((runD m c t h0 h1 h2 h3 (before m c t)).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexists _; iexact H12
            isplitl [H13]; · iexists _; iexact H13
            isplitl [H14]; · iexists _; iexact H14
            isplitl [H15]; · iexists _; iexact H15
            isplitl [H16]; · iexists _; iexact H16
            isplitl [H17]; · iexists _; iexact H17
            isplitl [H18]; · iexact H18
            isplitl [HS0]; · iexact HS0
            iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
            isplitl [HS0 Hg]
            · isplitl [HS0]
              · unfold owns; iexists _; isplitr
                swap; · iexact HS0
                ipureintro; exact View.read_writes_of_cover _ _ _ _ _ (coverD_s m c t h0 h1 h2 h3 (before m c t))
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]
            · unfold owns; iexists _; isplitr
              swap; · iexact H12
              ipureintro; exact View.read_writes_of_cover _ _ _ _ _ (coverD_12 m c t h0 h1 h2 h3 (before m c t))
            isplitl [H13]
            · unfold owns; iexists _; isplitr
              swap; · iexact H13
              ipureintro; exact View.read_writes_of_cover _ _ _ _ _ (coverD_13 m c t h0 h1 h2 h3 (before m c t))
            isplitl [H14]
            · unfold owns; iexists _; isplitr
              swap; · iexact H14
              ipureintro; exact View.read_writes_of_cover _ _ _ _ _ (coverD_14 m c t h0 h1 h2 h3 (before m c t))
            isplitl [H15]
            · unfold owns; iexists _; isplitr
              swap; · iexact H15
              ipureintro; exact View.read_writes_of_cover _ _ _ _ _ (coverD_15 m c t h0 h1 h2 h3 (before m c t))
            isplitl [H16]
            · unfold owns; iexists _; isplitr
              swap; · iexact H16
              ipureintro; exact View.read_writes_of_cover _ _ _ _ _ (coverD_16 m c t h0 h1 h2 h3 (before m c t))
            isplitl [H17]
            · unfold owns; iexists _; isplitr
              swap; · iexact H17
              ipureintro; exact View.read_writes_of_cover _ _ _ _ _ (coverD_17 m c t h0 h1 h2 h3 (before m c t))
            unfold owns; iexists _; isplitr
            swap; · iexact H18
            ipureintro; exact View.read_writes_of_cover _ _ _ _ _ (coverD_18 m c t h0 h1 h2 h3 (before m c t))
      · exfalso; omega
    · by_cases h2 : ¬(t.val % 17 = 16)
      · by_cases h3 : t.val % 17 = 16
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12_B t (fun h => h0 ((hcond0_0 t).mp h)) (fun h => h1 ((hcond0_1 t).mp h)) ((hcond0_2 t).mpr h2) (fun h => h3 ((hcond0_3 t).mp h))], after0_12]
          rw [show (dats m 0 c).leavesExact 13 t = owns (c : Thread nD τ) (ms0_13 t) fullShare ((dats m 0 c).after 13 t) from by
      unfold Dat.leavesExact; rw [liveAt0_13_B t (fun h => h0 ((hcond0_0 t).mp h)) (fun h => h1 ((hcond0_1 t).mp h)) ((hcond0_2 t).mpr h2) (fun h => h3 ((hcond0_3 t).mp h))], after0_13]
          rw [show (dats m 0 c).leavesExact 14 t = owns (c : Thread nD τ) (ms0_14 t) fullShare ((dats m 0 c).after 14 t) from by
      unfold Dat.leavesExact; rw [liveAt0_14_B t (fun h => h0 ((hcond0_0 t).mp h)) (fun h => h1 ((hcond0_1 t).mp h)) ((hcond0_2 t).mpr h2) (fun h => h3 ((hcond0_3 t).mp h))], after0_14]
          rw [show (dats m 0 c).leavesExact 15 t = owns (c : Thread nD τ) (ms0_15 t) fullShare ((dats m 0 c).after 15 t) from by
      unfold Dat.leavesExact; rw [liveAt0_15_B t (fun h => h0 ((hcond0_0 t).mp h)) (fun h => h1 ((hcond0_1 t).mp h)) ((hcond0_2 t).mpr h2) (fun h => h3 ((hcond0_3 t).mp h))], after0_15]
          rw [show (dats m 0 c).leavesExact 16 t = owns (c : Thread nD τ) (ms0_16 t) fullShare ((dats m 0 c).after 16 t) from by
      unfold Dat.leavesExact; rw [liveAt0_16_B t (fun h => h0 ((hcond0_0 t).mp h)) (fun h => h1 ((hcond0_1 t).mp h)) ((hcond0_2 t).mpr h2) (fun h => h3 ((hcond0_3 t).mp h))], after0_16]
          rw [show (dats m 0 c).leavesExact 17 t = owns (c : Thread nD τ) (ms0_17 t) fullShare ((dats m 0 c).after 17 t) from by
      unfold Dat.leavesExact; rw [liveAt0_17_B t (fun h => h0 ((hcond0_0 t).mp h)) (fun h => h1 ((hcond0_1 t).mp h)) ((hcond0_2 t).mpr h2) (fun h => h3 ((hcond0_3 t).mp h))], after0_17]
          rw [show (dats m 0 c).leavesExact 18 t = owns (c : Thread nD τ) (ms0_18 t) fullShare ((dats m 0 c).after 18 t) from by
      unfold Dat.leavesExact; rw [liveAt0_18_B t (fun h => h0 ((hcond0_0 t).mp h)) (fun h => h1 ((hcond0_1 t).mp h)) ((hcond0_2 t).mpr h2) (fun h => h3 ((hcond0_3 t).mp h))], after0_18]
          by_cases hz : t.val = 0
          · exfalso; have hN : t.val < 68 := lt_of_lt_of_eq t.isLt (show cfg0.N = 68 from N_0); omega
          · rw [PhiS_castSucc m c t, PhiS_pos m c _ _ hz]
            rw [outsAt_B m c t h0 h1 h2 h3]
            simp only [before0_13_B m c t h0 h1 h2 h3, before0_14_B m c t h0 h1 h2 h3, before0_18_B m c t h0 h1 h2 h3]
            unfold outsB; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
            iapply ((runB m c t h0 h1 h2 h3 (before m c t)).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexists _; iexact H12
            isplitl [H13]; · iexact H13
            isplitl [H14]; · iexact H14
            isplitl [H15]; · iexists _; iexact H15
            isplitl [H16]; · iexists _; iexact H16
            isplitl [H17]; · iexists _; iexact H17
            isplitl [H18]; · iexact H18
            isplitl [HS0]; · iexact HS0
            iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%es0, HS0⟩⟩
            isplitl [HS0 Hg]
            · isplitl [HS0]
              · unfold owns; iexists _; isplitr
                swap; · iexact HS0
                ipureintro; exact View.read_writes_of_cover _ _ _ _ _ (coverB_s m c t h0 h1 h2 h3 (before m c t))
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]
            · unfold owns; iexists _; isplitr
              swap; · iexact H12
              ipureintro; exact View.read_writes_of_cover _ _ _ _ _ (coverB_12 m c t h0 h1 h2 h3 (before m c t))
            isplitl [H13]
            · unfold owns; iexists _; isplitr
              swap; · iexact H13
              ipureintro; exact View.read_writes_of_cover _ _ _ _ _ (coverB_13 m c t h0 h1 h2 h3 (before m c t))
            isplitl [H14]
            · unfold owns; iexists _; isplitr
              swap; · iexact H14
              ipureintro; exact View.read_writes_of_cover _ _ _ _ _ (coverB_14 m c t h0 h1 h2 h3 (before m c t))
            isplitl [H15]
            · unfold owns; iexists _; isplitr
              swap; · iexact H15
              ipureintro; exact View.read_writes_of_cover _ _ _ _ _ (coverB_15 m c t h0 h1 h2 h3 (before m c t))
            isplitl [H16]
            · unfold owns; iexists _; isplitr
              swap; · iexact H16
              ipureintro; exact View.read_writes_of_cover _ _ _ _ _ (coverB_16 m c t h0 h1 h2 h3 (before m c t))
            isplitl [H17]
            · unfold owns; iexists _; isplitr
              swap; · iexact H17
              ipureintro; exact View.read_writes_of_cover _ _ _ _ _ (coverB_17 m c t h0 h1 h2 h3 (before m c t))
            unfold owns; iexists _; isplitr
            swap; · iexact H18
            ipureintro; exact View.read_writes_of_cover _ _ _ _ _ (coverB_18 m c t h0 h1 h2 h3 (before m c t))
      · by_cases h3 : t.val % 17 = 16
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          rw [show (dats m 0 c).leavesExact 6 t = owns (c : Thread nD τ) (ms0_6 t) fullShare ((dats m 0 c).after 6 t) from by
      unfold Dat.leavesExact; rw [liveAt0_6 t], after0_6]
          rw [show (dats m 0 c).leavesExact 7 t = owns (c : Thread nD τ) (ms0_7 t) fullShare ((dats m 0 c).after 7 t) from by
      unfold Dat.leavesExact; rw [liveAt0_7 t], after0_7]
          rw [show (dats m 0 c).leavesExact 8 t = owns (c : Thread nD τ) (ms0_8 t) fullShare ((dats m 0 c).after 8 t) from by
      unfold Dat.leavesExact; rw [liveAt0_8 t], after0_8]
          rw [show (dats m 0 c).leavesExact 9 t = owns (c : Thread nD τ) (ms0_9 t) fullShare ((dats m 0 c).after 9 t) from by
      unfold Dat.leavesExact; rw [liveAt0_9 t], after0_9]
          rw [show (dats m 0 c).leavesExact 10 t = owns (c : Thread nD τ) (ms0_10 t) fullShare ((dats m 0 c).after 10 t) from by
      unfold Dat.leavesExact; rw [liveAt0_10 t], after0_10]
          rw [show (dats m 0 c).leavesExact 11 t = owns (c : Thread nD τ) (ms0_11 t) fullShare ((dats m 0 c).after 11 t) from by
      unfold Dat.leavesExact; rw [liveAt0_11 t], after0_11]
          rw [show (dats m 0 c).leavesExact 12 t = owns (c : Thread nD τ) (ms0_12 t) fullShare ((dats m 0 c).after 12 t) from by
      unfold Dat.leavesExact; rw [liveAt0_12_C t (fun h => h0 ((hcond0_0 t).mp h)) (fun h => h1 ((hcond0_1 t).mp h)) (fun h => h2 ((hcond0_2 t).mp h)) ((hcond0_3 t).mpr h3)], after0_12]
          rw [show (dats m 0 c).leavesExact 13 t = owns (c : Thread nD τ) (ms0_13 t) fullShare ((dats m 0 c).after 13 t) from by
      unfold Dat.leavesExact; rw [liveAt0_13_C t (fun h => h0 ((hcond0_0 t).mp h)) (fun h => h1 ((hcond0_1 t).mp h)) (fun h => h2 ((hcond0_2 t).mp h)) ((hcond0_3 t).mpr h3)], after0_13]
          rw [show (dats m 0 c).leavesExact 14 t = owns (c : Thread nD τ) (ms0_14 t) fullShare ((dats m 0 c).after 14 t) from by
      unfold Dat.leavesExact; rw [liveAt0_14_C t (fun h => h0 ((hcond0_0 t).mp h)) (fun h => h1 ((hcond0_1 t).mp h)) (fun h => h2 ((hcond0_2 t).mp h)) ((hcond0_3 t).mpr h3)], after0_14]
          rw [show (dats m 0 c).leavesExact 15 t = owns (c : Thread nD τ) (ms0_15 t) fullShare ((dats m 0 c).after 15 t) from by
      unfold Dat.leavesExact; rw [liveAt0_15_C t (fun h => h0 ((hcond0_0 t).mp h)) (fun h => h1 ((hcond0_1 t).mp h)) (fun h => h2 ((hcond0_2 t).mp h)) ((hcond0_3 t).mpr h3)], after0_15]
          rw [show (dats m 0 c).leavesExact 16 t = owns (c : Thread nD τ) (ms0_16 t) fullShare ((dats m 0 c).after 16 t) from by
      unfold Dat.leavesExact; rw [liveAt0_16_C t (fun h => h0 ((hcond0_0 t).mp h)) (fun h => h1 ((hcond0_1 t).mp h)) (fun h => h2 ((hcond0_2 t).mp h)) ((hcond0_3 t).mpr h3)], after0_16]
          rw [show (dats m 0 c).leavesExact 17 t = owns (c : Thread nD τ) (ms0_17 t) fullShare ((dats m 0 c).after 17 t) from by
      unfold Dat.leavesExact; rw [liveAt0_17_C t (fun h => h0 ((hcond0_0 t).mp h)) (fun h => h1 ((hcond0_1 t).mp h)) (fun h => h2 ((hcond0_2 t).mp h)) ((hcond0_3 t).mpr h3)], after0_17]
          rw [show (dats m 0 c).leavesExact 18 t = owns (c : Thread nD τ) (ms0_18 t) fullShare ((dats m 0 c).after 18 t) from by
      unfold Dat.leavesExact; rw [liveAt0_18_C t (fun h => h0 ((hcond0_0 t).mp h)) (fun h => h1 ((hcond0_1 t).mp h)) (fun h => h2 ((hcond0_2 t).mp h)) ((hcond0_3 t).mpr h3)], after0_18]
          by_cases hz : t.val = 0
          · exfalso; have hN : t.val < 68 := lt_of_lt_of_eq t.isLt (show cfg0.N = 68 from N_0); omega
          · rw [PhiS_castSucc m c t, PhiS_pos m c _ _ hz]
            rw [outsAt_C m c t h0 h1 h2 h3]
            simp only [before0_13_C m c t h0 h1 h2 h3, before0_14_C m c t h0 h1 h2 h3, before0_18_C m c t h0 h1 h2 h3]
            unfold outsC; (try dsimp only)
            iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
            iapply ((runC m c t h0 h1 h2 h3 (before m c t)).2.2.2.2.2.2.2.2 Set.univ _)
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]; · iexists _; iexact H12
            isplitl [H13]; · iexact H13
            isplitl [H14]; · iexact H14
            isplitl [H15]; · iexists _; iexact H15
            isplitl [H16]; · iexists _; iexact H16
            isplitl [H17]; · iexists _; iexact H17
            isplitl [H18]; · iexact H18
            isplitl [HS0]; · iexact HS0
            iintro ⟨H0, H1, H2, H3, H4, H5, H6, H7, H8, H9, H10, H11, ⟨%e12, H12⟩, H13, H14, ⟨%e15, H15⟩, ⟨%e16, H16⟩, ⟨%e17, H17⟩, ⟨%e18, H18⟩, ⟨%es0, HS0⟩⟩
            isplitl [HS0 Hg]
            · isplitl [HS0]
              · unfold owns; iexists _; isplitr
                swap; · iexact HS0
                ipureintro; exact View.read_writes_of_cover _ _ _ _ _ (coverC_s m c t h0 h1 h2 h3 (before m c t))
              iexact Hg
            isplitl [Ho]; · iexact Ho
            isplitl [H0]; · iexact H0
            isplitl [H1]; · iexact H1
            isplitl [H2]; · iexact H2
            isplitl [H3]; · iexact H3
            isplitl [H4]; · iexact H4
            isplitl [H5]; · iexact H5
            isplitl [H6]; · iexact H6
            isplitl [H7]; · iexact H7
            isplitl [H8]; · iexact H8
            isplitl [H9]; · iexact H9
            isplitl [H10]; · iexact H10
            isplitl [H11]; · iexact H11
            isplitl [H12]
            · unfold owns; iexists _; isplitr
              swap; · iexact H12
              ipureintro; exact View.read_writes_of_cover _ _ _ _ _ (coverC_12 m c t h0 h1 h2 h3 (before m c t))
            isplitl [H13]
            · unfold owns; iexists _; isplitr
              swap; · iexact H13
              ipureintro; rfl
            isplitl [H14]
            · unfold owns; iexists _; isplitr
              swap; · iexact H14
              ipureintro; rfl
            isplitl [H15]
            · unfold owns; iexists _; isplitr
              swap; · iexact H15
              ipureintro; exact View.read_writes_of_cover _ _ _ _ _ (coverC_15 m c t h0 h1 h2 h3 (before m c t))
            isplitl [H16]
            · unfold owns; iexists _; isplitr
              swap; · iexact H16
              ipureintro; exact View.read_writes_of_cover _ _ _ _ _ (coverC_16 m c t h0 h1 h2 h3 (before m c t))
            isplitl [H17]
            · unfold owns; iexists _; isplitr
              swap; · iexact H17
              ipureintro; exact View.read_writes_of_cover _ _ _ _ _ (coverC_17 m c t h0 h1 h2 h3 (before m c t))
            unfold owns; iexists _; isplitr
            swap; · iexact H18
            ipureintro; exact View.read_writes_of_cover _ _ _ _ _ (coverC_18 m c t h0 h1 h2 h3 (before m c t))
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 68 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The frame at any values: the run ends, the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Hand

end
-- ==== Proof.Frames.lean ====
/- The frames of the three programs: the kernel's, as printed and at the exact reading, from one run, and the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frame

@[expose] public section

set_option maxRecDepth 100000

noncomputable section

namespace Cert.Frames

open Idealize.ShloMosaic Idealize.SL.Sem

set_option maxHeartbeats 40000000 in
/-- The two texts of the kernel body, and so the two body tables, are one. -/
theorem defs₀_eq : Cert.Kernel.defs₀ (F := Bits) = Cert.KernelIdeal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

set_option maxHeartbeats 40000000 in
/-- And the tables the launches extend them to. -/
theorem defs_eq : Cert.Kernel.defs (F := Bits) = Cert.KernelIdeal.defs (F := Bits) :=
  congrArg (Pipeline.defs Cert.KernelIdeal.pcfgs) defs₀_eq

set_option maxHeartbeats 40000000 in
/-- The two texts of the program are one. -/
theorem main_eq : Cert.Kernel.main (F := Bits) = Cert.KernelIdeal.main (F := Bits) := rfl

set_option maxHeartbeats 40000000 in
/-- The printed kernel's text is the exact one's: one run serves both. -/
theorem kernel : Cert.quiescent_Kernel := by
  intro m ρ _
  rw [main_eq, defs_eq]
  exact Cert.KernelIdeal.Hand.frame (F := Bits) m ρ

theorem kernelIdeal : Cert.quiescent_KernelIdeal := fun m ρ _ => Cert.KernelIdeal.Hand.frame (F := Ideal) m ρ

/-- The reference's run; it declares no semaphore. -/
theorem referenceIdeal : Cert.quiescent_ReferenceIdeal := fun m ρ _ =>
  (θ_run Cert.ReferenceIdeal.defs _ _).mono
    (fun r h => ⟨fun c => (h c).2.2.2, Idealize.ShloMosaic.sem_eq_zero_of_no_sems (by decide) r.2⟩) (Cert.ReferenceIdeal.Value.run (F := Ideal) m ρ)

end Cert.Frames

end
-- ==== Proof.Model.lean ====
/- The mathematics of the latent attention's backward pass over the reals: scores, softmax rows, the
   gradients of queries, keys and values, and the two forms in which programs compute a row of the score
   gradient. An array is a function of its coordinates as natural numbers. -/
module

public import Idealize.ShloMosaic.PureOps.Ideal
public import Idealize.ShloMosaic.PureOps.Ideal.Laws

@[expose] public section

noncomputable section

namespace Cert.Model

/-- An array of four axes with real entries. -/
abbrev Arr := ℕ → ℕ → ℕ → ℕ → ℝ

/-- The four arrays of one attention call, `[batch, row, head, feature]`, and the scale of its scores. -/
structure Call where
  q : Arr
  k : Arr
  v : Arr
  g : Arr
  c : ℝ

variable (A : Call) (a n b h r j : ℕ)

/-- The scaled score of row `r` against key `j`. -/
def score : ℝ := (∑ d : Fin 96, A.q b r h d.val * A.k b j h d.val) * A.c
/-- The gradient arriving at the probability of key `j` in row `r`. -/
def dprob : ℝ := ∑ w : Fin 64, A.g b r h w.val * A.v b j h w.val
/-- The softmax's denominator when row `r` attends to the `n` keys from `a` on. -/
def denom : ℝ := ∑ j : Fin n, Real.exp (score A b h r (a + j.val))
/-- The probability of key `j` in row `r`, which attends to the `n` keys from `a` on. -/
def prob : ℝ := Real.exp (score A b h r j) / denom A a n b h r
/-- The mean of the arriving gradient under the row's probabilities. -/
def mean : ℝ := ∑ j : Fin n, prob A a n b h r (a + j.val) * dprob A b h r (a + j.val)
/-- The gradient of the unscaled score. -/
def dscore : ℝ := prob A a n b h r j * (dprob A b h r j - mean A a n b h r) * A.c

theorem denom_pos (hn : 0 < n) : 0 < denom A a n b h r :=
  Finset.sum_pos (fun _ _ => Real.exp_pos _) ⟨⟨0, hn⟩, Finset.mem_univ _⟩

/-- Shifting every score by `m` scales the denominator. -/
theorem denom_shift (m : ℝ) :
    ∑ j : Fin n, Real.exp (score A b h r (a + j.val) - m) = denom A a n b h r * Real.exp (-m) := by
  rw [denom, Finset.sum_mul]
  exact Finset.sum_congr rfl fun j _ => by rw [← Real.exp_add, sub_eq_add_neg]

theorem denom_shift_pos (m : ℝ) (hn : 0 < n) :
    0 < ∑ j : Fin n, Real.exp (score A b h r (a + j.val) - m) := by
  rw [denom_shift]; exact mul_pos (denom_pos A a n b h r hn) (Real.exp_pos _)

/-- The quotient of shifted exponentials is the probability. -/
theorem prob_shift (m : ℝ) :
    Real.exp (score A b h r j - m) / ∑ i : Fin n, Real.exp (score A b h r (a + i.val) - m) = prob A a n b h r j := by
  rw [denom_shift, prob, sub_eq_add_neg, Real.exp_add]
  exact mul_div_mul_right _ _ (Real.exp_pos _).ne'

/-- The exponential of the score less the logarithm of the row's sum is the probability. -/
theorem prob_lse (m : ℝ) (hn : 0 < n) :
    Real.exp (score A b h r j - (m + Real.log (∑ i : Fin n, Real.exp (score A b h r (a + i.val) - m)))) = prob A a n b h r j := by
  rw [← prob_shift A a n b h r j m, ← sub_sub, Real.exp_sub, Real.exp_log (denom_shift_pos A a n b h r m hn)]

/-- The mean is the inner product of the arriving gradient with the row's output. -/
theorem mean_eq_out :
    ∑ w : Fin 64, A.g b r h w.val * ∑ i : Fin n, prob A a n b h r (a + i.val) * A.v b (a + i.val) h w.val = mean A a n b h r := by
  simp only [mean, dprob, Finset.mul_sum]
  rw [Finset.sum_comm]
  exact Finset.sum_congr rfl fun i _ => Finset.sum_congr rfl fun w _ => by ring

/-- The score gradient as reverse differentiation of the quotient writes it, from the shifted exponentials. -/
theorem dscore_quot (m : ℝ) (hn : 0 < n) (L : ℝ) (hL : L = ∑ i : Fin n, Real.exp (score A b h r (a + i.val) - m)) :
    (dprob A b h r j / L + -∑ i : Fin n, dprob A b h r (a + i.val) * (1 / (L * L)) * Real.exp (score A b h r (a + i.val) - m))
      * Real.exp (score A b h r j - m) * A.c = dscore A a n b h r j := by
  have hp : L ≠ 0 := by rw [hL]; exact (denom_shift_pos A a n b h r m hn).ne'
  have hm : ∑ i : Fin n, dprob A b h r (a + i.val) * (1 / (L * L)) * Real.exp (score A b h r (a + i.val) - m)
      = mean A a n b h r / L := by
    rw [mean, Finset.sum_div]
    refine Finset.sum_congr rfl fun i _ => ?_
    rw [← prob_shift A a n b h r _ m, ← hL]; field_simp
  rw [hm, dscore, ← prob_shift A a n b h r j m, ← hL]
  field_simp; ring

/-! ## The three gradients -/

/-- A latent row attends to all 4,352 keys, a context row to the 256 keys from 4,096 on. -/
def dsLat : ℝ := dscore A 0 4352 b h r j
def dsCtx : ℝ := dscore A 4096 256 b h r j
def pLat : ℝ := prob A 0 4352 b h r j
def pCtx : ℝ := prob A 4096 256 b h r j

/-- The gradient of the query at row `r`, feature `d`. -/
def dq (d : ℕ) : ℝ :=
  if r < 4096 then ∑ j : Fin 4352, dsLat A b h r j.val * A.k b j.val h d
  else ∑ j : Fin 256, dsCtx A b h r (4096 + j.val) * A.k b (4096 + j.val) h d
/-- The gradient of the key `j`, feature `d`. -/
def dk (d : ℕ) : ℝ :=
  (∑ r : Fin 4096, dsLat A b h r.val j * A.q b r.val h d)
    + if 4096 ≤ j then ∑ r : Fin 256, dsCtx A b h (4096 + r.val) j * A.q b (4096 + r.val) h d else 0
/-- The gradient of the value `j`, feature `w`. -/
def dv (w : ℕ) : ℝ :=
  (∑ r : Fin 4096, A.g b r.val h w * pLat A b h r.val j)
    + if 4096 ≤ j then ∑ r : Fin 256, A.g b (4096 + r.val) h w * pCtx A b h (4096 + r.val) j else 0

/-- Sixteen tiles of 256 rows are the 4,096 latent rows. -/
theorem sum_tiles (f : ℕ → ℝ) : ∑ i ∈ Finset.range 16, ∑ r : Fin 256, f (256 * i + r.val) = ∑ r : Fin 4096, f r.val := by
  have h : ∀ m : ℕ, ∑ i ∈ Finset.range m, ∑ r : Fin 256, f (256 * i + r.val) = ∑ r ∈ Finset.range (256 * m), f r := by
    intro m
    induction m with
    | zero => simp
    | succ m ih =>
      rw [Finset.sum_range_succ, ih, Nat.mul_succ, Finset.sum_range_add, Fin.sum_univ_eq_sum_range fun r => f (256 * m + r)]
  rw [h 16, Fin.sum_univ_eq_sum_range f]

/-! ## Finite extended reals -/

theorem coe_sum {ι : Type*} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

end Cert.Model

end
-- ==== Proof.Finite.lean ====
/- Arrays of finite extended reals: their real entries by coordinates, the host's maximum over an axis, and the
   words of the programs' constants. -/
module

public import proofs.«01_k».proof.Proof.Model
public import Idealize.ShloMosaic.PureOps
public import Idealize.ShloMosaic.Lib.IdealHost
public import Idealize.ShloMosaic.Lib.ValueIdx

@[expose] public section

noncomputable section

namespace Cert.Model

open Idealize.ShloMosaic

/-- The real entry of `x` at the coordinates `f`, zero outside the array. -/
def entry {s : Shape} (x : s.Idx → EReal) (f : Fin s.rank → ℕ) : ℝ :=
  if hf : ∀ a, f a < s.size a then (x fun a => ⟨f a, hf a⟩).toReal else 0

/-- A finite entry is its real value. -/
theorem entry_eq {s : Shape} (x : s.Idx → EReal) (i : s.Idx) (hx : ∃ r : ℝ, x i = r) : x i = (entry x fun a => (i a).val : ℝ) := by
  obtain ⟨r, hr⟩ := hx
  have h : (∀ a, (i a).val < s.size a) := fun a => (i a).isLt
  rw [entry, dif_pos h]
  show x i = ((x i).toReal : EReal)
  rw [hr, EReal.toReal_coe]

/-- The maximum of finitely many finite values, at least one, is finite. -/
theorem fold_max_real {ι : Type*} (s : Finset ι) (f : ι → EReal) (hs : s.Nonempty) (hf : ∀ i, ∃ r : ℝ, f i = r) :
    ∃ r : ℝ, s.fold max ⊥ f = r := by
  obtain ⟨i, -, hi⟩ := Finset.exists_mem_eq_sup s hs f
  obtain ⟨r, hr⟩ := hf i
  exact ⟨r, (show s.fold max ⊥ f = s.sup f from rfl).trans (hi.trans hr)⟩

/-- The host's maximum over one axis, from −∞, of finite values is finite. -/
theorem hostMax_real {s t u : Shape} {a : Fin s.rank} (x : FVec Ideal s .f32) (init : FVec Ideal u .f32)
    (h' : s.ReducesTo [a] t) (h : s.Reduces [a] t) (hu : 0 < u.numel) (hp : 0 < s.size a)
    (hi : init (Shape.Idx.first hu) = (⊥ : EReal)) (hx : ∀ i, ∃ r : ℝ, x i = (r : EReal)) (j : t.Idx) :
    ∃ r : ℝ, Host.reduce FloatOps.maximumf x init h' hu j = (r : EReal) := by
  have e : Host.reduce FloatOps.maximumf x init h' hu j
      = (Finset.univ : Finset (Fin (s.size a))).fold max (init (Shape.Idx.first hu)) (x ∘ h.lift j) :=
    Host.reduce_eq_fold_single (max : EReal → EReal → EReal) x init h' h hu j
  rw [e, hi]
  exact fold_max_real _ _ ⟨⟨0, hp⟩, Finset.mem_univ _⟩ fun k => hx _

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
/-- The scale of the scores. -/
theorem ofBits_scale : ∃ c : ℝ, Ideal.ofBits .f32 0x3DD105EC#32 = (c : EReal) := by
  refine ⟨(Ideal.ofBits .f32 0x3DD105EC#32).toReal, (EReal.coe_toReal ?_ ?_).symm⟩ <;>
  · simp [Ideal.ofBits, Ideal.ieee]
    first
    | exact EReal.coe_ne_top _
    | exact EReal.coe_ne_bot _
    | norm_num

/-- The quotient of two reals. -/
theorem div_real (x y : ℝ) (hy : y ≠ 0) : Ideal.div (x : EReal) (y : EReal) = ((x / y : ℝ) : EReal) := by
  rw [Ideal.div_coe hy, ← EReal.coe_mul]; congr 1; ring

/-- The logarithm of a positive real. -/
theorem log_real (x : ℝ) (hx : 0 < x) : Ideal.log (x : EReal) = (Real.log x : EReal) := by
  rw [Ideal.log_coe, if_neg (not_le.mpr hx)]

end Cert.Model

end
-- ==== Proof.RefValue.lean ====
/- The reference program's three results at finite arguments, one operation at a time: scores, softmax rows, and the
   gradients of `Cert.Model`. The latent rows come first (keys 0 … 4,351), then the context rows (keys from 4,096). -/
module

public import proofs.«01_k».proof.Proof.Finite
public import proofs.«01_k».proof.Proof.Gen.ReferenceIdeal.Read
public import Idealize.ShloMosaic.Lib.KernelVsHost

@[expose] public section

set_option maxRecDepth 16384

noncomputable section

namespace Cert.RefValue

open Cert.ReferenceIdeal Cert.ReferenceIdeal.Gen Cert.ReferenceIdeal.Read Cert.Model Idealize.ShloMosaic

/-- A query or key array, and a value or output array, of extended reals. -/
abbrev Wide := (⟨S2x4352x4x96, .f32⟩ : BufTy).Contents (Elt Ideal)
abbrev Slim := (⟨S2x4352x4x64, .f32⟩ : BufTy).Contents (Elt Ideal)

/-- The four argument arrays hold the real arrays of the call `A`, and the program's scale is the call's. -/
structure Holds (A : Call) (x0 x1 : Wide) (x2 x3 : Slim) : Prop where
  q : ∀ i, x0 i = (A.q (i 0).val (i 1).val (i 2).val (i 3).val : EReal)
  k : ∀ i, x1 i = (A.k (i 0).val (i 1).val (i 2).val (i 3).val : EReal)
  v : ∀ i, x2 i = (A.v (i 0).val (i 1).val (i 2).val (i 3).val : EReal)
  g : ∀ i, x3 i = (A.g (i 0).val (i 1).val (i 2).val (i 3).val : EReal)
  c : Ideal.ofBits .f32 0x3DD105EC#32 = (A.c : EReal)

variable {A : Call} {x0 x1 : Wide} {x2 x3 : Slim}

/-! ## The latent rows -/

theorem score_lat (H : Holds A x0 x1 x2 x3) (i : S2x4x4096x4352.Idx) :
    val_main_v3 (F := Ideal) x0 x1 i = (score A (i 0).val (i 1).val ((i 2).val) ((i 3).val) : EReal) := by
  rw [val_main_v3_apply, val_main_v1_apply, val_main_v2_apply, val_main_cst_apply]
  simp only [val_main_v0_apply, H.q, H.k, Ideal.mulf_def, Ideal.ofBits_def, H.c, ← EReal.coe_mul, coe_sum]
  rfl

/-- The number the program subtracts from a latent row's scores before it exponentiates. -/
def mlat (x0 x1 : Wide) (b h r : ℕ) : ℝ := entry (s := S2x4x4096) (val_main_v11 (F := Ideal) x0 x1) (fun a => ![b, h, r] a)

theorem max_lat (H : Holds A x0 x1 x2 x3) (i : S2x4x4096.Idx) :
    val_main_v11 (F := Ideal) x0 x1 i = (mlat x0 x1 (i 0).val (i 1).val (i 2).val : EReal) := by
  have hx : ∃ r : ℝ, val_main_v11 (F := Ideal) x0 x1 i = (r : EReal) := by
    rw [val_main_v11_apply, val_main_v10_apply, val_main_cst_2_apply]
    obtain ⟨r, hr⟩ := hostMax_real (val_main_v3 (F := Ideal) x0 x1) (val_main_cst_0 (F := Ideal))
      reducesTo_S2x4x4096x4352_S2x4x4096_d3 (by decide) h_S_ (by decide)
      (by rw [val_main_cst_0_apply]; exact ofBits_bot) (fun i => ⟨_, score_lat H i⟩) i
    refine ⟨r, ?_⟩
    rw [Ideal.maximumf_def, Ideal.ofBits_def, ofBits_bot]
    exact (max_eq_right bot_le).trans hr
  have he : (fun a => (i a).val) = fun a => ![(i 0).val, (i 1).val, (i 2).val] a := funext fun a => match a with
    | ⟨0, _⟩ => rfl
    | ⟨1, _⟩ => rfl
    | ⟨2, _⟩ => rfl
  rw [mlat, ← he]
  exact entry_eq _ i hx

theorem exp_lat (H : Holds A x0 x1 x2 x3) (i : S2x4x4096x4352.Idx) :
    val_main_v24 (F := Ideal) x0 x1 i
      = (Real.exp (score A (i 0).val (i 1).val ((i 2).val) ((i 3).val) - mlat x0 x1 (i 0).val (i 1).val (i 2).val) : EReal) := by
  rw [val_main_v24_apply, val_main_v23_apply, score_lat H, val_main_v22_apply, val_main_v21_apply, max_lat H, Ideal.subf_def,
    Ideal.hostUnary_exp_def, ← EReal.coe_sub, Ideal.exp_coe]

/-- A latent row's sum of shifted exponentials. -/
def llat (A : Call) (x0 x1 : Wide) (b h r : ℕ) : ℝ := ∑ k : Fin 4352, Real.exp (score A b h (r) (0 + k.val) - mlat x0 x1 b h r)

theorem sum_lat (H : Holds A x0 x1 x2 x3) (i : S2x4x4096.Idx) :
    val_main_v25 (F := Ideal) x0 x1 i = (llat A x0 x1 (i 0).val (i 1).val (i 2).val : EReal) := by
  rw [val_main_v25_apply, val_main_cst_8_apply, Ideal.ofBits_def, Ideal.ofBits_zero_f32, zero_add, llat]
  simp only [Nat.zero_add, exp_lat H, coe_sum]

theorem llat_ne (A : Call) (x0 x1 : Wide) (b h r : ℕ) : llat A x0 x1 b h r ≠ 0 :=
  (denom_shift_pos A 0 4352 b h _ _ (by decide)).ne'

theorem prob_lat (H : Holds A x0 x1 x2 x3) (i : S2x4x4096x4352.Idx) :
    val_main_v28 (F := Ideal) x0 x1 i = (prob A 0 4352 (i 0).val (i 1).val ((i 2).val) ((i 3).val) : EReal) := by
  rw [val_main_v28_apply, exp_lat H, val_main_v27_apply, val_main_v26_apply, sum_lat H, Ideal.hostDivf_def]
  exact (div_real _ _ (llat_ne A x0 x1 _ _ _)).trans (congrArg (fun r : ℝ => (r : EReal)) (prob_shift A 0 4352 _ _ _ _ _))

theorem inv_lat (H : Holds A x0 x1 x2 x3) (i : S2x4x4096x1.Idx) :
    val_main_v31 (F := Ideal) x0 x1 i
      = (1 / (llat A x0 x1 (i 0).val (i 1).val (i 2).val * llat A x0 x1 (i 0).val (i 1).val (i 2).val) : ℝ) := by
  rw [val_main_v31_apply, val_main_v30_apply, val_main_cst_9_apply, val_main_v29_apply, val_main_v26_apply, sum_lat H, Ideal.hostDivf_def,
    Ideal.mulf_def, ← EReal.coe_mul, Ideal.ofBits_def, Ideal.ofBits_one_f32]
  exact div_real 1 _ (mul_ne_zero (llat_ne A x0 x1 _ _ _) (llat_ne A x0 x1 _ _ _))

theorem dprob_lat (H : Holds A x0 x1 x2 x3) (i : S2x4x4096x4352.Idx) :
    val_main_v99 (F := Ideal) x2 x3 i = (dprob A (i 0).val (i 1).val ((i 2).val) ((i 3).val) : EReal) := by
  rw [val_main_v99_apply]
  simp only [val_main_v98_apply, val_main_v71_apply, H.g, H.v, ← EReal.coe_mul, coe_sum]
  rfl

/-- The row's part of the softmax's reverse differentiation: the sum over the keys, negated. -/
def slat (A : Call) (x0 x1 : Wide) (b h r : ℕ) : ℝ :=
  ∑ k : Fin 4352, dprob A b h (r) (0 + k.val) * (1 / (llat A x0 x1 b h r * llat A x0 x1 b h r)) * Real.exp (score A b h (r) (0 + k.val) - mlat x0 x1 b h r)

theorem row_lat (H : Holds A x0 x1 x2 x3) (i : S2x4x4096.Idx) :
    val_main_v106 (F := Ideal) x0 x1 x2 x3 i = (slat A x0 x1 (i 0).val (i 1).val (i 2).val : EReal) := by
  rw [val_main_v106_apply, val_main_cst_27_apply, Ideal.ofBits_def, Ideal.ofBits_zero_f32, zero_add, slat]
  simp only [val_main_v105_apply, val_main_v104_apply, val_main_v103_apply, Nat.zero_add, exp_lat H, dprob_lat H, inv_lat H, Ideal.mulf_def, ← EReal.coe_mul, coe_sum]

theorem neg_lat (H : Holds A x0 x1 x2 x3) (i : S2x4x4096.Idx) :
    val_main_v111 (F := Ideal) x0 x1 x2 x3 i = (-slat A x0 x1 (i 0).val (i 1).val (i 2).val : ℝ) := by
  rw [val_main_v111_apply, val_main_cst_28_apply, Ideal.ofBits_def, Ideal.ofBits_zero_f32, zero_add, Fin.sum_univ_one, val_main_v108_apply,
    val_main_v107_apply, row_lat H, Ideal.hostNegf_def, Ideal.negf_def, ← EReal.coe_neg]
  have h0 : (i 0).val < 2 := (i 0).isLt
  have h1 : (i 1).val < 4 := (i 1).isLt
  have h2 : (i 2).val < 4096 := (i 2).isLt
  have e0 : ((((i 0).val * 4 + (i 1).val) * 4096 + (i 2).val) * 1 + 0) / 16384 = (i 0).val := by omega
  have e1 : ((((i 0).val * 4 + (i 1).val) * 4096 + (i 2).val) * 1 + 0) / 4096 % 4 = (i 1).val := by omega
  have e2 : ((((i 0).val * 4 + (i 1).val) * 4096 + (i 2).val) * 1 + 0) % 4096 = (i 2).val := by omega
  show ((-slat A x0 x1 (((((i 0).val * 4 + (i 1).val) * 4096 + (i 2).val) * 1 + 0) / 16384)
    (((((i 0).val * 4 + (i 1).val) * 4096 + (i 2).val) * 1 + 0) / 4096 % 4)
    (((((i 0).val * 4 + (i 1).val) * 4096 + (i 2).val) * 1 + 0) % 4096) : ℝ) : EReal) = _
  rw [e0, e1, e2]

theorem dscore_lat (H : Holds A x0 x1 x2 x3) (i : S2x4x4096x4352.Idx) :
    val_main_v116 (F := Ideal) x0 x1 x2 x3 i = (dscore A 0 4352 (i 0).val (i 1).val ((i 2).val) ((i 3).val) : EReal) := by
  rw [val_main_v116_apply, val_main_v114_apply, val_main_v113_apply, val_main_v110_apply, val_main_v115_apply, val_main_cst_29_apply, dprob_lat H, exp_lat H,
    val_main_v109_apply, val_main_v26_apply, sum_lat H, val_main_v112_apply, neg_lat H, Ideal.hostDivf_def, div_real _ _ (llat_ne A x0 x1 _ _ _),
    Ideal.addf_def, Ideal.mulf_def, Ideal.mulf_def, Ideal.ofBits_def, H.c, ← EReal.coe_add, ← EReal.coe_mul, ← EReal.coe_mul]
  exact congrArg (fun r : ℝ => (r : EReal)) (dscore_quot A 0 4352 _ _ _ _ (mlat x0 x1 _ _ _) (by decide) (llat A x0 x1 _ _ _) rfl)

theorem dk_lat (H : Holds A x0 x1 x2 x3) (i : S2x4x4352x96.Idx) :
    val_main_v117 (F := Ideal) x0 x1 x2 x3 i
      = (∑ r : Fin 4096, dscore A 0 4352 (i 0).val (i 1).val (r.val) ((i 2).val) * A.q (i 0).val (r.val) (i 1).val (i 3).val : ℝ) := by
  rw [val_main_v117_apply]
  simp only [dscore_lat H, val_main_v0_apply, H.q, ← EReal.coe_mul, coe_sum]

theorem dq_lat (H : Holds A x0 x1 x2 x3) (i : S2x4x4096x96.Idx) :
    val_main_v120 (F := Ideal) x0 x1 x2 x3 i
      = (∑ j : Fin 4352, dscore A 0 4352 (i 0).val (i 1).val ((i 2).val) (j.val) * A.k (i 0).val (j.val) (i 1).val (i 3).val : ℝ) := by
  rw [val_main_v120_apply]
  simp only [dscore_lat H, H.k, ← EReal.coe_mul, coe_sum]

theorem dv_lat (H : Holds A x0 x1 x2 x3) (i : S2x4x64x4352.Idx) :
    val_main_v100 (F := Ideal) x0 x1 x3 i
      = (∑ r : Fin 4096, A.g (i 0).val (r.val) (i 1).val (i 2).val * prob A 0 4352 (i 0).val (i 1).val (r.val) ((i 3).val) : ℝ) := by
  rw [val_main_v100_apply]
  simp only [val_main_v98_apply, val_main_v71_apply, prob_lat H, H.g, ← EReal.coe_mul, coe_sum]

/-! ## The context rows -/

theorem score_ctx (H : Holds A x0 x1 x2 x3) (i : S2x4x256x256.Idx) :
    val_main_v39 (F := Ideal) x0 x1 i = (score A (i 0).val (i 1).val (4096 + (i 2).val) (4096 + (i 3).val) : EReal) := by
  rw [val_main_v39_apply, val_main_v37_apply, val_main_v38_apply, val_main_cst_10_apply]
  simp only [val_main_v34_apply, val_main_v35_apply, H.q, H.k, Ideal.mulf_def, Ideal.ofBits_def, H.c, ← EReal.coe_mul, coe_sum]
  rfl

/-- The number the program subtracts from a context row's scores before it exponentiates. -/
def mctx (x0 x1 : Wide) (b h r : ℕ) : ℝ := entry (s := S2x4x256) (val_main_v47 (F := Ideal) x0 x1) (fun a => ![b, h, r] a)

theorem max_ctx (H : Holds A x0 x1 x2 x3) (i : S2x4x256.Idx) :
    val_main_v47 (F := Ideal) x0 x1 i = (mctx x0 x1 (i 0).val (i 1).val (i 2).val : EReal) := by
  have hx : ∃ r : ℝ, val_main_v47 (F := Ideal) x0 x1 i = (r : EReal) := by
    rw [val_main_v47_apply, val_main_v46_apply, val_main_cst_13_apply]
    obtain ⟨r, hr⟩ := hostMax_real (val_main_v39 (F := Ideal) x0 x1) (val_main_cst_11 (F := Ideal))
      reducesTo_S2x4x256x256_S2x4x256_d3 (by decide) h_S_ (by decide)
      (by rw [val_main_cst_11_apply]; exact ofBits_bot) (fun i => ⟨_, score_ctx H i⟩) i
    refine ⟨r, ?_⟩
    rw [Ideal.maximumf_def, Ideal.ofBits_def, ofBits_bot]
    exact (max_eq_right bot_le).trans hr
  have he : (fun a => (i a).val) = fun a => ![(i 0).val, (i 1).val, (i 2).val] a := funext fun a => match a with
    | ⟨0, _⟩ => rfl
    | ⟨1, _⟩ => rfl
    | ⟨2, _⟩ => rfl
  rw [mctx, ← he]
  exact entry_eq _ i hx

theorem exp_ctx (H : Holds A x0 x1 x2 x3) (i : S2x4x256x256.Idx) :
    val_main_v60 (F := Ideal) x0 x1 i
      = (Real.exp (score A (i 0).val (i 1).val (4096 + (i 2).val) (4096 + (i 3).val) - mctx x0 x1 (i 0).val (i 1).val (i 2).val) : EReal) := by
  rw [val_main_v60_apply, val_main_v59_apply, score_ctx H, val_main_v58_apply, val_main_v57_apply, max_ctx H, Ideal.subf_def,
    Ideal.hostUnary_exp_def, ← EReal.coe_sub, Ideal.exp_coe]

/-- A context row's sum of shifted exponentials. -/
def lctx (A : Call) (x0 x1 : Wide) (b h r : ℕ) : ℝ := ∑ k : Fin 256, Real.exp (score A b h (4096 + r) (4096 + k.val) - mctx x0 x1 b h r)

theorem sum_ctx (H : Holds A x0 x1 x2 x3) (i : S2x4x256.Idx) :
    val_main_v61 (F := Ideal) x0 x1 i = (lctx A x0 x1 (i 0).val (i 1).val (i 2).val : EReal) := by
  rw [val_main_v61_apply, val_main_cst_19_apply, Ideal.ofBits_def, Ideal.ofBits_zero_f32, zero_add, lctx]
  simp only [exp_ctx H, coe_sum]

theorem lctx_ne (A : Call) (x0 x1 : Wide) (b h r : ℕ) : lctx A x0 x1 b h r ≠ 0 :=
  (denom_shift_pos A 4096 256 b h _ _ (by decide)).ne'

theorem prob_ctx (H : Holds A x0 x1 x2 x3) (i : S2x4x256x256.Idx) :
    val_main_v64 (F := Ideal) x0 x1 i = (prob A 4096 256 (i 0).val (i 1).val (4096 + (i 2).val) (4096 + (i 3).val) : EReal) := by
  rw [val_main_v64_apply, exp_ctx H, val_main_v63_apply, val_main_v62_apply, sum_ctx H, Ideal.hostDivf_def]
  exact (div_real _ _ (lctx_ne A x0 x1 _ _ _)).trans (congrArg (fun r : ℝ => (r : EReal)) (prob_shift A 4096 256 _ _ _ _ _))

theorem inv_ctx (H : Holds A x0 x1 x2 x3) (i : S2x4x256x1.Idx) :
    val_main_v67 (F := Ideal) x0 x1 i
      = (1 / (lctx A x0 x1 (i 0).val (i 1).val (i 2).val * lctx A x0 x1 (i 0).val (i 1).val (i 2).val) : ℝ) := by
  rw [val_main_v67_apply, val_main_v66_apply, val_main_cst_20_apply, val_main_v65_apply, val_main_v62_apply, sum_ctx H, Ideal.hostDivf_def,
    Ideal.mulf_def, ← EReal.coe_mul, Ideal.ofBits_def, Ideal.ofBits_one_f32]
  exact div_real 1 _ (mul_ne_zero (lctx_ne A x0 x1 _ _ _) (lctx_ne A x0 x1 _ _ _))

theorem dprob_ctx (H : Holds A x0 x1 x2 x3) (i : S2x4x256x256.Idx) :
    val_main_v74 (F := Ideal) x2 x3 i = (dprob A (i 0).val (i 1).val (4096 + (i 2).val) (4096 + (i 3).val) : EReal) := by
  rw [val_main_v74_apply]
  simp only [val_main_v73_apply, val_main_v72_apply, val_main_v36_apply, H.g, H.v, ← EReal.coe_mul, coe_sum]
  rfl

/-- The row's part of the softmax's reverse differentiation: the sum over the keys, negated. -/
def sctx (A : Call) (x0 x1 : Wide) (b h r : ℕ) : ℝ :=
  ∑ k : Fin 256, dprob A b h (4096 + r) (4096 + k.val) * (1 / (lctx A x0 x1 b h r * lctx A x0 x1 b h r)) * Real.exp (score A b h (4096 + r) (4096 + k.val) - mctx x0 x1 b h r)

theorem row_ctx (H : Holds A x0 x1 x2 x3) (i : S2x4x256.Idx) :
    val_main_v80 (F := Ideal) x0 x1 x2 x3 i = (sctx A x0 x1 (i 0).val (i 1).val (i 2).val : EReal) := by
  rw [val_main_v80_apply, val_main_cst_21_apply, Ideal.ofBits_def, Ideal.ofBits_zero_f32, zero_add, sctx]
  simp only [val_main_v79_apply, val_main_v78_apply, val_main_v77_apply, exp_ctx H, dprob_ctx H, inv_ctx H, Ideal.mulf_def, ← EReal.coe_mul, coe_sum]

theorem neg_ctx (H : Holds A x0 x1 x2 x3) (i : S2x4x256.Idx) :
    val_main_v85 (F := Ideal) x0 x1 x2 x3 i = (-sctx A x0 x1 (i 0).val (i 1).val (i 2).val : ℝ) := by
  rw [val_main_v85_apply, val_main_cst_22_apply, Ideal.ofBits_def, Ideal.ofBits_zero_f32, zero_add, Fin.sum_univ_one, val_main_v82_apply,
    val_main_v81_apply, row_ctx H, Ideal.hostNegf_def, Ideal.negf_def, ← EReal.coe_neg]
  have h0 : (i 0).val < 2 := (i 0).isLt
  have h1 : (i 1).val < 4 := (i 1).isLt
  have h2 : (i 2).val < 256 := (i 2).isLt
  have e0 : ((((i 0).val * 4 + (i 1).val) * 256 + (i 2).val) * 1 + 0) / 1024 = (i 0).val := by omega
  have e1 : ((((i 0).val * 4 + (i 1).val) * 256 + (i 2).val) * 1 + 0) / 256 % 4 = (i 1).val := by omega
  have e2 : ((((i 0).val * 4 + (i 1).val) * 256 + (i 2).val) * 1 + 0) % 256 = (i 2).val := by omega
  show ((-sctx A x0 x1 (((((i 0).val * 4 + (i 1).val) * 256 + (i 2).val) * 1 + 0) / 1024)
    (((((i 0).val * 4 + (i 1).val) * 256 + (i 2).val) * 1 + 0) / 256 % 4)
    (((((i 0).val * 4 + (i 1).val) * 256 + (i 2).val) * 1 + 0) % 256) : ℝ) : EReal) = _
  rw [e0, e1, e2]

theorem dscore_ctx (H : Holds A x0 x1 x2 x3) (i : S2x4x256x256.Idx) :
    val_main_v90 (F := Ideal) x0 x1 x2 x3 i = (dscore A 4096 256 (i 0).val (i 1).val (4096 + (i 2).val) (4096 + (i 3).val) : EReal) := by
  rw [val_main_v90_apply, val_main_v88_apply, val_main_v87_apply, val_main_v84_apply, val_main_v89_apply, val_main_cst_23_apply, dprob_ctx H, exp_ctx H,
    val_main_v83_apply, val_main_v62_apply, sum_ctx H, val_main_v86_apply, neg_ctx H, Ideal.hostDivf_def, div_real _ _ (lctx_ne A x0 x1 _ _ _),
    Ideal.addf_def, Ideal.mulf_def, Ideal.mulf_def, Ideal.ofBits_def, H.c, ← EReal.coe_add, ← EReal.coe_mul, ← EReal.coe_mul]
  exact congrArg (fun r : ℝ => (r : EReal)) (dscore_quot A 4096 256 _ _ _ _ (mctx x0 x1 _ _ _) (by decide) (lctx A x0 x1 _ _ _) rfl)

theorem dk_ctx (H : Holds A x0 x1 x2 x3) (i : S2x4x256x96.Idx) :
    val_main_v91 (F := Ideal) x0 x1 x2 x3 i
      = (∑ r : Fin 256, dscore A 4096 256 (i 0).val (i 1).val (4096 + r.val) (4096 + (i 2).val) * A.q (i 0).val (4096 + r.val) (i 1).val (i 3).val : ℝ) := by
  rw [val_main_v91_apply]
  simp only [dscore_ctx H, val_main_v34_apply, H.q, ← EReal.coe_mul, coe_sum]

theorem dq_ctx (H : Holds A x0 x1 x2 x3) (i : S2x4x256x96.Idx) :
    val_main_v93 (F := Ideal) x0 x1 x2 x3 i
      = (∑ j : Fin 256, dscore A 4096 256 (i 0).val (i 1).val (4096 + (i 2).val) (4096 + j.val) * A.k (i 0).val (4096 + j.val) (i 1).val (i 3).val : ℝ) := by
  rw [val_main_v93_apply]
  simp only [dscore_ctx H, val_main_v35_apply, H.k, ← EReal.coe_mul, coe_sum]

theorem dv_ctx (H : Holds A x0 x1 x2 x3) (i : S2x4x64x256.Idx) :
    val_main_v75 (F := Ideal) x0 x1 x3 i
      = (∑ r : Fin 256, A.g (i 0).val (4096 + r.val) (i 1).val (i 2).val * prob A 4096 256 (i 0).val (i 1).val (4096 + r.val) (4096 + (i 3).val) : ℝ) := by
  rw [val_main_v75_apply]
  simp only [val_main_v73_apply, val_main_v72_apply, prob_ctx H, H.g, ← EReal.coe_mul, coe_sum]

/-! ## The results: the two parts, each padded with zeros to all the rows, added -/

theorem pad_dv (H : Holds A x0 x1 x2 x3) (i : S2x4352x4x64.Idx) :
    val_main_v95 (F := Ideal) x0 x1 x3 i
      = ((if 4096 ≤ (i 1).val then ∑ r : Fin 256, A.g (i 0).val (4096 + r.val) (i 2).val (i 3).val * pCtx A (i 0).val (i 2).val (4096 + r.val) (i 1).val
          else 0 : ℝ) : EReal) := by
  have h1 : (i 1).val < 4352 := (i 1).isLt
  split
  next h =>
    have e := pad_apply_of_inside ![0, 4096, 0, 0] ![0, 0, 0, 0] ![0, 0, 0, 0] (val_main_v76 (F := Ideal) x0 x1 x3) (val_main_cst_24 (F := Ideal))
      pads_S2x256x4x64_S2x4352x4x64_000_409600_000_000 h_S_ i
      (fun a => match a with
        | ⟨0, _⟩ => ⟨(i 0).val, (i 0).isLt⟩
        | ⟨1, _⟩ => ⟨(i 1).val - 4096, by show (i 1).val - 4096 < 256; omega⟩
        | ⟨2, _⟩ => ⟨(i 2).val, (i 2).isLt⟩
        | ⟨3, _⟩ => ⟨(i 3).val, (i 3).isLt⟩)
      (fun a => match a with
        | ⟨0, _⟩ => by show (i 0).val = 0 + (i 0).val * 1; omega
        | ⟨1, _⟩ => by show (i 1).val = 4096 + ((i 1).val - 4096) * 1; omega
        | ⟨2, _⟩ => by show (i 2).val = 0 + (i 2).val * 1; omega
        | ⟨3, _⟩ => by show (i 3).val = 0 + (i 3).val * 1; omega)
    refine e.trans ?_
    rw [val_main_v76_apply, dv_ctx H]
    have hj : 4096 + ((i 1).val - 4096) = (i 1).val := by omega
    show ((∑ r : Fin 256, A.g (i 0).val (4096 + r.val) (i 2).val (i 3).val
      * prob A 4096 256 (i 0).val (i 2).val (4096 + r.val) (4096 + ((i 1).val - 4096)) : ℝ) : EReal) = _
    rw [hj]; rfl
  next h =>
    have e := pad_apply_of_not_inside ![0, 4096, 0, 0] ![0, 0, 0, 0] ![0, 0, 0, 0] (val_main_v76 (F := Ideal) x0 x1 x3) (val_main_cst_24 (F := Ideal))
      pads_S2x256x4x64_S2x4352x4x64_000_409600_000_000 h_S_ i ⟨1, by decide⟩ (fun hh => h hh.1)
    refine e.trans ?_
    rw [val_main_cst_24_apply, Ideal.ofBits_def, Ideal.ofBits_zero_f32, EReal.coe_zero]

theorem pad_dk (H : Holds A x0 x1 x2 x3) (i : S2x4352x4x96.Idx) :
    val_main_v96 (F := Ideal) x0 x1 x2 x3 i
      = ((if 4096 ≤ (i 1).val then ∑ r : Fin 256, dsCtx A (i 0).val (i 2).val (4096 + r.val) (i 1).val * A.q (i 0).val (4096 + r.val) (i 2).val (i 3).val
          else 0 : ℝ) : EReal) := by
  have h1 : (i 1).val < 4352 := (i 1).isLt
  split
  next h =>
    have e := pad_apply_of_inside ![0, 4096, 0, 0] ![0, 0, 0, 0] ![0, 0, 0, 0] (val_main_v92 (F := Ideal) x0 x1 x2 x3) (val_main_cst_25 (F := Ideal))
      pads_S2x256x4x96_S2x4352x4x96_000_409600_000_000 h_S_ i
      (fun a => match a with
        | ⟨0, _⟩ => ⟨(i 0).val, (i 0).isLt⟩
        | ⟨1, _⟩ => ⟨(i 1).val - 4096, by show (i 1).val - 4096 < 256; omega⟩
        | ⟨2, _⟩ => ⟨(i 2).val, (i 2).isLt⟩
        | ⟨3, _⟩ => ⟨(i 3).val, (i 3).isLt⟩)
      (fun a => match a with
        | ⟨0, _⟩ => by show (i 0).val = 0 + (i 0).val * 1; omega
        | ⟨1, _⟩ => by show (i 1).val = 4096 + ((i 1).val - 4096) * 1; omega
        | ⟨2, _⟩ => by show (i 2).val = 0 + (i 2).val * 1; omega
        | ⟨3, _⟩ => by show (i 3).val = 0 + (i 3).val * 1; omega)
    refine e.trans ?_
    rw [val_main_v92_apply, dk_ctx H]
    have hj : 4096 + ((i 1).val - 4096) = (i 1).val := by omega
    show ((∑ r : Fin 256, dscore A 4096 256 (i 0).val (i 2).val (4096 + r.val) (4096 + ((i 1).val - 4096))
      * A.q (i 0).val (4096 + r.val) (i 2).val (i 3).val : ℝ) : EReal) = _
    rw [hj]; rfl
  next h =>
    have e := pad_apply_of_not_inside ![0, 4096, 0, 0] ![0, 0, 0, 0] ![0, 0, 0, 0] (val_main_v92 (F := Ideal) x0 x1 x2 x3) (val_main_cst_25 (F := Ideal))
      pads_S2x256x4x96_S2x4352x4x96_000_409600_000_000 h_S_ i ⟨1, by decide⟩ (fun hh => h hh.1)
    refine e.trans ?_
    rw [val_main_cst_25_apply, Ideal.ofBits_def, Ideal.ofBits_zero_f32, EReal.coe_zero]

/-- The query's gradient before its last two layout changes. -/
theorem dq_rows (H : Holds A x0 x1 x2 x3) (i : S2x4352x4x96.Idx) :
    val_main_v123 (F := Ideal) x0 x1 x2 x3 i = (dq A (i 0).val (i 2).val (i 1).val (i 3).val : EReal) := by
  have h1 : (i 1).val < 4352 := (i 1).isLt
  rw [val_main_v123_apply, Ideal.addf_def, dq]
  split
  next h =>
    have e := pad_apply_of_not_inside ![0, 4096, 0, 0] ![0, 0, 0, 0] ![0, 0, 0, 0] (val_main_v94 (F := Ideal) x0 x1 x2 x3) (val_main_cst_26 (F := Ideal))
      pads_S2x256x4x96_S2x4352x4x96_000_409600_000_000 h_S_ i ⟨1, by decide⟩ (fun hh => absurd hh.1 (Nat.not_le.mpr h))
    have e' := pad_apply_of_inside ![0, 0, 0, 0] ![0, 256, 0, 0] ![0, 0, 0, 0] (val_main_v121 (F := Ideal) x0 x1 x2 x3) (val_main_cst_30 (F := Ideal))
      pads_S2x4096x4x96_S2x4352x4x96_000_02560_000_000 h_S_ i
      (fun a => match a with
        | ⟨0, _⟩ => ⟨(i 0).val, (i 0).isLt⟩
        | ⟨1, _⟩ => ⟨(i 1).val, h⟩
        | ⟨2, _⟩ => ⟨(i 2).val, (i 2).isLt⟩
        | ⟨3, _⟩ => ⟨(i 3).val, (i 3).isLt⟩)
      (fun a => match a with
        | ⟨0, _⟩ => by show (i 0).val = 0 + (i 0).val * 1; omega
        | ⟨1, _⟩ => by show (i 1).val = 0 + (i 1).val * 1; omega
        | ⟨2, _⟩ => by show (i 2).val = 0 + (i 2).val * 1; omega
        | ⟨3, _⟩ => by show (i 3).val = 0 + (i 3).val * 1; omega)
    refine (congrArg₂ (fun a b : EReal => a + b) e e').trans ?_
    beta_reduce
    rw [val_main_cst_26_apply, Ideal.ofBits_def, Ideal.ofBits_zero_f32, zero_add, val_main_v121_apply, dq_lat H]
    rfl
  next h =>
    have e := pad_apply_of_inside ![0, 4096, 0, 0] ![0, 0, 0, 0] ![0, 0, 0, 0] (val_main_v94 (F := Ideal) x0 x1 x2 x3) (val_main_cst_26 (F := Ideal))
      pads_S2x256x4x96_S2x4352x4x96_000_409600_000_000 h_S_ i
      (fun a => match a with
        | ⟨0, _⟩ => ⟨(i 0).val, (i 0).isLt⟩
        | ⟨1, _⟩ => ⟨(i 1).val - 4096, by show (i 1).val - 4096 < 256; omega⟩
        | ⟨2, _⟩ => ⟨(i 2).val, (i 2).isLt⟩
        | ⟨3, _⟩ => ⟨(i 3).val, (i 3).isLt⟩)
      (fun a => match a with
        | ⟨0, _⟩ => by show (i 0).val = 0 + (i 0).val * 1; omega
        | ⟨1, _⟩ => by show (i 1).val = 4096 + ((i 1).val - 4096) * 1; omega
        | ⟨2, _⟩ => by show (i 2).val = 0 + (i 2).val * 1; omega
        | ⟨3, _⟩ => by show (i 3).val = 0 + (i 3).val * 1; omega)
    have e' := pad_apply_of_not_inside ![0, 0, 0, 0] ![0, 256, 0, 0] ![0, 0, 0, 0] (val_main_v121 (F := Ideal) x0 x1 x2 x3) (val_main_cst_30 (F := Ideal))
      pads_S2x4096x4x96_S2x4352x4x96_000_02560_000_000 h_S_ i ⟨1, by decide⟩
      (fun hh => by
        have h2 : ((i 1).val - 0) / (0 + 1) < 4096 := hh.2.2
        omega)
    refine (congrArg₂ (fun a b : EReal => a + b) e e').trans ?_
    beta_reduce
    rw [val_main_cst_30_apply, Ideal.ofBits_def, Ideal.ofBits_zero_f32, add_zero, val_main_v94_apply, dq_ctx H]
    have hj : 4096 + ((i 1).val - 4096) = (i 1).val := by omega
    show ((∑ j : Fin 256, dscore A 4096 256 (i 0).val (i 2).val (4096 + ((i 1).val - 4096)) (4096 + j.val)
      * A.k (i 0).val (4096 + j.val) (i 2).val (i 3).val : ℝ) : EReal) = _
    rw [hj]; rfl

/-- The reference's first result is the gradient of the queries. -/
theorem result_dq (H : Holds A x0 x1 x2 x3) (i : S2x4x1x4352x96.Idx) :
    val_main_v125 (F := Ideal) x0 x1 x2 x3 i = (dq A (i 0).val (i 1).val (i 3).val (i 4).val : EReal) := by
  rw [val_main_v125_apply, val_main_v124_apply, dq_rows H]

/-- The reference's second result is the gradient of the keys. -/
theorem result_dk (H : Holds A x0 x1 x2 x3) (i : S2x4x96x4352.Idx) :
    val_main_v126 (F := Ideal) x0 x1 x2 x3 i = (dk A (i 0).val (i 1).val (i 3).val (i 2).val : EReal) := by
  rw [val_main_v126_apply, val_main_v119_apply, pad_dk H, val_main_v118_apply, dk_lat H, Ideal.addf_def, ← EReal.coe_add, add_comm, dk]
  rfl

/-- The reference's third result is the gradient of the values. -/
theorem result_dv (H : Holds A x0 x1 x2 x3) (i : S2x4x64x4352.Idx) :
    val_main_v127 (F := Ideal) x0 x1 x3 i = (dv A (i 0).val (i 1).val (i 3).val (i 2).val : EReal) := by
  rw [val_main_v127_apply, val_main_v102_apply, pad_dv H, val_main_v101_apply, dv_lat H, Ideal.addf_def, ← EReal.coe_add, add_comm, dv]
  rfl

end Cert.RefValue

end
-- ==== Proof.HostValue.lean ====
/- What the host's operations before the region leave in the six arrays the attention's windows read: the queries, keys,
   values and arriving gradients, the forward pass's output, and the logarithm of each row's sum of exponentials. -/
module

public import proofs.«01_k».proof.Proof.RefValue
public import proofs.«01_k».proof.Proof.Gen.KernelIdeal.Launch

@[expose] public section

set_option maxRecDepth 16384

noncomputable section

namespace Cert.HostValue

open Cert.KernelIdeal Cert.KernelIdeal.Gen Cert.Model Cert.RefValue Idealize.ShloMosaic Idealize.ShloMosaic.TcCoe Idealize.SL.Sem Idealize.ShloMosaic.StableHlo
open Cert.ReferenceIdeal.Read (val_main_v3 val_main_v4 val_main_v11 val_main_v21 val_main_v24 val_main_v25 val_main_v26 val_main_v27 val_main_v28
  val_main_v39 val_main_v40 val_main_v47 val_main_v57 val_main_v60 val_main_v61 val_main_v62 val_main_v63 val_main_v64 val_main_v36)

/-- A sum and a logarithm of arrays, read at an index. -/
theorem addf_apply {s : Shape} {φ : FTy} (x y : FVec Ideal s φ) (i : s.Idx) : addf x y i = FloatOps.addf (x i) (y i) := rfl
theorem hostLog_apply {s : Shape} {φ : FTy} (x : FVec Ideal s φ) (i : s.Idx) : Host.log x i = Ideal.log (x i) := rfl

variable {A : Call} {x0 x1 : Wide} {x2 x3 : Slim}

/-! ## The forward pass of the latent rows -/

/-- The row maximum, taken from −∞, is the reference's. -/
theorem top_lat (x0 x1 : Wide) : val_main_v4 (F := Ideal) x0 x1 = val_main_v11 (F := Ideal) x0 x1 := funext fun i => by
  rw [Cert.ReferenceIdeal.Read.val_main_v11_apply, Cert.ReferenceIdeal.Read.val_main_v10_apply, Cert.ReferenceIdeal.Read.val_main_cst_2_apply,
    Ideal.ofBits_def, ofBits_bot, Ideal.maximumf_def]
  exact (max_eq_right bot_le).symm

/-- The latent rows' shifted exponentials, their sums, the probabilities, the output and the logarithm of the sum. -/
def elat (x0 x1 : Wide) : FVec Ideal S2x4x4096x4352 .f32 :=
  Host.exp (subf (val_main_v3 (F := Ideal) x0 x1) (broadcastInDim S2x4x4096x4352 ![0, 1, 2, 3] bcast_S2x4x4096x1_S2x4x4096x4352_0_1_2_3
    (broadcastInDim S2x4x4096x1 ![0, 1, 2] bcast_S2x4x4096_S2x4x4096x1_0_1_2 (val_main_v4 (F := Ideal) x0 x1))))
def tlat (x0 x1 : Wide) : FVec Ideal S2x4x4096x1 .f32 :=
  broadcastInDim S2x4x4096x1 ![0, 1, 2] bcast_S2x4x4096_S2x4x4096x1_0_1_2
    (Host.reduceAdd (elat x0 x1) (constant S_ .f32 0x00000000#32) reducesTo_S2x4x4096x4352_S2x4x4096_d3 h_S_)
def plat (x0 x1 : Wide) : FVec Ideal S2x4x4096x4352 .f32 :=
  Host.divf (elat x0 x1) (broadcastInDim S2x4x4096x4352 ![0, 1, 2, 3] bcast_S2x4x4096x1_S2x4x4096x4352_0_1_2_3 (tlat x0 x1))
def olat (x0 x1 : Wide) (x2 : Slim) : FVec Ideal S2x4x4096x64 .f32 :=
  Host.dotGeneral (φ₁ := .f32) (φ₂ := .f32) dot_S2x4x4096x4352_S2x4352x4x64_S2x4x4096x64_3_1_2_3_01_02 none (plat x0 x1) x2
def slat (x0 x1 : Wide) : FVec Ideal S2x4x4096x1 .f32 :=
  addf (broadcastInDim S2x4x4096x1 ![0, 1, 2] bcast_S2x4x4096_S2x4x4096x1_0_1_2 (val_main_v4 (F := Ideal) x0 x1)) (Host.log (tlat x0 x1))

theorem elat_eq (x0 x1 : Wide) : elat x0 x1 = val_main_v24 (F := Ideal) x0 x1 := by
  unfold elat; rw [top_lat]; rfl
theorem tlat_eq (x0 x1 : Wide) : tlat x0 x1 = val_main_v26 (F := Ideal) x0 x1 := by
  unfold tlat; rw [elat_eq]; rfl
theorem plat_eq (x0 x1 : Wide) : plat x0 x1 = val_main_v28 (F := Ideal) x0 x1 := by
  unfold plat; rw [elat_eq, tlat_eq]; rfl

/-- A product of probabilities and values, read at an index. -/
theorem dot_lat (y : FVec Ideal S2x4x4096x4352 .f32) (z : FVec Ideal S2x4352x4x64 .f32) (i : S2x4x4096x64.Idx) :
    Host.dotGeneral dot_S2x4x4096x4352_S2x4352x4x64_S2x4x4096x64_3_1_2_3_01_02 none y z i
      = ∑ k : Fin 4352, y (fun a => match a with
          | ⟨0, _⟩ => ⟨(i 0).val, (i 0).isLt⟩
          | ⟨1, _⟩ => ⟨(i 1).val, (i 1).isLt⟩
          | ⟨2, _⟩ => ⟨(i 2).val, (i 2).isLt⟩
          | ⟨3, _⟩ => ⟨k.val, k.isLt⟩)
        * z (fun a => match a with
          | ⟨0, _⟩ => ⟨(i 0).val, (i 0).isLt⟩
          | ⟨1, _⟩ => ⟨k.val, k.isLt⟩
          | ⟨2, _⟩ => ⟨(i 1).val, (i 1).isLt⟩
          | ⟨3, _⟩ => ⟨(i 3).val, (i 3).isLt⟩) := by
  have L : ∀ q : dot_S2x4x4096x4352_S2x4352x4x64_S2x4x4096x64_3_1_2_3_01_02.contr.Idx, dot_S2x4x4096x4352_S2x4352x4x64_S2x4x4096x64_3_1_2_3_01_02.lhsIdx i q = fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(q ⟨0, by decide⟩).val, (q ⟨0, by decide⟩).isLt⟩ := fun q => funext fun a => Fin.ext (by
    match a with
    | ⟨0, _⟩ =>
      show (dot_S2x4x4096x4352_S2x4352x4x64_S2x4x4096x64_3_1_2_3_01_02.lhsIdx i q 0).val = (i 0).val
      unfold DotDims.lhsIdx; rw [dif_pos (show (0 : Fin S2x4x4096x4352.rank) ∈ dot_S2x4x4096x4352_S2x4352x4x64_S2x4x4096x64_3_1_2_3_01_02.lhsBatch by decide)]; rfl
    | ⟨1, _⟩ =>
      show (dot_S2x4x4096x4352_S2x4352x4x64_S2x4x4096x64_3_1_2_3_01_02.lhsIdx i q 1).val = (i 1).val
      unfold DotDims.lhsIdx; rw [dif_pos (show (1 : Fin S2x4x4096x4352.rank) ∈ dot_S2x4x4096x4352_S2x4352x4x64_S2x4x4096x64_3_1_2_3_01_02.lhsBatch by decide)]; rfl
    | ⟨2, _⟩ =>
      show (dot_S2x4x4096x4352_S2x4352x4x64_S2x4x4096x64_3_1_2_3_01_02.lhsIdx i q 2).val = (i 2).val
      unfold DotDims.lhsIdx
      rw [dif_neg (show ¬(2 : Fin S2x4x4096x4352.rank) ∈ dot_S2x4x4096x4352_S2x4352x4x64_S2x4x4096x64_3_1_2_3_01_02.lhsBatch by decide),
        dif_pos (show (2 : Fin S2x4x4096x4352.rank) ∈ dot_S2x4x4096x4352_S2x4352x4x64_S2x4x4096x64_3_1_2_3_01_02.lhsNonContracting by decide)]; rfl
    | ⟨3, _⟩ => exact dot_S2x4x4096x4352_S2x4352x4x64_S2x4x4096x64_3_1_2_3_01_02.lhsIdx_val_of_single rfl i q)
  have R : ∀ q : dot_S2x4x4096x4352_S2x4352x4x64_S2x4x4096x64_3_1_2_3_01_02.contr.Idx, dot_S2x4x4096x4352_S2x4352x4x64_S2x4x4096x64_3_1_2_3_01_02.rhsIdx i q = fun a => match a with
      | ⟨0, _⟩ => ⟨(i 0).val, (i 0).isLt⟩
      | ⟨1, _⟩ => ⟨(q ⟨0, by decide⟩).val, (q ⟨0, by decide⟩).isLt⟩
      | ⟨2, _⟩ => ⟨(i 1).val, (i 1).isLt⟩
      | ⟨3, _⟩ => ⟨(i 3).val, (i 3).isLt⟩ := fun q => funext fun a => Fin.ext (by
    match a with
    | ⟨0, _⟩ =>
      show (dot_S2x4x4096x4352_S2x4352x4x64_S2x4x4096x64_3_1_2_3_01_02.rhsIdx i q 0).val = (i 0).val
      unfold DotDims.rhsIdx; rw [dif_pos (show (0 : Fin S2x4352x4x64.rank) ∈ dot_S2x4x4096x4352_S2x4352x4x64_S2x4x4096x64_3_1_2_3_01_02.rhsBatch by decide)]; rfl
    | ⟨1, _⟩ => exact dot_S2x4x4096x4352_S2x4352x4x64_S2x4x4096x64_3_1_2_3_01_02.rhsIdx_val_of_single rfl i q
    | ⟨2, _⟩ =>
      show (dot_S2x4x4096x4352_S2x4352x4x64_S2x4x4096x64_3_1_2_3_01_02.rhsIdx i q 2).val = (i 1).val
      unfold DotDims.rhsIdx; rw [dif_pos (show (2 : Fin S2x4352x4x64.rank) ∈ dot_S2x4x4096x4352_S2x4352x4x64_S2x4x4096x64_3_1_2_3_01_02.rhsBatch by decide)]; rfl
    | ⟨3, _⟩ =>
      show (dot_S2x4x4096x4352_S2x4352x4x64_S2x4x4096x64_3_1_2_3_01_02.rhsIdx i q 3).val = (i 3).val
      unfold DotDims.rhsIdx
      rw [dif_neg (show ¬(3 : Fin S2x4352x4x64.rank) ∈ dot_S2x4x4096x4352_S2x4352x4x64_S2x4x4096x64_3_1_2_3_01_02.rhsBatch by decide),
        dif_pos (show (3 : Fin S2x4352x4x64.rank) ∈ dot_S2x4x4096x4352_S2x4352x4x64_S2x4x4096x64_3_1_2_3_01_02.rhsNonContracting by decide)]; rfl)
  simp only [Host.dotGeneral]
  rw [Ideal.dotGeneral_apply, ← Equiv.sum_comp (ValueIdx.contrEquiv1 dot_S2x4x4096x4352_S2x4352x4x64_S2x4x4096x64_3_1_2_3_01_02 4352 rfl rfl).symm]
  refine Finset.sum_congr rfl fun k _ => ?_
  have hk := ValueIdx.contrEquiv1_symm_val dot_S2x4x4096x4352_S2x4352x4x64_S2x4x4096x64_3_1_2_3_01_02 4352 rfl rfl k
  rw [L, R]
  refine congrArg₂ (fun a b : EReal => a * b) (congrArg y (funext fun a => Fin.ext ?_)) (congrArg z (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => exact hk
    | ⟨2, _⟩ => rfl
    | ⟨3, _⟩ => rfl

theorem out_lat (H : Holds A x0 x1 x2 x3) (i : S2x4x4096x64.Idx) :
    olat x0 x1 x2 i = (∑ j : Fin 4352, prob A 0 4352 (i 0).val (i 1).val ((i 2).val) (j.val) * A.v (i 0).val (j.val) (i 1).val (i 3).val : ℝ) := by
  rw [olat, dot_lat, plat_eq]
  simp only [prob_lat H, H.v, ← EReal.coe_mul, coe_sum]

theorem lse_lat (H : Holds A x0 x1 x2 x3) (i : S2x4x4096x1.Idx) :
    slat x0 x1 i = (mlat x0 x1 (i 0).val (i 1).val (i 2).val + Real.log (llat A x0 x1 (i 0).val (i 1).val (i 2).val) : ℝ) := by
  unfold slat
  rw [top_lat, tlat_eq]
  refine (addf_apply _ _ _).trans ?_
  have hm : broadcastInDim S2x4x4096x1 ![0, 1, 2] bcast_S2x4x4096_S2x4x4096x1_0_1_2 (val_main_v11 (F := Ideal) x0 x1) i
      = (mlat x0 x1 (i 0).val (i 1).val (i 2).val : EReal) :=
    (Cert.ReferenceIdeal.Read.val_main_v21_apply (F := Ideal) x0 x1 i).trans (max_lat H _)
  have hl : val_main_v26 (F := Ideal) x0 x1 i = (llat A x0 x1 (i 0).val (i 1).val (i 2).val : EReal) :=
    (Cert.ReferenceIdeal.Read.val_main_v26_apply (F := Ideal) x0 x1 i).trans (sum_lat H _)
  have hp : 0 < llat A x0 x1 (i 0).val (i 1).val (i 2).val := denom_shift_pos A 0 4352 _ _ _ _ (by decide)
  have hg : Host.log (F := Ideal) (φ := .f32) (val_main_v26 (F := Ideal) x0 x1) i = (Real.log (llat A x0 x1 (i 0).val (i 1).val (i 2).val) : EReal) := by
    refine (hostLog_apply _ _).trans ?_
    rw [hl, log_real _ hp]
  rw [hm, hg, Ideal.addf_def, ← EReal.coe_add]

/-! ## The forward pass of the context rows -/

/-- The row maximum, taken from −∞, is the reference's. -/
theorem top_ctx (x0 x1 : Wide) : val_main_v40 (F := Ideal) x0 x1 = val_main_v47 (F := Ideal) x0 x1 := funext fun i => by
  rw [Cert.ReferenceIdeal.Read.val_main_v47_apply, Cert.ReferenceIdeal.Read.val_main_v46_apply, Cert.ReferenceIdeal.Read.val_main_cst_13_apply,
    Ideal.ofBits_def, ofBits_bot, Ideal.maximumf_def]
  exact (max_eq_right bot_le).symm

/-- The context rows' shifted exponentials, their sums, the probabilities, the output and the logarithm of the sum. -/
def ectx (x0 x1 : Wide) : FVec Ideal S2x4x256x256 .f32 :=
  Host.exp (subf (val_main_v39 (F := Ideal) x0 x1) (broadcastInDim S2x4x256x256 ![0, 1, 2, 3] bcast_S2x4x256x1_S2x4x256x256_0_1_2_3
    (broadcastInDim S2x4x256x1 ![0, 1, 2] bcast_S2x4x256_S2x4x256x1_0_1_2 (val_main_v40 (F := Ideal) x0 x1))))
def tctx (x0 x1 : Wide) : FVec Ideal S2x4x256x1 .f32 :=
  broadcastInDim S2x4x256x1 ![0, 1, 2] bcast_S2x4x256_S2x4x256x1_0_1_2
    (Host.reduceAdd (ectx x0 x1) (constant S_ .f32 0x00000000#32) reducesTo_S2x4x256x256_S2x4x256_d3 h_S_)
def pctx (x0 x1 : Wide) : FVec Ideal S2x4x256x256 .f32 :=
  Host.divf (ectx x0 x1) (broadcastInDim S2x4x256x256 ![0, 1, 2, 3] bcast_S2x4x256x1_S2x4x256x256_0_1_2_3 (tctx x0 x1))
def octx (x0 x1 : Wide) (x2 : Slim) : FVec Ideal S2x4x256x64 .f32 :=
  Host.dotGeneral (φ₁ := .f32) (φ₂ := .f32) dot_S2x4x256x256_S2x256x4x64_S2x4x256x64_3_1_2_3_01_02 none (pctx x0 x1) (val_main_v36 (F := Ideal) x2 : FVec Ideal S2x256x4x64 .f32)
def sctx (x0 x1 : Wide) : FVec Ideal S2x4x256x1 .f32 :=
  addf (broadcastInDim S2x4x256x1 ![0, 1, 2] bcast_S2x4x256_S2x4x256x1_0_1_2 (val_main_v40 (F := Ideal) x0 x1)) (Host.log (tctx x0 x1))

theorem ectx_eq (x0 x1 : Wide) : ectx x0 x1 = val_main_v60 (F := Ideal) x0 x1 := by
  unfold ectx; rw [top_ctx]; rfl
theorem tctx_eq (x0 x1 : Wide) : tctx x0 x1 = val_main_v62 (F := Ideal) x0 x1 := by
  unfold tctx; rw [ectx_eq]; rfl
theorem pctx_eq (x0 x1 : Wide) : pctx x0 x1 = val_main_v64 (F := Ideal) x0 x1 := by
  unfold pctx; rw [ectx_eq, tctx_eq]; rfl

/-- A product of probabilities and values, read at an index. -/
theorem dot_ctx (y : FVec Ideal S2x4x256x256 .f32) (z : FVec Ideal S2x256x4x64 .f32) (i : S2x4x256x64.Idx) :
    Host.dotGeneral dot_S2x4x256x256_S2x256x4x64_S2x4x256x64_3_1_2_3_01_02 none y z i
      = ∑ k : Fin 256, y (fun a => match a with
          | ⟨0, _⟩ => ⟨(i 0).val, (i 0).isLt⟩
          | ⟨1, _⟩ => ⟨(i 1).val, (i 1).isLt⟩
          | ⟨2, _⟩ => ⟨(i 2).val, (i 2).isLt⟩
          | ⟨3, _⟩ => ⟨k.val, k.isLt⟩)
        * z (fun a => match a with
          | ⟨0, _⟩ => ⟨(i 0).val, (i 0).isLt⟩
          | ⟨1, _⟩ => ⟨k.val, k.isLt⟩
          | ⟨2, _⟩ => ⟨(i 1).val, (i 1).isLt⟩
          | ⟨3, _⟩ => ⟨(i 3).val, (i 3).isLt⟩) := by
  have L : ∀ q : dot_S2x4x256x256_S2x256x4x64_S2x4x256x64_3_1_2_3_01_02.contr.Idx, dot_S2x4x256x256_S2x256x4x64_S2x4x256x64_3_1_2_3_01_02.lhsIdx i q = fun a => match a with
      | ⟨0, _⟩ => ⟨(i 0).val, (i 0).isLt⟩
      | ⟨1, _⟩ => ⟨(i 1).val, (i 1).isLt⟩
      | ⟨2, _⟩ => ⟨(i 2).val, (i 2).isLt⟩
      | ⟨3, _⟩ => ⟨(q ⟨0, by decide⟩).val, (q ⟨0, by decide⟩).isLt⟩ := fun q => funext fun a => Fin.ext (by
    match a with
    | ⟨0, _⟩ =>
      show (dot_S2x4x256x256_S2x256x4x64_S2x4x256x64_3_1_2_3_01_02.lhsIdx i q 0).val = (i 0).val
      unfold DotDims.lhsIdx; rw [dif_pos (show (0 : Fin S2x4x256x256.rank) ∈ dot_S2x4x256x256_S2x256x4x64_S2x4x256x64_3_1_2_3_01_02.lhsBatch by decide)]; rfl
    | ⟨1, _⟩ =>
      show (dot_S2x4x256x256_S2x256x4x64_S2x4x256x64_3_1_2_3_01_02.lhsIdx i q 1).val = (i 1).val
      unfold DotDims.lhsIdx; rw [dif_pos (show (1 : Fin S2x4x256x256.rank) ∈ dot_S2x4x256x256_S2x256x4x64_S2x4x256x64_3_1_2_3_01_02.lhsBatch by decide)]; rfl
    | ⟨2, _⟩ =>
      show (dot_S2x4x256x256_S2x256x4x64_S2x4x256x64_3_1_2_3_01_02.lhsIdx i q 2).val = (i 2).val
      unfold DotDims.lhsIdx
      rw [dif_neg (show ¬(2 : Fin S2x4x256x256.rank) ∈ dot_S2x4x256x256_S2x256x4x64_S2x4x256x64_3_1_2_3_01_02.lhsBatch by decide),
        dif_pos (show (2 : Fin S2x4x256x256.rank) ∈ dot_S2x4x256x256_S2x256x4x64_S2x4x256x64_3_1_2_3_01_02.lhsNonContracting by decide)]; rfl
    | ⟨3, _⟩ => exact dot_S2x4x256x256_S2x256x4x64_S2x4x256x64_3_1_2_3_01_02.lhsIdx_val_of_single rfl i q)
  have R : ∀ q : dot_S2x4x256x256_S2x256x4x64_S2x4x256x64_3_1_2_3_01_02.contr.Idx, dot_S2x4x256x256_S2x256x4x64_S2x4x256x64_3_1_2_3_01_02.rhsIdx i q = fun a => match a with
      | ⟨0, _⟩ => ⟨(i 0).val, (i 0).isLt⟩
      | ⟨1, _⟩ => ⟨(q ⟨0, by decide⟩).val, (q ⟨0, by decide⟩).isLt⟩
      | ⟨2, _⟩ => ⟨(i 1).val, (i 1).isLt⟩
      | ⟨3, _⟩ => ⟨(i 3).val, (i 3).isLt⟩ := fun q => funext fun a => Fin.ext (by
    match a with
    | ⟨0, _⟩ =>
      show (dot_S2x4x256x256_S2x256x4x64_S2x4x256x64_3_1_2_3_01_02.rhsIdx i q 0).val = (i 0).val
      unfold DotDims.rhsIdx; rw [dif_pos (show (0 : Fin S2x256x4x64.rank) ∈ dot_S2x4x256x256_S2x256x4x64_S2x4x256x64_3_1_2_3_01_02.rhsBatch by decide)]; rfl
    | ⟨1, _⟩ => exact dot_S2x4x256x256_S2x256x4x64_S2x4x256x64_3_1_2_3_01_02.rhsIdx_val_of_single rfl i q
    | ⟨2, _⟩ =>
      show (dot_S2x4x256x256_S2x256x4x64_S2x4x256x64_3_1_2_3_01_02.rhsIdx i q 2).val = (i 1).val
      unfold DotDims.rhsIdx; rw [dif_pos (show (2 : Fin S2x256x4x64.rank) ∈ dot_S2x4x256x256_S2x256x4x64_S2x4x256x64_3_1_2_3_01_02.rhsBatch by decide)]; rfl
    | ⟨3, _⟩ =>
      show (dot_S2x4x256x256_S2x256x4x64_S2x4x256x64_3_1_2_3_01_02.rhsIdx i q 3).val = (i 3).val
      unfold DotDims.rhsIdx
      rw [dif_neg (show ¬(3 : Fin S2x256x4x64.rank) ∈ dot_S2x4x256x256_S2x256x4x64_S2x4x256x64_3_1_2_3_01_02.rhsBatch by decide),
        dif_pos (show (3 : Fin S2x256x4x64.rank) ∈ dot_S2x4x256x256_S2x256x4x64_S2x4x256x64_3_1_2_3_01_02.rhsNonContracting by decide)]; rfl)
  simp only [Host.dotGeneral]
  rw [Ideal.dotGeneral_apply, ← Equiv.sum_comp (ValueIdx.contrEquiv1 dot_S2x4x256x256_S2x256x4x64_S2x4x256x64_3_1_2_3_01_02 256 rfl rfl).symm]
  refine Finset.sum_congr rfl fun k _ => ?_
  have hk := ValueIdx.contrEquiv1_symm_val dot_S2x4x256x256_S2x256x4x64_S2x4x256x64_3_1_2_3_01_02 256 rfl rfl k
  rw [L, R]
  refine congrArg₂ (fun a b : EReal => a * b) (congrArg y (funext fun a => Fin.ext ?_)) (congrArg z (funext fun a => Fin.ext ?_))
  · match a with
    | ⟨0, _⟩ => rfl
    | ⟨1, _⟩ => rfl
    | ⟨2, _⟩ => rfl
    | ⟨3, _⟩ => exact hk
  · match a with
    | ⟨0, _⟩ => rfl
    | ⟨1, _⟩ => exact hk
    | ⟨2, _⟩ => rfl
    | ⟨3, _⟩ => rfl

theorem out_ctx (H : Holds A x0 x1 x2 x3) (i : S2x4x256x64.Idx) :
    octx x0 x1 x2 i = (∑ j : Fin 256, prob A 4096 256 (i 0).val (i 1).val (4096 + (i 2).val) (4096 + j.val) * A.v (i 0).val (4096 + j.val) (i 1).val (i 3).val : ℝ) := by
  rw [octx, dot_ctx, pctx_eq]
  simp only [prob_ctx H, Cert.ReferenceIdeal.Read.val_main_v36_apply, H.v, ← EReal.coe_mul, coe_sum]

theorem lse_ctx (H : Holds A x0 x1 x2 x3) (i : S2x4x256x1.Idx) :
    sctx x0 x1 i = (mctx x0 x1 (i 0).val (i 1).val (i 2).val + Real.log (lctx A x0 x1 (i 0).val (i 1).val (i 2).val) : ℝ) := by
  unfold sctx
  rw [top_ctx, tctx_eq]
  refine (addf_apply _ _ _).trans ?_
  have hm : broadcastInDim S2x4x256x1 ![0, 1, 2] bcast_S2x4x256_S2x4x256x1_0_1_2 (val_main_v47 (F := Ideal) x0 x1) i
      = (mctx x0 x1 (i 0).val (i 1).val (i 2).val : EReal) :=
    (Cert.ReferenceIdeal.Read.val_main_v57_apply (F := Ideal) x0 x1 i).trans (max_ctx H _)
  have hl : val_main_v62 (F := Ideal) x0 x1 i = (lctx A x0 x1 (i 0).val (i 1).val (i 2).val : EReal) :=
    (Cert.ReferenceIdeal.Read.val_main_v62_apply (F := Ideal) x0 x1 i).trans (sum_ctx H _)
  have hp : 0 < lctx A x0 x1 (i 0).val (i 1).val (i 2).val := denom_shift_pos A 4096 256 _ _ _ _ (by decide)
  have hg : Host.log (F := Ideal) (φ := .f32) (val_main_v62 (F := Ideal) x0 x1) i = (Real.log (lctx A x0 x1 (i 0).val (i 1).val (i 2).val) : EReal) := by
    refine (hostLog_apply _ _).trans ?_
    rw [hl, log_real _ hp]
  rw [hm, hg, Ideal.addf_def, ← EReal.coe_add]

/-! ## The six arrays -/

/-- The forward pass's output, latent rows first, as the region's window reads it. -/
def outArr (x0 x1 : Wide) (x2 : Slim) : FVec Ideal S2x4x1x4352x64 .f32 :=
  broadcastInDim S2x4x1x4352x64 ![0, 1, 3, 4] bcast_S2x4x4352x64_S2x4x1x4352x64_0_1_3_4
    (concatenate S2x4x4352x64 2 [⟨S2x4x4096x64, olat x0 x1 x2⟩, ⟨S2x4x256x64, octx x0 x1 x2⟩] concatenates_S2x4x4096x64_S2x4x256x64_S2x4x4352x64_d2)
/-- The logarithm of each row's sum of exponentials, repeated over 128 lanes. -/
def lseArr (x0 x1 : Wide) : FVec Ideal S2x4x1x4352x128 .f32 :=
  broadcastInDim S2x4x1x4352x128 ![0, 1, 2, 3, 4] bcast_S2x4x1x4352x1_S2x4x1x4352x128_0_1_2_3_4
    (broadcastInDim S2x4x1x4352x1 ![0, 1, 3, 4] bcast_S2x4x4352x1_S2x4x1x4352x1_0_1_3_4
      (concatenate S2x4x4352x1 2 [⟨S2x4x4096x1, slat x0 x1⟩, ⟨S2x4x256x1, sctx x0 x1⟩] concatenates_S2x4x4096x1_S2x4x256x1_S2x4x4352x1_d2))
/-- The queries and the arriving gradients by head, the keys and values by head with their rows last. -/
def qArr (x0 : Wide) : FVec Ideal S2x4x1x4352x96 .f32 :=
  broadcastInDim S2x4x1x4352x96 ![0, 1, 3, 4] bcast_S2x4x4352x96_S2x4x1x4352x96_0_1_3_4
    (transpose S2x4x4352x96 [0, 2, 1, 3] x0 transposes_S2x4352x4x96_S2x4x4352x96_0_2_1_3)
def gArr (x3 : Slim) : FVec Ideal S2x4x1x4352x64 .f32 :=
  broadcastInDim S2x4x1x4352x64 ![0, 1, 3, 4] bcast_S2x4x4352x64_S2x4x1x4352x64_0_1_3_4
    (transpose S2x4x4352x64 [0, 2, 1, 3] x3 transposes_S2x4352x4x64_S2x4x4352x64_0_2_1_3)
def kArr (x1 : Wide) : FVec Ideal S2x4x96x4352 .bf16 :=
  truncf .bf16 (transpose S2x4x96x4352 [0, 2, 3, 1] x1 transposes_S2x4352x4x96_S2x4x96x4352_0_2_3_1) bitsLt_bf16_f32
def vArr (x2 : Slim) : FVec Ideal S2x4x64x4352 .bf16 :=
  truncf .bf16 (transpose S2x4x64x4352 [0, 2, 3, 1] x2 transposes_S2x4352x4x64_S2x4x64x4352_0_2_3_1) bitsLt_bf16_f32

/-! ## The six arrays at an index -/

theorem qArr_apply (H : Holds A x0 x1 x2 x3) (i : S2x4x1x4352x96.Idx) :
    qArr x0 i = (A.q (i 0).val (i 3).val (i 1).val (i 4).val : EReal) := by
  unfold qArr
  refine (broadcastInDim_apply _ bcast_S2x4x4352x96_S2x4x1x4352x96_0_1_3_4 _ i
    (fun a => match a with
      | ⟨0, _⟩ => ⟨(i 0).val, (i 0).isLt⟩
      | ⟨1, _⟩ => ⟨(i 1).val, (i 1).isLt⟩
      | ⟨2, _⟩ => ⟨(i 3).val, (i 3).isLt⟩
      | ⟨3, _⟩ => ⟨(i 4).val, (i 4).isLt⟩)
    (fun a => match a with
      | ⟨0, _⟩ => (if_neg (show ¬ (2 : ℕ) = 1 by decide)).symm
      | ⟨1, _⟩ => (if_neg (show ¬ (4 : ℕ) = 1 by decide)).symm
      | ⟨2, _⟩ => (if_neg (show ¬ (4352 : ℕ) = 1 by decide)).symm
      | ⟨3, _⟩ => (if_neg (show ¬ (96 : ℕ) = 1 by decide)).symm)).trans ?_
  refine (transpose_apply [0, 2, 1, 3] x0 transposes_S2x4352x4x96_S2x4x4352x96_0_2_1_3 _
    (fun a => match a with
      | ⟨0, _⟩ => ⟨(i 0).val, (i 0).isLt⟩
      | ⟨1, _⟩ => ⟨(i 3).val, (i 3).isLt⟩
      | ⟨2, _⟩ => ⟨(i 1).val, (i 1).isLt⟩
      | ⟨3, _⟩ => ⟨(i 4).val, (i 4).isLt⟩)
    (fun b => match b with
      | ⟨0, _⟩ => rfl
      | ⟨1, _⟩ => rfl
      | ⟨2, _⟩ => rfl
      | ⟨3, _⟩ => rfl)).trans ?_
  rw [H.q]

theorem gArr_apply (H : Holds A x0 x1 x2 x3) (i : S2x4x1x4352x64.Idx) :
    gArr x3 i = (A.g (i 0).val (i 3).val (i 1).val (i 4).val : EReal) := by
  unfold gArr
  refine (broadcastInDim_apply _ bcast_S2x4x4352x64_S2x4x1x4352x64_0_1_3_4 _ i
    (fun a => match a with
      | ⟨0, _⟩ => ⟨(i 0).val, (i 0).isLt⟩
      | ⟨1, _⟩ => ⟨(i 1).val, (i 1).isLt⟩
      | ⟨2, _⟩ => ⟨(i 3).val, (i 3).isLt⟩
      | ⟨3, _⟩ => ⟨(i 4).val, (i 4).isLt⟩)
    (fun a => match a with
      | ⟨0, _⟩ => (if_neg (show ¬ (2 : ℕ) = 1 by decide)).symm
      | ⟨1, _⟩ => (if_neg (show ¬ (4 : ℕ) = 1 by decide)).symm
      | ⟨2, _⟩ => (if_neg (show ¬ (4352 : ℕ) = 1 by decide)).symm
      | ⟨3, _⟩ => (if_neg (show ¬ (64 : ℕ) = 1 by decide)).symm)).trans ?_
  refine (transpose_apply [0, 2, 1, 3] x3 transposes_S2x4352x4x64_S2x4x4352x64_0_2_1_3 _
    (fun a => match a with
      | ⟨0, _⟩ => ⟨(i 0).val, (i 0).isLt⟩
      | ⟨1, _⟩ => ⟨(i 3).val, (i 3).isLt⟩
      | ⟨2, _⟩ => ⟨(i 1).val, (i 1).isLt⟩
      | ⟨3, _⟩ => ⟨(i 4).val, (i 4).isLt⟩)
    (fun b => match b with
      | ⟨0, _⟩ => rfl
      | ⟨1, _⟩ => rfl
      | ⟨2, _⟩ => rfl
      | ⟨3, _⟩ => rfl)).trans ?_
  rw [H.g]

theorem kArr_apply (H : Holds A x0 x1 x2 x3) (i : S2x4x96x4352.Idx) :
    kArr x1 i = (A.k (i 0).val (i 3).val (i 1).val (i 2).val : EReal) := by
  show transpose S2x4x96x4352 [0, 2, 3, 1] x1 transposes_S2x4352x4x96_S2x4x96x4352_0_2_3_1 i = _
  refine (transpose_apply [0, 2, 3, 1] x1 transposes_S2x4352x4x96_S2x4x96x4352_0_2_3_1 _
    (fun a => match a with
      | ⟨0, _⟩ => ⟨(i 0).val, (i 0).isLt⟩
      | ⟨1, _⟩ => ⟨(i 3).val, (i 3).isLt⟩
      | ⟨2, _⟩ => ⟨(i 1).val, (i 1).isLt⟩
      | ⟨3, _⟩ => ⟨(i 2).val, (i 2).isLt⟩)
    (fun b => match b with
      | ⟨0, _⟩ => rfl
      | ⟨1, _⟩ => rfl
      | ⟨2, _⟩ => rfl
      | ⟨3, _⟩ => rfl)).trans ?_
  rw [H.k]

theorem vArr_apply (H : Holds A x0 x1 x2 x3) (i : S2x4x64x4352.Idx) :
    vArr x2 i = (A.v (i 0).val (i 3).val (i 1).val (i 2).val : EReal) := by
  show transpose S2x4x64x4352 [0, 2, 3, 1] x2 transposes_S2x4352x4x64_S2x4x64x4352_0_2_3_1 i = _
  refine (transpose_apply [0, 2, 3, 1] x2 transposes_S2x4352x4x64_S2x4x64x4352_0_2_3_1 _
    (fun a => match a with
      | ⟨0, _⟩ => ⟨(i 0).val, (i 0).isLt⟩
      | ⟨1, _⟩ => ⟨(i 3).val, (i 3).isLt⟩
      | ⟨2, _⟩ => ⟨(i 1).val, (i 1).isLt⟩
      | ⟨3, _⟩ => ⟨(i 2).val, (i 2).isLt⟩)
    (fun b => match b with
      | ⟨0, _⟩ => rfl
      | ⟨1, _⟩ => rfl
      | ⟨2, _⟩ => rfl
      | ⟨3, _⟩ => rfl)).trans ?_
  rw [H.v]

/-- The forward output at row `r`, feature `w`. -/
def outVal (A : Call) (b h r w : ℕ) : ℝ :=
  if r < 4096 then ∑ j : Fin 4352, prob A 0 4352 b h r j.val * A.v b j.val h w
  else ∑ j : Fin 256, prob A 4096 256 b h r (4096 + j.val) * A.v b (4096 + j.val) h w
/-- The logarithm of row `r`'s sum of exponentials, from the number `m` subtracted before the exponential. -/
def lseVal (A : Call) (x0 x1 : Wide) (b h r : ℕ) : ℝ :=
  if r < 4096 then mlat x0 x1 b h r + Real.log (llat A x0 x1 b h r)
  else mctx x0 x1 b h (r - 4096) + Real.log (lctx A x0 x1 b h (r - 4096))

theorem outArr_apply (H : Holds A x0 x1 x2 x3) (i : S2x4x1x4352x64.Idx) :
    outArr x0 x1 x2 i = (outVal A (i 0).val (i 1).val (i 3).val (i 4).val : EReal) := by
  unfold outArr
  refine (broadcastInDim_apply _ bcast_S2x4x4352x64_S2x4x1x4352x64_0_1_3_4 _ i
    (fun a => match a with
      | ⟨0, _⟩ => ⟨(i 0).val, (i 0).isLt⟩
      | ⟨1, _⟩ => ⟨(i 1).val, (i 1).isLt⟩
      | ⟨2, _⟩ => ⟨(i 3).val, (i 3).isLt⟩
      | ⟨3, _⟩ => ⟨(i 4).val, (i 4).isLt⟩)
    (fun a => match a with
      | ⟨0, _⟩ => (if_neg (show ¬ (2 : ℕ) = 1 by decide)).symm
      | ⟨1, _⟩ => (if_neg (show ¬ (4 : ℕ) = 1 by decide)).symm
      | ⟨2, _⟩ => (if_neg (show ¬ (4352 : ℕ) = 1 by decide)).symm
      | ⟨3, _⟩ => (if_neg (show ¬ (64 : ℕ) = 1 by decide)).symm)).trans ?_
  have h3 : (i 3).val < 4352 := (i 3).isLt
  rw [outVal]
  split
  next h =>
    refine (concatenate_pair_apply_left (t := S2x4x4352x64) (s₁ := S2x4x4096x64) (s₂ := S2x4x256x64) 2 _ _ _
      (fun a => match a with
        | ⟨0, _⟩ => ⟨(i 0).val, (i 0).isLt⟩
        | ⟨1, _⟩ => ⟨(i 1).val, (i 1).isLt⟩
        | ⟨2, _⟩ => ⟨(i 3).val, (i 3).isLt⟩
        | ⟨3, _⟩ => ⟨(i 4).val, (i 4).isLt⟩) rfl
      (fun a => match a with
        | ⟨0, _⟩ => ⟨(i 0).val, (i 0).isLt⟩
        | ⟨1, _⟩ => ⟨(i 1).val, (i 1).isLt⟩
        | ⟨2, _⟩ => ⟨(i 3).val, h⟩
        | ⟨3, _⟩ => ⟨(i 4).val, (i 4).isLt⟩)
      (fun b => match b with
        | ⟨0, _⟩ => rfl
        | ⟨1, _⟩ => rfl
        | ⟨2, _⟩ => rfl
        | ⟨3, _⟩ => rfl)).trans ?_
    rw [out_lat H]
  next h =>
    refine (concatenate_pair_apply_right (t := S2x4x4352x64) (s₁ := S2x4x4096x64) (s₂ := S2x4x256x64) 2 _ _ _
      (fun a => match a with
        | ⟨0, _⟩ => ⟨(i 0).val, (i 0).isLt⟩
        | ⟨1, _⟩ => ⟨(i 1).val, (i 1).isLt⟩
        | ⟨2, _⟩ => ⟨(i 3).val, (i 3).isLt⟩
        | ⟨3, _⟩ => ⟨(i 4).val, (i 4).isLt⟩) rfl rfl
      (fun a => match a with
        | ⟨0, _⟩ => ⟨(i 0).val, (i 0).isLt⟩
        | ⟨1, _⟩ => ⟨(i 1).val, (i 1).isLt⟩
        | ⟨2, _⟩ => ⟨(i 3).val - 4096, by show (i 3).val - 4096 < 256; omega⟩
        | ⟨3, _⟩ => ⟨(i 4).val, (i 4).isLt⟩)
      (fun b => match b with
        | ⟨0, _⟩ => fun _ => rfl
        | ⟨1, _⟩ => fun _ => rfl
        | ⟨2, _⟩ => fun hb => absurd rfl hb
        | ⟨3, _⟩ => fun _ => rfl) (by show (i 3).val - 4096 + 4096 = (i 3).val; omega)).trans ?_
    rw [out_ctx H]
    have hr : 4096 + ((i 3).val - 4096) = (i 3).val := by omega
    show ((∑ j : Fin 256, prob A 4096 256 (i 0).val (i 1).val (4096 + ((i 3).val - 4096)) (4096 + j.val)
      * A.v (i 0).val (4096 + j.val) (i 1).val (i 4).val : ℝ) : EReal) = _
    rw [hr]

theorem lseArr_apply (H : Holds A x0 x1 x2 x3) (i : S2x4x1x4352x128.Idx) :
    lseArr x0 x1 i = (lseVal A x0 x1 (i 0).val (i 1).val (i 3).val : EReal) := by
  unfold lseArr
  refine (broadcastInDim_apply _ bcast_S2x4x1x4352x1_S2x4x1x4352x128_0_1_2_3_4 _ i
    (fun a => match a with
      | ⟨0, _⟩ => ⟨(i 0).val, (i 0).isLt⟩
      | ⟨1, _⟩ => ⟨(i 1).val, (i 1).isLt⟩
      | ⟨2, _⟩ => ⟨0, Nat.one_pos⟩
      | ⟨3, _⟩ => ⟨(i 3).val, (i 3).isLt⟩
      | ⟨4, _⟩ => ⟨0, Nat.one_pos⟩)
    (fun a => match a with
      | ⟨0, _⟩ => (if_neg (show ¬ (2 : ℕ) = 1 by decide)).symm
      | ⟨1, _⟩ => (if_neg (show ¬ (4 : ℕ) = 1 by decide)).symm
      | ⟨2, _⟩ => (if_pos (show (1 : ℕ) = 1 from rfl)).symm
      | ⟨3, _⟩ => (if_neg (show ¬ (4352 : ℕ) = 1 by decide)).symm
      | ⟨4, _⟩ => (if_pos (show (1 : ℕ) = 1 from rfl)).symm)).trans ?_
  refine (broadcastInDim_apply _ bcast_S2x4x4352x1_S2x4x1x4352x1_0_1_3_4 _ _
    (fun a => match a with
      | ⟨0, _⟩ => ⟨(i 0).val, (i 0).isLt⟩
      | ⟨1, _⟩ => ⟨(i 1).val, (i 1).isLt⟩
      | ⟨2, _⟩ => ⟨(i 3).val, (i 3).isLt⟩
      | ⟨3, _⟩ => ⟨0, Nat.one_pos⟩)
    (fun a => match a with
      | ⟨0, _⟩ => (if_neg (show ¬ (2 : ℕ) = 1 by decide)).symm
      | ⟨1, _⟩ => (if_neg (show ¬ (4 : ℕ) = 1 by decide)).symm
      | ⟨2, _⟩ => (if_neg (show ¬ (4352 : ℕ) = 1 by decide)).symm
      | ⟨3, _⟩ => (if_pos (show (1 : ℕ) = 1 from rfl)).symm)).trans ?_
  have h3 : (i 3).val < 4352 := (i 3).isLt
  rw [lseVal]
  split
  next h =>
    refine (concatenate_pair_apply_left (t := S2x4x4352x1) (s₁ := S2x4x4096x1) (s₂ := S2x4x256x1) 2 _ _ _
      (fun a => match a with
        | ⟨0, _⟩ => ⟨(i 0).val, (i 0).isLt⟩
        | ⟨1, _⟩ => ⟨(i 1).val, (i 1).isLt⟩
        | ⟨2, _⟩ => ⟨(i 3).val, (i 3).isLt⟩
        | ⟨3, _⟩ => ⟨0, Nat.one_pos⟩) rfl
      (fun a => match a with
        | ⟨0, _⟩ => ⟨(i 0).val, (i 0).isLt⟩
        | ⟨1, _⟩ => ⟨(i 1).val, (i 1).isLt⟩
        | ⟨2, _⟩ => ⟨(i 3).val, h⟩
        | ⟨3, _⟩ => ⟨0, Nat.one_pos⟩)
      (fun b => match b with
        | ⟨0, _⟩ => rfl
        | ⟨1, _⟩ => rfl
        | ⟨2, _⟩ => rfl
        | ⟨3, _⟩ => rfl)).trans ?_
    rw [lse_lat H]
  next h =>
    refine (concatenate_pair_apply_right (t := S2x4x4352x1) (s₁ := S2x4x4096x1) (s₂ := S2x4x256x1) 2 _ _ _
      (fun a => match a with
        | ⟨0, _⟩ => ⟨(i 0).val, (i 0).isLt⟩
        | ⟨1, _⟩ => ⟨(i 1).val, (i 1).isLt⟩
        | ⟨2, _⟩ => ⟨(i 3).val, (i 3).isLt⟩
        | ⟨3, _⟩ => ⟨0, Nat.one_pos⟩) rfl rfl
      (fun a => match a with
        | ⟨0, _⟩ => ⟨(i 0).val, (i 0).isLt⟩
        | ⟨1, _⟩ => ⟨(i 1).val, (i 1).isLt⟩
        | ⟨2, _⟩ => ⟨(i 3).val - 4096, by show (i 3).val - 4096 < 256; omega⟩
        | ⟨3, _⟩ => ⟨0, Nat.one_pos⟩)
      (fun b => match b with
        | ⟨0, _⟩ => fun _ => rfl
        | ⟨1, _⟩ => fun _ => rfl
        | ⟨2, _⟩ => fun hb => absurd rfl hb
        | ⟨3, _⟩ => fun _ => rfl) (by show (i 3).val - 4096 + 4096 = (i 3).val; omega)).trans ?_
    rw [lse_ctx H]

/-! ## The two facts the backward pass uses of them -/

/-- A latent row's probability from its score and the logarithm of the row's sum. -/
theorem prob_of_lse_lat (x0 x1 : Wide) (b h r j : ℕ) (hr : r < 4096) :
    Real.exp (score A b h r j - lseVal A x0 x1 b h r) = prob A 0 4352 b h r j := by
  rw [lseVal, if_pos hr]
  exact prob_lse A 0 4352 b h r j _ (by decide)
/-- A context row's. -/
theorem prob_of_lse_ctx (x0 x1 : Wide) (b h r j : ℕ) (hr : 4096 ≤ r) :
    Real.exp (score A b h r j - lseVal A x0 x1 b h r) = prob A 4096 256 b h r j := by
  rw [lseVal, if_neg (Nat.not_lt.mpr hr)]
  have e : 4096 + (r - 4096) = r := by omega
  have := prob_lse A 4096 256 b h r j (mctx x0 x1 b h (r - 4096)) (by decide)
  rw [lctx, e]
  exact this
/-- The inner product of a row's arriving gradient with its output is the mean of the arriving score gradient. -/
theorem mean_lat (b h r : ℕ) (hr : r < 4096) : ∑ w : Fin 64, A.g b r h w.val * outVal A b h r w.val = mean A 0 4352 b h r := by
  simp only [outVal, if_pos hr]
  have := mean_eq_out A 0 4352 b h r
  simpa only [Nat.zero_add] using this
theorem mean_ctx (b h r : ℕ) (hr : 4096 ≤ r) : ∑ w : Fin 64, A.g b r h w.val * outVal A b h r w.val = mean A 4096 256 b h r := by
  simp only [outVal, if_neg (Nat.not_lt.mpr hr)]
  exact mean_eq_out A 4096 256 b h r

end Cert.HostValue

end
-- ==== Proof.Tile.lean ====
/- One tile of the attention's backward pass, over the reals: what the kernel's tile of 256 query rows computes when its
   loads hold finite numbers. Two widths: a latent row's 4,352 keys, a context row's 256. -/
module

public import proofs.«01_k».proof.Proof.Gen.KernelIdeal.Skeleton
public import proofs.«01_k».proof.Proof.HostValue
public import Idealize.ShloMosaic.PureOps.Ideal
public import Idealize.ShloMosaic.Lib.Pointwise

@[expose] public section

set_option maxRecDepth 16384

noncomputable section

namespace Cert.Tile

open Cert.KernelIdeal Cert.KernelIdeal.Gen Cert.Model Cert.HostValue
open Cert.RefValue (Wide)
open Idealize.ShloMosaic Idealize.ShloMosaic.TcCoe Idealize.ShloMosaic.Tactic

/-! ## Latent rows -/

/-- The tile's loads hold rows `R …` of batch `b`, head `h`, and the 4,352 keys. -/
structure LatTile (A : Call) (x0 x1 : Wide) (b h R : ℕ) (kt : FVec Ideal S96x4352 .bf16) (vt : FVec Ideal S64x4352 .bf16) (q : FVec Ideal S256x96 .bf16)
    (o : FVec Ideal S1x1x1x256x64 .f32) (l : FVec Ideal S1x1x1x256x128 .f32) (g : FVec Ideal S1x1x1x256x64 .f32) : Prop where
  c : Ideal.ofBits FTy.f32 0x3DD105EC#32 = (A.c : EReal)
  k : ∀ (d : Fin 96) (j : Fin 4352), kt (ix2 d j) = (A.k b j.val h d.val : EReal)
  v : ∀ (w : Fin 64) (j : Fin 4352), vt (ix2 w j) = (A.v b j.val h w.val : EReal)
  q : ∀ (r : Fin 256) (d : Fin 96), q (ix2 r d) = (A.q b (R + r.val) h d.val : EReal)
  o : ∀ (r : Fin 256) (w : Fin 64), o (ix5 0 0 0 r w) = (outVal A b h (R + r.val) w.val : EReal)
  l : ∀ r : Fin 256, l (ix5 0 0 0 r 0) = (lseVal A x0 x1 b h (R + r.val) : EReal)
  g : ∀ (r : Fin 256) (w : Fin 64), g (ix5 0 0 0 r w) = (A.g b (R + r.val) h w.val : EReal)

section LatTile

variable {A : Call} {x0 x1 : Wide} {b h R : ℕ} {kt : FVec Ideal S96x4352 .bf16} {vt : FVec Ideal S64x4352 .bf16} {q : FVec Ideal S256x96 .bf16}
  {o : FVec Ideal S1x1x1x256x64 .f32} {l : FVec Ideal S1x1x1x256x128 .f32} {g : FVec Ideal S1x1x1x256x64 .f32}

/-- The probability of a key in a row. -/
theorem LatTile.prob (T : LatTile A x0 x1 b h R kt vt q o l g) (hR : R + 256 ≤ 4096) (r : Fin 256) (j : Fin 4352) :
    k0_pay1678 kt q l (ix2 r j) = (pLat A b h (R + r.val) j.val : EReal) := by
  have e : k0_pay1678 kt q l (ix2 r j) = Ideal.exp ((∑ k : Fin 96, q (ix2 r k) * kt (ix2 k j)) * Ideal.ofBits FTy.f32 0x3DD105EC#32 - l (ix5 0 0 0 r 0)) := by
    unfold k0_pay1678
    pointwise
  rw [e]
  simp only [T.c, T.k, T.q, T.l, ← EReal.coe_mul, coe_sum, ← EReal.coe_sub, Ideal.exp_coe]
  rw [pLat, ← prob_of_lse_lat x0 x1 b h (R + r.val) j.val (by omega)]
  rfl

/-- The gradient of the unscaled score. -/
theorem LatTile.ds (T : LatTile A x0 x1 b h R kt vt q o l g) (hR : R + 256 ≤ 4096) (r : Fin 256) (j : Fin 4352) :
    k0_pay1680 kt vt q o l g (ix2 r j) = (dsLat A b h (R + r.val) j.val : EReal) := by
  have e : k0_pay1680 kt vt q o l g (ix2 r j) = Ideal.exp ((∑ k : Fin 96, q (ix2 r k) * kt (ix2 k j)) * Ideal.ofBits FTy.f32 0x3DD105EC#32 - l (ix5 0 0 0 r 0))
      * (∑ x : Fin 64, g (ix5 0 0 0 r x) * vt (ix2 x j) - ∑ x : Fin 64, g (ix5 0 0 0 r x) * o (ix5 0 0 0 r x)) * Ideal.ofBits FTy.f32 0x3DD105EC#32 := by
    unfold_payloads
    pointwise
  rw [e]
  simp only [T.c, T.k, T.v, T.o, T.g, T.q, T.l, ← EReal.coe_mul, coe_sum, ← EReal.coe_sub, Ideal.exp_coe]
  rw [dsLat, dscore, dprob, ← prob_of_lse_lat x0 x1 b h (R + r.val) j.val (by omega), ← mean_lat (A := A) b h (R + r.val) (by omega)]
  rfl

/-- The tile's rows of the query gradient. -/
theorem LatTile.dq (T : LatTile A x0 x1 b h R kt vt q o l g) (hR : R + 256 ≤ 4096) (r : Fin 256) (d : Fin 96) :
    k0_pay1683 kt vt q o l g (ix5 0 0 0 r d) = (Model.dq A b h (R + r.val) d.val : EReal) := by
  have e : k0_pay1683 kt vt q o l g (ix5 0 0 0 r d) = ∑ j : Fin 4352, k0_pay1680 kt vt q o l g (ix2 r j) * kt (ix2 d j) := by
    unfold k0_pay1683
    pointwise
  rw [e]
  simp only [T.ds hR, T.k, ← EReal.coe_mul, coe_sum]
  rw [Model.dq, if_pos (by omega)]

/-- The tile's contribution to the key gradient. -/
theorem LatTile.dk (T : LatTile A x0 x1 b h R kt vt q o l g) (hR : R + 256 ≤ 4096) (d : Fin 96) (j : Fin 4352) :
    k0_pay1682 kt vt q o l g (ix2 d j) = (∑ r : Fin 256, dsLat A b h (R + r.val) j.val * A.q b (R + r.val) h d.val : ℝ) := by
  have e : k0_pay1682 kt vt q o l g (ix2 d j) = ∑ r : Fin 256, q (ix2 r d) * k0_pay1680 kt vt q o l g (ix2 r j) := by
    unfold k0_pay1682
    pointwise
  rw [e]
  simp only [T.ds hR, T.q, ← EReal.coe_mul, coe_sum]
  exact congrArg _ (Finset.sum_congr rfl fun r _ => mul_comm _ _)

/-- The tile's contribution to the value gradient. -/
theorem LatTile.dv (T : LatTile A x0 x1 b h R kt vt q o l g) (hR : R + 256 ≤ 4096) (w : Fin 64) (j : Fin 4352) :
    k0_pay1681 kt q l g (ix2 w j) = (∑ r : Fin 256, A.g b (R + r.val) h w.val * pLat A b h (R + r.val) j.val : ℝ) := by
  have e : k0_pay1681 kt q l g (ix2 w j) = ∑ r : Fin 256, g (ix5 0 0 0 r w) * k0_pay1678 kt q l (ix2 r j) := by
    unfold k0_pay1681
    pointwise
    unfold_payloads
    pointwise
  rw [e]
  simp only [T.prob hR, T.g, ← EReal.coe_mul, coe_sum]

/-- The first batch's tile takes its queries before their rounding; otherwise the two batches' tiles are one. -/
theorem LatTile.dk0 (kt : FVec Ideal S96x4352 .bf16) (vt : FVec Ideal S64x4352 .bf16) (q : FVec Ideal S256x96 .f32) (o : FVec Ideal S1x1x1x256x64 .f32)
    (l : FVec Ideal S1x1x1x256x128 .f32) (g : FVec Ideal S1x1x1x256x64 .f32) :
    k0_pay1669 kt vt q o l g = k0_pay1682 kt vt (k0_pay1663 q) o l g := rfl
theorem LatTile.dv0 (kt : FVec Ideal S96x4352 .bf16) (q : FVec Ideal S256x96 .f32)
    (l : FVec Ideal S1x1x1x256x128 .f32) (g : FVec Ideal S1x1x1x256x64 .f32) :
    k0_pay1668 kt q l g = k0_pay1681 kt (k0_pay1663 q) l g := rfl
theorem LatTile.dq0 (kt : FVec Ideal S96x4352 .bf16) (vt : FVec Ideal S64x4352 .bf16) (q : FVec Ideal S256x96 .f32) (o : FVec Ideal S1x1x1x256x64 .f32)
    (l : FVec Ideal S1x1x1x256x128 .f32) (g : FVec Ideal S1x1x1x256x64 .f32) (r : Fin 256) (d : Fin 96) :
    k0_pay1671 (k0_pay1670 kt vt q o l g) (ix5 0 0 0 r d) = k0_pay1683 kt vt (k0_pay1663 q) o l g (ix5 0 0 0 r d) := by
  have e : k0_pay1683 kt vt (k0_pay1663 q) o l g (ix5 0 0 0 r d) = ∑ j : Fin 4352, k0_pay1680 kt vt (k0_pay1663 q) o l g (ix2 r j) * kt (ix2 d j) := by
    unfold k0_pay1683
    pointwise
  rw [e]
  unfold k0_pay1671 k0_pay1670
  pointwise
  rfl

/-- The accumulations add a tile's contribution to what the block holds. -/
theorem LatTile.addk0 (x : FVec Ideal S96x4352 .f32) (y : FVec Ideal S1x1x96x4352 .f32) (d : Fin 96) (j : Fin 4352) :
    k0_pay1672 x y (ix4 0 0 d j) = y (ix4 0 0 d j) + x (ix2 d j) := by
  unfold k0_pay1672
  pointwise
theorem LatTile.addv0 (x : FVec Ideal S64x4352 .f32) (y : FVec Ideal S1x1x64x4352 .f32) (d : Fin 64) (j : Fin 4352) :
    k0_pay1673 x y (ix4 0 0 d j) = y (ix4 0 0 d j) + x (ix2 d j) := by
  unfold k0_pay1673
  pointwise
theorem LatTile.addk1 (x : FVec Ideal S96x4352 .f32) (y : FVec Ideal S1x1x96x4352 .f32) (d : Fin 96) (j : Fin 4352) :
    k0_pay5 x y (ix4 0 0 d j) = y (ix4 0 0 d j) + x (ix2 d j) := by
  unfold k0_pay5
  pointwise
theorem LatTile.addv1 (x : FVec Ideal S64x4352 .f32) (y : FVec Ideal S1x1x64x4352 .f32) (d : Fin 64) (j : Fin 4352) :
    k0_pay6 x y (ix4 0 0 d j) = y (ix4 0 0 d j) + x (ix2 d j) := by
  unfold k0_pay6
  pointwise

end LatTile

/-! ## Context rows -/

/-- The tile's loads hold rows `R …` of batch `b`, head `h`, and the 256 keys from 4,096 on. -/
structure CtxTile (A : Call) (x0 x1 : Wide) (b h R : ℕ) (kt : FVec Ideal S96x256 .bf16) (vt : FVec Ideal S64x256 .bf16) (q : FVec Ideal S256x96 .bf16)
    (o : FVec Ideal S1x1x1x256x64 .f32) (l : FVec Ideal S1x1x1x256x128 .f32) (g : FVec Ideal S1x1x1x256x64 .f32) : Prop where
  c : Ideal.ofBits FTy.f32 0x3DD105EC#32 = (A.c : EReal)
  k : ∀ (d : Fin 96) (j : Fin 256), kt (ix2 d j) = (A.k b (4096 + j.val) h d.val : EReal)
  v : ∀ (w : Fin 64) (j : Fin 256), vt (ix2 w j) = (A.v b (4096 + j.val) h w.val : EReal)
  q : ∀ (r : Fin 256) (d : Fin 96), q (ix2 r d) = (A.q b (R + r.val) h d.val : EReal)
  o : ∀ (r : Fin 256) (w : Fin 64), o (ix5 0 0 0 r w) = (outVal A b h (R + r.val) w.val : EReal)
  l : ∀ r : Fin 256, l (ix5 0 0 0 r 0) = (lseVal A x0 x1 b h (R + r.val) : EReal)
  g : ∀ (r : Fin 256) (w : Fin 64), g (ix5 0 0 0 r w) = (A.g b (R + r.val) h w.val : EReal)

section CtxTile

variable {A : Call} {x0 x1 : Wide} {b h R : ℕ} {kt : FVec Ideal S96x256 .bf16} {vt : FVec Ideal S64x256 .bf16} {q : FVec Ideal S256x96 .bf16}
  {o : FVec Ideal S1x1x1x256x64 .f32} {l : FVec Ideal S1x1x1x256x128 .f32} {g : FVec Ideal S1x1x1x256x64 .f32}

/-- The probability of a key in a row. -/
theorem CtxTile.prob (T : CtxTile A x0 x1 b h R kt vt q o l g) (hR : 4096 ≤ R) (r : Fin 256) (j : Fin 256) :
    k0_pay3353 kt q l (ix2 r j) = (pCtx A b h (R + r.val) (4096 + j.val) : EReal) := by
  have e : k0_pay3353 kt q l (ix2 r j) = Ideal.exp ((∑ k : Fin 96, q (ix2 r k) * kt (ix2 k j)) * Ideal.ofBits FTy.f32 0x3DD105EC#32 - l (ix5 0 0 0 r 0)) := by
    unfold k0_pay3353
    pointwise
  rw [e]
  simp only [T.c, T.k, T.q, T.l, ← EReal.coe_mul, coe_sum, ← EReal.coe_sub, Ideal.exp_coe]
  rw [pCtx, ← prob_of_lse_ctx x0 x1 b h (R + r.val) (4096 + j.val) (by omega)]
  rfl

/-- The gradient of the unscaled score. -/
theorem CtxTile.ds (T : CtxTile A x0 x1 b h R kt vt q o l g) (hR : 4096 ≤ R) (r : Fin 256) (j : Fin 256) :
    k0_pay3355 kt vt q o l g (ix2 r j) = (dsCtx A b h (R + r.val) (4096 + j.val) : EReal) := by
  have e : k0_pay3355 kt vt q o l g (ix2 r j) = Ideal.exp ((∑ k : Fin 96, q (ix2 r k) * kt (ix2 k j)) * Ideal.ofBits FTy.f32 0x3DD105EC#32 - l (ix5 0 0 0 r 0))
      * (∑ x : Fin 64, g (ix5 0 0 0 r x) * vt (ix2 x j) - ∑ x : Fin 64, g (ix5 0 0 0 r x) * o (ix5 0 0 0 r x)) * Ideal.ofBits FTy.f32 0x3DD105EC#32 := by
    unfold_payloads
    pointwise
  rw [e]
  simp only [T.c, T.k, T.v, T.o, T.g, T.q, T.l, ← EReal.coe_mul, coe_sum, ← EReal.coe_sub, Ideal.exp_coe]
  rw [dsCtx, dscore, dprob, ← prob_of_lse_ctx x0 x1 b h (R + r.val) (4096 + j.val) (by omega), ← mean_ctx (A := A) b h (R + r.val) (by omega)]
  rfl

/-- The tile's rows of the query gradient. -/
theorem CtxTile.dq (T : CtxTile A x0 x1 b h R kt vt q o l g) (hR : 4096 ≤ R) (r : Fin 256) (d : Fin 96) :
    k0_pay3358 kt vt q o l g (ix5 0 0 0 r d) = (Model.dq A b h (R + r.val) d.val : EReal) := by
  have e : k0_pay3358 kt vt q o l g (ix5 0 0 0 r d) = ∑ j : Fin 256, k0_pay3355 kt vt q o l g (ix2 r j) * kt (ix2 d j) := by
    unfold k0_pay3358
    pointwise
  rw [e]
  simp only [T.ds hR, T.k, ← EReal.coe_mul, coe_sum]
  rw [Model.dq, if_neg (by omega)]

/-- The tile's contribution to the key gradient. -/
theorem CtxTile.dk (T : CtxTile A x0 x1 b h R kt vt q o l g) (hR : 4096 ≤ R) (d : Fin 96) (j : Fin 256) :
    k0_pay3357 kt vt q o l g (ix2 d j) = (∑ r : Fin 256, dsCtx A b h (R + r.val) (4096 + j.val) * A.q b (R + r.val) h d.val : ℝ) := by
  have e : k0_pay3357 kt vt q o l g (ix2 d j) = ∑ r : Fin 256, q (ix2 r d) * k0_pay3355 kt vt q o l g (ix2 r j) := by
    unfold k0_pay3357
    pointwise
  rw [e]
  simp only [T.ds hR, T.q, ← EReal.coe_mul, coe_sum]
  exact congrArg _ (Finset.sum_congr rfl fun r _ => mul_comm _ _)

/-- The tile's contribution to the value gradient. -/
theorem CtxTile.dv (T : CtxTile A x0 x1 b h R kt vt q o l g) (hR : 4096 ≤ R) (w : Fin 64) (j : Fin 256) :
    k0_pay3356 kt q l g (ix2 w j) = (∑ r : Fin 256, A.g b (R + r.val) h w.val * pCtx A b h (R + r.val) (4096 + j.val) : ℝ) := by
  have e : k0_pay3356 kt q l g (ix2 w j) = ∑ r : Fin 256, g (ix5 0 0 0 r w) * k0_pay3353 kt q l (ix2 r j) := by
    unfold k0_pay3356
    pointwise
    unfold_payloads
    pointwise
  rw [e]
  simp only [T.prob hR, T.g, ← EReal.coe_mul, coe_sum]

/-- The first batch's tile takes its queries before their rounding; otherwise the two batches' tiles are one. -/
theorem CtxTile.dk0 (kt : FVec Ideal S96x256 .bf16) (vt : FVec Ideal S64x256 .bf16) (q : FVec Ideal S256x96 .f32) (o : FVec Ideal S1x1x1x256x64 .f32)
    (l : FVec Ideal S1x1x1x256x128 .f32) (g : FVec Ideal S1x1x1x256x64 .f32) :
    k0_pay3344 kt vt q o l g = k0_pay3357 kt vt (k0_pay3338 q) o l g := rfl
theorem CtxTile.dv0 (kt : FVec Ideal S96x256 .bf16) (q : FVec Ideal S256x96 .f32)
    (l : FVec Ideal S1x1x1x256x128 .f32) (g : FVec Ideal S1x1x1x256x64 .f32) :
    k0_pay3343 kt q l g = k0_pay3356 kt (k0_pay3338 q) l g := rfl
theorem CtxTile.dq0 (kt : FVec Ideal S96x256 .bf16) (vt : FVec Ideal S64x256 .bf16) (q : FVec Ideal S256x96 .f32) (o : FVec Ideal S1x1x1x256x64 .f32)
    (l : FVec Ideal S1x1x1x256x128 .f32) (g : FVec Ideal S1x1x1x256x64 .f32) (r : Fin 256) (d : Fin 96) :
    k0_pay3346 (k0_pay3345 kt vt q o l g) (ix5 0 0 0 r d) = k0_pay3358 kt vt (k0_pay3338 q) o l g (ix5 0 0 0 r d) := by
  have e : k0_pay3358 kt vt (k0_pay3338 q) o l g (ix5 0 0 0 r d) = ∑ j : Fin 256, k0_pay3355 kt vt (k0_pay3338 q) o l g (ix2 r j) * kt (ix2 d j) := by
    unfold k0_pay3358
    pointwise
  rw [e]
  unfold k0_pay3346 k0_pay3345
  pointwise
  rfl

/-- The accumulations add a tile's contribution to what the block holds. -/
theorem CtxTile.addk0 (x : FVec Ideal S96x256 .f32) (y : FVec Ideal S1x1x96x256 .f32) (d : Fin 96) (j : Fin 256) :
    k0_pay3347 x y (ix4 0 0 d j) = y (ix4 0 0 d j) + x (ix2 d j) := by
  unfold k0_pay3347
  pointwise
theorem CtxTile.addv0 (x : FVec Ideal S64x256 .f32) (y : FVec Ideal S1x1x64x256 .f32) (d : Fin 64) (j : Fin 256) :
    k0_pay3348 x y (ix4 0 0 d j) = y (ix4 0 0 d j) + x (ix2 d j) := by
  unfold k0_pay3348
  pointwise
theorem CtxTile.addk1 (x : FVec Ideal S96x256 .f32) (y : FVec Ideal S1x1x96x256 .f32) (d : Fin 96) (j : Fin 256) :
    k0_pay7 x y (ix4 0 0 d j) = y (ix4 0 0 d j) + x (ix2 d j) := by
  unfold k0_pay7
  pointwise
theorem CtxTile.addv1 (x : FVec Ideal S64x256 .f32) (y : FVec Ideal S1x1x64x256 .f32) (d : Fin 64) (j : Fin 256) :
    k0_pay8 x y (ix4 0 0 d j) = y (ix4 0 0 d j) + x (ix2 d j) := by
  unfold k0_pay8
  pointwise

end CtxTile

end Cert.Tile

end
-- ==== Proof.Loads.lean ====
/- The loads of one grid point: its rows of queries, outputs and gradients, and its head's keys and values, over the reals. -/
module

public import proofs.«01_k».proof.Proof.Outs
public import proofs.«01_k».proof.Proof.Tile
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen Cert.Model Cert.HostValue Cert.Tile
open Cert.RefValue (Wide)
open Idealize.ShloMosaic Idealize.ShloMosaic.TcCoe Idealize.ShloMosaic.Tactic
open Idealize.SL.Sem

/-- The point's input blocks hold rows `R …` of head `h` for both batches. -/
structure Blocks (A : Call) (x0 x1 : Wide) (h R : ℕ) (X0 : Vec Ideal S2x1x1x256x96 .f32) (X1 : Vec Ideal S2x1x96x4352 .bf16) (X2 : Vec Ideal S2x1x64x4352 .bf16)
    (X8 : Vec Ideal S2x1x1x256x64 .f32) (X9 : Vec Ideal S2x1x1x256x128 .f32) (X10 : Vec Ideal S2x1x1x256x64 .f32) : Prop where
  c : Ideal.ofBits FTy.f32 0x3DD105EC#32 = (A.c : EReal)
  q : ∀ (b : Fin 2) (r : Fin 256) (d : Fin 96), X0 (ix5 b 0 0 r d) = (A.q b.val (R + r.val) h d.val : EReal)
  k : ∀ (b : Fin 2) (d : Fin 96) (j : Fin 4352), X1 (ix4 b 0 d j) = (A.k b.val j.val h d.val : EReal)
  v : ∀ (b : Fin 2) (w : Fin 64) (j : Fin 4352), X2 (ix4 b 0 w j) = (A.v b.val j.val h w.val : EReal)
  o : ∀ (b : Fin 2) (r : Fin 256) (w : Fin 64), X8 (ix5 b 0 0 r w) = (outVal A b.val h (R + r.val) w.val : EReal)
  l : ∀ (b : Fin 2) (r : Fin 256), X9 (ix5 b 0 0 r 0) = (lseVal A x0 x1 b.val h (R + r.val) : EReal)
  g : ∀ (b : Fin 2) (r : Fin 256) (w : Fin 64), X10 (ix5 b 0 0 r w) = (A.g b.val (R + r.val) h w.val : EReal)

section Loads

variable {A : Call} {x0 x1 : Wide} {h R : ℕ} {X0 : Vec Ideal S2x1x1x256x96 .f32} {X1 : Vec Ideal S2x1x96x4352 .bf16} {X2 : Vec Ideal S2x1x64x4352 .bf16}
    {X8 : Vec Ideal S2x1x1x256x64 .f32} {X9 : Vec Ideal S2x1x1x256x128 .f32} {X10 : Vec Ideal S2x1x1x256x64 .f32}
    {a0 : Memref sig .tc .vmem S2x1x1x256x96 .f32} {a1 : Memref sig .tc .vmem S2x1x96x4352 .bf16} {a2 : Memref sig .tc .vmem S2x1x64x4352 .bf16}
    {a8 : Memref sig .tc .vmem S2x1x1x256x64 .f32} {a9 : Memref sig .tc .vmem S2x1x1x256x128 .f32} {a10 : Memref sig .tc .vmem S2x1x1x256x64 .f32}

/-- The loads of batch 0. -/
theorem Blocks.lat0 (B : Blocks A x0 x1 h R X0 X1 X2 X8 X9 X10) (h0 : a0.IsWhole) (h1 : a1.IsWhole) (h2 : a2.IsWhole) (h8 : a8.IsWhole)
    (h9 : a9.IsWhole) (h10 : a10.IsWhole) :
    LatTile A x0 x1 0 h R
      (k0_pay1660 (View.readAt (Elt Ideal) a1.view (Rect.unit (s := S2x1x96x4352) ![0, 0, 0, 0] ![1, 1, 96, 4352] inb_S2x1x96x4352_S1x1x96x4352_0_0_0_0).toLoadRect (h1.unread X1)))
      (k0_pay1661 (View.readAt (Elt Ideal) a2.view (Rect.unit (s := S2x1x64x4352) ![0, 0, 0, 0] ![1, 1, 64, 4352] inb_S2x1x64x4352_S1x1x64x4352_0_0_0_0).toLoadRect (h2.unread X2)))
      (k0_pay1663 (k0_pay1662 (View.readAt (Elt Ideal) a0.view (Rect.unit (s := S2x1x1x256x96) ![0, 0, 0, 0, 0] ![1, 1, 1, 256, 96] inb_S2x1x1x256x96_S1x1x1x256x96_0_0_0_0_0).toLoadRect (h0.unread X0))))
      (View.readAt (Elt Ideal) a8.view (Rect.unit (s := S2x1x1x256x64) ![0, 0, 0, 0, 0] ![1, 1, 1, 256, 64] inb_S2x1x1x256x64_S1x1x1x256x64_0_0_0_0_0).toLoadRect (h8.unread X8))
      (View.readAt (Elt Ideal) a9.view (Rect.unit (s := S2x1x1x256x128) ![0, 0, 0, 0, 0] ![1, 1, 1, 256, 128] inb_S2x1x1x256x128_S1x1x1x256x128_0_0_0_0_0).toLoadRect (h9.unread X9))
      (View.readAt (Elt Ideal) a10.view (Rect.unit (s := S2x1x1x256x64) ![0, 0, 0, 0, 0] ![1, 1, 1, 256, 64] inb_S2x1x1x256x64_S1x1x1x256x64_0_0_0_0_0).toLoadRect (h10.unread X10)) where
  c := B.c
  k d j := by
    unfold k0_pay1660
    pointwise
    rw [h1.readAt_unread X1]
    refine Eq.trans (congrArg X1 (funext fun a => Fin.ext ?_)) (B.k 0 d j)
    fin_cases a <;> simp [Rect.toLoadRect, LoadRect.idx, Rect.unit]
  v d j := by
    unfold k0_pay1661
    pointwise
    rw [h2.readAt_unread X2]
    refine Eq.trans (congrArg X2 (funext fun a => Fin.ext ?_)) (B.v 0 d j)
    fin_cases a <;> simp [Rect.toLoadRect, LoadRect.idx, Rect.unit]
  q r d := by
    unfold_payloads
    pointwise
    rw [h0.readAt_unread X0]
    refine Eq.trans (congrArg X0 (funext fun a => Fin.ext ?_)) (B.q 0 r d)
    fin_cases a <;> simp [Rect.toLoadRect, LoadRect.idx, Rect.unit]
  o r w := by
    rw [h8.readAt_unread X8]
    refine Eq.trans (congrArg X8 (funext fun a => Fin.ext ?_)) (B.o 0 r w)
    fin_cases a <;> simp [Rect.toLoadRect, LoadRect.idx, Rect.unit]
  l r := by
    rw [h9.readAt_unread X9]
    refine Eq.trans (congrArg X9 (funext fun a => Fin.ext ?_)) (B.l 0 r)
    fin_cases a <;> simp [Rect.toLoadRect, LoadRect.idx, Rect.unit]
  g r w := by
    rw [h10.readAt_unread X10]
    refine Eq.trans (congrArg X10 (funext fun a => Fin.ext ?_)) (B.g 0 r w)
    fin_cases a <;> simp [Rect.toLoadRect, LoadRect.idx, Rect.unit]

/-- The loads of batch 1. -/
theorem Blocks.lat1 (B : Blocks A x0 x1 h R X0 X1 X2 X8 X9 X10) (h0 : a0.IsWhole) (h1 : a1.IsWhole) (h2 : a2.IsWhole) (h8 : a8.IsWhole)
    (h9 : a9.IsWhole) (h10 : a10.IsWhole) :
    LatTile A x0 x1 1 h R
      (k0_pay1674 (View.readAt (Elt Ideal) a1.view (Rect.unit (s := S2x1x96x4352) ![1, 0, 0, 0] ![1, 1, 96, 4352] inb_S2x1x96x4352_S1x1x96x4352_1_0_0_0).toLoadRect (h1.unread X1)))
      (k0_pay1675 (View.readAt (Elt Ideal) a2.view (Rect.unit (s := S2x1x64x4352) ![1, 0, 0, 0] ![1, 1, 64, 4352] inb_S2x1x64x4352_S1x1x64x4352_1_0_0_0).toLoadRect (h2.unread X2)))
      (k0_pay1676 (View.readAt (Elt Ideal) a0.view (Rect.unit (s := S2x1x1x256x96) ![1, 0, 0, 0, 0] ![1, 1, 1, 256, 96] inb_S2x1x1x256x96_S1x1x1x256x96_1_0_0_0_0).toLoadRect (h0.unread X0)))
      (View.readAt (Elt Ideal) a8.view (Rect.unit (s := S2x1x1x256x64) ![1, 0, 0, 0, 0] ![1, 1, 1, 256, 64] inb_S2x1x1x256x64_S1x1x1x256x64_1_0_0_0_0).toLoadRect (h8.unread X8))
      (View.readAt (Elt Ideal) a9.view (Rect.unit (s := S2x1x1x256x128) ![1, 0, 0, 0, 0] ![1, 1, 1, 256, 128] inb_S2x1x1x256x128_S1x1x1x256x128_1_0_0_0_0).toLoadRect (h9.unread X9))
      (View.readAt (Elt Ideal) a10.view (Rect.unit (s := S2x1x1x256x64) ![1, 0, 0, 0, 0] ![1, 1, 1, 256, 64] inb_S2x1x1x256x64_S1x1x1x256x64_1_0_0_0_0).toLoadRect (h10.unread X10)) where
  c := B.c
  k d j := by
    unfold k0_pay1674
    pointwise
    rw [h1.readAt_unread X1]
    refine Eq.trans (congrArg X1 (funext fun a => Fin.ext ?_)) (B.k 1 d j)
    fin_cases a <;> simp [Rect.toLoadRect, LoadRect.idx, Rect.unit]
  v d j := by
    unfold k0_pay1675
    pointwise
    rw [h2.readAt_unread X2]
    refine Eq.trans (congrArg X2 (funext fun a => Fin.ext ?_)) (B.v 1 d j)
    fin_cases a <;> simp [Rect.toLoadRect, LoadRect.idx, Rect.unit]
  q r d := by
    unfold_payloads
    pointwise
    rw [h0.readAt_unread X0]
    refine Eq.trans (congrArg X0 (funext fun a => Fin.ext ?_)) (B.q 1 r d)
    fin_cases a <;> simp [Rect.toLoadRect, LoadRect.idx, Rect.unit]
  o r w := by
    rw [h8.readAt_unread X8]
    refine Eq.trans (congrArg X8 (funext fun a => Fin.ext ?_)) (B.o 1 r w)
    fin_cases a <;> simp [Rect.toLoadRect, LoadRect.idx, Rect.unit]
  l r := by
    rw [h9.readAt_unread X9]
    refine Eq.trans (congrArg X9 (funext fun a => Fin.ext ?_)) (B.l 1 r)
    fin_cases a <;> simp [Rect.toLoadRect, LoadRect.idx, Rect.unit]
  g r w := by
    rw [h10.readAt_unread X10]
    refine Eq.trans (congrArg X10 (funext fun a => Fin.ext ?_)) (B.g 1 r w)
    fin_cases a <;> simp [Rect.toLoadRect, LoadRect.idx, Rect.unit]

/-- The loads of batch 0. -/
theorem Blocks.ctx0 (B : Blocks A x0 x1 h R X0 X1 X2 X8 X9 X10) (h0 : a0.IsWhole) (h1 : a1.IsWhole) (h2 : a2.IsWhole) (h8 : a8.IsWhole)
    (h9 : a9.IsWhole) (h10 : a10.IsWhole) :
    CtxTile A x0 x1 0 h R
      (k0_pay3335 (View.readAt (Elt Ideal) a1.view (Rect.unit (s := S2x1x96x4352) ![0, 0, 0, 4096] ![1, 1, 96, 256] inb_S2x1x96x4352_S1x1x96x256_0_0_0_4096).toLoadRect (h1.unread X1)))
      (k0_pay3336 (View.readAt (Elt Ideal) a2.view (Rect.unit (s := S2x1x64x4352) ![0, 0, 0, 4096] ![1, 1, 64, 256] inb_S2x1x64x4352_S1x1x64x256_0_0_0_4096).toLoadRect (h2.unread X2)))
      (k0_pay3338 (k0_pay3337 (View.readAt (Elt Ideal) a0.view (Rect.unit (s := S2x1x1x256x96) ![0, 0, 0, 0, 0] ![1, 1, 1, 256, 96] inb_S2x1x1x256x96_S1x1x1x256x96_0_0_0_0_0).toLoadRect (h0.unread X0))))
      (View.readAt (Elt Ideal) a8.view (Rect.unit (s := S2x1x1x256x64) ![0, 0, 0, 0, 0] ![1, 1, 1, 256, 64] inb_S2x1x1x256x64_S1x1x1x256x64_0_0_0_0_0).toLoadRect (h8.unread X8))
      (View.readAt (Elt Ideal) a9.view (Rect.unit (s := S2x1x1x256x128) ![0, 0, 0, 0, 0] ![1, 1, 1, 256, 128] inb_S2x1x1x256x128_S1x1x1x256x128_0_0_0_0_0).toLoadRect (h9.unread X9))
      (View.readAt (Elt Ideal) a10.view (Rect.unit (s := S2x1x1x256x64) ![0, 0, 0, 0, 0] ![1, 1, 1, 256, 64] inb_S2x1x1x256x64_S1x1x1x256x64_0_0_0_0_0).toLoadRect (h10.unread X10)) where
  c := B.c
  k d j := by
    unfold k0_pay3335
    pointwise
    rw [h1.readAt_unread X1]
    refine Eq.trans (congrArg X1 (funext fun a => Fin.ext ?_)) (B.k 0 d ⟨4096 + j.val, by omega⟩)
    fin_cases a <;> simp [Rect.toLoadRect, LoadRect.idx, Rect.unit]
  v d j := by
    unfold k0_pay3336
    pointwise
    rw [h2.readAt_unread X2]
    refine Eq.trans (congrArg X2 (funext fun a => Fin.ext ?_)) (B.v 0 d ⟨4096 + j.val, by omega⟩)
    fin_cases a <;> simp [Rect.toLoadRect, LoadRect.idx, Rect.unit]
  q r d := by
    unfold_payloads
    pointwise
    rw [h0.readAt_unread X0]
    refine Eq.trans (congrArg X0 (funext fun a => Fin.ext ?_)) (B.q 0 r d)
    fin_cases a <;> simp [Rect.toLoadRect, LoadRect.idx, Rect.unit]
  o r w := by
    rw [h8.readAt_unread X8]
    refine Eq.trans (congrArg X8 (funext fun a => Fin.ext ?_)) (B.o 0 r w)
    fin_cases a <;> simp [Rect.toLoadRect, LoadRect.idx, Rect.unit]
  l r := by
    rw [h9.readAt_unread X9]
    refine Eq.trans (congrArg X9 (funext fun a => Fin.ext ?_)) (B.l 0 r)
    fin_cases a <;> simp [Rect.toLoadRect, LoadRect.idx, Rect.unit]
  g r w := by
    rw [h10.readAt_unread X10]
    refine Eq.trans (congrArg X10 (funext fun a => Fin.ext ?_)) (B.g 0 r w)
    fin_cases a <;> simp [Rect.toLoadRect, LoadRect.idx, Rect.unit]

/-- The loads of batch 1. -/
theorem Blocks.ctx1 (B : Blocks A x0 x1 h R X0 X1 X2 X8 X9 X10) (h0 : a0.IsWhole) (h1 : a1.IsWhole) (h2 : a2.IsWhole) (h8 : a8.IsWhole)
    (h9 : a9.IsWhole) (h10 : a10.IsWhole) :
    CtxTile A x0 x1 1 h R
      (k0_pay3349 (View.readAt (Elt Ideal) a1.view (Rect.unit (s := S2x1x96x4352) ![1, 0, 0, 4096] ![1, 1, 96, 256] inb_S2x1x96x4352_S1x1x96x256_1_0_0_4096).toLoadRect (h1.unread X1)))
      (k0_pay3350 (View.readAt (Elt Ideal) a2.view (Rect.unit (s := S2x1x64x4352) ![1, 0, 0, 4096] ![1, 1, 64, 256] inb_S2x1x64x4352_S1x1x64x256_1_0_0_4096).toLoadRect (h2.unread X2)))
      (k0_pay3351 (View.readAt (Elt Ideal) a0.view (Rect.unit (s := S2x1x1x256x96) ![1, 0, 0, 0, 0] ![1, 1, 1, 256, 96] inb_S2x1x1x256x96_S1x1x1x256x96_1_0_0_0_0).toLoadRect (h0.unread X0)))
      (View.readAt (Elt Ideal) a8.view (Rect.unit (s := S2x1x1x256x64) ![1, 0, 0, 0, 0] ![1, 1, 1, 256, 64] inb_S2x1x1x256x64_S1x1x1x256x64_1_0_0_0_0).toLoadRect (h8.unread X8))
      (View.readAt (Elt Ideal) a9.view (Rect.unit (s := S2x1x1x256x128) ![1, 0, 0, 0, 0] ![1, 1, 1, 256, 128] inb_S2x1x1x256x128_S1x1x1x256x128_1_0_0_0_0).toLoadRect (h9.unread X9))
      (View.readAt (Elt Ideal) a10.view (Rect.unit (s := S2x1x1x256x64) ![1, 0, 0, 0, 0] ![1, 1, 1, 256, 64] inb_S2x1x1x256x64_S1x1x1x256x64_1_0_0_0_0).toLoadRect (h10.unread X10)) where
  c := B.c
  k d j := by
    unfold k0_pay3349
    pointwise
    rw [h1.readAt_unread X1]
    refine Eq.trans (congrArg X1 (funext fun a => Fin.ext ?_)) (B.k 1 d ⟨4096 + j.val, by omega⟩)
    fin_cases a <;> simp [Rect.toLoadRect, LoadRect.idx, Rect.unit]
  v d j := by
    unfold k0_pay3350
    pointwise
    rw [h2.readAt_unread X2]
    refine Eq.trans (congrArg X2 (funext fun a => Fin.ext ?_)) (B.v 1 d ⟨4096 + j.val, by omega⟩)
    fin_cases a <;> simp [Rect.toLoadRect, LoadRect.idx, Rect.unit]
  q r d := by
    unfold_payloads
    pointwise
    rw [h0.readAt_unread X0]
    refine Eq.trans (congrArg X0 (funext fun a => Fin.ext ?_)) (B.q 1 r d)
    fin_cases a <;> simp [Rect.toLoadRect, LoadRect.idx, Rect.unit]
  o r w := by
    rw [h8.readAt_unread X8]
    refine Eq.trans (congrArg X8 (funext fun a => Fin.ext ?_)) (B.o 1 r w)
    fin_cases a <;> simp [Rect.toLoadRect, LoadRect.idx, Rect.unit]
  l r := by
    rw [h9.readAt_unread X9]
    refine Eq.trans (congrArg X9 (funext fun a => Fin.ext ?_)) (B.l 1 r)
    fin_cases a <;> simp [Rect.toLoadRect, LoadRect.idx, Rect.unit]
  g r w := by
    rw [h10.readAt_unread X10]
    refine Eq.trans (congrArg X10 (funext fun a => Fin.ext ?_)) (B.g 1 r w)
    fin_cases a <;> simp [Rect.toLoadRect, LoadRect.idx, Rect.unit]

end Loads

end Cert.KernelIdeal.Hand

end
-- ==== Proof.Body.lean ====
/- What one grid point leaves in the windows of the attention's gradients, over the reals: its tile of the query gradient, and
   the blocks of the key and value gradients with the tile's contribution added (at a head's first tile: to nothing). -/
module

public import proofs.«01_k».proof.Proof.Outs
public import proofs.«01_k».proof.Proof.Loads
public import Idealize.ShloMosaic.Lib.WritesUnit
public import Idealize.ShloMosaic.Lib.WholeRead

@[expose] public section

set_option maxRecDepth 16384

noncomputable section

namespace Cert.KernelIdeal.Hand

open Cert.KernelIdeal Cert.KernelIdeal.Gen Cert.Model Cert.HostValue Cert.Tile
open Cert.RefValue (Wide)
open Idealize.ShloMosaic Idealize.ShloMosaic.TcCoe Idealize.ShloMosaic.Tactic
open Idealize.SL.Sem

theorem two : ∀ b : Fin 2, b = 0 ∨ b = 1 := by decide

variable {A : Call} {x0 x1 : Wide} {h R : ℕ}
variable (m : (ℓ : Loc nD τ sig) → Buf (Elt Ideal) ℓ) (c : Dev nD) (t : Fin cfg0.N)

/-- The point's six input blocks of the attention's gradients. -/
abbrev BlocksAt (A : Call) (x0 x1 : Wide) (h R : ℕ) (m : (ℓ : Loc nD τ sig) → Buf (Elt Ideal) ℓ) (c : Dev nD) (t : Fin cfg0.N) : Prop :=
  Blocks A x0 x1 h R (iblk m c 0 t) (iblk m c 1 t) (iblk m c 2 t) (iblk m c 8 t) (iblk m c 9 t) (iblk m c 10 t)

/-! ## Case A -/

/-- The tile of the query gradient. -/
theorem outsA_dq (B : BlocksAt A x0 x1 h R m c t) (hR : R + 256 ≤ 4096) (h0 : t.val % 68 = 0) (h1 : t.val % 17 = 0) (h2 : ¬(t.val % 17 = 16)) (h3 : ¬t.val % 17 = 16) (b : Fin 2) (r : Fin 256) (d : Fin 96) :
    (outsA m c t h0 h1 h2 h3).1 (ix5 b 0 0 r d) = (Model.dq A b.val h (R + r.val) d.val : EReal) := by
  unfold outsA
  dsimp only
  rcases two b with rfl | rfl
  · skip
    refine (View.read_writes_cons_unit_of_not_mem VO0_12 _ inb_S2x1x1x256x96_S1x1x1x256x96_1_0_0_0_0 _ _ _ rfl 0 (Or.inl Nat.zero_lt_one)).trans ?_
    refine (View.read_writes_cons_unit_of_mem VO0_12 _ inb_S2x1x1x256x96_S1x1x1x256x96_0_0_0_0_0 _ _ _ (ix5 0 0 0 r d) rfl (fun a => ?_)).trans ?_
    · fin_cases a <;> simp
    · exact (LatTile.dq0 _ _ _ _ _ _ r d).trans ((B.lat0 (hs0_0 t) (hs0_1 t) (hs0_2 t) (hs0_8 t) (hs0_9 t) (hs0_10 t)).dq hR r d)
  · skip
    refine (View.read_writes_cons_unit_of_mem VO0_12 _ inb_S2x1x1x256x96_S1x1x1x256x96_1_0_0_0_0 _ _ _ (ix5 0 0 0 r d) rfl (fun a => ?_)).trans ?_
    · fin_cases a <;> simp
    · exact (B.lat1 (hs0_0 t) (hs0_1 t) (hs0_2 t) (hs0_8 t) (hs0_9 t) (hs0_10 t)).dq hR r d

theorem outsA_dk (B : BlocksAt A x0 x1 h R m c t) (hR : R + 256 ≤ 4096) (h0 : t.val % 68 = 0) (h1 : t.val % 17 = 0) (h2 : ¬(t.val % 17 = 16)) (h3 : ¬t.val % 17 = 16) (b : Fin 2) (d : Fin 96) (j : Fin 4352) :
    (outsA m c t h0 h1 h2 h3).2.1 (ix4 b 0 d j) = (∑ r : Fin 256, dsLat A b.val h (R + r.val) j.val * A.q b.val (R + r.val) h d.val : ℝ) := by
  unfold outsA
  dsimp only
  rcases two b with rfl | rfl
  · skip
    refine (View.read_writes_cons_unit_of_not_mem VO0_13 _ inb_S2x1x96x4352_S1x1x96x4352_1_0_0_0 _ _ _ rfl 0 (Or.inl Nat.zero_lt_one)).trans ?_
    refine (View.read_writes_cons_unit_of_mem VO0_13 _ inb_S2x1x96x4352_S1x1x96x4352_0_0_0_0 _ _ _ (ix4 0 0 d j) rfl (fun a => ?_)).trans ?_
    · fin_cases a <;> simp
    · refine (LatTile.addk0 _ _ d j).trans ?_
      refine (congrArg₂ (· + ·) (?_ : _ = (0 : EReal)) ((congrFun (LatTile.dk0 _ _ _ _ _ _) _).trans ((B.lat0 (hs0_0 t) (hs0_1 t) (hs0_2 t) (hs0_8 t) (hs0_9 t) (hs0_10 t)).dk hR d j))).trans (zero_add _)
      refine (View.read_writes_cons_unit_of_mem (ms0_13 t).view _ inb_S2x1x96x4352_S2x1x96x4352_0_0_0_0 _ _ _ (ix4 0 0 d j) rfl (fun a => ?_)).trans ?_
      · fin_cases a <;> simp [Rect.toLoadRect, LoadRect.idx, Rect.unit]
      · unfold k0_pay3
        pointwise
  · skip
    refine (View.read_writes_cons_unit_of_mem VO0_13 _ inb_S2x1x96x4352_S1x1x96x4352_1_0_0_0 _ _ _ (ix4 0 0 d j) rfl (fun a => ?_)).trans ?_
    · fin_cases a <;> simp
    · refine (LatTile.addk1 _ _ d j).trans ?_
      refine (congrArg₂ (· + ·) (?_ : _ = (0 : EReal)) ((B.lat1 (hs0_0 t) (hs0_1 t) (hs0_2 t) (hs0_8 t) (hs0_9 t) (hs0_10 t)).dk hR d j)).trans (zero_add _)
      refine (View.read_writes_cons_unit_of_not_mem (ms0_13 t).view _ inb_S2x1x96x4352_S1x1x96x4352_0_0_0_0 _ _ _ rfl 0 (Or.inr ?_)).trans ?_
      · simp [Rect.toLoadRect, LoadRect.idx, Rect.unit]
      refine (View.read_writes_cons_unit_of_mem (ms0_13 t).view _ inb_S2x1x96x4352_S2x1x96x4352_0_0_0_0 _ _ _ (ix4 1 0 d j) rfl (fun a => ?_)).trans ?_
      · fin_cases a <;> simp [Rect.toLoadRect, LoadRect.idx, Rect.unit]
      · unfold k0_pay3
        pointwise

theorem outsA_dv (B : BlocksAt A x0 x1 h R m c t) (hR : R + 256 ≤ 4096) (h0 : t.val % 68 = 0) (h1 : t.val % 17 = 0) (h2 : ¬(t.val % 17 = 16)) (h3 : ¬t.val % 17 = 16) (b : Fin 2) (d : Fin 64) (j : Fin 4352) :
    (outsA m c t h0 h1 h2 h3).2.2.1 (ix4 b 0 d j) = (∑ r : Fin 256, A.g b.val (R + r.val) h d.val * pLat A b.val h (R + r.val) j.val : ℝ) := by
  unfold outsA
  dsimp only
  rcases two b with rfl | rfl
  · skip
    refine (View.read_writes_cons_unit_of_not_mem VO0_14 _ inb_S2x1x64x4352_S1x1x64x4352_1_0_0_0 _ _ _ rfl 0 (Or.inl Nat.zero_lt_one)).trans ?_
    refine (View.read_writes_cons_unit_of_mem VO0_14 _ inb_S2x1x64x4352_S1x1x64x4352_0_0_0_0 _ _ _ (ix4 0 0 d j) rfl (fun a => ?_)).trans ?_
    · fin_cases a <;> simp
    · refine (LatTile.addv0 _ _ d j).trans ?_
      refine (congrArg₂ (· + ·) (?_ : _ = (0 : EReal)) ((congrFun (LatTile.dv0 _ _ _ _) _).trans ((B.lat0 (hs0_0 t) (hs0_1 t) (hs0_2 t) (hs0_8 t) (hs0_9 t) (hs0_10 t)).dv hR d j))).trans (zero_add _)
      refine (View.read_writes_cons_unit_of_mem (ms0_14 t).view _ inb_S2x1x64x4352_S2x1x64x4352_0_0_0_0 _ _ _ (ix4 0 0 d j) rfl (fun a => ?_)).trans ?_
      · fin_cases a <;> simp [Rect.toLoadRect, LoadRect.idx, Rect.unit]
      · unfold k0_pay4
        pointwise
  · skip
    refine (View.read_writes_cons_unit_of_mem VO0_14 _ inb_S2x1x64x4352_S1x1x64x4352_1_0_0_0 _ _ _ (ix4 0 0 d j) rfl (fun a => ?_)).trans ?_
    · fin_cases a <;> simp
    · refine (LatTile.addv1 _ _ d j).trans ?_
      refine (congrArg₂ (· + ·) (?_ : _ = (0 : EReal)) ((B.lat1 (hs0_0 t) (hs0_1 t) (hs0_2 t) (hs0_8 t) (hs0_9 t) (hs0_10 t)).dv hR d j)).trans (zero_add _)
      refine (View.read_writes_cons_unit_of_not_mem (ms0_14 t).view _ inb_S2x1x64x4352_S1x1x64x4352_0_0_0_0 _ _ _ rfl 0 (Or.inr ?_)).trans ?_
      · simp [Rect.toLoadRect, LoadRect.idx, Rect.unit]
      refine (View.read_writes_cons_unit_of_mem (ms0_14 t).view _ inb_S2x1x64x4352_S2x1x64x4352_0_0_0_0 _ _ _ (ix4 1 0 d j) rfl (fun a => ?_)).trans ?_
      · fin_cases a <;> simp [Rect.toLoadRect, LoadRect.idx, Rect.unit]
      · unfold k0_pay4
        pointwise

/-! ## Case B -/

/-- The tile of the query gradient. -/
theorem outsB_dq (B : BlocksAt A x0 x1 h R m c t) (hR : R + 256 ≤ 4096) (h0 : ¬t.val % 68 = 0) (h1 : ¬t.val % 17 = 0) (h2 : ¬(t.val % 17 = 16)) (h3 : ¬t.val % 17 = 16) (p : Outs Ideal) (b : Fin 2) (r : Fin 256) (d : Fin 96) :
    (outsB m c t h0 h1 h2 h3 p).1 (ix5 b 0 0 r d) = (Model.dq A b.val h (R + r.val) d.val : EReal) := by
  unfold outsB
  dsimp only
  rcases two b with rfl | rfl
  · skip
    refine (View.read_writes_cons_unit_of_not_mem VO0_12 _ inb_S2x1x1x256x96_S1x1x1x256x96_1_0_0_0_0 _ _ _ rfl 0 (Or.inl Nat.zero_lt_one)).trans ?_
    refine (View.read_writes_cons_unit_of_mem VO0_12 _ inb_S2x1x1x256x96_S1x1x1x256x96_0_0_0_0_0 _ _ _ (ix5 0 0 0 r d) rfl (fun a => ?_)).trans ?_
    · fin_cases a <;> simp
    · exact (LatTile.dq0 _ _ _ _ _ _ r d).trans ((B.lat0 (hs0_0 t) (hs0_1 t) (hs0_2 t) (hs0_8 t) (hs0_9 t) (hs0_10 t)).dq hR r d)
  · skip
    refine (View.read_writes_cons_unit_of_mem VO0_12 _ inb_S2x1x1x256x96_S1x1x1x256x96_1_0_0_0_0 _ _ _ (ix5 0 0 0 r d) rfl (fun a => ?_)).trans ?_
    · fin_cases a <;> simp
    · exact (B.lat1 (hs0_0 t) (hs0_1 t) (hs0_2 t) (hs0_8 t) (hs0_9 t) (hs0_10 t)).dq hR r d

theorem outsB_dk (B : BlocksAt A x0 x1 h R m c t) (hR : R + 256 ≤ 4096) (h0 : ¬t.val % 68 = 0) (h1 : ¬t.val % 17 = 0) (h2 : ¬(t.val % 17 = 16)) (h3 : ¬t.val % 17 = 16) (p : Outs Ideal) (b : Fin 2) (d : Fin 96) (j : Fin 4352) :
    (outsB m c t h0 h1 h2 h3 p).2.1 (ix4 b 0 d j) = p.2.1 (ix4 b 0 d j) + ((∑ r : Fin 256, dsLat A b.val h (R + r.val) j.val * A.q b.val (R + r.val) h d.val : ℝ) : EReal) := by
  unfold outsB
  dsimp only
  rcases two b with rfl | rfl
  · skip
    refine (View.read_writes_cons_unit_of_not_mem VO0_13 _ inb_S2x1x96x4352_S1x1x96x4352_1_0_0_0 _ _ _ rfl 0 (Or.inl Nat.zero_lt_one)).trans ?_
    refine (View.read_writes_cons_unit_of_mem VO0_13 _ inb_S2x1x96x4352_S1x1x96x4352_0_0_0_0 _ _ _ (ix4 0 0 d j) rfl (fun a => ?_)).trans ?_
    · fin_cases a <;> simp
    · refine (LatTile.addk0 _ _ d j).trans ?_
      refine congrArg₂ (· + ·) ?_ ((congrFun (LatTile.dk0 _ _ _ _ _ _) _).trans ((B.lat0 (hs0_0 t) (hs0_1 t) (hs0_2 t) (hs0_8 t) (hs0_9 t) (hs0_10 t)).dk hR d j))
      refine ((hs0_13 t).readAt_unread _ _ _).trans (congrArg _ (funext fun a => Fin.ext ?_))
      fin_cases a <;> simp [Rect.toLoadRect, LoadRect.idx, Rect.unit]
  · skip
    refine (View.read_writes_cons_unit_of_mem VO0_13 _ inb_S2x1x96x4352_S1x1x96x4352_1_0_0_0 _ _ _ (ix4 0 0 d j) rfl (fun a => ?_)).trans ?_
    · fin_cases a <;> simp
    · refine (LatTile.addk1 _ _ d j).trans ?_
      refine congrArg₂ (· + ·) ?_ ((B.lat1 (hs0_0 t) (hs0_1 t) (hs0_2 t) (hs0_8 t) (hs0_9 t) (hs0_10 t)).dk hR d j)
      refine ((hs0_13 t).readAt_unread _ _ _).trans (congrArg _ (funext fun a => Fin.ext ?_))
      fin_cases a <;> simp [Rect.toLoadRect, LoadRect.idx, Rect.unit]

theorem outsB_dv (B : BlocksAt A x0 x1 h R m c t) (hR : R + 256 ≤ 4096) (h0 : ¬t.val % 68 = 0) (h1 : ¬t.val % 17 = 0) (h2 : ¬(t.val % 17 = 16)) (h3 : ¬t.val % 17 = 16) (p : Outs Ideal) (b : Fin 2) (d : Fin 64) (j : Fin 4352) :
    (outsB m c t h0 h1 h2 h3 p).2.2.1 (ix4 b 0 d j) = p.2.2.1 (ix4 b 0 d j) + ((∑ r : Fin 256, A.g b.val (R + r.val) h d.val * pLat A b.val h (R + r.val) j.val : ℝ) : EReal) := by
  unfold outsB
  dsimp only
  rcases two b with rfl | rfl
  · skip
    refine (View.read_writes_cons_unit_of_not_mem VO0_14 _ inb_S2x1x64x4352_S1x1x64x4352_1_0_0_0 _ _ _ rfl 0 (Or.inl Nat.zero_lt_one)).trans ?_
    refine (View.read_writes_cons_unit_of_mem VO0_14 _ inb_S2x1x64x4352_S1x1x64x4352_0_0_0_0 _ _ _ (ix4 0 0 d j) rfl (fun a => ?_)).trans ?_
    · fin_cases a <;> simp
    · refine (LatTile.addv0 _ _ d j).trans ?_
      refine congrArg₂ (· + ·) ?_ ((congrFun (LatTile.dv0 _ _ _ _) _).trans ((B.lat0 (hs0_0 t) (hs0_1 t) (hs0_2 t) (hs0_8 t) (hs0_9 t) (hs0_10 t)).dv hR d j))
      refine ((hs0_14 t).readAt_unread _ _ _).trans (congrArg _ (funext fun a => Fin.ext ?_))
      fin_cases a <;> simp [Rect.toLoadRect, LoadRect.idx, Rect.unit]
  · skip
    refine (View.read_writes_cons_unit_of_mem VO0_14 _ inb_S2x1x64x4352_S1x1x64x4352_1_0_0_0 _ _ _ (ix4 0 0 d j) rfl (fun a => ?_)).trans ?_
    · fin_cases a <;> simp
    · refine (LatTile.addv1 _ _ d j).trans ?_
      refine congrArg₂ (· + ·) ?_ ((B.lat1 (hs0_0 t) (hs0_1 t) (hs0_2 t) (hs0_8 t) (hs0_9 t) (hs0_10 t)).dv hR d j)
      refine ((hs0_14 t).readAt_unread _ _ _).trans (congrArg _ (funext fun a => Fin.ext ?_))
      fin_cases a <;> simp [Rect.toLoadRect, LoadRect.idx, Rect.unit]

/-! ## Case D -/

/-- The tile of the query gradient. -/
theorem outsD_dq (B : BlocksAt A x0 x1 h R m c t) (hR : R + 256 ≤ 4096) (h0 : ¬t.val % 68 = 0) (h1 : t.val % 17 = 0) (h2 : ¬(t.val % 17 = 16)) (h3 : ¬t.val % 17 = 16) (p : Outs Ideal) (b : Fin 2) (r : Fin 256) (d : Fin 96) :
    (outsD m c t h0 h1 h2 h3 p).1 (ix5 b 0 0 r d) = (Model.dq A b.val h (R + r.val) d.val : EReal) := by
  unfold outsD
  dsimp only
  rcases two b with rfl | rfl
  · skip
    refine (View.read_writes_cons_unit_of_not_mem VO0_12 _ inb_S2x1x1x256x96_S1x1x1x256x96_1_0_0_0_0 _ _ _ rfl 0 (Or.inl Nat.zero_lt_one)).trans ?_
    refine (View.read_writes_cons_unit_of_mem VO0_12 _ inb_S2x1x1x256x96_S1x1x1x256x96_0_0_0_0_0 _ _ _ (ix5 0 0 0 r d) rfl (fun a => ?_)).trans ?_
    · fin_cases a <;> simp
    · exact (LatTile.dq0 _ _ _ _ _ _ r d).trans ((B.lat0 (hs0_0 t) (hs0_1 t) (hs0_2 t) (hs0_8 t) (hs0_9 t) (hs0_10 t)).dq hR r d)
  · skip
    refine (View.read_writes_cons_unit_of_mem VO0_12 _ inb_S2x1x1x256x96_S1x1x1x256x96_1_0_0_0_0 _ _ _ (ix5 0 0 0 r d) rfl (fun a => ?_)).trans ?_
    · fin_cases a <;> simp
    · exact (B.lat1 (hs0_0 t) (hs0_1 t) (hs0_2 t) (hs0_8 t) (hs0_9 t) (hs0_10 t)).dq hR r d

theorem outsD_dk (B : BlocksAt A x0 x1 h R m c t) (hR : R + 256 ≤ 4096) (h0 : ¬t.val % 68 = 0) (h1 : t.val % 17 = 0) (h2 : ¬(t.val % 17 = 16)) (h3 : ¬t.val % 17 = 16) (p : Outs Ideal) (b : Fin 2) (d : Fin 96) (j : Fin 4352) :
    (outsD m c t h0 h1 h2 h3 p).2.1 (ix4 b 0 d j) = (∑ r : Fin 256, dsLat A b.val h (R + r.val) j.val * A.q b.val (R + r.val) h d.val : ℝ) := by
  unfold outsD
  dsimp only
  rcases two b with rfl | rfl
  · skip
    refine (View.read_writes_cons_unit_of_not_mem VO0_13 _ inb_S2x1x96x4352_S1x1x96x4352_1_0_0_0 _ _ _ rfl 0 (Or.inl Nat.zero_lt_one)).trans ?_
    refine (View.read_writes_cons_unit_of_mem VO0_13 _ inb_S2x1x96x4352_S1x1x96x4352_0_0_0_0 _ _ _ (ix4 0 0 d j) rfl (fun a => ?_)).trans ?_
    · fin_cases a <;> simp
    · refine (LatTile.addk0 _ _ d j).trans ?_
      refine (congrArg₂ (· + ·) (?_ : _ = (0 : EReal)) ((congrFun (LatTile.dk0 _ _ _ _ _ _) _).trans ((B.lat0 (hs0_0 t) (hs0_1 t) (hs0_2 t) (hs0_8 t) (hs0_9 t) (hs0_10 t)).dk hR d j))).trans (zero_add _)
      refine (View.read_writes_cons_unit_of_mem (ms0_13 t).view _ inb_S2x1x96x4352_S2x1x96x4352_0_0_0_0 _ _ _ (ix4 0 0 d j) rfl (fun a => ?_)).trans ?_
      · fin_cases a <;> simp [Rect.toLoadRect, LoadRect.idx, Rect.unit]
      · unfold k0_pay3
        pointwise
  · skip
    refine (View.read_writes_cons_unit_of_mem VO0_13 _ inb_S2x1x96x4352_S1x1x96x4352_1_0_0_0 _ _ _ (ix4 0 0 d j) rfl (fun a => ?_)).trans ?_
    · fin_cases a <;> simp
    · refine (LatTile.addk1 _ _ d j).trans ?_
      refine (congrArg₂ (· + ·) (?_ : _ = (0 : EReal)) ((B.lat1 (hs0_0 t) (hs0_1 t) (hs0_2 t) (hs0_8 t) (hs0_9 t) (hs0_10 t)).dk hR d j)).trans (zero_add _)
      refine (View.read_writes_cons_unit_of_not_mem (ms0_13 t).view _ inb_S2x1x96x4352_S1x1x96x4352_0_0_0_0 _ _ _ rfl 0 (Or.inr ?_)).trans ?_
      · simp [Rect.toLoadRect, LoadRect.idx, Rect.unit]
      refine (View.read_writes_cons_unit_of_mem (ms0_13 t).view _ inb_S2x1x96x4352_S2x1x96x4352_0_0_0_0 _ _ _ (ix4 1 0 d j) rfl (fun a => ?_)).trans ?_
      · fin_cases a <;> simp [Rect.toLoadRect, LoadRect.idx, Rect.unit]
      · unfold k0_pay3
        pointwise

theorem outsD_dv (B : BlocksAt A x0 x1 h R m c t) (hR : R + 256 ≤ 4096) (h0 : ¬t.val % 68 = 0) (h1 : t.val % 17 = 0) (h2 : ¬(t.val % 17 = 16)) (h3 : ¬t.val % 17 = 16) (p : Outs Ideal) (b : Fin 2) (d : Fin 64) (j : Fin 4352) :
    (outsD m c t h0 h1 h2 h3 p).2.2.1 (ix4 b 0 d j) = (∑ r : Fin 256, A.g b.val (R + r.val) h d.val * pLat A b.val h (R + r.val) j.val : ℝ) := by
  unfold outsD
  dsimp only
  rcases two b with rfl | rfl
  · skip
    refine (View.read_writes_cons_unit_of_not_mem VO0_14 _ inb_S2x1x64x4352_S1x1x64x4352_1_0_0_0 _ _ _ rfl 0 (Or.inl Nat.zero_lt_one)).trans ?_
    refine (View.read_writes_cons_unit_of_mem VO0_14 _ inb_S2x1x64x4352_S1x1x64x4352_0_0_0_0 _ _ _ (ix4 0 0 d j) rfl (fun a => ?_)).trans ?_
    · fin_cases a <;> simp
    · refine (LatTile.addv0 _ _ d j).trans ?_
      refine (congrArg₂ (· + ·) (?_ : _ = (0 : EReal)) ((congrFun (LatTile.dv0 _ _ _ _) _).trans ((B.lat0 (hs0_0 t) (hs0_1 t) (hs0_2 t) (hs0_8 t) (hs0_9 t) (hs0_10 t)).dv hR d j))).trans (zero_add _)
      refine (View.read_writes_cons_unit_of_mem (ms0_14 t).view _ inb_S2x1x64x4352_S2x1x64x4352_0_0_0_0 _ _ _ (ix4 0 0 d j) rfl (fun a => ?_)).trans ?_
      · fin_cases a <;> simp [Rect.toLoadRect, LoadRect.idx, Rect.unit]
      · unfold k0_pay4
        pointwise
  · skip
    refine (View.read_writes_cons_unit_of_mem VO0_14 _ inb_S2x1x64x4352_S1x1x64x4352_1_0_0_0 _ _ _ (ix4 0 0 d j) rfl (fun a => ?_)).trans ?_
    · fin_cases a <;> simp
    · refine (LatTile.addv1 _ _ d j).trans ?_
      refine (congrArg₂ (· + ·) (?_ : _ = (0 : EReal)) ((B.lat1 (hs0_0 t) (hs0_1 t) (hs0_2 t) (hs0_8 t) (hs0_9 t) (hs0_10 t)).dv hR d j)).trans (zero_add _)
      refine (View.read_writes_cons_unit_of_not_mem (ms0_14 t).view _ inb_S2x1x64x4352_S1x1x64x4352_0_0_0_0 _ _ _ rfl 0 (Or.inr ?_)).trans ?_
      · simp [Rect.toLoadRect, LoadRect.idx, Rect.unit]
      refine (View.read_writes_cons_unit_of_mem (ms0_14 t).view _ inb_S2x1x64x4352_S2x1x64x4352_0_0_0_0 _ _ _ (ix4 1 0 d j) rfl (fun a => ?_)).trans ?_
      · fin_cases a <;> simp [Rect.toLoadRect, LoadRect.idx, Rect.unit]
      · unfold k0_pay4
        pointwise

/-! ## Case C -/

/-- The tile of the query gradient. -/
theorem outsC_dq (B : BlocksAt A x0 x1 h R m c t) (hR : 4096 ≤ R) (h0 : ¬t.val % 68 = 0) (h1 : ¬t.val % 17 = 0) (h2 : ¬¬(t.val % 17 = 16)) (h3 : t.val % 17 = 16) (p : Outs Ideal) (b : Fin 2) (r : Fin 256) (d : Fin 96) :
    (outsC m c t h0 h1 h2 h3 p).1 (ix5 b 0 0 r d) = (Model.dq A b.val h (R + r.val) d.val : EReal) := by
  unfold outsC
  dsimp only
  rcases two b with rfl | rfl
  · skip
    refine (View.read_writes_cons_unit_of_not_mem VO0_12 _ inb_S2x1x1x256x96_S1x1x1x256x96_1_0_0_0_0 _ _ _ rfl 0 (Or.inl Nat.zero_lt_one)).trans ?_
    refine (View.read_writes_cons_unit_of_mem VO0_12 _ inb_S2x1x1x256x96_S1x1x1x256x96_0_0_0_0_0 _ _ _ (ix5 0 0 0 r d) rfl (fun a => ?_)).trans ?_
    · fin_cases a <;> simp
    · exact (CtxTile.dq0 _ _ _ _ _ _ r d).trans ((B.ctx0 (hs0_0 t) (hs0_1 t) (hs0_2 t) (hs0_8 t) (hs0_9 t) (hs0_10 t)).dq hR r d)
  · skip
    refine (View.read_writes_cons_unit_of_mem VO0_12 _ inb_S2x1x1x256x96_S1x1x1x256x96_1_0_0_0_0 _ _ _ (ix5 0 0 0 r d) rfl (fun a => ?_)).trans ?_
    · fin_cases a <;> simp
    · exact (B.ctx1 (hs0_0 t) (hs0_1 t) (hs0_2 t) (hs0_8 t) (hs0_9 t) (hs0_10 t)).dq hR r d

theorem outsC_dk_low (h0 : ¬t.val % 68 = 0) (h1 : ¬t.val % 17 = 0) (h2 : ¬¬(t.val % 17 = 16)) (h3 : t.val % 17 = 16) (p : Outs Ideal) (b : Fin 2) (d : Fin 96) (j : Fin 4352) (hj : j.val < 4096) :
    (outsC m c t h0 h1 h2 h3 p).2.1 (ix4 b 0 d j) = p.2.1 (ix4 b 0 d j) := by
  unfold outsC
  dsimp only
  refine (View.read_writes_cons_unit_of_not_mem (ms0_13 t).view _ inb_S2x1x96x4352_S1x1x96x256_1_0_0_4096 _ _ _ rfl 3 (Or.inl hj)).trans ?_
  refine (View.read_writes_cons_unit_of_not_mem (ms0_13 t).view _ inb_S2x1x96x4352_S1x1x96x256_0_0_0_4096 _ _ _ rfl 3 (Or.inl hj)).trans ?_
  exact congrFun ((hs0_13 t).read_unread p.2.1) _

theorem outsC_dk_high (B : BlocksAt A x0 x1 h R m c t) (hR : 4096 ≤ R) (h0 : ¬t.val % 68 = 0) (h1 : ¬t.val % 17 = 0) (h2 : ¬¬(t.val % 17 = 16)) (h3 : t.val % 17 = 16) (p : Outs Ideal) (b : Fin 2) (d : Fin 96) (j : Fin 256) :
    (outsC m c t h0 h1 h2 h3 p).2.1 (ix4 b 0 d (⟨4096 + j.val, by omega⟩ : Fin 4352))
      = p.2.1 (ix4 b 0 d (⟨4096 + j.val, by omega⟩ : Fin 4352)) + ((∑ r : Fin 256, dsCtx A b.val h (R + r.val) (4096 + j.val) * A.q b.val (R + r.val) h d.val : ℝ) : EReal) := by
  unfold outsC
  dsimp only
  rcases two b with rfl | rfl
  · skip
    refine (View.read_writes_cons_unit_of_not_mem (ms0_13 t).view _ inb_S2x1x96x4352_S1x1x96x256_1_0_0_4096 _ _ _ rfl 0 (Or.inl Nat.zero_lt_one)).trans ?_
    refine (View.read_writes_cons_unit_of_mem (ms0_13 t).view _ inb_S2x1x96x4352_S1x1x96x256_0_0_0_4096 _ _ _ (ix4 0 0 d j) rfl (fun a => ?_)).trans ?_
    · fin_cases a <;> simp
    · refine (CtxTile.addk0 _ _ d j).trans ?_
      refine congrArg₂ (· + ·) ?_ ((congrFun (CtxTile.dk0 _ _ _ _ _ _) _).trans ((B.ctx0 (hs0_0 t) (hs0_1 t) (hs0_2 t) (hs0_8 t) (hs0_9 t) (hs0_10 t)).dk hR d j))
      refine ((hs0_13 t).readAt_unread _ _ _).trans (congrArg _ (funext fun a => Fin.ext ?_))
      fin_cases a <;> simp [Rect.toLoadRect, LoadRect.idx, Rect.unit]
  · skip
    refine (View.read_writes_cons_unit_of_mem (ms0_13 t).view _ inb_S2x1x96x4352_S1x1x96x256_1_0_0_4096 _ _ _ (ix4 0 0 d j) rfl (fun a => ?_)).trans ?_
    · fin_cases a <;> simp
    · refine (CtxTile.addk1 _ _ d j).trans ?_
      refine congrArg₂ (· + ·) ?_ ((B.ctx1 (hs0_0 t) (hs0_1 t) (hs0_2 t) (hs0_8 t) (hs0_9 t) (hs0_10 t)).dk hR d j)
      refine ((hs0_13 t).readAt_unread _ _ _).trans (congrArg _ (funext fun a => Fin.ext ?_))
      fin_cases a <;> simp [Rect.toLoadRect, LoadRect.idx, Rect.unit]

theorem outsC_dv_low (h0 : ¬t.val % 68 = 0) (h1 : ¬t.val % 17 = 0) (h2 : ¬¬(t.val % 17 = 16)) (h3 : t.val % 17 = 16) (p : Outs Ideal) (b : Fin 2) (d : Fin 64) (j : Fin 4352) (hj : j.val < 4096) :
    (outsC m c t h0 h1 h2 h3 p).2.2.1 (ix4 b 0 d j) = p.2.2.1 (ix4 b 0 d j) := by
  unfold outsC
  dsimp only
  refine (View.read_writes_cons_unit_of_not_mem (ms0_14 t).view _ inb_S2x1x64x4352_S1x1x64x256_1_0_0_4096 _ _ _ rfl 3 (Or.inl hj)).trans ?_
  refine (View.read_writes_cons_unit_of_not_mem (ms0_14 t).view _ inb_S2x1x64x4352_S1x1x64x256_0_0_0_4096 _ _ _ rfl 3 (Or.inl hj)).trans ?_
  exact congrFun ((hs0_14 t).read_unread p.2.2.1) _

theorem outsC_dv_high (B : BlocksAt A x0 x1 h R m c t) (hR : 4096 ≤ R) (h0 : ¬t.val % 68 = 0) (h1 : ¬t.val % 17 = 0) (h2 : ¬¬(t.val % 17 = 16)) (h3 : t.val % 17 = 16) (p : Outs Ideal) (b : Fin 2) (d : Fin 64) (j : Fin 256) :
    (outsC m c t h0 h1 h2 h3 p).2.2.1 (ix4 b 0 d (⟨4096 + j.val, by omega⟩ : Fin 4352))
      = p.2.2.1 (ix4 b 0 d (⟨4096 + j.val, by omega⟩ : Fin 4352)) + ((∑ r : Fin 256, A.g b.val (R + r.val) h d.val * pCtx A b.val h (R + r.val) (4096 + j.val) : ℝ) : EReal) := by
  unfold outsC
  dsimp only
  rcases two b with rfl | rfl
  · skip
    refine (View.read_writes_cons_unit_of_not_mem (ms0_14 t).view _ inb_S2x1x64x4352_S1x1x64x256_1_0_0_4096 _ _ _ rfl 0 (Or.inl Nat.zero_lt_one)).trans ?_
    refine (View.read_writes_cons_unit_of_mem (ms0_14 t).view _ inb_S2x1x64x4352_S1x1x64x256_0_0_0_4096 _ _ _ (ix4 0 0 d j) rfl (fun a => ?_)).trans ?_
    · fin_cases a <;> simp
    · refine (CtxTile.addv0 _ _ d j).trans ?_
      refine congrArg₂ (· + ·) ?_ ((congrFun (CtxTile.dv0 _ _ _ _) _).trans ((B.ctx0 (hs0_0 t) (hs0_1 t) (hs0_2 t) (hs0_8 t) (hs0_9 t) (hs0_10 t)).dv hR d j))
      refine ((hs0_14 t).readAt_unread _ _ _).trans (congrArg _ (funext fun a => Fin.ext ?_))
      fin_cases a <;> simp [Rect.toLoadRect, LoadRect.idx, Rect.unit]
  · skip
    refine (View.read_writes_cons_unit_of_mem (ms0_14 t).view _ inb_S2x1x64x4352_S1x1x64x256_1_0_0_4096 _ _ _ (ix4 0 0 d j) rfl (fun a => ?_)).trans ?_
    · fin_cases a <;> simp
    · refine (CtxTile.addv1 _ _ d j).trans ?_
      refine congrArg₂ (· + ·) ?_ ((B.ctx1 (hs0_0 t) (hs0_1 t) (hs0_2 t) (hs0_8 t) (hs0_9 t) (hs0_10 t)).dv hR d j)
      refine ((hs0_14 t).readAt_unread _ _ _).trans (congrArg _ (funext fun a => Fin.ext ?_))
      fin_cases a <;> simp [Rect.toLoadRect, LoadRect.idx, Rect.unit]

end Cert.KernelIdeal.Hand

end
-- ==== Proof.HostOps.lean ====
/- The six arrays the attention's windows read, as the host's operations before the region leave them. -/
module

public import proofs.«01_k».proof.Proof.HostValue

@[expose] public section

set_option maxRecDepth 16384

noncomputable section

namespace Cert.HostValue

open Cert.KernelIdeal Cert.KernelIdeal.Gen Idealize.ShloMosaic Idealize.ShloMosaic.TcCoe Idealize.SL.Sem Idealize.ShloMosaic.StableHlo

variable (f : Valuation τ sig (Elt Ideal))

/-- The two saved arrays as functions of their latent and context parts. -/
def outOf (y : FVec Ideal S2x4x4096x64 .f32) (z : FVec Ideal S2x4x256x64 .f32) : FVec Ideal S2x4x1x4352x64 .f32 :=
  broadcastInDim S2x4x1x4352x64 ![0, 1, 3, 4] bcast_S2x4x4352x64_S2x4x1x4352x64_0_1_3_4
    (concatenate S2x4x4352x64 2 [⟨S2x4x4096x64, y⟩, ⟨S2x4x256x64, z⟩] concatenates_S2x4x4096x64_S2x4x256x64_S2x4x4352x64_d2)
def lseOf (y : FVec Ideal S2x4x4096x1 .f32) (z : FVec Ideal S2x4x256x1 .f32) : FVec Ideal S2x4x1x4352x128 .f32 :=
  broadcastInDim S2x4x1x4352x128 ![0, 1, 2, 3, 4] bcast_S2x4x1x4352x1_S2x4x1x4352x128_0_1_2_3_4
    (broadcastInDim S2x4x1x4352x1 ![0, 1, 3, 4] bcast_S2x4x4352x1_S2x4x1x4352x1_0_1_3_4
      (concatenate S2x4x4352x1 2 [⟨S2x4x4096x1, y⟩, ⟨S2x4x256x1, z⟩] concatenates_S2x4x4096x1_S2x4x256x1_S2x4x4352x1_d2))

theorem after_out : StableHlo.after (hostOps0 (F := Ideal)) f (Proc.devRef .tc main_v35)
    = outArr (f (Proc.devRef .tc main_arg0)) (f (Proc.devRef .tc main_arg1)) (f (Proc.devRef .tc main_arg2)) := by
  after_results_simp
  refine congrArg₂ outOf (x' := olat _ _ _) (y' := octx _ _ _) ?_ ?_
  · after_results_simp; rfl
  · after_results_simp; rfl
theorem after_lse : StableHlo.after (hostOps0 (F := Ideal)) f (Proc.devRef .tc main_v38)
    = lseArr (f (Proc.devRef .tc main_arg0)) (f (Proc.devRef .tc main_arg1)) := by
  after_results_simp
  refine congrArg₂ lseOf (x' := slat _ _) (y' := sctx _ _) ?_ ?_
  · after_results_simp; rfl
  · after_results_simp; rfl
theorem after_q : StableHlo.after (hostOps0 (F := Ideal)) f (Proc.devRef .tc main_v40) = qArr (f (Proc.devRef .tc main_arg0)) := by
  after_results_simp; rfl
theorem after_g : StableHlo.after (hostOps0 (F := Ideal)) f (Proc.devRef .tc main_v46) = gArr (f (Proc.devRef .tc main_arg3)) := by
  after_results_simp; rfl
theorem after_k : StableHlo.after (hostOps0 (F := Ideal)) f (Proc.devRef .tc main_v43) = kArr (f (Proc.devRef .tc main_arg1)) := by
  after_results_simp; rfl
theorem after_v : StableHlo.after (hostOps0 (F := Ideal)) f (Proc.devRef .tc main_v44) = vArr (f (Proc.devRef .tc main_arg2)) := by
  after_results_simp; rfl

end Cert.HostValue

end
-- ==== Proof.Windows.lean ====
/- The blocks the grid's points are given of the attention's six arrays, over the reals: at point `t` the rows from `256 * (t % 17)`
   of head `t / 17`, and that head's keys and values. -/
module

public import proofs.«01_k».proof.Proof.Body
public import proofs.«01_k».proof.Proof.HostOps

@[expose] public section

set_option maxRecDepth 16384

noncomputable section

namespace Cert.KernelIdeal.Hand

open Cert.KernelIdeal Cert.KernelIdeal.Gen Cert.Model Cert.HostValue Cert.Tile
open Cert.RefValue (Wide Holds)
open Idealize.ShloMosaic Idealize.ShloMosaic.TcCoe Idealize.ShloMosaic.Tactic
open Idealize.SL.Sem

/-! ## Where the blocks lie -/

theorem index0 : ∀ t : Fin cfg0.N, win0_0.index t = ![0, t.val / 17, 0, t.val % 17, 0] :=
  (by decide +kernel : ∀ t : Fin grid0.N, win0_0.index t = ![0, t.val / 17, 0, t.val % 17, 0])
theorem index1 : ∀ t : Fin cfg0.N, win0_1.index t = ![0, t.val / 17, 0, 0] :=
  (by decide +kernel : ∀ t : Fin grid0.N, win0_1.index t = ![0, t.val / 17, 0, 0])
theorem index2 : ∀ t : Fin cfg0.N, win0_2.index t = ![0, t.val / 17, 0, 0] :=
  (by decide +kernel : ∀ t : Fin grid0.N, win0_2.index t = ![0, t.val / 17, 0, 0])
theorem index8 : ∀ t : Fin cfg0.N, win0_8.index t = ![0, t.val / 17, 0, t.val % 17, 0] :=
  (by decide +kernel : ∀ t : Fin grid0.N, win0_8.index t = ![0, t.val / 17, 0, t.val % 17, 0])
theorem index9 : ∀ t : Fin cfg0.N, win0_9.index t = ![0, t.val / 17, 0, t.val % 17, 0] :=
  (by decide +kernel : ∀ t : Fin grid0.N, win0_9.index t = ![0, t.val / 17, 0, t.val % 17, 0])
theorem index10 : ∀ t : Fin cfg0.N, win0_10.index t = ![0, t.val / 17, 0, t.val % 17, 0] :=
  (by decide +kernel : ∀ t : Fin grid0.N, win0_10.index t = ![0, t.val / 17, 0, t.val % 17, 0])
theorem index12 : ∀ t : Fin cfg0.N, win0_12.index t = ![0, t.val / 17, 0, t.val % 17, 0] :=
  (by decide +kernel : ∀ t : Fin grid0.N, win0_12.index t = ![0, t.val / 17, 0, t.val % 17, 0])
theorem index13 : ∀ t : Fin cfg0.N, win0_13.index t = ![0, t.val / 17, 0, 0] :=
  (by decide +kernel : ∀ t : Fin grid0.N, win0_13.index t = ![0, t.val / 17, 0, 0])
theorem index14 : ∀ t : Fin cfg0.N, win0_14.index t = ![0, t.val / 17, 0, 0] :=
  (by decide +kernel : ∀ t : Fin grid0.N, win0_14.index t = ![0, t.val / 17, 0, 0])

/-! ## What they hold -/

variable {A : Call} (m : (ℓ : Loc nD τ sig) → Buf (Elt Ideal) ℓ) (c : Dev nD) (t : Fin cfg0.N)

/-- The four arguments of the attention in memory are those of the call `A`. -/
abbrev HoldsAt (A : Call) (m : (ℓ : Loc nD τ sig) → Buf (Elt Ideal) ℓ) (c : Dev nD) : Prop :=
  Holds A (m ((c : Thread nD τ).loc main_arg0)) (m ((c : Thread nD τ).loc main_arg1)) (m ((c : Thread nD τ).loc main_arg2))
    (m ((c : Thread nD τ).loc main_arg3))

theorem iblk0_at (H : HoldsAt A m c) (b : Fin 2) (r : Fin 256) (d : Fin 96) :
    iblk m c 0 t (ix5 b 0 0 r d) = (A.q b.val (256 * (t.val % 17) + r.val) (t.val / 17) d.val : EReal) := by
  show V m c main_v40 ((win0_0.rect t).emb (ix5 b 0 0 r d)) = _
  have e : V m c main_v40 = _ := after_q _
  rw [e]
  refine (qArr_apply H _).trans ?_
  have h0 : ((win0_0.rect t).emb (ix5 b 0 0 r d) 0).val = b.val := by
    refine (win0_0.rect_emb_val t (ix5 b 0 0 r d) 0 rfl).trans ?_
    rw [index0]
    show 0 * 2 + b.val = _
    omega
  have h3 : ((win0_0.rect t).emb (ix5 b 0 0 r d) 3).val = 256 * (t.val % 17) + r.val := by
    refine (win0_0.rect_emb_val t (ix5 b 0 0 r d) 3 rfl).trans ?_
    rw [index0]
    show t.val % 17 * 256 + r.val = _
    omega
  have h1 : ((win0_0.rect t).emb (ix5 b 0 0 r d) 1).val = t.val / 17 := by
    refine (win0_0.rect_emb_val t (ix5 b 0 0 r d) 1 rfl).trans ?_
    rw [index0]
    show t.val / 17 * 1 + 0 = _
    omega
  have h4 : ((win0_0.rect t).emb (ix5 b 0 0 r d) 4).val = d.val := by
    refine (win0_0.rect_emb_val t (ix5 b 0 0 r d) 4 rfl).trans ?_
    rw [index0]
    show 0 * 96 + d.val = _
    omega
  rw [h0, h3, h1, h4]

theorem iblk1_at (H : HoldsAt A m c) (b : Fin 2) (d : Fin 96) (j : Fin 4352) :
    iblk m c 1 t (ix4 b 0 d j) = (A.k b.val j.val (t.val / 17) d.val : EReal) := by
  show V m c main_v43 ((win0_1.rect t).emb (ix4 b 0 d j)) = _
  have e : V m c main_v43 = _ := after_k _
  rw [e]
  refine (kArr_apply H _).trans ?_
  have h0 : ((win0_1.rect t).emb (ix4 b 0 d j) 0).val = b.val := by
    refine (win0_1.rect_emb_val t (ix4 b 0 d j) 0 rfl).trans ?_
    rw [index1]
    show 0 * 2 + b.val = _
    omega
  have h3 : ((win0_1.rect t).emb (ix4 b 0 d j) 3).val = j.val := by
    refine (win0_1.rect_emb_val t (ix4 b 0 d j) 3 rfl).trans ?_
    rw [index1]
    show 0 * 4352 + j.val = _
    omega
  have h1 : ((win0_1.rect t).emb (ix4 b 0 d j) 1).val = t.val / 17 := by
    refine (win0_1.rect_emb_val t (ix4 b 0 d j) 1 rfl).trans ?_
    rw [index1]
    show t.val / 17 * 1 + 0 = _
    omega
  have h2 : ((win0_1.rect t).emb (ix4 b 0 d j) 2).val = d.val := by
    refine (win0_1.rect_emb_val t (ix4 b 0 d j) 2 rfl).trans ?_
    rw [index1]
    show 0 * 96 + d.val = _
    omega
  rw [h0, h3, h1, h2]

theorem iblk2_at (H : HoldsAt A m c) (b : Fin 2) (d : Fin 64) (j : Fin 4352) :
    iblk m c 2 t (ix4 b 0 d j) = (A.v b.val j.val (t.val / 17) d.val : EReal) := by
  show V m c main_v44 ((win0_2.rect t).emb (ix4 b 0 d j)) = _
  have e : V m c main_v44 = _ := after_v _
  rw [e]
  refine (vArr_apply H _).trans ?_
  have h0 : ((win0_2.rect t).emb (ix4 b 0 d j) 0).val = b.val := by
    refine (win0_2.rect_emb_val t (ix4 b 0 d j) 0 rfl).trans ?_
    rw [index2]
    show 0 * 2 + b.val = _
    omega
  have h3 : ((win0_2.rect t).emb (ix4 b 0 d j) 3).val = j.val := by
    refine (win0_2.rect_emb_val t (ix4 b 0 d j) 3 rfl).trans ?_
    rw [index2]
    show 0 * 4352 + j.val = _
    omega
  have h1 : ((win0_2.rect t).emb (ix4 b 0 d j) 1).val = t.val / 17 := by
    refine (win0_2.rect_emb_val t (ix4 b 0 d j) 1 rfl).trans ?_
    rw [index2]
    show t.val / 17 * 1 + 0 = _
    omega
  have h2 : ((win0_2.rect t).emb (ix4 b 0 d j) 2).val = d.val := by
    refine (win0_2.rect_emb_val t (ix4 b 0 d j) 2 rfl).trans ?_
    rw [index2]
    show 0 * 64 + d.val = _
    omega
  rw [h0, h3, h1, h2]

theorem iblk8_at (H : HoldsAt A m c) (b : Fin 2) (r : Fin 256) (d : Fin 64) :
    iblk m c 8 t (ix5 b 0 0 r d) = (outVal A b.val (t.val / 17) (256 * (t.val % 17) + r.val) d.val : EReal) := by
  show V m c main_v35 ((win0_8.rect t).emb (ix5 b 0 0 r d)) = _
  have e : V m c main_v35 = _ := after_out _
  rw [e]
  refine (outArr_apply H _).trans ?_
  have h0 : ((win0_8.rect t).emb (ix5 b 0 0 r d) 0).val = b.val := by
    refine (win0_8.rect_emb_val t (ix5 b 0 0 r d) 0 rfl).trans ?_
    rw [index8]
    show 0 * 2 + b.val = _
    omega
  have h1 : ((win0_8.rect t).emb (ix5 b 0 0 r d) 1).val = t.val / 17 := by
    refine (win0_8.rect_emb_val t (ix5 b 0 0 r d) 1 rfl).trans ?_
    rw [index8]
    show t.val / 17 * 1 + 0 = _
    omega
  have h3 : ((win0_8.rect t).emb (ix5 b 0 0 r d) 3).val = 256 * (t.val % 17) + r.val := by
    refine (win0_8.rect_emb_val t (ix5 b 0 0 r d) 3 rfl).trans ?_
    rw [index8]
    show t.val % 17 * 256 + r.val = _
    omega
  have h4 : ((win0_8.rect t).emb (ix5 b 0 0 r d) 4).val = d.val := by
    refine (win0_8.rect_emb_val t (ix5 b 0 0 r d) 4 rfl).trans ?_
    rw [index8]
    show 0 * 64 + d.val = _
    omega
  rw [h0, h1, h3, h4]

theorem iblk9_at (H : HoldsAt A m c) (b : Fin 2) (r : Fin 256) (d : Fin 128) :
    iblk m c 9 t (ix5 b 0 0 r d) = (lseVal A (m ((c : Thread nD τ).loc main_arg0)) (m ((c : Thread nD τ).loc main_arg1)) b.val (t.val / 17) (256 * (t.val % 17) + r.val) : EReal) := by
  show V m c main_v38 ((win0_9.rect t).emb (ix5 b 0 0 r d)) = _
  have e : V m c main_v38 = _ := after_lse _
  rw [e]
  refine (lseArr_apply H _).trans ?_
  have h0 : ((win0_9.rect t).emb (ix5 b 0 0 r d) 0).val = b.val := by
    refine (win0_9.rect_emb_val t (ix5 b 0 0 r d) 0 rfl).trans ?_
    rw [index9]
    show 0 * 2 + b.val = _
    omega
  have h1 : ((win0_9.rect t).emb (ix5 b 0 0 r d) 1).val = t.val / 17 := by
    refine (win0_9.rect_emb_val t (ix5 b 0 0 r d) 1 rfl).trans ?_
    rw [index9]
    show t.val / 17 * 1 + 0 = _
    omega
  have h3 : ((win0_9.rect t).emb (ix5 b 0 0 r d) 3).val = 256 * (t.val % 17) + r.val := by
    refine (win0_9.rect_emb_val t (ix5 b 0 0 r d) 3 rfl).trans ?_
    rw [index9]
    show t.val % 17 * 256 + r.val = _
    omega
  rw [h0, h1, h3]

theorem iblk10_at (H : HoldsAt A m c) (b : Fin 2) (r : Fin 256) (d : Fin 64) :
    iblk m c 10 t (ix5 b 0 0 r d) = (A.g b.val (256 * (t.val % 17) + r.val) (t.val / 17) d.val : EReal) := by
  show V m c main_v46 ((win0_10.rect t).emb (ix5 b 0 0 r d)) = _
  have e : V m c main_v46 = _ := after_g _
  rw [e]
  refine (gArr_apply H _).trans ?_
  have h0 : ((win0_10.rect t).emb (ix5 b 0 0 r d) 0).val = b.val := by
    refine (win0_10.rect_emb_val t (ix5 b 0 0 r d) 0 rfl).trans ?_
    rw [index10]
    show 0 * 2 + b.val = _
    omega
  have h3 : ((win0_10.rect t).emb (ix5 b 0 0 r d) 3).val = 256 * (t.val % 17) + r.val := by
    refine (win0_10.rect_emb_val t (ix5 b 0 0 r d) 3 rfl).trans ?_
    rw [index10]
    show t.val % 17 * 256 + r.val = _
    omega
  have h1 : ((win0_10.rect t).emb (ix5 b 0 0 r d) 1).val = t.val / 17 := by
    refine (win0_10.rect_emb_val t (ix5 b 0 0 r d) 1 rfl).trans ?_
    rw [index10]
    show t.val / 17 * 1 + 0 = _
    omega
  have h4 : ((win0_10.rect t).emb (ix5 b 0 0 r d) 4).val = d.val := by
    refine (win0_10.rect_emb_val t (ix5 b 0 0 r d) 4 rfl).trans ?_
    rw [index10]
    show 0 * 64 + d.val = _
    omega
  rw [h0, h3, h1, h4]

/-- The six blocks of point `t`. -/
theorem blocksAt (H : HoldsAt A m c) : BlocksAt A (m ((c : Thread nD τ).loc main_arg0)) (m ((c : Thread nD τ).loc main_arg1)) (t.val / 17)
    (256 * (t.val % 17)) m c t where
  c := H.c
  q b r d := iblk0_at m c t H b r d
  k b d j := iblk1_at m c t H b d j
  v b w j := iblk2_at m c t H b w j
  o b r w := iblk8_at m c t H b r w
  l b r := iblk9_at m c t H b r 0
  g b r w := iblk10_at m c t H b r w

end Cert.KernelIdeal.Hand

end
-- ==== Proof.Carry.lean ====
/- What the grid's points leave in the windows of the attention's gradients, over the reals: a tile of the query gradient at every
   point, and the sums of the key and value gradients over a head's tiles so far; so the three arrays after the last point. -/
module

public import proofs.«01_k».proof.Proof.Windows
public import proofs.«01_k».proof.Proof.Frame

@[expose] public section

set_option maxRecDepth 16384

noncomputable section

namespace Cert.KernelIdeal.Hand

open Cert.KernelIdeal Cert.KernelIdeal.Gen Cert.Model Cert.HostValue Cert.Tile
open Cert.RefValue (Wide Holds)
open Idealize.ShloMosaic Idealize.ShloMosaic.TcCoe Idealize.ShloMosaic.Tactic
open Idealize.ShloMosaic.Pipeline (Dat Cfg Window)
open Idealize.SL.Sem

variable {A : Call} (m : (ℓ : Loc nD τ sig) → Buf (Elt Ideal) ℓ) (c : Dev nD)

/-- The tile of the query gradient a point leaves. -/
theorem at_dq (H : HoldsAt A m c) (t : Fin cfg0.N) (b : Fin 2) (r : Fin 256) (d : Fin 96) :
    (outsAt m c t.val t.isLt).1 (ix5 b 0 0 r d) = (Model.dq A b.val (t.val / 17) (256 * (t.val % 17) + r.val) d.val : EReal) := by
  have B := blocksAt m c t H
  by_cases h3 : t.val % 17 = 16
  · have h0 : ¬t.val % 68 = 0 := by omega
    have h1 : ¬t.val % 17 = 0 := by omega
    rw [outsAt_C m c t h0 h1 (not_not.mpr h3) h3]
    exact outsC_dq m c t B (by omega) h0 h1 (not_not.mpr h3) h3 _ b r d
  · have hR : 256 * (t.val % 17) + 256 ≤ 4096 := by omega
    by_cases h0 : t.val % 68 = 0
    · have h1 : t.val % 17 = 0 := by omega
      rw [outsAt_A m c t h0 h1 h3 h3]
      exact outsA_dq m c t B hR h0 h1 h3 h3 b r d
    · by_cases h1 : t.val % 17 = 0
      · rw [outsAt_D m c t h0 h1 h3 h3]
        exact outsD_dq m c t B hR h0 h1 h3 h3 _ b r d
      · rw [outsAt_B m c t h0 h1 h3 h3]
        exact outsB_dq m c t B hR h0 h1 h3 h3 _ b r d

/-- The key gradient over the latent tiles of the head so far. -/
theorem at_dk_latent (H : HoldsAt A m c) (b : Fin 2) (d : Fin 96) (j : Fin 4352) : ∀ (n : ℕ) (hn : n < cfg0.N), ¬n % 17 = 16 →
    (outsAt m c n hn).2.1 (ix4 b 0 d j)
      = (∑ i ∈ Finset.range (n % 17 + 1), ∑ r : Fin 256, dsLat A b.val (n / 17) (256 * i + r.val) j.val * A.q b.val (256 * i + r.val) (n / 17) d.val : ℝ) := by
  intro n
  induction n with
  | zero =>
    intro hn h3
    have e := outsAt_A m c ⟨0, hn⟩ (Nat.zero_mod _) (Nat.zero_mod _) h3 h3
    dsimp only at e
    rw [e]
    refine (outsA_dk m c ⟨0, hn⟩ (blocksAt m c ⟨0, hn⟩ H) (by show 256 * (0 % 17) + 256 ≤ 4096; omega) (Nat.zero_mod _) (Nat.zero_mod _) h3 h3 b d j).trans ?_
    rw [Nat.zero_mod, Finset.sum_range_one]
  | succ n ih =>
    intro hn h3
    have hR : 256 * ((n + 1) % 17) + 256 ≤ 4096 := by omega
    have B := blocksAt m c ⟨n + 1, hn⟩ H
    by_cases h1 : (n + 1) % 17 = 0
    · have key : (outsAt m c (n + 1) hn).2.1 (ix4 b 0 d j) = (∑ r : Fin 256, dsLat A b.val ((n + 1) / 17) (256 * ((n + 1) % 17) + r.val) j.val * A.q b.val (256 * ((n + 1) % 17) + r.val) ((n + 1) / 17) d.val : ℝ) := by
        by_cases h0 : (n + 1) % 68 = 0
        · have e := outsAt_A m c ⟨n + 1, hn⟩ h0 h1 h3 h3
          dsimp only at e
          rw [e]
          exact outsA_dk m c ⟨n + 1, hn⟩ B hR h0 h1 h3 h3 b d j
        · have e := outsAt_D m c ⟨n + 1, hn⟩ h0 h1 h3 h3
          dsimp only at e
          rw [e]
          exact outsD_dk m c ⟨n + 1, hn⟩ B hR h0 h1 h3 h3 _ b d j
      rw [key, h1, Finset.sum_range_one]
    · have h0 : ¬(n + 1) % 68 = 0 := by omega
      have e := outsAt_B m c ⟨n + 1, hn⟩ h0 h1 h3 h3
      dsimp only at e
      rw [e]
      refine (outsB_dk m c ⟨n + 1, hn⟩ B hR h0 h1 h3 h3 _ b d j).trans ?_
      have hm : (n + 1) % 17 = n % 17 + 1 := by omega
      have hd : (n + 1) / 17 = n / 17 := by omega
      have hb : (before m c ⟨n + 1, hn⟩).2.1 (ix4 b 0 d j) = _ := ih (Nat.lt_of_succ_lt hn) (by omega)
      rw [hb, ← EReal.coe_add, Finset.sum_range_succ _ ((n + 1) % 17)]
      dsimp only
      rw [hm, hd]

/-- The key gradient a head's last point leaves: latent rows reach every key, context rows the last 256. -/
theorem at_dk (H : HoldsAt A m c) (t : Fin cfg0.N) (h3 : t.val % 17 = 16) (b : Fin 2) (d : Fin 96) (j : Fin 4352) :
    (outsAt m c t.val t.isLt).2.1 (ix4 b 0 d j) = (Model.dk A b.val (t.val / 17) j.val d.val : EReal) := by
  have h0 : ¬t.val % 68 = 0 := by omega
  have h1 : ¬t.val % 17 = 0 := by omega
  have hb : (before m c t).2.1 (ix4 b 0 d j) = _ := at_dk_latent m c H b d j (t.val - 1) (Nat.lt_of_le_of_lt (Nat.sub_le _ _) t.isLt) (by omega)
  have e1 : (t.val - 1) % 17 + 1 = 16 := by omega
  have e2 : (t.val - 1) / 17 = t.val / 17 := by omega
  rw [e1, e2, sum_tiles fun x => dsLat A b.val (t.val / 17) x j.val * A.q b.val x (t.val / 17) d.val] at hb
  rw [outsAt_C m c t h0 h1 (not_not.mpr h3) h3, Model.dk]
  by_cases hj : j.val < 4096
  · rw [outsC_dk_low m c t h0 h1 (not_not.mpr h3) h3 _ b d j hj, hb, if_neg (Nat.not_le.mpr hj), add_zero]
  · have B := blocksAt m c t H
    have ej : j = (⟨4096 + (⟨j.val - 4096, by omega⟩ : Fin 256).val, by dsimp only; omega⟩ : Fin 4352) := Fin.ext (by dsimp only; omega)
    have key := outsC_dk_high m c t B (by omega) h0 h1 (not_not.mpr h3) h3 (before m c t) b d (⟨j.val - 4096, by omega⟩ : Fin 256)
    rw [← ej] at key
    have ej' : 4096 + (j.val - 4096) = j.val := by omega
    have eR : 256 * (t.val % 17) = 4096 := by omega
    dsimp only at key
    rw [key, hb, if_pos (Nat.not_lt.mp hj), EReal.coe_add, ej', eR]

/-- The value gradient over the latent tiles of the head so far. -/
theorem at_dv_latent (H : HoldsAt A m c) (b : Fin 2) (d : Fin 64) (j : Fin 4352) : ∀ (n : ℕ) (hn : n < cfg0.N), ¬n % 17 = 16 →
    (outsAt m c n hn).2.2.1 (ix4 b 0 d j)
      = (∑ i ∈ Finset.range (n % 17 + 1), ∑ r : Fin 256, A.g b.val (256 * i + r.val) (n / 17) d.val * pLat A b.val (n / 17) (256 * i + r.val) j.val : ℝ) := by
  intro n
  induction n with
  | zero =>
    intro hn h3
    have e := outsAt_A m c ⟨0, hn⟩ (Nat.zero_mod _) (Nat.zero_mod _) h3 h3
    dsimp only at e
    rw [e]
    refine (outsA_dv m c ⟨0, hn⟩ (blocksAt m c ⟨0, hn⟩ H) (by show 256 * (0 % 17) + 256 ≤ 4096; omega) (Nat.zero_mod _) (Nat.zero_mod _) h3 h3 b d j).trans ?_
    rw [Nat.zero_mod, Finset.sum_range_one]
  | succ n ih =>
    intro hn h3
    have hR : 256 * ((n + 1) % 17) + 256 ≤ 4096 := by omega
    have B := blocksAt m c ⟨n + 1, hn⟩ H
    by_cases h1 : (n + 1) % 17 = 0
    · have key : (outsAt m c (n + 1) hn).2.2.1 (ix4 b 0 d j) = (∑ r : Fin 256, A.g b.val (256 * ((n + 1) % 17) + r.val) ((n + 1) / 17) d.val * pLat A b.val ((n + 1) / 17) (256 * ((n + 1) % 17) + r.val) j.val : ℝ) := by
        by_cases h0 : (n + 1) % 68 = 0
        · have e := outsAt_A m c ⟨n + 1, hn⟩ h0 h1 h3 h3
          dsimp only at e
          rw [e]
          exact outsA_dv m c ⟨n + 1, hn⟩ B hR h0 h1 h3 h3 b d j
        · have e := outsAt_D m c ⟨n + 1, hn⟩ h0 h1 h3 h3
          dsimp only at e
          rw [e]
          exact outsD_dv m c ⟨n + 1, hn⟩ B hR h0 h1 h3 h3 _ b d j
      rw [key, h1, Finset.sum_range_one]
    · have h0 : ¬(n + 1) % 68 = 0 := by omega
      have e := outsAt_B m c ⟨n + 1, hn⟩ h0 h1 h3 h3
      dsimp only at e
      rw [e]
      refine (outsB_dv m c ⟨n + 1, hn⟩ B hR h0 h1 h3 h3 _ b d j).trans ?_
      have hm : (n + 1) % 17 = n % 17 + 1 := by omega
      have hd : (n + 1) / 17 = n / 17 := by omega
      have hb : (before m c ⟨n + 1, hn⟩).2.2.1 (ix4 b 0 d j) = _ := ih (Nat.lt_of_succ_lt hn) (by omega)
      rw [hb, ← EReal.coe_add, Finset.sum_range_succ _ ((n + 1) % 17)]
      dsimp only
      rw [hm, hd]

/-- The value gradient a head's last point leaves: latent rows reach every key, context rows the last 256. -/
theorem at_dv (H : HoldsAt A m c) (t : Fin cfg0.N) (h3 : t.val % 17 = 16) (b : Fin 2) (d : Fin 64) (j : Fin 4352) :
    (outsAt m c t.val t.isLt).2.2.1 (ix4 b 0 d j) = (Model.dv A b.val (t.val / 17) j.val d.val : EReal) := by
  have h0 : ¬t.val % 68 = 0 := by omega
  have h1 : ¬t.val % 17 = 0 := by omega
  have hb : (before m c t).2.2.1 (ix4 b 0 d j) = _ := at_dv_latent m c H b d j (t.val - 1) (Nat.lt_of_le_of_lt (Nat.sub_le _ _) t.isLt) (by omega)
  have e1 : (t.val - 1) % 17 + 1 = 16 := by omega
  have e2 : (t.val - 1) / 17 = t.val / 17 := by omega
  rw [e1, e2, sum_tiles fun x => A.g b.val x (t.val / 17) d.val * pLat A b.val (t.val / 17) x j.val] at hb
  rw [outsAt_C m c t h0 h1 (not_not.mpr h3) h3, Model.dv]
  by_cases hj : j.val < 4096
  · rw [outsC_dv_low m c t h0 h1 (not_not.mpr h3) h3 _ b d j hj, hb, if_neg (Nat.not_le.mpr hj), add_zero]
  · have B := blocksAt m c t H
    have ej : j = (⟨4096 + (⟨j.val - 4096, by omega⟩ : Fin 256).val, by dsimp only; omega⟩ : Fin 4352) := Fin.ext (by dsimp only; omega)
    have key := outsC_dv_high m c t B (by omega) h0 h1 (not_not.mpr h3) h3 (before m c t) b d (⟨j.val - 4096, by omega⟩ : Fin 256)
    rw [← ej] at key
    have ej' : 4096 + (j.val - 4096) = j.val := by omega
    have eR : 256 * (t.val % 17) = 4096 := by omega
    dsimp only at key
    rw [key, hb, if_pos (Nat.not_lt.mp hj), EReal.coe_add, ej', eR]

/-! ## The arrays after the last point -/

theorem emb12 (t : Fin cfg0.N) (y : S2x1x1x256x96.Idx) (a : Fin 5) : ((win0_12.rect t).emb y a).val
    = ![0, t.val / 17, 0, t.val % 17, 0] a * ![2, 1, 1, 256, 96] a + (y a).val := by
  refine (win0_12.rect_emb_val t y a rfl).trans ?_
  rw [index12]

/-- The query gradient at every index. -/
theorem arr12 (H : HoldsAt A m c) (i : S2x4x1x4352x96.Idx) :
    (dats m 0 c).arrAt 12 cfg0.N i = (Model.dq A (i 0).val (i 1).val (i 3).val (i 4).val : EReal) := by
  refine (dats m 0 c).arrAt_forall_of_cover 12 (fun (i : S2x4x1x4352x96.Idx) (v : EReal) => v = (Model.dq A (i 0).val (i 1).val (i 3).val (i 4).val : EReal)) ?_ ?_ i
  · intro t hf y
    have hfl : (dats m 0 c).flushed 12 t = (cfg0.win 12).cut (grid0.coords t) ((outsAt m c t.val t.isLt).1) := by
      show (cfg0.win 12).cut (grid0.coords t) ((dats m 0 c).after 12 t) = _
      rw [after0_12]
    rw [hfl]
    have e : ∀ (y : S2x1x1x256x96.Idx) (i : S2x4x1x4352x96.Idx), (∀ a, (i a).val = ![0, t.val / 17, 0, t.val % 17, 0] a * ![2, 1, 1, 256, 96] a + (y a).val) →
        (outsAt m c t.val t.isLt).1 y = (Model.dq A (i 0).val (i 1).val (i 3).val (i 4).val : EReal) := by
      intro y i hi
      have h0 : (i 0).val = 0 * 2 + (y 0).val := hi 0
      have h1 : (i 1).val = t.val / 17 * 1 + (y 1).val := hi 1
      have h3 : (i 3).val = t.val % 17 * 256 + (y 3).val := hi 3
      have h4 : (i 4).val = 0 * 96 + (y 4).val := hi 4
      have z1 : (y 1).val < 1 := (y 1).isLt
      have z2 : (y 2).val < 1 := (y 2).isLt
      obtain ⟨b, hb⟩ : ∃ b : Fin 2, b = y 0 := ⟨_, rfl⟩
      obtain ⟨r, hr⟩ : ∃ r : Fin 256, r = y 3 := ⟨_, rfl⟩
      obtain ⟨d, hd⟩ : ∃ d : Fin 96, d = y 4 := ⟨_, rfl⟩
      have ey : y = ix5 b 0 0 r d := by
        funext a
        fin_cases a
        · exact hb.symm
        · exact Fin.ext (show (y 1).val = 0 by omega)
        · exact Fin.ext (show (y 2).val = 0 by omega)
        · exact hr.symm
        · exact hd.symm
      refine (congrArg (outsAt m c t.val t.isLt).1 ey).trans ((at_dq m c H t b r d).trans ?_)
      rw [hb, hr, hd]
      have g0 : (i 0).val = (y 0).val := by omega
      have g1 : (i 1).val = t.val / 17 := by omega
      have g3 : (i 3).val = 256 * (t.val % 17) + (y 3).val := by omega
      have g4 : (i 4).val = (y 4).val := by omega
      rw [g0, g1, g3, g4]
    exact e y ((win0_12.rect t).emb y) (emb12 t y)
  · intro i
    change S2x4x1x4352x96.Idx at i
    have i0 : (i 0).val < 2 := (i 0).isLt
    have i1 : (i 1).val < 4 := (i 1).isLt
    have i2 : (i 2).val < 1 := (i 2).isLt
    have i3 : (i 3).val < 4352 := (i 3).isLt
    have hN : 17 * (i 1).val + (i 3).val / 256 < cfg0.N := by show 17 * (i 1).val + (i 3).val / 256 < 68; omega
    obtain ⟨t, ht⟩ : ∃ t : Fin cfg0.N, t.val = 17 * (i 1).val + (i 3).val / 256 := ⟨⟨17 * (i 1).val + (i 3).val / 256, hN⟩, rfl⟩
    refine ⟨t, flush0_12 t, ?_⟩
    have ei : i = (win0_12.rect t).emb (ix5 (i 0) 0 0 (⟨(i 3).val % 256, Nat.mod_lt _ (by decide)⟩ : Fin 256) (i 4)) := by
      funext a
      apply Fin.ext
      rw [emb12]
      fin_cases a
      · show (i 0).val = 0 * 2 + (i 0).val
        omega
      · show (i 1).val = t.val / 17 * 1 + 0
        omega
      · show (i 2).val = 0 * 1 + 0
        omega
      · show (i 3).val = t.val % 17 * 256 + (i 3).val % 256
        omega
      · show (i 4).val = 0 * 96 + (i 4).val
        omega
    rw [ei]
    exact ((cfg0.win 12).blk t).view.emb_mem_set (ix5 (i 0) 0 0 (⟨(i 3).val % 256, Nat.mod_lt _ (by decide)⟩ : Fin 256) (i 4))

theorem emb13 (t : Fin cfg0.N) (y : S2x1x96x4352.Idx) (a : Fin 4) : ((win0_13.rect t).emb y a).val
    = ![0, t.val / 17, 0, 0] a * ![2, 1, 96, 4352] a + (y a).val := by
  refine (win0_13.rect_emb_val t y a rfl).trans ?_
  rw [index13]

/-- The key gradient at every index. -/
theorem arr13 (H : HoldsAt A m c) (i : S2x4x96x4352.Idx) :
    (dats m 0 c).arrAt 13 cfg0.N i = (Model.dk A (i 0).val (i 1).val (i 3).val (i 2).val : EReal) := by
  refine (dats m 0 c).arrAt_forall_of_cover 13 (fun (i : S2x4x96x4352.Idx) (v : EReal) => v = (Model.dk A (i 0).val (i 1).val (i 3).val (i 2).val : EReal)) ?_ ?_ i
  · intro t hf y
    have hfl : (dats m 0 c).flushed 13 t = (cfg0.win 13).cut (grid0.coords t) ((outsAt m c t.val t.isLt).2.1) := by
      show (cfg0.win 13).cut (grid0.coords t) ((dats m 0 c).after 13 t) = _
      rw [after0_13]
    rw [hfl]
    have e : ∀ (y : S2x1x96x4352.Idx) (i : S2x4x96x4352.Idx), (∀ a, (i a).val = ![0, t.val / 17, 0, 0] a * ![2, 1, 96, 4352] a + (y a).val) →
        (outsAt m c t.val t.isLt).2.1 y = (Model.dk A (i 0).val (i 1).val (i 3).val (i 2).val : EReal) := by
      intro y i hi
      have h0 : (i 0).val = 0 * 2 + (y 0).val := hi 0
      have h1 : (i 1).val = t.val / 17 * 1 + (y 1).val := hi 1
      have h2 : (i 2).val = 0 * 96 + (y 2).val := hi 2
      have h3 : (i 3).val = 0 * 4352 + (y 3).val := hi 3
      have z1 : (y 1).val < 1 := (y 1).isLt
      obtain ⟨b, hb⟩ : ∃ b : Fin 2, b = y 0 := ⟨_, rfl⟩
      obtain ⟨d, hd⟩ : ∃ d : Fin 96, d = y 2 := ⟨_, rfl⟩
      obtain ⟨j, hj⟩ : ∃ j : Fin 4352, j = y 3 := ⟨_, rfl⟩
      have ey : y = ix4 b 0 d j := by
        funext a
        fin_cases a
        · exact hb.symm
        · exact Fin.ext (show (y 1).val = 0 by omega)
        · exact hd.symm
        · exact hj.symm
      have ht : t.val % 17 = 16 := (flush0_13 t).mp hf
      refine (congrArg (outsAt m c t.val t.isLt).2.1 ey).trans ((at_dk m c H t ht b d j).trans ?_)
      rw [hb, hd, hj]
      have g0 : (i 0).val = (y 0).val := by omega
      have g1 : (i 1).val = t.val / 17 := by omega
      have g2 : (i 2).val = (y 2).val := by omega
      have g3 : (i 3).val = (y 3).val := by omega
      rw [g0, g1, g2, g3]
    exact e y ((win0_13.rect t).emb y) (emb13 t y)
  · intro i
    change S2x4x96x4352.Idx at i
    have i0 : (i 0).val < 2 := (i 0).isLt
    have i1 : (i 1).val < 4 := (i 1).isLt
    have i2 : (i 2).val < 96 := (i 2).isLt
    have i3 : (i 3).val < 4352 := (i 3).isLt
    have hN : 17 * (i 1).val + 16 < cfg0.N := by show 17 * (i 1).val + 16 < 68; omega
    obtain ⟨t, ht⟩ : ∃ t : Fin cfg0.N, t.val = 17 * (i 1).val + 16 := ⟨⟨17 * (i 1).val + 16, hN⟩, rfl⟩
    refine ⟨t, (flush0_13 t).mpr (by omega), ?_⟩
    have ei : i = (win0_13.rect t).emb (ix4 (i 0) 0 (i 2) (i 3)) := by
      funext a
      apply Fin.ext
      rw [emb13]
      fin_cases a
      · show (i 0).val = 0 * 2 + (i 0).val
        omega
      · show (i 1).val = t.val / 17 * 1 + 0
        omega
      · show (i 2).val = 0 * 96 + (i 2).val
        omega
      · show (i 3).val = 0 * 4352 + (i 3).val
        omega
    rw [ei]
    exact ((cfg0.win 13).blk t).view.emb_mem_set (ix4 (i 0) 0 (i 2) (i 3))

theorem emb14 (t : Fin cfg0.N) (y : S2x1x64x4352.Idx) (a : Fin 4) : ((win0_14.rect t).emb y a).val
    = ![0, t.val / 17, 0, 0] a * ![2, 1, 64, 4352] a + (y a).val := by
  refine (win0_14.rect_emb_val t y a rfl).trans ?_
  rw [index14]

/-- The value gradient at every index. -/
theorem arr14 (H : HoldsAt A m c) (i : S2x4x64x4352.Idx) :
    (dats m 0 c).arrAt 14 cfg0.N i = (Model.dv A (i 0).val (i 1).val (i 3).val (i 2).val : EReal) := by
  refine (dats m 0 c).arrAt_forall_of_cover 14 (fun (i : S2x4x64x4352.Idx) (v : EReal) => v = (Model.dv A (i 0).val (i 1).val (i 3).val (i 2).val : EReal)) ?_ ?_ i
  · intro t hf y
    have hfl : (dats m 0 c).flushed 14 t = (cfg0.win 14).cut (grid0.coords t) ((outsAt m c t.val t.isLt).2.2.1) := by
      show (cfg0.win 14).cut (grid0.coords t) ((dats m 0 c).after 14 t) = _
      rw [after0_14]
    rw [hfl]
    have e : ∀ (y : S2x1x64x4352.Idx) (i : S2x4x64x4352.Idx), (∀ a, (i a).val = ![0, t.val / 17, 0, 0] a * ![2, 1, 64, 4352] a + (y a).val) →
        (outsAt m c t.val t.isLt).2.2.1 y = (Model.dv A (i 0).val (i 1).val (i 3).val (i 2).val : EReal) := by
      intro y i hi
      have h0 : (i 0).val = 0 * 2 + (y 0).val := hi 0
      have h1 : (i 1).val = t.val / 17 * 1 + (y 1).val := hi 1
      have h2 : (i 2).val = 0 * 64 + (y 2).val := hi 2
      have h3 : (i 3).val = 0 * 4352 + (y 3).val := hi 3
      have z1 : (y 1).val < 1 := (y 1).isLt
      obtain ⟨b, hb⟩ : ∃ b : Fin 2, b = y 0 := ⟨_, rfl⟩
      obtain ⟨d, hd⟩ : ∃ d : Fin 64, d = y 2 := ⟨_, rfl⟩
      obtain ⟨j, hj⟩ : ∃ j : Fin 4352, j = y 3 := ⟨_, rfl⟩
      have ey : y = ix4 b 0 d j := by
        funext a
        fin_cases a
        · exact hb.symm
        · exact Fin.ext (show (y 1).val = 0 by omega)
        · exact hd.symm
        · exact hj.symm
      have ht : t.val % 17 = 16 := (flush0_14 t).mp hf
      refine (congrArg (outsAt m c t.val t.isLt).2.2.1 ey).trans ((at_dv m c H t ht b d j).trans ?_)
      rw [hb, hd, hj]
      have g0 : (i 0).val = (y 0).val := by omega
      have g1 : (i 1).val = t.val / 17 := by omega
      have g2 : (i 2).val = (y 2).val := by omega
      have g3 : (i 3).val = (y 3).val := by omega
      rw [g0, g1, g2, g3]
    exact e y ((win0_14.rect t).emb y) (emb14 t y)
  · intro i
    change S2x4x64x4352.Idx at i
    have i0 : (i 0).val < 2 := (i 0).isLt
    have i1 : (i 1).val < 4 := (i 1).isLt
    have i2 : (i 2).val < 64 := (i 2).isLt
    have i3 : (i 3).val < 4352 := (i 3).isLt
    have hN : 17 * (i 1).val + 16 < cfg0.N := by show 17 * (i 1).val + 16 < 68; omega
    obtain ⟨t, ht⟩ : ∃ t : Fin cfg0.N, t.val = 17 * (i 1).val + 16 := ⟨⟨17 * (i 1).val + 16, hN⟩, rfl⟩
    refine ⟨t, (flush0_14 t).mpr (by omega), ?_⟩
    have ei : i = (win0_14.rect t).emb (ix4 (i 0) 0 (i 2) (i 3)) := by
      funext a
      apply Fin.ext
      rw [emb14]
      fin_cases a
      · show (i 0).val = 0 * 2 + (i 0).val
        omega
      · show (i 1).val = t.val / 17 * 1 + 0
        omega
      · show (i 2).val = 0 * 64 + (i 2).val
        omega
      · show (i 3).val = 0 * 4352 + (i 3).val
        omega
    rw [ei]
    exact ((cfg0.win 14).blk t).view.emb_mem_set (ix4 (i 0) 0 (i 2) (i 3))

end Cert.KernelIdeal.Hand

end
-- ==== Proof.Algebraic.lean ====
/- The two programs end with the same three arrays: the gradients of the call whose real arrays the arguments hold. -/
module

public import proofs.«01_k».proof.Defs
public import proofs.«01_k».proof.Proof.Carry

@[expose] public section

set_option maxRecDepth 16384

noncomputable section

namespace Cert.Algebraic

open Cert.Model Cert.HostValue
open Cert.RefValue (Wide Slim Holds)
open Idealize.ShloMosaic Idealize.ShloMosaic.TcCoe
open Idealize.SL.Sem

instance : Cert.Pre_finite.Facts := ⟨by decide, by decide⟩

/-- A value whose magnitude is below infinity is a real. -/
theorem real_of_lt (x : EReal) (h : Ideal.cmp .olt (max x (-x)) (Ideal.ofBits .f32 0x7F800000#32) = 1#1) : ∃ r : ℝ, x = r := by
  have hlt : max x (-x) < ⊤ := by
    rw [ofBits_top] at h
    by_contra hn
    have e : Ideal.cmp .olt (max x (-x)) ⊤ = BitVec.ofBool (decide (max x (-x) < ⊤)) := rfl
    rw [e, decide_eq_false hn] at h
    exact absurd h (by decide)
  refine ⟨x.toReal, (EReal.coe_toReal ?_ ?_).symm⟩
  · exact fun e => absurd (e ▸ (max_lt_iff.mp hlt).1) (lt_irrefl _)
  · intro e
    have := (max_lt_iff.mp hlt).2
    rw [e, EReal.neg_bot] at this
    exact absurd this (lt_irrefl _)

/-- The call the four arguments hold. -/
def callOf (x0 x1 : Wide) (x2 x3 : Slim) : Call where
  q b r h d := entry x0 ![b, r, h, d]
  k b r h d := entry x1 ![b, r, h, d]
  v b r h d := entry x2 ![b, r, h, d]
  g b r h d := entry x3 ![b, r, h, d]
  c := ofBits_scale.choose

theorem entry_at {s : Shape} (x : s.Idx → EReal) (i : s.Idx) (f : Fin s.rank → ℕ) (hf : f = fun a => (i a).val) (hx : ∃ r : ℝ, x i = r) :
    x i = (entry x f : ℝ) := by rw [hf]; exact entry_eq x i hx

theorem holds_of_finite (x0 x1 : Wide) (x2 x3 : Slim) (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) : Holds (callOf x0 x1 x2 x3) x0 x1 x2 x3 where
  q i := entry_at x0 i _ (by funext a; fin_cases a <;> rfl) (h0 i)
  k i := entry_at x1 i _ (by funext a; fin_cases a <;> rfl) (h1 i)
  v i := entry_at x2 i _ (by funext a; fin_cases a <;> rfl) (h2 i)
  g i := entry_at x3 i _ (by funext a; fin_cases a <;> rfl) (h3 i)
  c := ofBits_scale.choose_spec

section Kernel

open Cert.KernelIdeal Cert.KernelIdeal.Gen Cert.KernelIdeal.Hand

/-- The precondition makes the arguments real on every device. -/
theorem holds (m : (ℓ : Loc nD τ sig) → Buf (Elt Ideal) ℓ) (hpre : Cert.Pre_KernelIdeal_finite m) (c : Dev nD) :
    HoldsAt (callOf (m ((c.tc : Thread nD τ).loc main_arg0)) (m ((c.tc : Thread nD τ).loc main_arg1)) (m ((c.tc : Thread nD τ).loc main_arg2)) (m ((c.tc : Thread nD τ).loc main_arg3))) m c := by
  obtain ⟨p0, p1, p2, p3⟩ := hpre c
  exact holds_of_finite _ _ _ _ (fun i => real_of_lt _ (congrFun p0 i)) (fun i => real_of_lt _ (congrFun p1 i))
    (fun i => real_of_lt _ (congrFun p2 i)) (fun i => real_of_lt _ (congrFun p3 i))

/-- The kernel's run ends with what the library computes for the three arrays, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47_0) = (dats m 0 c).arrAt 12 cfg0.N
      ∧ r.2.mem ((c.tc : Thread nD τ).loc main_v47_1) = (dats m 0 c).arrAt 13 cfg0.N
      ∧ r.2.mem ((c.tc : Thread nD τ).loc main_v47_2) = (dats m 0 c).arrAt 14 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have arrays : θ_run (defs (F := Ideal)) (onTc (τ := τ) (main (F := Ideal))) ⟨m, fun _ => 0, ρ⟩ (fun r => ∀ c : Dev nD,
      r.2.mem ((c.tc : Thread nD τ).loc main_v47_0) = (dats m 0 c).arrAt 12 cfg0.N
      ∧ r.2.mem ((c.tc : Thread nD τ).loc main_v47_1) = (dats m 0 c).arrAt 13 cfg0.N
      ∧ r.2.mem ((c.tc : Thread nD τ).loc main_v47_2) = (dats m 0 c).arrAt 14 cfg0.N) :=
    (θ_run defs _ _).mono (fun r h c => ⟨(h c).1 12, (h c).1 13, (h c).1 14⟩) (run_main m ρ)
  exact (θ_run defs _ _).mono (fun r h c => ⟨(h.1 c).1, (h.1 c).2.1, (h.1 c).2.2, h.2 c⟩) (θ_run_and arrays (unchanged m ρ))

end Kernel

/-- THE VALUE CLAIM: from finite arguments the kernel's gradients of the queries, keys and values are the reference's. -/
theorem claim : Cert.algebraic_KernelIdeal_ReferenceIdeal_pre_finite := by
  intro m g m' g' hpre hargs
  refine ⟨fun c => (Cert.KernelIdeal.Hand.dats m 0 c).arrAt 12 Cert.KernelIdeal.cfg0.N, fun c => (Cert.KernelIdeal.Hand.dats m 0 c).arrAt 13 Cert.KernelIdeal.cfg0.N,
    fun c => (Cert.KernelIdeal.Hand.dats m 0 c).arrAt 14 Cert.KernelIdeal.cfg0.N, kernel_run m g, ?_⟩
  refine (θ_run Cert.ReferenceIdeal.defs _ _).mono (fun r h c => ?_) (Cert.ReferenceIdeal.Value.run (F := Ideal) m' g')
  obtain ⟨e0, e1, e2, hrest⟩ := h c
  obtain ⟨a0, a1, a2, a3, -⟩ := hargs c
  have H := holds m hpre c
  refine ⟨e0.trans ?_, e1.trans ?_, e2.trans ?_, hrest⟩
  · rw [Cert.ReferenceIdeal.Read.val_main_v125_eq, a0, a1, a2, a3]
    exact funext fun i => (Cert.RefValue.result_dq H i).trans (Cert.KernelIdeal.Hand.arr12 m c H i).symm
  · rw [Cert.ReferenceIdeal.Read.val_main_v126_eq, a0, a1, a2, a3]
    exact funext fun i => (Cert.RefValue.result_dk H i).trans (Cert.KernelIdeal.Hand.arr13 m c H i).symm
  · rw [Cert.ReferenceIdeal.Read.val_main_v127_eq, a0, a1, a3]
    exact funext fun i => (Cert.RefValue.result_dv H i).trans (Cert.KernelIdeal.Hand.arr14 m c H i).symm

end Cert.Algebraic

end
-- ==== Proof.CallFrames.lean ====
module

public import proofs.«01_k».proof.Defs
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal.Run
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal.Run
public import proofs.«01_k».proof.Proof.Gen.Kernel15
public import proofs.«01_k».proof.Proof.Gen.Kernel15Ideal.Frame
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal.Run
public import proofs.«01_k».proof.Proof.Gen.Kernel17
public import proofs.«01_k».proof.Proof.Gen.Kernel17Ideal.Frame
public import proofs.«01_k».proof.Proof.Gen.Reference17Ideal.Run
public import proofs.«01_k».proof.Proof.Gen.Kernel18
public import proofs.«01_k».proof.Proof.Gen.Kernel18Ideal.Frame
public import proofs.«01_k».proof.Proof.Gen.Reference18Ideal.Run
public import proofs.«01_k».proof.Proof.Gen.Kernel19
public import proofs.«01_k».proof.Proof.Gen.Kernel19Ideal.Frame
public import proofs.«01_k».proof.Proof.Gen.Reference19Ideal.Run
public import proofs.«01_k».proof.Proof.Gen.Kernel20
public import proofs.«01_k».proof.Proof.Gen.Kernel20Ideal.Frame
public import proofs.«01_k».proof.Proof.Gen.Reference20Ideal.Run
public import proofs.«01_k».proof.Proof.Gen.Kernel21
public import proofs.«01_k».proof.Proof.Gen.Kernel21Ideal.Frame
public import proofs.«01_k».proof.Proof.Gen.Reference21Ideal.Run
public import proofs.«01_k».proof.Proof.Gen.Kernel22
public import proofs.«01_k».proof.Proof.Gen.Kernel22Ideal.Frame
public import proofs.«01_k».proof.Proof.Gen.Reference22Ideal.Run
public import proofs.«01_k».proof.Proof.Gen.Kernel23
public import proofs.«01_k».proof.Proof.Gen.Kernel23Ideal.Frame
public import proofs.«01_k».proof.Proof.Gen.Reference23Ideal.Run
public import proofs.«01_k».proof.Proof.Gen.Kernel24
public import proofs.«01_k».proof.Proof.Gen.Kernel24Ideal.Frame
public import proofs.«01_k».proof.Proof.Gen.Reference24Ideal.Run
public import proofs.«01_k».proof.Proof.Gen.Kernel25
public import proofs.«01_k».proof.Proof.Gen.Kernel25Ideal.Frame
public import proofs.«01_k».proof.Proof.Gen.Reference25Ideal.Run
public import proofs.«01_k».proof.Proof.Gen.Kernel26
public import proofs.«01_k».proof.Proof.Gen.Kernel26Ideal.Frame
public import proofs.«01_k».proof.Proof.Gen.Reference26Ideal.Run
public import proofs.«01_k».proof.Proof.Gen.Kernel27
public import proofs.«01_k».proof.Proof.Gen.Kernel27Ideal.Frame
public import proofs.«01_k».proof.Proof.Gen.Reference27Ideal.Run
public import proofs.«01_k».proof.Proof.Gen.Kernel28
public import proofs.«01_k».proof.Proof.Gen.Kernel28Ideal.Frame
public import proofs.«01_k».proof.Proof.Gen.Reference28Ideal.Run
public import proofs.«01_k».proof.Proof.Gen.Kernel29
public import proofs.«01_k».proof.Proof.Gen.Kernel29Ideal.Frame
public import proofs.«01_k».proof.Proof.Gen.Reference29Ideal.Run
public import proofs.«01_k».proof.Proof.Gen.Kernel30
public import proofs.«01_k».proof.Proof.Gen.Kernel30Ideal.Frame
public import proofs.«01_k».proof.Proof.Gen.Reference30Ideal.Run
public import proofs.«01_k».proof.Proof.Gen.Kernel31
public import proofs.«01_k».proof.Proof.Gen.Kernel31Ideal.Frame
public import proofs.«01_k».proof.Proof.Gen.Reference31Ideal.Run
public import proofs.«01_k».proof.Proof.Gen.Kernel32
public import proofs.«01_k».proof.Proof.Gen.Kernel32Ideal.Frame
public import proofs.«01_k».proof.Proof.Gen.Reference32Ideal.Run
public import proofs.«01_k».proof.Proof.Gen.Kernel33
public import proofs.«01_k».proof.Proof.Gen.Kernel33Ideal.Frame
public import proofs.«01_k».proof.Proof.Gen.Reference33Ideal.Run

/-! The frames of the calls stated as programs of their own: each printed call from the run of its exact reading, whose text
is the same, and each reference from its run. -/

@[expose] public section

set_option maxRecDepth 100000

noncomputable section

namespace Cert.CallFrames

open Idealize.ShloMosaic Idealize.SL.Sem

/-- The two texts of call 2's body, and so the two body tables, are one. -/
theorem defs₀_eq2 : Cert.Kernel2.defs₀ (F := Bits) = Cert.Kernel2Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq2 : Cert.Kernel2.defs (F := Bits) = Cert.Kernel2Ideal.defs (F := Bits) :=
  congrArg (Pipeline.defs Cert.Kernel2Ideal.pcfgs) defs₀_eq2

theorem main_eq2 : Cert.Kernel2.main (F := Bits) = Cert.Kernel2Ideal.main (F := Bits) := rfl

theorem kernel2 : Cert.quiescent_Kernel2 := by
  intro m ρ _
  rw [main_eq2, defs_eq2]
  exact Cert.Kernel2Ideal.Gen.frame (F := Bits) m ρ

theorem kernel2Ideal : Cert.quiescent_Kernel2Ideal := fun m ρ _ => Cert.Kernel2Ideal.Gen.frame (F := Ideal) m ρ

theorem reference2Ideal : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- The two texts of call 3's body, and so the two body tables, are one. -/
theorem defs₀_eq3 : Cert.Kernel3.defs₀ (F := Bits) = Cert.Kernel3Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq3 : Cert.Kernel3.defs (F := Bits) = Cert.Kernel3Ideal.defs (F := Bits) :=
  congrArg (Pipeline.defs Cert.Kernel3Ideal.pcfgs) defs₀_eq3

theorem main_eq3 : Cert.Kernel3.main (F := Bits) = Cert.Kernel3Ideal.main (F := Bits) := rfl

theorem kernel3 : Cert.quiescent_Kernel3 := by
  intro m ρ _
  rw [main_eq3, defs_eq3]
  exact Cert.Kernel3Ideal.Gen.frame (F := Bits) m ρ

theorem kernel3Ideal : Cert.quiescent_Kernel3Ideal := fun m ρ _ => Cert.Kernel3Ideal.Gen.frame (F := Ideal) m ρ

theorem reference3Ideal : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The two texts of call 4's body, and so the two body tables, are one. -/
theorem defs₀_eq4 : Cert.Kernel4.defs₀ (F := Bits) = Cert.Kernel4Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq4 : Cert.Kernel4.defs (F := Bits) = Cert.Kernel4Ideal.defs (F := Bits) :=
  congrArg (Pipeline.defs Cert.Kernel4Ideal.pcfgs) defs₀_eq4

theorem main_eq4 : Cert.Kernel4.main (F := Bits) = Cert.Kernel4Ideal.main (F := Bits) := rfl

theorem kernel4 : Cert.quiescent_Kernel4 := by
  intro m ρ _
  rw [main_eq4, defs_eq4]
  exact Cert.Kernel4Ideal.Gen.frame (F := Bits) m ρ

theorem kernel4Ideal : Cert.quiescent_Kernel4Ideal := fun m ρ _ => Cert.Kernel4Ideal.Gen.frame (F := Ideal) m ρ

theorem reference4Ideal : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The two texts of call 5's body, and so the two body tables, are one. -/
theorem defs₀_eq5 : Cert.Kernel5.defs₀ (F := Bits) = Cert.Kernel5Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq5 : Cert.Kernel5.defs (F := Bits) = Cert.Kernel5Ideal.defs (F := Bits) :=
  congrArg (Pipeline.defs Cert.Kernel5Ideal.pcfgs) defs₀_eq5

theorem main_eq5 : Cert.Kernel5.main (F := Bits) = Cert.Kernel5Ideal.main (F := Bits) := rfl

theorem kernel5 : Cert.quiescent_Kernel5 := by
  intro m ρ _
  rw [main_eq5, defs_eq5]
  exact Cert.Kernel5Ideal.Gen.frame (F := Bits) m ρ

theorem kernel5Ideal : Cert.quiescent_Kernel5Ideal := fun m ρ _ => Cert.Kernel5Ideal.Gen.frame (F := Ideal) m ρ

theorem reference5Ideal : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- The two texts of call 6's body, and so the two body tables, are one. -/
theorem defs₀_eq6 : Cert.Kernel6.defs₀ (F := Bits) = Cert.Kernel6Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq6 : Cert.Kernel6.defs (F := Bits) = Cert.Kernel6Ideal.defs (F := Bits) :=
  congrArg (Pipeline.defs Cert.Kernel6Ideal.pcfgs) defs₀_eq6

theorem main_eq6 : Cert.Kernel6.main (F := Bits) = Cert.Kernel6Ideal.main (F := Bits) := rfl

theorem kernel6 : Cert.quiescent_Kernel6 := by
  intro m ρ _
  rw [main_eq6, defs_eq6]
  exact Cert.Kernel6Ideal.Gen.frame (F := Bits) m ρ

theorem kernel6Ideal : Cert.quiescent_Kernel6Ideal := fun m ρ _ => Cert.Kernel6Ideal.Gen.frame (F := Ideal) m ρ

theorem reference6Ideal : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run (F := Ideal) m ρ)

/-- The two texts of call 7's body, and so the two body tables, are one. -/
theorem defs₀_eq7 : Cert.Kernel7.defs₀ (F := Bits) = Cert.Kernel7Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq7 : Cert.Kernel7.defs (F := Bits) = Cert.Kernel7Ideal.defs (F := Bits) :=
  congrArg (Pipeline.defs Cert.Kernel7Ideal.pcfgs) defs₀_eq7

theorem main_eq7 : Cert.Kernel7.main (F := Bits) = Cert.Kernel7Ideal.main (F := Bits) := rfl

theorem kernel7 : Cert.quiescent_Kernel7 := by
  intro m ρ _
  rw [main_eq7, defs_eq7]
  exact Cert.Kernel7Ideal.Gen.frame (F := Bits) m ρ

theorem kernel7Ideal : Cert.quiescent_Kernel7Ideal := fun m ρ _ => Cert.Kernel7Ideal.Gen.frame (F := Ideal) m ρ

theorem reference7Ideal : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The two texts of call 8's body, and so the two body tables, are one. -/
theorem defs₀_eq8 : Cert.Kernel8.defs₀ (F := Bits) = Cert.Kernel8Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq8 : Cert.Kernel8.defs (F := Bits) = Cert.Kernel8Ideal.defs (F := Bits) :=
  congrArg (Pipeline.defs Cert.Kernel8Ideal.pcfgs) defs₀_eq8

theorem main_eq8 : Cert.Kernel8.main (F := Bits) = Cert.Kernel8Ideal.main (F := Bits) := rfl

theorem kernel8 : Cert.quiescent_Kernel8 := by
  intro m ρ _
  rw [main_eq8, defs_eq8]
  exact Cert.Kernel8Ideal.Gen.frame (F := Bits) m ρ

theorem kernel8Ideal : Cert.quiescent_Kernel8Ideal := fun m ρ _ => Cert.Kernel8Ideal.Gen.frame (F := Ideal) m ρ

theorem reference8Ideal : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run (F := Ideal) m ρ)

/-- The two texts of call 9's body, and so the two body tables, are one. -/
theorem defs₀_eq9 : Cert.Kernel9.defs₀ (F := Bits) = Cert.Kernel9Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq9 : Cert.Kernel9.defs (F := Bits) = Cert.Kernel9Ideal.defs (F := Bits) :=
  congrArg (Pipeline.defs Cert.Kernel9Ideal.pcfgs) defs₀_eq9

theorem main_eq9 : Cert.Kernel9.main (F := Bits) = Cert.Kernel9Ideal.main (F := Bits) := rfl

theorem kernel9 : Cert.quiescent_Kernel9 := by
  intro m ρ _
  rw [main_eq9, defs_eq9]
  exact Cert.Kernel9Ideal.Gen.frame (F := Bits) m ρ

theorem kernel9Ideal : Cert.quiescent_Kernel9Ideal := fun m ρ _ => Cert.Kernel9Ideal.Gen.frame (F := Ideal) m ρ

theorem reference9Ideal : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The two texts of call 10's body, and so the two body tables, are one. -/
theorem defs₀_eq10 : Cert.Kernel10.defs₀ (F := Bits) = Cert.Kernel10Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq10 : Cert.Kernel10.defs (F := Bits) = Cert.Kernel10Ideal.defs (F := Bits) :=
  congrArg (Pipeline.defs Cert.Kernel10Ideal.pcfgs) defs₀_eq10

theorem main_eq10 : Cert.Kernel10.main (F := Bits) = Cert.Kernel10Ideal.main (F := Bits) := rfl

theorem kernel10 : Cert.quiescent_Kernel10 := by
  intro m ρ _
  rw [main_eq10, defs_eq10]
  exact Cert.Kernel10Ideal.Gen.frame (F := Bits) m ρ

theorem kernel10Ideal : Cert.quiescent_Kernel10Ideal := fun m ρ _ => Cert.Kernel10Ideal.Gen.frame (F := Ideal) m ρ

theorem reference10Ideal : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run (F := Ideal) m ρ)

/-- The two texts of call 11's body, and so the two body tables, are one. -/
theorem defs₀_eq11 : Cert.Kernel11.defs₀ (F := Bits) = Cert.Kernel11Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq11 : Cert.Kernel11.defs (F := Bits) = Cert.Kernel11Ideal.defs (F := Bits) :=
  congrArg (Pipeline.defs Cert.Kernel11Ideal.pcfgs) defs₀_eq11

theorem main_eq11 : Cert.Kernel11.main (F := Bits) = Cert.Kernel11Ideal.main (F := Bits) := rfl

theorem kernel11 : Cert.quiescent_Kernel11 := by
  intro m ρ _
  rw [main_eq11, defs_eq11]
  exact Cert.Kernel11Ideal.Gen.frame (F := Bits) m ρ

theorem kernel11Ideal : Cert.quiescent_Kernel11Ideal := fun m ρ _ => Cert.Kernel11Ideal.Gen.frame (F := Ideal) m ρ

theorem reference11Ideal : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run (F := Ideal) m ρ)

/-- The two texts of call 12's body, and so the two body tables, are one. -/
theorem defs₀_eq12 : Cert.Kernel12.defs₀ (F := Bits) = Cert.Kernel12Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq12 : Cert.Kernel12.defs (F := Bits) = Cert.Kernel12Ideal.defs (F := Bits) :=
  congrArg (Pipeline.defs Cert.Kernel12Ideal.pcfgs) defs₀_eq12

theorem main_eq12 : Cert.Kernel12.main (F := Bits) = Cert.Kernel12Ideal.main (F := Bits) := rfl

theorem kernel12 : Cert.quiescent_Kernel12 := by
  intro m ρ _
  rw [main_eq12, defs_eq12]
  exact Cert.Kernel12Ideal.Gen.frame (F := Bits) m ρ

theorem kernel12Ideal : Cert.quiescent_Kernel12Ideal := fun m ρ _ => Cert.Kernel12Ideal.Gen.frame (F := Ideal) m ρ

theorem reference12Ideal : Cert.quiescent_Reference12Ideal := fun m ρ _ =>
  (θ_run Cert.Reference12Ideal.defs _ _).mono
    (fun r h => ⟨fun c => (h c).2, Idealize.ShloMosaic.sem_eq_zero_of_no_sems (by decide) r.2⟩)
    (Cert.Reference12Ideal.Value.run (F := Ideal) m ρ)

/-- The two texts of call 13's body, and so the two body tables, are one. -/
theorem defs₀_eq13 : Cert.Kernel13.defs₀ (F := Bits) = Cert.Kernel13Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq13 : Cert.Kernel13.defs (F := Bits) = Cert.Kernel13Ideal.defs (F := Bits) :=
  congrArg (Pipeline.defs Cert.Kernel13Ideal.pcfgs) defs₀_eq13

theorem main_eq13 : Cert.Kernel13.main (F := Bits) = Cert.Kernel13Ideal.main (F := Bits) := rfl

theorem kernel13 : Cert.quiescent_Kernel13 := by
  intro m ρ _
  rw [main_eq13, defs_eq13]
  exact Cert.Kernel13Ideal.Gen.frame (F := Bits) m ρ

theorem kernel13Ideal : Cert.quiescent_Kernel13Ideal := fun m ρ _ => Cert.Kernel13Ideal.Gen.frame (F := Ideal) m ρ

theorem reference13Ideal : Cert.quiescent_Reference13Ideal := fun m ρ _ =>
  (θ_run Cert.Reference13Ideal.defs _ _).mono
    (fun r h => ⟨fun c => (h c).2.2.2, Idealize.ShloMosaic.sem_eq_zero_of_no_sems (by decide) r.2⟩)
    (Cert.Reference13Ideal.Value.run (F := Ideal) m ρ)

/-- The two texts of call 14's body, and so the two body tables, are one. -/
theorem defs₀_eq14 : Cert.Kernel14.defs₀ (F := Bits) = Cert.Kernel14Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq14 : Cert.Kernel14.defs (F := Bits) = Cert.Kernel14Ideal.defs (F := Bits) :=
  congrArg (Pipeline.defs Cert.Kernel14Ideal.pcfgs) defs₀_eq14

theorem main_eq14 : Cert.Kernel14.main (F := Bits) = Cert.Kernel14Ideal.main (F := Bits) := rfl

theorem kernel14 : Cert.quiescent_Kernel14 := by
  intro m ρ _
  rw [main_eq14, defs_eq14]
  exact Cert.Kernel14Ideal.Gen.frame (F := Bits) m ρ

theorem kernel14Ideal : Cert.quiescent_Kernel14Ideal := fun m ρ _ => Cert.Kernel14Ideal.Gen.frame (F := Ideal) m ρ

theorem reference14Ideal : Cert.quiescent_Reference14Ideal := fun m ρ _ =>
  (θ_run Cert.Reference14Ideal.defs _ _).mono
    (fun r h => ⟨fun c => (h c).2.2.2, Idealize.ShloMosaic.sem_eq_zero_of_no_sems (by decide) r.2⟩)
    (Cert.Reference14Ideal.Value.run (F := Ideal) m ρ)

/-- The two texts of call 15's body, and so the two body tables, are one. -/
theorem defs₀_eq15 : Cert.Kernel15.defs₀ (F := Bits) = Cert.Kernel15Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq15 : Cert.Kernel15.defs (F := Bits) = Cert.Kernel15Ideal.defs (F := Bits) :=
  congrArg (Pipeline.defs Cert.Kernel15Ideal.pcfgs) defs₀_eq15

theorem main_eq15 : Cert.Kernel15.main (F := Bits) = Cert.Kernel15Ideal.main (F := Bits) := rfl

theorem kernel15 : Cert.quiescent_Kernel15 := by
  intro m ρ _
  rw [main_eq15, defs_eq15]
  exact Cert.Kernel15Ideal.Gen.frame (F := Bits) m ρ

theorem kernel15Ideal : Cert.quiescent_Kernel15Ideal := fun m ρ _ => Cert.Kernel15Ideal.Gen.frame (F := Ideal) m ρ

theorem reference15Ideal : Cert.quiescent_Reference15Ideal := fun m ρ _ =>
  (θ_run Cert.Reference15Ideal.defs _ _).mono
    (fun r h => ⟨fun c => (h c).2.2.2, Idealize.ShloMosaic.sem_eq_zero_of_no_sems (by decide) r.2⟩)
    (Cert.Reference15Ideal.Value.run (F := Ideal) m ρ)

/-- The two texts of call 16's body, and so the two body tables, are one. -/
theorem defs₀_eq16 : Cert.Kernel16.defs₀ (F := Bits) = Cert.Kernel16Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq16 : Cert.Kernel16.defs (F := Bits) = Cert.Kernel16Ideal.defs (F := Bits) :=
  congrArg (Pipeline.defs Cert.Kernel16Ideal.pcfgs) defs₀_eq16

theorem main_eq16 : Cert.Kernel16.main (F := Bits) = Cert.Kernel16Ideal.main (F := Bits) := rfl

theorem kernel16 : Cert.quiescent_Kernel16 := by
  intro m ρ _
  rw [main_eq16, defs_eq16]
  exact Cert.Kernel16Ideal.Gen.frame (F := Bits) m ρ

theorem kernel16Ideal : Cert.quiescent_Kernel16Ideal := fun m ρ _ => Cert.Kernel16Ideal.Gen.frame (F := Ideal) m ρ

theorem reference16Ideal : Cert.quiescent_Reference16Ideal := fun m ρ _ =>
  (θ_run Cert.Reference16Ideal.defs _ _).mono
    (fun r h => ⟨fun c => (h c).2.2.2, Idealize.ShloMosaic.sem_eq_zero_of_no_sems (by decide) r.2⟩)
    (Cert.Reference16Ideal.Value.run (F := Ideal) m ρ)

/-- The two texts of call 17's body, and so the two body tables, are one. -/
theorem defs₀_eq17 : Cert.Kernel17.defs₀ (F := Bits) = Cert.Kernel17Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq17 : Cert.Kernel17.defs (F := Bits) = Cert.Kernel17Ideal.defs (F := Bits) :=
  congrArg (Pipeline.defs Cert.Kernel17Ideal.pcfgs) defs₀_eq17

theorem main_eq17 : Cert.Kernel17.main (F := Bits) = Cert.Kernel17Ideal.main (F := Bits) := rfl

theorem kernel17 : Cert.quiescent_Kernel17 := by
  intro m ρ _
  rw [main_eq17, defs_eq17]
  exact Cert.Kernel17Ideal.Gen.frame (F := Bits) m ρ

theorem kernel17Ideal : Cert.quiescent_Kernel17Ideal := fun m ρ _ => Cert.Kernel17Ideal.Gen.frame (F := Ideal) m ρ

theorem reference17Ideal : Cert.quiescent_Reference17Ideal := fun m ρ _ =>
  (θ_run Cert.Reference17Ideal.defs _ _).mono
    (fun r h => ⟨fun c => (h c).2.2.2, Idealize.ShloMosaic.sem_eq_zero_of_no_sems (by decide) r.2⟩)
    (Cert.Reference17Ideal.Value.run (F := Ideal) m ρ)

/-- The two texts of call 18's body, and so the two body tables, are one. -/
theorem defs₀_eq18 : Cert.Kernel18.defs₀ (F := Bits) = Cert.Kernel18Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq18 : Cert.Kernel18.defs (F := Bits) = Cert.Kernel18Ideal.defs (F := Bits) :=
  congrArg (Pipeline.defs Cert.Kernel18Ideal.pcfgs) defs₀_eq18

theorem main_eq18 : Cert.Kernel18.main (F := Bits) = Cert.Kernel18Ideal.main (F := Bits) := rfl

theorem kernel18 : Cert.quiescent_Kernel18 := by
  intro m ρ _
  rw [main_eq18, defs_eq18]
  exact Cert.Kernel18Ideal.Gen.frame (F := Bits) m ρ

theorem kernel18Ideal : Cert.quiescent_Kernel18Ideal := fun m ρ _ => Cert.Kernel18Ideal.Gen.frame (F := Ideal) m ρ

theorem reference18Ideal : Cert.quiescent_Reference18Ideal := fun m ρ _ =>
  (θ_run Cert.Reference18Ideal.defs _ _).mono
    (fun r h => ⟨fun c => (h c).2.2.2, Idealize.ShloMosaic.sem_eq_zero_of_no_sems (by decide) r.2⟩)
    (Cert.Reference18Ideal.Value.run (F := Ideal) m ρ)

/-- The two texts of call 19's body, and so the two body tables, are one. -/
theorem defs₀_eq19 : Cert.Kernel19.defs₀ (F := Bits) = Cert.Kernel19Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq19 : Cert.Kernel19.defs (F := Bits) = Cert.Kernel19Ideal.defs (F := Bits) :=
  congrArg (Pipeline.defs Cert.Kernel19Ideal.pcfgs) defs₀_eq19

theorem main_eq19 : Cert.Kernel19.main (F := Bits) = Cert.Kernel19Ideal.main (F := Bits) := rfl

theorem kernel19 : Cert.quiescent_Kernel19 := by
  intro m ρ _
  rw [main_eq19, defs_eq19]
  exact Cert.Kernel19Ideal.Gen.frame (F := Bits) m ρ

theorem kernel19Ideal : Cert.quiescent_Kernel19Ideal := fun m ρ _ => Cert.Kernel19Ideal.Gen.frame (F := Ideal) m ρ

theorem reference19Ideal : Cert.quiescent_Reference19Ideal := fun m ρ _ =>
  (θ_run Cert.Reference19Ideal.defs _ _).mono
    (fun r h => ⟨fun c => (h c).2.2.2, Idealize.ShloMosaic.sem_eq_zero_of_no_sems (by decide) r.2⟩)
    (Cert.Reference19Ideal.Value.run (F := Ideal) m ρ)

/-- The two texts of call 20's body, and so the two body tables, are one. -/
theorem defs₀_eq20 : Cert.Kernel20.defs₀ (F := Bits) = Cert.Kernel20Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq20 : Cert.Kernel20.defs (F := Bits) = Cert.Kernel20Ideal.defs (F := Bits) :=
  congrArg (Pipeline.defs Cert.Kernel20Ideal.pcfgs) defs₀_eq20

theorem main_eq20 : Cert.Kernel20.main (F := Bits) = Cert.Kernel20Ideal.main (F := Bits) := rfl

theorem kernel20 : Cert.quiescent_Kernel20 := by
  intro m ρ _
  rw [main_eq20, defs_eq20]
  exact Cert.Kernel20Ideal.Gen.frame (F := Bits) m ρ

theorem kernel20Ideal : Cert.quiescent_Kernel20Ideal := fun m ρ _ => Cert.Kernel20Ideal.Gen.frame (F := Ideal) m ρ

theorem reference20Ideal : Cert.quiescent_Reference20Ideal := fun m ρ _ =>
  (θ_run Cert.Reference20Ideal.defs _ _).mono
    (fun r h => ⟨fun c => (h c).2.2.2, Idealize.ShloMosaic.sem_eq_zero_of_no_sems (by decide) r.2⟩)
    (Cert.Reference20Ideal.Value.run (F := Ideal) m ρ)

/-- The two texts of call 21's body, and so the two body tables, are one. -/
theorem defs₀_eq21 : Cert.Kernel21.defs₀ (F := Bits) = Cert.Kernel21Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq21 : Cert.Kernel21.defs (F := Bits) = Cert.Kernel21Ideal.defs (F := Bits) :=
  congrArg (Pipeline.defs Cert.Kernel21Ideal.pcfgs) defs₀_eq21

theorem main_eq21 : Cert.Kernel21.main (F := Bits) = Cert.Kernel21Ideal.main (F := Bits) := rfl

theorem kernel21 : Cert.quiescent_Kernel21 := by
  intro m ρ _
  rw [main_eq21, defs_eq21]
  exact Cert.Kernel21Ideal.Gen.frame (F := Bits) m ρ

theorem kernel21Ideal : Cert.quiescent_Kernel21Ideal := fun m ρ _ => Cert.Kernel21Ideal.Gen.frame (F := Ideal) m ρ

theorem reference21Ideal : Cert.quiescent_Reference21Ideal := fun m ρ _ =>
  (θ_run Cert.Reference21Ideal.defs _ _).mono
    (fun r h => ⟨fun c => (h c).2.2.2, Idealize.ShloMosaic.sem_eq_zero_of_no_sems (by decide) r.2⟩)
    (Cert.Reference21Ideal.Value.run (F := Ideal) m ρ)

/-- The two texts of call 22's body, and so the two body tables, are one. -/
theorem defs₀_eq22 : Cert.Kernel22.defs₀ (F := Bits) = Cert.Kernel22Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq22 : Cert.Kernel22.defs (F := Bits) = Cert.Kernel22Ideal.defs (F := Bits) :=
  congrArg (Pipeline.defs Cert.Kernel22Ideal.pcfgs) defs₀_eq22

theorem main_eq22 : Cert.Kernel22.main (F := Bits) = Cert.Kernel22Ideal.main (F := Bits) := rfl

theorem kernel22 : Cert.quiescent_Kernel22 := by
  intro m ρ _
  rw [main_eq22, defs_eq22]
  exact Cert.Kernel22Ideal.Gen.frame (F := Bits) m ρ

theorem kernel22Ideal : Cert.quiescent_Kernel22Ideal := fun m ρ _ => Cert.Kernel22Ideal.Gen.frame (F := Ideal) m ρ

theorem reference22Ideal : Cert.quiescent_Reference22Ideal := fun m ρ _ =>
  (θ_run Cert.Reference22Ideal.defs _ _).mono
    (fun r h => ⟨fun c => (h c).2.2.2, Idealize.ShloMosaic.sem_eq_zero_of_no_sems (by decide) r.2⟩)
    (Cert.Reference22Ideal.Value.run (F := Ideal) m ρ)

/-- The two texts of call 23's body, and so the two body tables, are one. -/
theorem defs₀_eq23 : Cert.Kernel23.defs₀ (F := Bits) = Cert.Kernel23Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq23 : Cert.Kernel23.defs (F := Bits) = Cert.Kernel23Ideal.defs (F := Bits) :=
  congrArg (Pipeline.defs Cert.Kernel23Ideal.pcfgs) defs₀_eq23

theorem main_eq23 : Cert.Kernel23.main (F := Bits) = Cert.Kernel23Ideal.main (F := Bits) := rfl

theorem kernel23 : Cert.quiescent_Kernel23 := by
  intro m ρ _
  rw [main_eq23, defs_eq23]
  exact Cert.Kernel23Ideal.Gen.frame (F := Bits) m ρ

theorem kernel23Ideal : Cert.quiescent_Kernel23Ideal := fun m ρ _ => Cert.Kernel23Ideal.Gen.frame (F := Ideal) m ρ

theorem reference23Ideal : Cert.quiescent_Reference23Ideal := fun m ρ _ =>
  (θ_run Cert.Reference23Ideal.defs _ _).mono
    (fun r h => ⟨fun c => (h c).2.2.2, Idealize.ShloMosaic.sem_eq_zero_of_no_sems (by decide) r.2⟩)
    (Cert.Reference23Ideal.Value.run (F := Ideal) m ρ)

/-- The two texts of call 24's body, and so the two body tables, are one. -/
theorem defs₀_eq24 : Cert.Kernel24.defs₀ (F := Bits) = Cert.Kernel24Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq24 : Cert.Kernel24.defs (F := Bits) = Cert.Kernel24Ideal.defs (F := Bits) :=
  congrArg (Pipeline.defs Cert.Kernel24Ideal.pcfgs) defs₀_eq24

theorem main_eq24 : Cert.Kernel24.main (F := Bits) = Cert.Kernel24Ideal.main (F := Bits) := rfl

theorem kernel24 : Cert.quiescent_Kernel24 := by
  intro m ρ _
  rw [main_eq24, defs_eq24]
  exact Cert.Kernel24Ideal.Gen.frame (F := Bits) m ρ

theorem kernel24Ideal : Cert.quiescent_Kernel24Ideal := fun m ρ _ => Cert.Kernel24Ideal.Gen.frame (F := Ideal) m ρ

theorem reference24Ideal : Cert.quiescent_Reference24Ideal := fun m ρ _ =>
  (θ_run Cert.Reference24Ideal.defs _ _).mono
    (fun r h => ⟨fun c => (h c).2.2.2, Idealize.ShloMosaic.sem_eq_zero_of_no_sems (by decide) r.2⟩)
    (Cert.Reference24Ideal.Value.run (F := Ideal) m ρ)

/-- The two texts of call 25's body, and so the two body tables, are one. -/
theorem defs₀_eq25 : Cert.Kernel25.defs₀ (F := Bits) = Cert.Kernel25Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq25 : Cert.Kernel25.defs (F := Bits) = Cert.Kernel25Ideal.defs (F := Bits) :=
  congrArg (Pipeline.defs Cert.Kernel25Ideal.pcfgs) defs₀_eq25

theorem main_eq25 : Cert.Kernel25.main (F := Bits) = Cert.Kernel25Ideal.main (F := Bits) := rfl

theorem kernel25 : Cert.quiescent_Kernel25 := by
  intro m ρ _
  rw [main_eq25, defs_eq25]
  exact Cert.Kernel25Ideal.Gen.frame (F := Bits) m ρ

theorem kernel25Ideal : Cert.quiescent_Kernel25Ideal := fun m ρ _ => Cert.Kernel25Ideal.Gen.frame (F := Ideal) m ρ

theorem reference25Ideal : Cert.quiescent_Reference25Ideal := fun m ρ _ =>
  (θ_run Cert.Reference25Ideal.defs _ _).mono
    (fun r h => ⟨fun c => (h c).2.2.2, Idealize.ShloMosaic.sem_eq_zero_of_no_sems (by decide) r.2⟩)
    (Cert.Reference25Ideal.Value.run (F := Ideal) m ρ)

/-- The two texts of call 26's body, and so the two body tables, are one. -/
theorem defs₀_eq26 : Cert.Kernel26.defs₀ (F := Bits) = Cert.Kernel26Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq26 : Cert.Kernel26.defs (F := Bits) = Cert.Kernel26Ideal.defs (F := Bits) :=
  congrArg (Pipeline.defs Cert.Kernel26Ideal.pcfgs) defs₀_eq26

theorem main_eq26 : Cert.Kernel26.main (F := Bits) = Cert.Kernel26Ideal.main (F := Bits) := rfl

theorem kernel26 : Cert.quiescent_Kernel26 := by
  intro m ρ _
  rw [main_eq26, defs_eq26]
  exact Cert.Kernel26Ideal.Gen.frame (F := Bits) m ρ

theorem kernel26Ideal : Cert.quiescent_Kernel26Ideal := fun m ρ _ => Cert.Kernel26Ideal.Gen.frame (F := Ideal) m ρ

theorem reference26Ideal : Cert.quiescent_Reference26Ideal := fun m ρ _ =>
  (θ_run Cert.Reference26Ideal.defs _ _).mono
    (fun r h => ⟨fun c => (h c).2, Idealize.ShloMosaic.sem_eq_zero_of_no_sems (by decide) r.2⟩)
    (Cert.Reference26Ideal.Value.run (F := Ideal) m ρ)

/-- The two texts of call 27's body, and so the two body tables, are one. -/
theorem defs₀_eq27 : Cert.Kernel27.defs₀ (F := Bits) = Cert.Kernel27Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq27 : Cert.Kernel27.defs (F := Bits) = Cert.Kernel27Ideal.defs (F := Bits) :=
  congrArg (Pipeline.defs Cert.Kernel27Ideal.pcfgs) defs₀_eq27

theorem main_eq27 : Cert.Kernel27.main (F := Bits) = Cert.Kernel27Ideal.main (F := Bits) := rfl

theorem kernel27 : Cert.quiescent_Kernel27 := by
  intro m ρ _
  rw [main_eq27, defs_eq27]
  exact Cert.Kernel27Ideal.Gen.frame (F := Bits) m ρ

theorem kernel27Ideal : Cert.quiescent_Kernel27Ideal := fun m ρ _ => Cert.Kernel27Ideal.Gen.frame (F := Ideal) m ρ

theorem reference27Ideal : Cert.quiescent_Reference27Ideal := fun m ρ _ =>
  (θ_run Cert.Reference27Ideal.defs _ _).mono
    (fun r h => ⟨fun c => (h c).2, Idealize.ShloMosaic.sem_eq_zero_of_no_sems (by decide) r.2⟩)
    (Cert.Reference27Ideal.Value.run (F := Ideal) m ρ)

/-- The two texts of call 28's body, and so the two body tables, are one. -/
theorem defs₀_eq28 : Cert.Kernel28.defs₀ (F := Bits) = Cert.Kernel28Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq28 : Cert.Kernel28.defs (F := Bits) = Cert.Kernel28Ideal.defs (F := Bits) :=
  congrArg (Pipeline.defs Cert.Kernel28Ideal.pcfgs) defs₀_eq28

theorem main_eq28 : Cert.Kernel28.main (F := Bits) = Cert.Kernel28Ideal.main (F := Bits) := rfl

theorem kernel28 : Cert.quiescent_Kernel28 := by
  intro m ρ _
  rw [main_eq28, defs_eq28]
  exact Cert.Kernel28Ideal.Gen.frame (F := Bits) m ρ

theorem kernel28Ideal : Cert.quiescent_Kernel28Ideal := fun m ρ _ => Cert.Kernel28Ideal.Gen.frame (F := Ideal) m ρ

theorem reference28Ideal : Cert.quiescent_Reference28Ideal := fun m ρ _ =>
  (θ_run Cert.Reference28Ideal.defs _ _).mono
    (fun r h => ⟨fun c => (h c).2, Idealize.ShloMosaic.sem_eq_zero_of_no_sems (by decide) r.2⟩)
    (Cert.Reference28Ideal.Value.run (F := Ideal) m ρ)

/-- The two texts of call 29's body, and so the two body tables, are one. -/
theorem defs₀_eq29 : Cert.Kernel29.defs₀ (F := Bits) = Cert.Kernel29Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq29 : Cert.Kernel29.defs (F := Bits) = Cert.Kernel29Ideal.defs (F := Bits) :=
  congrArg (Pipeline.defs Cert.Kernel29Ideal.pcfgs) defs₀_eq29

theorem main_eq29 : Cert.Kernel29.main (F := Bits) = Cert.Kernel29Ideal.main (F := Bits) := rfl

theorem kernel29 : Cert.quiescent_Kernel29 := by
  intro m ρ _
  rw [main_eq29, defs_eq29]
  exact Cert.Kernel29Ideal.Gen.frame (F := Bits) m ρ

theorem kernel29Ideal : Cert.quiescent_Kernel29Ideal := fun m ρ _ => Cert.Kernel29Ideal.Gen.frame (F := Ideal) m ρ

theorem reference29Ideal : Cert.quiescent_Reference29Ideal := fun m ρ _ =>
  (θ_run Cert.Reference29Ideal.defs _ _).mono
    (fun r h => ⟨fun c => (h c).2, Idealize.ShloMosaic.sem_eq_zero_of_no_sems (by decide) r.2⟩)
    (Cert.Reference29Ideal.Value.run (F := Ideal) m ρ)

/-- The two texts of call 30's body, and so the two body tables, are one. -/
theorem defs₀_eq30 : Cert.Kernel30.defs₀ (F := Bits) = Cert.Kernel30Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq30 : Cert.Kernel30.defs (F := Bits) = Cert.Kernel30Ideal.defs (F := Bits) :=
  congrArg (Pipeline.defs Cert.Kernel30Ideal.pcfgs) defs₀_eq30

theorem main_eq30 : Cert.Kernel30.main (F := Bits) = Cert.Kernel30Ideal.main (F := Bits) := rfl

theorem kernel30 : Cert.quiescent_Kernel30 := by
  intro m ρ _
  rw [main_eq30, defs_eq30]
  exact Cert.Kernel30Ideal.Gen.frame (F := Bits) m ρ

theorem kernel30Ideal : Cert.quiescent_Kernel30Ideal := fun m ρ _ => Cert.Kernel30Ideal.Gen.frame (F := Ideal) m ρ

theorem reference30Ideal : Cert.quiescent_Reference30Ideal := fun m ρ _ =>
  (θ_run Cert.Reference30Ideal.defs _ _).mono
    (fun r h => ⟨fun c => (h c).2, Idealize.ShloMosaic.sem_eq_zero_of_no_sems (by decide) r.2⟩)
    (Cert.Reference30Ideal.Value.run (F := Ideal) m ρ)

/-- The two texts of call 31's body, and so the two body tables, are one. -/
theorem defs₀_eq31 : Cert.Kernel31.defs₀ (F := Bits) = Cert.Kernel31Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq31 : Cert.Kernel31.defs (F := Bits) = Cert.Kernel31Ideal.defs (F := Bits) :=
  congrArg (Pipeline.defs Cert.Kernel31Ideal.pcfgs) defs₀_eq31

theorem main_eq31 : Cert.Kernel31.main (F := Bits) = Cert.Kernel31Ideal.main (F := Bits) := rfl

theorem kernel31 : Cert.quiescent_Kernel31 := by
  intro m ρ _
  rw [main_eq31, defs_eq31]
  exact Cert.Kernel31Ideal.Gen.frame (F := Bits) m ρ

theorem kernel31Ideal : Cert.quiescent_Kernel31Ideal := fun m ρ _ => Cert.Kernel31Ideal.Gen.frame (F := Ideal) m ρ

theorem reference31Ideal : Cert.quiescent_Reference31Ideal := fun m ρ _ =>
  (θ_run Cert.Reference31Ideal.defs _ _).mono
    (fun r h => ⟨fun c => (h c).2, Idealize.ShloMosaic.sem_eq_zero_of_no_sems (by decide) r.2⟩)
    (Cert.Reference31Ideal.Value.run (F := Ideal) m ρ)

/-- The two texts of call 32's body, and so the two body tables, are one. -/
theorem defs₀_eq32 : Cert.Kernel32.defs₀ (F := Bits) = Cert.Kernel32Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq32 : Cert.Kernel32.defs (F := Bits) = Cert.Kernel32Ideal.defs (F := Bits) :=
  congrArg (Pipeline.defs Cert.Kernel32Ideal.pcfgs) defs₀_eq32

theorem main_eq32 : Cert.Kernel32.main (F := Bits) = Cert.Kernel32Ideal.main (F := Bits) := rfl

theorem kernel32 : Cert.quiescent_Kernel32 := by
  intro m ρ _
  rw [main_eq32, defs_eq32]
  exact Cert.Kernel32Ideal.Gen.frame (F := Bits) m ρ

theorem kernel32Ideal : Cert.quiescent_Kernel32Ideal := fun m ρ _ => Cert.Kernel32Ideal.Gen.frame (F := Ideal) m ρ

theorem reference32Ideal : Cert.quiescent_Reference32Ideal := fun m ρ _ =>
  (θ_run Cert.Reference32Ideal.defs _ _).mono
    (fun r h => ⟨fun c => (h c).2, Idealize.ShloMosaic.sem_eq_zero_of_no_sems (by decide) r.2⟩)
    (Cert.Reference32Ideal.Value.run (F := Ideal) m ρ)

/-- The two texts of call 33's body, and so the two body tables, are one. -/
theorem defs₀_eq33 : Cert.Kernel33.defs₀ (F := Bits) = Cert.Kernel33Ideal.defs₀ (F := Bits) := by
  refine congrArg Defs.onTc (funext fun l => funext fun a => ?_)
  exact match l, a with
    | ⟨0, _⟩, (_, _) => rfl
    | ⟨_ + 1, h⟩, _ => absurd h (Nat.not_lt.2 (Nat.le_add_left _ _))

theorem defs_eq33 : Cert.Kernel33.defs (F := Bits) = Cert.Kernel33Ideal.defs (F := Bits) :=
  congrArg (Pipeline.defs Cert.Kernel33Ideal.pcfgs) defs₀_eq33

theorem main_eq33 : Cert.Kernel33.main (F := Bits) = Cert.Kernel33Ideal.main (F := Bits) := rfl

theorem kernel33 : Cert.quiescent_Kernel33 := by
  intro m ρ _
  rw [main_eq33, defs_eq33]
  exact Cert.Kernel33Ideal.Gen.frame (F := Bits) m ρ

theorem kernel33Ideal : Cert.quiescent_Kernel33Ideal := fun m ρ _ => Cert.Kernel33Ideal.Gen.frame (F := Ideal) m ρ

theorem reference33Ideal : Cert.quiescent_Reference33Ideal := fun m ρ _ =>
  (θ_run Cert.Reference33Ideal.defs _ _).mono
    (fun r h => ⟨fun c => (h c).2, Idealize.ShloMosaic.sem_eq_zero_of_no_sems (by decide) r.2⟩)
    (Cert.Reference33Ideal.Value.run (F := Ideal) m ρ)

end Cert.CallFrames

end
-- ==== Proof.FfBackward.lean ====
module

public import proofs.«01_k».proof.Proof.Gen.Kernel2Ideal.Value
public import proofs.«01_k».proof.Proof.Gen.Reference2Ideal.Read
public import proofs.«01_k».proof.Defs
public import Idealize.ShloMosaic.Lib.Pipeline.ValueKit
public import Idealize.ShloMosaic.Lib.Pointwise

/-! Feed-forward layer, backward: the call goes over the rows in 34 blocks of 256 with both weights in place. It forms the
hidden units again and leaves their squares, the gradient before the square, and the gradient of the rows. The reference's
derivative of the cut-off is a choice by the sign of the unit; the kernel multiplies by the cut-off unit, which is zero
where the choice gives zero. -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL.Sem

/-- The factor of the derivative of the square. -/
def two : EReal := Ideal.ofBits .f32 0x40000000#32

/-- Where a unit is not positive its cut-off is zero, so multiplying by the cut-off makes the reference's choice. -/
theorem gate (x b : EReal) : Scalar.select (FloatOps.cmpf (F := Ideal) (φ := .f32) .ogt x (0 : EReal)) (b * (two * max x 0)) (0 : EReal)
    = b * (two * max x 0) := by
  by_cases h : 0 < x
  · simp [Scalar.select, FloatOps.cmpf, Ideal.cmp, h]
  · simp [Scalar.select, FloatOps.cmpf, Ideal.cmp, h, max_eq_right (not_lt.1 h)]

/-- Hidden unit `l` of row `r` of a block before the square. -/
def hidden (h : Vec Ideal S256x1024 .f32) (w : Vec Ideal S1024x4096 .bf16) (r : Fin 256) (l : Fin 4096) : EReal :=
  max (∑ k : Fin 1024, h (ix2 r k) * w (ix2 k l)) 0

/-- The gradient above the second weight, taken back through it: unit `l` of row `r` of a block. -/
def back (d : Vec Ideal S256x1024 .f32) (v : Vec Ideal S4096x1024 .bf16) (r : Fin 256) (l : Fin 4096) : EReal :=
  ∑ k : Fin 1024, d (ix2 r k) * v (ix2 l k)

/-- The gradient before the square at hidden unit `l` of row `r` of a block. -/
def grad (h : Vec Ideal S256x1024 .f32) (w : Vec Ideal S1024x4096 .bf16) (d : Vec Ideal S256x1024 .f32)
    (v : Vec Ideal S4096x1024 .bf16) (r : Fin 256) (l : Fin 4096) : EReal :=
  back d v r l * (two * hidden h w r l)

theorem units (h : Vec Ideal S256x1024 .f32) (w : Vec Ideal S1024x4096 .bf16) (j : S256x4096.Idx) :
    k0_pay1 h w j = hidden h w (j 0) (j 1) := by
  unfold k0_pay1
  pointwise
  rfl

theorem squares (h : Vec Ideal S256x1024 .f32) (w : Vec Ideal S1024x4096 .bf16) (j : S256x4096.Idx) :
    k0_pay2 h w j = hidden h w (j 0) (j 1) * hidden h w (j 0) (j 1) := by
  rw [← units]
  rfl

theorem grads (h : Vec Ideal S256x1024 .f32) (w : Vec Ideal S1024x4096 .bf16) (d : Vec Ideal S256x1024 .f32)
    (v : Vec Ideal S4096x1024 .bf16) (j : S256x4096.Idx) : k0_pay3 h w d v j = grad h w d v (j 0) (j 1) := by
  unfold k0_pay3 grad
  rw [← units]
  generalize k0_pay1 h w = u
  pointwise
  rfl

theorem rows (h : Vec Ideal S256x1024 .f32) (w : Vec Ideal S1024x4096 .bf16) (d : Vec Ideal S256x1024 .f32)
    (v : Vec Ideal S4096x1024 .bf16) (w' : Vec Ideal S1024x4096 .bf16) (j : S256x1024.Idx) :
    k0_pay4 h w d v w' j = ∑ l : Fin 4096, grad h w d v (j 0) l * w' (ix2 (j 1) l) := by
  have e : ∀ l : Fin 4096, grad h w d v (j 0) l = k0_pay3 h w d v (ix2 (j 0) l) := fun l => (grads h w d v (ix2 (j 0) l)).symm
  simp only [e]
  unfold k0_pay4
  generalize k0_pay3 h w d v = u
  pointwise

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![t.val, 0] :=
  (by decide +kernel : ∀ t : Fin grid0.N, win0_1.index t = ![t.val, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![t.val, 0] :=
  (by decide +kernel : ∀ t : Fin grid0.N, win0_4.index t = ![t.val, 0])

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

/-- The shorter float type changes no value, so the stored weights are the arguments. -/
theorem stored1 (f : Valuation τ sig (Elt Ideal)) : StableHlo.after (hostOps0 (F := Ideal)) f (Proc.devRef .tc main_v2)
    = f (Proc.devRef .tc main_arg1) := by
  after_results_simp; rfl

theorem stored2 (f : Valuation τ sig (Elt Ideal)) : StableHlo.after (hostOps0 (F := Ideal)) f (Proc.devRef .tc main_v3)
    = f (Proc.devRef .tc main_arg2) := by
  after_results_simp; rfl

/-- The four blocks read at point `t`, as entries of the arguments. -/
theorem input (t : Fin cfg0.N) (r : Fin 256) (k : Fin 1024) (i : S8704x1024.Idx) (h0 : (i 0).val = t.val * 256 + r.val)
    (h1 : (i 1).val = k.val) : iblk m c 0 t (ix2 r k) = m ((c : Thread nD τ).loc main_arg0) i := by
  blk_simp [iblk]
  rw [V_main_arg0]
  refine congrArg _ ?_
  blk_ext [index0, h0, h1]

theorem above (t : Fin cfg0.N) (r : Fin 256) (k : Fin 1024) (i : S8704x1024.Idx) (h0 : (i 0).val = t.val * 256 + r.val)
    (h1 : (i 1).val = k.val) : iblk m c 1 t (ix2 r k) = m ((c : Thread nD τ).loc main_arg3) i := by
  blk_simp [iblk]
  rw [V_main_arg3]
  refine congrArg _ ?_
  blk_ext [index1, h0, h1]

theorem weight1 (t : Fin cfg0.N) (k : Fin 1024) (l : Fin 4096) (i : S1024x4096.Idx) (h0 : (i 0).val = k.val)
    (h1 : (i 1).val = l.val) : iblk m c 2 t (ix2 k l) = m ((c : Thread nD τ).loc main_arg1) i := by
  blk_simp [iblk]
  have e : V m c main_v2 = m ((c : Thread nD τ).loc main_arg1) := stored1 _
  rw [e]
  refine congrArg _ ?_
  blk_ext [index2, h0, h1]

theorem weight2 (t : Fin cfg0.N) (l : Fin 4096) (k : Fin 1024) (i : S4096x1024.Idx) (h0 : (i 0).val = l.val)
    (h1 : (i 1).val = k.val) : iblk m c 3 t (ix2 l k) = m ((c : Thread nD τ).loc main_arg2) i := by
  blk_simp [iblk]
  have e : V m c main_v3 = m ((c : Thread nD τ).loc main_arg2) := stored2 _
  rw [e]
  refine congrArg _ ?_
  blk_ext [index3, h0, h1]

/-- A hidden unit of the block is the reference's. -/
theorem unit (t : Fin cfg0.N) (r : Fin 256) (l : Fin 4096) (i : S8704x4096.Idx)
    (h0 : (i 0).val = t.val * 256 + r.val) (h1 : (i 1).val = l.val) : hidden (iblk m c 0 t) (iblk m c 2 t) r l
    = max (Reference2Ideal.Read.val_main_v0 (F := Ideal) (m ((c : Thread nD τ).loc main_arg0))
        (m ((c : Thread nD τ).loc main_arg1)) i) (0 : EReal) := by
  rw [Reference2Ideal.Read.val_main_v0_apply]
  refine congrArg₂ (fun x y : EReal => max x y) (Finset.sum_congr rfl fun k _ => ?_) rfl
  exact congrArg₂ (· * ·) (input m c t r k _ h0 rfl) (weight1 m c t k l _ rfl h1)

/-- The gradient above, taken back through the second weight, is the reference's. -/
theorem through (t : Fin cfg0.N) (r : Fin 256) (l : Fin 4096) (i : S8704x4096.Idx)
    (h0 : (i 0).val = t.val * 256 + r.val) (h1 : (i 1).val = l.val) : back (iblk m c 1 t) (iblk m c 3 t) r l
    = Reference2Ideal.Read.val_main_v9 (F := Ideal) (m ((c : Thread nD τ).loc main_arg2))
        (m ((c : Thread nD τ).loc main_arg3)) i := by
  rw [Reference2Ideal.Read.val_main_v9_apply]
  refine Finset.sum_congr rfl fun k _ => ?_
  exact congrArg₂ (· * ·) (above m c t r k _ h0 rfl) (weight2 m c t l k _ h1 rfl)

/-- The gradient before the square is the reference's. -/
theorem slope (t : Fin cfg0.N) (r : Fin 256) (l : Fin 4096) (i : S8704x4096.Idx)
    (h0 : (i 0).val = t.val * 256 + r.val) (h1 : (i 1).val = l.val) :
    grad (iblk m c 0 t) (iblk m c 2 t) (iblk m c 1 t) (iblk m c 3 t) r l
    = Reference2Ideal.Read.val_main_v12 (F := Ideal) (m ((c : Thread nD τ).loc main_arg0))
        (m ((c : Thread nD τ).loc main_arg1)) (m ((c : Thread nD τ).loc main_arg2))
        (m ((c : Thread nD τ).loc main_arg3)) i := by
  have z : (FloatOps.ofBits .f32 0x00000000#32 : Ideal .f32) = (0 : EReal) := Ideal.ofBits_zero_f32
  have e1 : Reference2Ideal.Read.val_main_v1 (F := Ideal) (m ((c : Thread nD τ).loc main_arg0))
      (m ((c : Thread nD τ).loc main_arg1)) i = max (Reference2Ideal.Read.val_main_v0 (F := Ideal)
        (m ((c : Thread nD τ).loc main_arg0)) (m ((c : Thread nD τ).loc main_arg1)) i) (0 : EReal) := by
    rw [Reference2Ideal.Read.val_main_v1_apply, Reference2Ideal.Read.val_main_call0_v0_apply,
      Reference2Ideal.Read.val_main_call0_cst_apply, z]
    rfl
  unfold grad
  rw [unit m c t r l i h0 h1, through m c t r l i h0 h1, Reference2Ideal.Read.val_main_v12_apply, Reference2Ideal.Read.val_main_v10_apply,
    Reference2Ideal.Read.val_main_v7_apply, e1, Reference2Ideal.Read.val_main_v3_apply,
    Reference2Ideal.Read.val_main_v2_apply, Reference2Ideal.Read.val_main_cst_apply,
    Reference2Ideal.Read.val_main_v11_apply, Reference2Ideal.Read.val_main_cst_2_apply,
    Reference2Ideal.Read.val_main_v6_apply, Reference2Ideal.Read.val_main_cst_1_apply, z]
  exact (gate _ _).symm

/-- The three blocks written at point `t` are the reference's blocks of rows. -/
theorem point4 (t : Fin cfg0.N) (y : S256x1024.Idx) (i : S8704x1024.Idx) (h0 : (i 0).val = t.val * 256 + (y 0).val)
    (h1 : (i 1).val = (y 1).val) :
    k0_pay4 (iblk m c 0 t) (iblk m c 2 t) (iblk m c 1 t) (iblk m c 3 t) (iblk m c 2 t) y
    = Reference2Ideal.Read.val_main_v13 (F := Ideal) (m ((c : Thread nD τ).loc main_arg0))
        (m ((c : Thread nD τ).loc main_arg1)) (m ((c : Thread nD τ).loc main_arg2))
        (m ((c : Thread nD τ).loc main_arg3)) i := by
  rw [rows, Reference2Ideal.Read.val_main_v13_apply]
  refine Finset.sum_congr rfl fun l _ => ?_
  exact congrArg₂ (· * ·) (slope m c t (y 0) l (Reference2Ideal.Read.lidx_main_v13 i l) h0 rfl)
    (weight1 m c t (y 1) l _ h1 rfl)

theorem point5 (t : Fin cfg0.N) (y : S256x4096.Idx) (i : S8704x4096.Idx) (h0 : (i 0).val = t.val * 256 + (y 0).val)
    (h1 : (i 1).val = (y 1).val) :
    k0_pay2 (iblk m c 0 t) (iblk m c 2 t) y
    = Reference2Ideal.Read.val_main_v30 (F := Ideal) (m ((c : Thread nD τ).loc main_arg0))
        (m ((c : Thread nD τ).loc main_arg1)) i := by
  have z : (FloatOps.ofBits .f32 0x00000000#32 : Ideal .f32) = (0 : EReal) := Ideal.ofBits_zero_f32
  rw [squares, unit m c t (y 0) (y 1) i h0 h1, Reference2Ideal.Read.val_main_v30_apply,
    Reference2Ideal.Read.val_main_v29_apply, Reference2Ideal.Read.val_main_v28_apply,
    Reference2Ideal.Read.val_main_call2_v0_apply, Reference2Ideal.Read.val_main_call2_cst_apply, z]
  rfl

theorem point6 (t : Fin cfg0.N) (y : S256x4096.Idx) (i : S8704x4096.Idx) (h0 : (i 0).val = t.val * 256 + (y 0).val)
    (h1 : (i 1).val = (y 1).val) :
    k0_pay3 (iblk m c 0 t) (iblk m c 2 t) (iblk m c 1 t) (iblk m c 3 t) y
    = Reference2Ideal.Read.val_main_v31 (F := Ideal) (m ((c : Thread nD τ).loc main_arg0))
        (m ((c : Thread nD τ).loc main_arg1)) (m ((c : Thread nD τ).loc main_arg2))
        (m ((c : Thread nD τ).loc main_arg3)) i := by
  rw [grads, slope m c t (y 0) (y 1) i h0 h1, Reference2Ideal.Read.val_main_v31_apply]
  rfl

/-- The three arrays the call leaves are the reference's. -/
theorem arr4 : (dats m 0 c).arrAt 4 cfg0.N
    = Reference2Ideal.Read.val_main_v13 (F := Ideal) (m ((c : Thread nD τ).loc main_arg0))
        (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  frame_out
  refine point4 m c t y _ ?_ ?_
  · blk_simp [index4]
  · blk_simp [index4]

theorem arr5 : (dats m 0 c).arrAt 5 cfg0.N
    = Reference2Ideal.Read.val_main_v30 (F := Ideal) (m ((c : Thread nD τ).loc main_arg0))
        (m ((c : Thread nD τ).loc main_arg1)) := by
  refine (dats m 0 c).arrAt_eq_of_covers 5 _ (by decide +kernel) fun t hf y => ?_
  blk_simp
  rw [after0_5]
  frame_out
  refine point5 m c t y _ ?_ ?_
  · blk_simp [index5]
  · blk_simp [index5]

theorem arr6 : (dats m 0 c).arrAt 6 cfg0.N
    = Reference2Ideal.Read.val_main_v31 (F := Ideal) (m ((c : Thread nD τ).loc main_arg0))
        (m ((c : Thread nD τ).loc main_arg1)) (m ((c : Thread nD τ).loc main_arg2))
        (m ((c : Thread nD τ).loc main_arg3)) := by
  refine (dats m 0 c).arrAt_eq_of_covers 6 _ (by decide +kernel) fun t hf y => ?_
  blk_simp
  rw [after0_6]
  frame_out
  refine point6 m c t y _ ?_ ?_
  · blk_simp [index6]
  · blk_simp [index6]

end Cert.Kernel2Ideal.Hand

namespace Cert

open Idealize.ShloMosaic Idealize.ShloMosaic.TcCoe
open Idealize.SL.Sem

theorem alg2 : algebraic_Kernel2Ideal_Reference2Ideal := by
  intro m g m' g' hpre hargs
  refine ⟨fun c => (Kernel2Ideal.Gen.dats m 0 c).arrAt 4 Kernel2Ideal.cfg0.N,
    fun c => (Kernel2Ideal.Gen.dats m 0 c).arrAt 5 Kernel2Ideal.cfg0.N,
    fun c => (Kernel2Ideal.Gen.dats m 0 c).arrAt 6 Kernel2Ideal.cfg0.N, Kernel2Ideal.Value.run_blocks m g, ?_⟩
  refine (θ_run Reference2Ideal.defs _ _).mono (fun r h c => ?_) (Reference2Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference2Ideal.Read.val_main_v13_eq, a0, a1, a2, a3]
    exact (Kernel2Ideal.Hand.arr4 m c).symm
  · rw [Reference2Ideal.Read.val_main_v30_eq, a0, a1]
    exact (Kernel2Ideal.Hand.arr5 m c).symm
  · rw [Reference2Ideal.Read.val_main_v31_eq, a0, a1, a2, a3]
    exact (Kernel2Ideal.Hand.arr6 m c).symm

end Cert

end
-- ==== Proof.FfWeight1.lean ====
module

public import proofs.«01_k».proof.Proof.Gen.Kernel3Ideal.Value
public import proofs.«01_k».proof.Proof.Gen.Reference3Ideal.Read
public import proofs.«01_k».proof.Defs
public import Idealize.ShloMosaic.Lib.Pipeline.ValueKit
public import Idealize.ShloMosaic.Lib.Pointwise

/-! Gradient of the first feed-forward weight: the call goes over the rows in 17 blocks of 512, keeps the output block in place and adds to it the product
of the two row blocks, transposed on the left. The reference contracts all 8704 rows at once. -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL.Sem

/-- One block of rows: the contribution of its 512 rows to entry `j` of the output block. -/
theorem part (a : Vec Ideal S512x1024 .f32) (g : Vec Ideal S512x2048 .bf16) (j : S1024x2048.Idx) :
    k0_pay1 a g j = ∑ k : Fin 512, a (ix2 k (j 0)) * g (ix2 k (j 1)) := by
  unfold k0_pay1
  pointwise

/-- A later block of rows adds its contribution to what the output block holds. -/
theorem added (a : Vec Ideal S512x1024 .f32) (g : Vec Ideal S512x2048 .bf16) (o : Vec Ideal S1024x2048 .f32)
    (j : S1024x2048.Idx) : k0_pay2 a g o j = o j + k0_pay1 a g j := by
  unfold k0_pay2
  pointwise

variable (m : (ℓ : Loc nD τ sig) → Buf (Elt Ideal) ℓ) (c : Dev nD)

theorem index0 : ∀ t : Fin cfg0.N, win0_0.index t = ![t.val % 17, 0] :=
  (by decide +kernel : ∀ t : Fin grid0.N, win0_0.index t = ![t.val % 17, 0])

theorem index1 : ∀ t : Fin cfg0.N, win0_1.index t = ![t.val % 17, t.val / 17] :=
  (by decide +kernel : ∀ t : Fin grid0.N, win0_1.index t = ![t.val % 17, t.val / 17])

theorem index2 : ∀ t : Fin cfg0.N, win0_2.index t = ![0, t.val / 17] :=
  (by decide +kernel : ∀ t : Fin grid0.N, win0_2.index t = ![0, t.val / 17])

/-- The shorter float type changes no value, so the stored operand is the argument. -/
theorem stored (f : Valuation τ sig (Elt Ideal)) : StableHlo.after (hostOps0 (F := Ideal)) f (Proc.devRef .tc main_v0)
    = f (Proc.devRef .tc main_arg1) := by
  after_results_simp; rfl

/-- The left block at point `t` is rows `512 * r ..` of the first argument, `r` the place of `t` in its run. -/
theorem left (t : Fin cfg0.N) (k : Fin 512) (a : Fin 1024) (i : S8704x1024.Idx) (h0 : (i 0).val = t.val % 17 * 512 + k.val)
    (h1 : (i 1).val = a.val) : iblk m c 0 t (ix2 k a) = m ((c : Thread nD τ).loc main_arg0) i := by
  blk_simp [iblk]
  rw [V_main_arg0]
  refine congrArg _ ?_
  blk_ext [index0, h0, h1]

/-- The right block at point `t`, likewise of the second argument. -/
theorem right (t : Fin cfg0.N) (k : Fin 512) (b : Fin 2048) (i : S8704x4096.Idx) (h0 : (i 0).val = t.val % 17 * 512 + k.val)
    (h1 : (i 1).val = t.val / 17 * 2048 + b.val) : iblk m c 1 t (ix2 k b) = m ((c : Thread nD τ).loc main_arg1) i := by
  blk_simp [iblk]
  have e : V m c main_v0 = m ((c : Thread nD τ).loc main_arg1) := stored _
  rw [e]
  refine congrArg _ ?_
  blk_ext [index1, h0, h1]

/-- What the output block holds at the end of a run: the sum of the run's 17 contributions. -/
theorem total (t : Fin cfg0.N) (hr : t.val % 17 = 17 - 1) (y : S1024x2048.Idx) :
    outsAt0 m c t.val t.isLt y = 0 + ∑ s : Fin 17,
      k0_pay1 (iblk m c 0 ⟨17 * (t.val / 17) + s.val, Pipeline.run_point_lt_of_flush t hr s⟩)
        (iblk m c 1 ⟨17 * (t.val / 17) + s.val, Pipeline.run_point_lt_of_flush t hr s⟩) y := by
  refine Pipeline.eq_sum_fin_of_reset_step_apply_of_flush (outsAt0 m c) 17 (fun _ => (0 : EReal))
    (fun t y => k0_pay1 (iblk m c 0 t) (iblk m c 1 t) y) (fun t h i => ?_) (fun t h i => ?_) t hr y
  · rw [outsAt0_A m c t h (by have : t.val < 34 := t.isLt; omega)]
    frame_out
    exact (zero_add _).symm
  · rw [outsAt0_B m c t h (by omega)]
    frame_out
    exact added _ _ _ _

/-- The output block at the end of its run is the reference's block of the product over all rows. -/
theorem point (t : Fin cfg0.N) (hr : t.val % 17 = 17 - 1) (y : S1024x2048.Idx) (i : S1024x4096.Idx)
    (h0 : (i 0).val = (y 0).val) (h1 : (i 1).val = t.val / 17 * 2048 + (y 1).val) :
    outsAt0 m c t.val t.isLt y
    = Reference3Ideal.Read.val_main_v3 (F := Ideal) (m ((c : Thread nD τ).loc main_arg0)) (m ((c : Thread nD τ).loc main_arg1)) i := by
  rw [total m c t hr, zero_add, Reference3Ideal.Read.val_main_v3_apply, Reference3Ideal.Read.val_main_v2_apply]
  simp only [part]
  refine Fin.sum_mul_add_congr fun s k hl => ?_
  have hs := s.isLt
  have hN : t.val < 34 := t.isLt
  rw [mul_comm]
  refine congrArg₂ (· * ·) (right m c _ k (y 1) _ ?_ ?_) (left m c _ k (y 0) _ ?_ ?_)
  · show s.val * 512 + k.val = (17 * (t.val / 17) + s.val) % 17 * 512 + k.val
    omega
  · show (i 1).val = (17 * (t.val / 17) + s.val) / 17 * 2048 + (y 1).val
    omega
  · show s.val * 512 + k.val = (17 * (t.val / 17) + s.val) % 17 * 512 + k.val
    omega
  · show (i 0).val = (y 0).val
    omega

/-- The array the call leaves is the reference's weight gradient. -/
theorem arr : (dats m 0 c).arrAt 2 cfg0.N
    = Reference3Ideal.Read.val_main_v3 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine point m c t hr y _ ?_ ?_
  · blk_simp [index2]
  · blk_simp [index2]

end Cert.Kernel3Ideal.Hand

namespace Cert

open Idealize.ShloMosaic Idealize.ShloMosaic.TcCoe
open Idealize.SL.Sem

theorem alg3 : algebraic_Kernel3Ideal_Reference3Ideal := by
  intro m g m' g' hpre hargs
  refine ⟨fun c => (Kernel3Ideal.Gen.dats m 0 c).arrAt 2 Kernel3Ideal.cfg0.N, Kernel3Ideal.Value.run_blocks m g, ?_⟩
  refine (θ_run Reference3Ideal.defs _ _).mono (fun r h c => ?_) (Reference3Ideal.Value.run (F := Ideal) m' g')
  obtain ⟨e0, hrest⟩ := h c
  obtain ⟨a0, a1⟩ := hargs c
  refine ⟨e0.trans ?_, hrest⟩
  rw [Reference3Ideal.Read.val_main_v3_eq, a0, a1]
  exact (Kernel3Ideal.Hand.arr m c).symm

end Cert

end
-- ==== Proof.FfWeight2.lean ====
module

public import proofs.«01_k».proof.Proof.Gen.Kernel4Ideal.Value
public import proofs.«01_k».proof.Proof.Gen.Reference4Ideal.Read
public import proofs.«01_k».proof.Defs
public import Idealize.ShloMosaic.Lib.Pipeline.ValueKit
public import Idealize.ShloMosaic.Lib.Pointwise

/-! Gradient of the second feed-forward weight: the call goes over the rows in 17 blocks of 512, keeps the output block in place and adds to it the product
of the two row blocks, transposed on the left. The reference contracts all 8704 rows at once. -/

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL.Sem

/-- One block of rows: the contribution of its 512 rows to entry `j` of the output block. -/
theorem part (a : Vec Ideal S512x2048 .bf16) (g : Vec Ideal S512x1024 .f32) (j : S2048x1024.Idx) :
    k0_pay1 a g j = ∑ k : Fin 512, a (ix2 k (j 0)) * g (ix2 k (j 1)) := by
  unfold k0_pay1
  pointwise

/-- A later block of rows adds its contribution to what the output block holds. -/
theorem added (a : Vec Ideal S512x2048 .bf16) (g : Vec Ideal S512x1024 .f32) (o : Vec Ideal S2048x1024 .f32)
    (j : S2048x1024.Idx) : k0_pay2 a g o j = o j + k0_pay1 a g j := by
  unfold k0_pay2
  pointwise

variable (m : (ℓ : Loc nD τ sig) → Buf (Elt Ideal) ℓ) (c : Dev nD)

theorem index0 : ∀ t : Fin cfg0.N, win0_0.index t = ![t.val % 17, t.val / 17] :=
  (by decide +kernel : ∀ t : Fin grid0.N, win0_0.index t = ![t.val % 17, t.val / 17])

theorem index1 : ∀ t : Fin cfg0.N, win0_1.index t = ![t.val % 17, 0] :=
  (by decide +kernel : ∀ t : Fin grid0.N, win0_1.index t = ![t.val % 17, 0])

theorem index2 : ∀ t : Fin cfg0.N, win0_2.index t = ![t.val / 17, 0] :=
  (by decide +kernel : ∀ t : Fin grid0.N, win0_2.index t = ![t.val / 17, 0])

/-- The shorter float type changes no value, so the stored operand is the argument. -/
theorem stored (f : Valuation τ sig (Elt Ideal)) : StableHlo.after (hostOps0 (F := Ideal)) f (Proc.devRef .tc main_v0)
    = f (Proc.devRef .tc main_arg0) := by
  after_results_simp; rfl

/-- The left block at point `t` is rows `512 * r ..` of the first argument, `r` the place of `t` in its run. -/
theorem left (t : Fin cfg0.N) (k : Fin 512) (a : Fin 2048) (i : S8704x4096.Idx) (h0 : (i 0).val = t.val % 17 * 512 + k.val)
    (h1 : (i 1).val = t.val / 17 * 2048 + a.val) : iblk m c 0 t (ix2 k a) = m ((c : Thread nD τ).loc main_arg0) i := by
  blk_simp [iblk]
  have e : V m c main_v0 = m ((c : Thread nD τ).loc main_arg0) := stored _
  rw [e]
  refine congrArg _ ?_
  blk_ext [index0, h0, h1]

/-- The right block at point `t`, likewise of the second argument. -/
theorem right (t : Fin cfg0.N) (k : Fin 512) (b : Fin 1024) (i : S8704x1024.Idx) (h0 : (i 0).val = t.val % 17 * 512 + k.val)
    (h1 : (i 1).val = b.val) : iblk m c 1 t (ix2 k b) = m ((c : Thread nD τ).loc main_arg1) i := by
  blk_simp [iblk]
  rw [V_main_arg1]
  refine congrArg _ ?_
  blk_ext [index1, h0, h1]

/-- What the output block holds at the end of a run: the sum of the run's 17 contributions. -/
theorem total (t : Fin cfg0.N) (hr : t.val % 17 = 17 - 1) (y : S2048x1024.Idx) :
    outsAt0 m c t.val t.isLt y = 0 + ∑ s : Fin 17,
      k0_pay1 (iblk m c 0 ⟨17 * (t.val / 17) + s.val, Pipeline.run_point_lt_of_flush t hr s⟩)
        (iblk m c 1 ⟨17 * (t.val / 17) + s.val, Pipeline.run_point_lt_of_flush t hr s⟩) y := by
  refine Pipeline.eq_sum_fin_of_reset_step_apply_of_flush (outsAt0 m c) 17 (fun _ => (0 : EReal))
    (fun t y => k0_pay1 (iblk m c 0 t) (iblk m c 1 t) y) (fun t h i => ?_) (fun t h i => ?_) t hr y
  · rw [outsAt0_A m c t h (by have : t.val < 34 := t.isLt; omega)]
    frame_out
    exact (zero_add _).symm
  · rw [outsAt0_B m c t h (by omega)]
    frame_out
    exact added _ _ _ _

/-- The output block at the end of its run is the reference's block of the product over all rows. -/
theorem point (t : Fin cfg0.N) (hr : t.val % 17 = 17 - 1) (y : S2048x1024.Idx) (i : S4096x1024.Idx)
    (h0 : (i 0).val = t.val / 17 * 2048 + (y 0).val) (h1 : (i 1).val = (y 1).val) :
    outsAt0 m c t.val t.isLt y
    = Reference4Ideal.Read.val_main_v3 (F := Ideal) (m ((c : Thread nD τ).loc main_arg0)) (m ((c : Thread nD τ).loc main_arg1)) i := by
  rw [total m c t hr, zero_add, Reference4Ideal.Read.val_main_v3_apply, Reference4Ideal.Read.val_main_v2_apply]
  simp only [part]
  refine Fin.sum_mul_add_congr fun s k hl => ?_
  have hs := s.isLt
  have hN : t.val < 34 := t.isLt
  rw [mul_comm]
  refine congrArg₂ (· * ·) (right m c _ k (y 1) _ ?_ ?_) (left m c _ k (y 0) _ ?_ ?_)
  · show s.val * 512 + k.val = (17 * (t.val / 17) + s.val) % 17 * 512 + k.val
    omega
  · show (i 1).val = (y 1).val
    omega
  · show s.val * 512 + k.val = (17 * (t.val / 17) + s.val) % 17 * 512 + k.val
    omega
  · show (i 0).val = (17 * (t.val / 17) + s.val) / 17 * 2048 + (y 0).val
    omega

/-- The array the call leaves is the reference's weight gradient. -/
theorem arr : (dats m 0 c).arrAt 2 cfg0.N
    = Reference4Ideal.Read.val_main_v3 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine point m c t hr y _ ?_ ?_
  · blk_simp [index2]
  · blk_simp [index2]

end Cert.Kernel4Ideal.Hand

namespace Cert

open Idealize.ShloMosaic Idealize.ShloMosaic.TcCoe
open Idealize.SL.Sem

theorem alg4 : algebraic_Kernel4Ideal_Reference4Ideal := by
  intro m g m' g' hpre hargs
  refine ⟨fun c => (Kernel4Ideal.Gen.dats m 0 c).arrAt 2 Kernel4Ideal.cfg0.N, Kernel4Ideal.Value.run_blocks m g, ?_⟩
  refine (θ_run Reference4Ideal.defs _ _).mono (fun r h c => ?_) (Reference4Ideal.Value.run (F := Ideal) m' g')
  obtain ⟨e0, hrest⟩ := h c
  obtain ⟨a0, a1⟩ := hargs c
  refine ⟨e0.trans ?_, hrest⟩
  rw [Reference4Ideal.Read.val_main_v3_eq, a0, a1]
  exact (Kernel4Ideal.Hand.arr m c).symm

end Cert

end
-- ==== Proof.FfForward.lean ====
module

public import proofs.«01_k».proof.Proof.Gen.Kernel5Ideal.Value
public import proofs.«01_k».proof.Proof.Gen.Reference5Ideal.Read
public import proofs.«01_k».proof.Defs
public import Idealize.ShloMosaic.Lib.Pipeline.ValueKit
public import Idealize.ShloMosaic.Lib.Pointwise

/-! Feed-forward layer, forward: the call goes over the rows in 34 blocks of 256 with both weights in place; each block is
multiplied by the first weight, cut off below zero, squared and multiplied by the second. -/

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL.Sem

/-- Hidden unit `l` of row `r` of a block before the square. -/
def hidden (h : Vec Ideal S256x1024 .f32) (w : Vec Ideal S1024x4096 .bf16) (r : Fin 256) (l : Fin 4096) : EReal :=
  max (∑ k : Fin 1024, h (ix2 r k) * w (ix2 k l)) 0

/-- One block of rows of the layer. -/
theorem rows (h : Vec Ideal S256x1024 .f32) (w : Vec Ideal S1024x4096 .bf16) (v : Vec Ideal S4096x1024 .bf16)
    (j : S256x1024.Idx) :
    k0_pay1 h w v j = ∑ l : Fin 4096, hidden h w (j 0) l * hidden h w (j 0) l * v (ix2 l (j 1)) := by
  unfold k0_pay1
  pointwise
  rfl

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![t.val, 0] :=
  (by decide +kernel : ∀ t : Fin grid0.N, win0_3.index t = ![t.val, 0])

/-- The shorter float type changes no value, so the stored weights are the arguments. -/
theorem stored1 (f : Valuation τ sig (Elt Ideal)) : StableHlo.after (hostOps0 (F := Ideal)) f (Proc.devRef .tc main_v2)
    = f (Proc.devRef .tc main_arg1) := by
  after_results_simp; rfl

theorem stored2 (f : Valuation τ sig (Elt Ideal)) : StableHlo.after (hostOps0 (F := Ideal)) f (Proc.devRef .tc main_v3)
    = f (Proc.devRef .tc main_arg2) := by
  after_results_simp; rfl

/-- The three blocks read at point `t`, as entries of the arguments. -/
theorem input (t : Fin cfg0.N) (r : Fin 256) (k : Fin 1024) (i : S8704x1024.Idx) (h0 : (i 0).val = t.val * 256 + r.val)
    (h1 : (i 1).val = k.val) : iblk m c 0 t (ix2 r k) = m ((c : Thread nD τ).loc main_arg0) i := by
  blk_simp [iblk]
  rw [V_main_arg0]
  refine congrArg _ ?_
  blk_ext [index0, h0, h1]

theorem weight1 (t : Fin cfg0.N) (k : Fin 1024) (l : Fin 4096) (i : S1024x4096.Idx) (h0 : (i 0).val = k.val)
    (h1 : (i 1).val = l.val) : iblk m c 1 t (ix2 k l) = m ((c : Thread nD τ).loc main_arg1) i := by
  blk_simp [iblk]
  have e : V m c main_v2 = m ((c : Thread nD τ).loc main_arg1) := stored1 _
  rw [e]
  refine congrArg _ ?_
  blk_ext [index1, h0, h1]

theorem weight2 (t : Fin cfg0.N) (l : Fin 4096) (k : Fin 1024) (i : S4096x1024.Idx) (h0 : (i 0).val = l.val)
    (h1 : (i 1).val = k.val) : iblk m c 2 t (ix2 l k) = m ((c : Thread nD τ).loc main_arg2) i := by
  blk_simp [iblk]
  have e : V m c main_v3 = m ((c : Thread nD τ).loc main_arg2) := stored2 _
  rw [e]
  refine congrArg _ ?_
  blk_ext [index2, h0, h1]

/-- A hidden unit of the block is the reference's. -/
theorem unit (t : Fin cfg0.N) (r : Fin 256) (l : Fin 4096) (i : Reference5Ideal.S8704x4096.Idx) (h0 : (i 0).val = t.val * 256 + r.val)
    (h1 : (i 1).val = l.val) : hidden (iblk m c 0 t) (iblk m c 1 t) r l
    = Reference5Ideal.Read.val_main_v1 (F := Ideal) (m ((c : Thread nD τ).loc main_arg0))
        (m ((c : Thread nD τ).loc main_arg1)) i := by
  rw [Reference5Ideal.Read.val_main_v1_apply, Reference5Ideal.Read.val_main_v0_apply,
    Reference5Ideal.Read.val_main_call0_v0_apply, Reference5Ideal.Read.val_main_call0_cst_apply]
  refine congrArg₂ (fun x y : EReal => max x y) (Finset.sum_congr rfl fun k _ => ?_) (by pointwise)
  exact congrArg₂ (· * ·) (input m c t r k _ h0 rfl) (weight1 m c t k l _ rfl h1)

/-- The block written at point `t` is the reference's block of rows. -/
theorem point (t : Fin cfg0.N) (y : S256x1024.Idx) (i : S8704x1024.Idx) (h0 : (i 0).val = t.val * 256 + (y 0).val)
    (h1 : (i 1).val = (y 1).val) :
    k0_pay1 (iblk m c 0 t) (iblk m c 1 t) (iblk m c 2 t) y
    = Reference5Ideal.Read.val_main_v3 (F := Ideal) (m ((c : Thread nD τ).loc main_arg0))
        (m ((c : Thread nD τ).loc main_arg1)) (m ((c : Thread nD τ).loc main_arg2)) i := by
  rw [rows, Reference5Ideal.Read.val_main_v3_apply]
  refine Finset.sum_congr rfl fun l _ => ?_
  rw [Reference5Ideal.Read.val_main_v2_apply,
    unit m c t (y 0) l (Reference5Ideal.Read.lidx_main_v3 i l) h0 rfl]
  exact congrArg₂ (· * ·) rfl (weight2 m c t l (y 1) _ rfl h1)

/-- The array the call leaves is the reference's layer. -/
theorem arr : (dats m 0 c).arrAt 3 cfg0.N
    = Reference5Ideal.Read.val_main_v3 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp
  rw [after0_3]
  frame_out
  refine point m c t y _ ?_ ?_
  · blk_simp [index3]
  · blk_simp [index3]

end Cert.Kernel5Ideal.Hand

namespace Cert

open Idealize.ShloMosaic Idealize.ShloMosaic.TcCoe
open Idealize.SL.Sem

theorem alg5 : algebraic_Kernel5Ideal_Reference5Ideal := by
  intro m g m' g' hpre hargs
  refine ⟨fun c => (Kernel5Ideal.Gen.dats m 0 c).arrAt 3 Kernel5Ideal.cfg0.N, Kernel5Ideal.Value.run_blocks m g, ?_⟩
  refine (θ_run Reference5Ideal.defs _ _).mono (fun r h c => ?_) (Reference5Ideal.Value.run (F := Ideal) m' g')
  obtain ⟨e0, hrest⟩ := h c
  obtain ⟨a0, a1, a2⟩ := hargs c
  refine ⟨e0.trans ?_, hrest⟩
  rw [Reference5Ideal.Read.val_main_v3_eq, a0, a1, a2]
  exact (Kernel5Ideal.Hand.arr m c).symm

end Cert

end
-- ==== Proof.InWeight.lean ====
module

public import proofs.«01_k».proof.Proof.Gen.Kernel6Ideal.Value
public import proofs.«01_k».proof.Proof.Gen.Reference6Ideal.Read
public import proofs.«01_k».proof.Defs
public import Idealize.ShloMosaic.Lib.Pipeline.ValueKit
public import Idealize.ShloMosaic.Lib.Pointwise

/-! Gradient of the input projection's weight: the call goes over the rows in 17 blocks of 512, keeps the output block in place and adds to it the product
of the two row blocks, transposed on the left. The reference contracts all 8704 rows at once. -/

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic
open Idealize.SL.Sem

/-- One block of rows: the contribution of its 512 rows to entry `j` of the output block. -/
theorem part (a : Vec Ideal S512x1024 .f32) (g : Vec Ideal S512x2560 .f32) (j : S1024x2560.Idx) :
    k0_pay1 a g j = ∑ k : Fin 512, a (ix2 k (j 0)) * g (ix2 k (j 1)) := by
  unfold k0_pay1
  pointwise

/-- A later block of rows adds its contribution to what the output block holds. -/
theorem added (a : Vec Ideal S512x1024 .f32) (g : Vec Ideal S512x2560 .f32) (o : Vec Ideal S1024x2560 .f32)
    (j : S1024x2560.Idx) : k0_pay2 a g o j = o j + k0_pay1 a g j := by
  unfold k0_pay2
  pointwise

variable (m : (ℓ : Loc nD τ sig) → Buf (Elt Ideal) ℓ) (c : Dev nD)

theorem index0 : ∀ t : Fin cfg0.N, win0_0.index t = ![t.val % 17, 0] :=
  (by decide +kernel : ∀ t : Fin grid0.N, win0_0.index t = ![t.val % 17, 0])

theorem index1 : ∀ t : Fin cfg0.N, win0_1.index t = ![t.val % 17, 0] :=
  (by decide +kernel : ∀ t : Fin grid0.N, win0_1.index t = ![t.val % 17, 0])

theorem index2 : ∀ t : Fin cfg0.N, win0_2.index t = ![0, 0] :=
  (by decide +kernel : ∀ t : Fin grid0.N, win0_2.index t = ![0, 0])

/-- The left block at point `t` is rows `512 * r ..` of the first argument, `r` the place of `t` in its run. -/
theorem left (t : Fin cfg0.N) (k : Fin 512) (a : Fin 1024) (i : S8704x1024.Idx) (h0 : (i 0).val = t.val % 17 * 512 + k.val)
    (h1 : (i 1).val = a.val) : iblk m c 0 t (ix2 k a) = m ((c : Thread nD τ).loc main_arg0) i := by
  blk_simp [iblk]
  rw [V_main_arg0]
  refine congrArg _ ?_
  blk_ext [index0, h0, h1]

/-- The right block at point `t`, likewise of the second argument. -/
theorem right (t : Fin cfg0.N) (k : Fin 512) (b : Fin 2560) (i : S8704x2560.Idx) (h0 : (i 0).val = t.val % 17 * 512 + k.val)
    (h1 : (i 1).val = b.val) : iblk m c 1 t (ix2 k b) = m ((c : Thread nD τ).loc main_arg1) i := by
  blk_simp [iblk]
  rw [V_main_arg1]
  refine congrArg _ ?_
  blk_ext [index1, h0, h1]

/-- What the output block holds at the end of a run: the sum of the run's 17 contributions. -/
theorem total (t : Fin cfg0.N) (hr : t.val % 17 = 17 - 1) (y : S1024x2560.Idx) :
    outsAt0 m c t.val t.isLt y = 0 + ∑ s : Fin 17,
      k0_pay1 (iblk m c 0 ⟨17 * (t.val / 17) + s.val, Pipeline.run_point_lt_of_flush t hr s⟩)
        (iblk m c 1 ⟨17 * (t.val / 17) + s.val, Pipeline.run_point_lt_of_flush t hr s⟩) y := by
  refine Pipeline.eq_sum_fin_of_reset_step_apply_of_flush (outsAt0 m c) 17 (fun _ => (0 : EReal))
    (fun t y => k0_pay1 (iblk m c 0 t) (iblk m c 1 t) y) (fun t h i => ?_) (fun t h i => ?_) t hr y
  · rw [outsAt0_A m c t h (by have : t.val < 17 := t.isLt; omega)]
    frame_out
    exact (zero_add _).symm
  · rw [outsAt0_B m c t h (by omega)]
    frame_out
    exact added _ _ _ _

/-- The output block at the end of its run is the reference's block of the product over all rows. -/
theorem point (t : Fin cfg0.N) (hr : t.val % 17 = 17 - 1) (y : S1024x2560.Idx) (i : S1024x2560.Idx)
    (h0 : (i 0).val = (y 0).val) (h1 : (i 1).val = (y 1).val) :
    outsAt0 m c t.val t.isLt y
    = Reference6Ideal.Read.val_main_v3 (F := Ideal) (m ((c : Thread nD τ).loc main_arg0)) (m ((c : Thread nD τ).loc main_arg1)) i := by
  rw [total m c t hr, zero_add, Reference6Ideal.Read.val_main_v3_apply, Reference6Ideal.Read.val_main_v2_apply]
  simp only [part]
  refine Fin.sum_mul_add_congr fun s k hl => ?_
  have hs := s.isLt
  have hN : t.val < 17 := t.isLt
  rw [mul_comm]
  refine congrArg₂ (· * ·) (right m c _ k (y 1) _ ?_ ?_) (left m c _ k (y 0) _ ?_ ?_)
  · show s.val * 512 + k.val = (17 * (t.val / 17) + s.val) % 17 * 512 + k.val
    omega
  · show (i 1).val = (y 1).val
    omega
  · show s.val * 512 + k.val = (17 * (t.val / 17) + s.val) % 17 * 512 + k.val
    omega
  · show (i 0).val = (y 0).val
    omega

/-- The array the call leaves is the reference's weight gradient. -/
theorem arr : (dats m 0 c).arrAt 2 cfg0.N
    = Reference6Ideal.Read.val_main_v3 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine point m c t hr y _ ?_ ?_
  · blk_simp [index2]
  · blk_simp [index2]

end Cert.Kernel6Ideal.Hand

namespace Cert

open Idealize.ShloMosaic Idealize.ShloMosaic.TcCoe
open Idealize.SL.Sem

theorem alg6 : algebraic_Kernel6Ideal_Reference6Ideal := by
  intro m g m' g' hpre hargs
  refine ⟨fun c => (Kernel6Ideal.Gen.dats m 0 c).arrAt 2 Kernel6Ideal.cfg0.N, Kernel6Ideal.Value.run_blocks m g, ?_⟩
  refine (θ_run Reference6Ideal.defs _ _).mono (fun r h c => ?_) (Reference6Ideal.Value.run (F := Ideal) m' g')
  obtain ⟨e0, hrest⟩ := h c
  obtain ⟨a0, a1⟩ := hargs c
  refine ⟨e0.trans ?_, hrest⟩
  rw [Reference6Ideal.Read.val_main_v3_eq, a0, a1]
  exact (Kernel6Ideal.Hand.arr m c).symm

end Cert

end
-- ==== Proof.InRows.lean ====
module

public import proofs.«01_k».proof.Proof.Gen.Kernel7Ideal.Value
public import proofs.«01_k».proof.Proof.Gen.Reference7Ideal.Read
public import proofs.«01_k».proof.Defs
public import Idealize.ShloMosaic.Lib.Pipeline.ValueKit
public import Idealize.ShloMosaic.Lib.Pointwise

/-! Gradient of the input projection's rows: the call goes over the rows in 17 blocks of 512 with the whole weight in place. The reference is one
product. -/

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL.Sem

/-- One block of rows times the weight, transposed. -/
theorem rows (a : Vec Ideal S512x2560 .f32) (w : Vec Ideal S1024x2560 .bf16) (j : S512x1024.Idx) :
    k0_pay1 a w j = ∑ k : Fin 2560, a (ix2 (j 0) k) * w (ix2 (j 1) k) := by
  unfold k0_pay1
  pointwise

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![t.val, 0] :=
  (by decide +kernel : ∀ t : Fin grid0.N, win0_2.index t = ![t.val, 0])

/-- The shorter float type changes no value, so the stored weight is the argument. -/
theorem stored (f : Valuation τ sig (Elt Ideal)) : StableHlo.after (hostOps0 (F := Ideal)) f (Proc.devRef .tc main_v0)
    = f (Proc.devRef .tc main_arg1) := by
  after_results_simp; rfl

/-- The block written at point `t` is the reference's block of rows. -/
theorem point (t : Fin cfg0.N) (y : S512x1024.Idx) (i : S8704x1024.Idx) (h0 : (i 0).val = t.val * 512 + (y 0).val)
    (h1 : (i 1).val = (y 1).val) :
    k0_pay1 (iblk m c 0 t) (iblk m c 1 t) y
    = Reference7Ideal.Read.val_main_v2 (F := Ideal) (m ((c : Thread nD τ).loc main_arg0)) (m ((c : Thread nD τ).loc main_arg1)) i := by
  rw [rows, Reference7Ideal.Read.val_main_v2_apply]
  refine Finset.sum_congr rfl fun k _ => ?_
  have e0 : iblk m c 0 t (ix2 (y 0) k)
      = m ((c : Thread nD τ).loc main_arg0) (Reference7Ideal.Read.lidx_main_v2 i k) := by
    blk_simp [iblk]
    rw [V_main_arg0]
    refine congrArg _ ?_
    blk_ext [index0, h0]
  have e1 : iblk m c 1 t (ix2 (y 1) k)
      = m ((c : Thread nD τ).loc main_arg1) (Reference7Ideal.Read.ridx_main_v2 i k) := by
    blk_simp [iblk]
    have e : V m c main_v0 = m ((c : Thread nD τ).loc main_arg1) := stored _
    rw [e]
    refine congrArg _ ?_
    blk_ext [index1, h1]
  rw [e0, e1]

/-- The array the call leaves is the reference's product. -/
theorem arr : (dats m 0 c).arrAt 2 cfg0.N
    = Reference7Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine point m c t y _ ?_ ?_
  · blk_simp [index2]
  · blk_simp [index2]

end Cert.Kernel7Ideal.Hand

namespace Cert

open Idealize.ShloMosaic Idealize.ShloMosaic.TcCoe
open Idealize.SL.Sem

theorem alg7 : algebraic_Kernel7Ideal_Reference7Ideal := by
  intro m g m' g' hpre hargs
  refine ⟨fun c => (Kernel7Ideal.Gen.dats m 0 c).arrAt 2 Kernel7Ideal.cfg0.N, Kernel7Ideal.Value.run_blocks m g, ?_⟩
  refine (θ_run Reference7Ideal.defs _ _).mono (fun r h c => ?_) (Reference7Ideal.Value.run (F := Ideal) m' g')
  obtain ⟨e0, hrest⟩ := h c
  obtain ⟨a0, a1⟩ := hargs c
  refine ⟨e0.trans ?_, hrest⟩
  rw [Reference7Ideal.Read.val_main_v2_eq, a0, a1]
  exact (Kernel7Ideal.Hand.arr m c).symm

end Cert

end
-- ==== Proof.OutWeight.lean ====
module

public import proofs.«01_k».proof.Proof.Gen.Kernel8Ideal.Value
public import proofs.«01_k».proof.Proof.Gen.Reference8Ideal.Read
public import proofs.«01_k».proof.Defs
public import Idealize.ShloMosaic.Lib.Pipeline.ValueKit
public import Idealize.ShloMosaic.Lib.Pointwise

/-! Gradient of the output projection's weight: the call goes over the rows in 17 blocks of 512, keeps the output block in place and adds to it the product
of the two row blocks, transposed on the left. The reference contracts all 8704 rows at once. -/

@[expose] public section

set_option maxRecDepth 16384

noncomputable section

namespace Cert.Kernel8Ideal.Hand

open Cert.Kernel8Ideal Cert.Kernel8Ideal.Gen
open Idealize.ShloMosaic Idealize.ShloMosaic.TcCoe Idealize.ShloMosaic.Tactic
open Idealize.SL.Sem

/-- One block of rows: the contribution of its 512 rows to entry `j` of the output block. -/
theorem part (a : Vec Ideal S512x1024 .f32) (g : Vec Ideal S512x1024 .f32) (j : S1024x1024.Idx) :
    k0_pay1 a g j = ∑ k : Fin 512, a (ix2 k (j 0)) * g (ix2 k (j 1)) := by
  unfold k0_pay1
  pointwise

/-- A later block of rows adds its contribution to what the output block holds. -/
theorem added (a : Vec Ideal S512x1024 .f32) (g : Vec Ideal S512x1024 .f32) (o : Vec Ideal S1024x1024 .f32)
    (j : S1024x1024.Idx) : k0_pay2 a g o j = o j + k0_pay1 a g j := by
  unfold k0_pay2
  pointwise

variable (m : (ℓ : Loc nD τ sig) → Buf (Elt Ideal) ℓ) (c : Dev nD)

theorem index0 : ∀ t : Fin cfg0.N, win0_0.index t = ![t.val % 17, 0] :=
  (by decide +kernel : ∀ t : Fin grid0.N, win0_0.index t = ![t.val % 17, 0])

theorem index1 : ∀ t : Fin cfg0.N, win0_1.index t = ![t.val % 17, 0] :=
  (by decide +kernel : ∀ t : Fin grid0.N, win0_1.index t = ![t.val % 17, 0])

theorem index2 : ∀ t : Fin cfg0.N, win0_2.index t = ![0, 0] :=
  (by decide +kernel : ∀ t : Fin grid0.N, win0_2.index t = ![0, 0])

/-- The left block at point `t` is rows `512 * r ..` of the first argument, `r` the place of `t` in its run. -/
theorem left (t : Fin cfg0.N) (k : Fin 512) (a : Fin 1024) (i : S8704x1024.Idx) (h0 : (i 0).val = t.val % 17 * 512 + k.val)
    (h1 : (i 1).val = a.val) : iblk m c 0 t (ix2 k a) = m ((c : Thread nD τ).loc main_arg0) i := by
  blk_simp [iblk]
  rw [V_main_arg0]
  refine congrArg _ ?_
  blk_ext [index0, h0, h1]

/-- The right block at point `t`, likewise of the second argument. -/
theorem right (t : Fin cfg0.N) (k : Fin 512) (b : Fin 1024) (i : S8704x1024.Idx) (h0 : (i 0).val = t.val % 17 * 512 + k.val)
    (h1 : (i 1).val = b.val) : iblk m c 1 t (ix2 k b) = m ((c : Thread nD τ).loc main_arg1) i := by
  blk_simp [iblk]
  rw [V_main_arg1]
  refine congrArg _ ?_
  blk_ext [index1, h0, h1]

/-- What the output block holds at the end of a run: the sum of the run's 17 contributions. -/
theorem total (t : Fin cfg0.N) (hr : t.val % 17 = 17 - 1) (y : S1024x1024.Idx) :
    outsAt0 m c t.val t.isLt y = 0 + ∑ s : Fin 17,
      k0_pay1 (iblk m c 0 ⟨17 * (t.val / 17) + s.val, Pipeline.run_point_lt_of_flush t hr s⟩)
        (iblk m c 1 ⟨17 * (t.val / 17) + s.val, Pipeline.run_point_lt_of_flush t hr s⟩) y := by
  refine Pipeline.eq_sum_fin_of_reset_step_apply_of_flush (outsAt0 m c) 17 (fun _ => (0 : EReal))
    (fun t y => k0_pay1 (iblk m c 0 t) (iblk m c 1 t) y) (fun t h i => ?_) (fun t h i => ?_) t hr y
  · rw [outsAt0_A m c t h (by have : t.val < 17 := t.isLt; omega)]
    frame_out
    exact (zero_add _).symm
  · rw [outsAt0_B m c t h (by omega)]
    frame_out
    exact added _ _ _ _

/-- The output block at the end of its run is the reference's block of the product over all rows. -/
theorem point (t : Fin cfg0.N) (hr : t.val % 17 = 17 - 1) (y : S1024x1024.Idx) (i : S1024x1024.Idx)
    (h0 : (i 0).val = (y 0).val) (h1 : (i 1).val = (y 1).val) :
    outsAt0 m c t.val t.isLt y
    = Reference8Ideal.Read.val_main_v3 (F := Ideal) (m ((c : Thread nD τ).loc main_arg0)) (m ((c : Thread nD τ).loc main_arg1)) i := by
  rw [total m c t hr, zero_add, Reference8Ideal.Read.val_main_v3_apply, Reference8Ideal.Read.val_main_v2_apply]
  simp only [part]
  refine Fin.sum_mul_add_congr fun s k hl => ?_
  have hs := s.isLt
  have hN : t.val < 17 := t.isLt
  rw [mul_comm]
  refine congrArg₂ (· * ·) (right m c _ k (y 1) _ ?_ ?_) (left m c _ k (y 0) _ ?_ ?_)
  · show s.val * 512 + k.val = (17 * (t.val / 17) + s.val) % 17 * 512 + k.val
    omega
  · show (i 1).val = (y 1).val
    omega
  · show s.val * 512 + k.val = (17 * (t.val / 17) + s.val) % 17 * 512 + k.val
    omega
  · show (i 0).val = (y 0).val
    omega

/-- The array the call leaves is the reference's weight gradient. -/
theorem arr : (dats m 0 c).arrAt 2 cfg0.N
    = Reference8Ideal.Read.val_main_v3 (F := Ideal) (m ((c : Thread nD τ).loc main_arg0)) (m ((c : Thread nD τ).loc main_arg1)) := by
  refine (dats m 0 c).arrAt_eq_of_covers 2 _ (by decide +kernel) fun t hf y => ?_
  have hr := (flush0_2 t).mp hf
  blk_simp
  rw [after0_2]
  refine point m c t hr y _ ?_ ?_
  · blk_simp [index2]
  · blk_simp [index2]

end Cert.Kernel8Ideal.Hand

namespace Cert

open Idealize.ShloMosaic Idealize.ShloMosaic.TcCoe
open Idealize.SL.Sem

theorem alg8 : algebraic_Kernel8Ideal_Reference8Ideal := by
  intro m g m' g' hpre hargs
  refine ⟨fun c => (Kernel8Ideal.Gen.dats m 0 c).arrAt 2 Kernel8Ideal.cfg0.N, Kernel8Ideal.Value.run_blocks m g, ?_⟩
  refine (θ_run Reference8Ideal.defs _ _).mono (fun r h c => ?_) (Reference8Ideal.Value.run (F := Ideal) m' g')
  obtain ⟨e0, hrest⟩ := h c
  obtain ⟨a0, a1⟩ := hargs c
  refine ⟨e0.trans ?_, hrest⟩
  rw [Reference8Ideal.Read.val_main_v3_eq, a0, a1]
  exact (Kernel8Ideal.Hand.arr m c).symm

end Cert

end
-- ==== Proof.OutRows.lean ====
module

public import proofs.«01_k».proof.Proof.Gen.Kernel9Ideal.Value
public import proofs.«01_k».proof.Proof.Gen.Reference9Ideal.Read
public import proofs.«01_k».proof.Defs
public import Idealize.ShloMosaic.Lib.Pipeline.ValueKit
public import Idealize.ShloMosaic.Lib.Pointwise

/-! Gradient of the output projection's rows: the call goes over the rows in 17 blocks of 512 with the whole weight in place. The reference is one
product. -/

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic
open Idealize.SL.Sem

/-- One block of rows times the weight, transposed. -/
theorem rows (a : Vec Ideal S512x1024 .f32) (w : Vec Ideal S1024x1024 .bf16) (j : S512x1024.Idx) :
    k0_pay1 a w j = ∑ k : Fin 1024, a (ix2 (j 0) k) * w (ix2 (j 1) k) := by
  unfold k0_pay1
  pointwise

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![t.val, 0] :=
  (by decide +kernel : ∀ t : Fin grid0.N, win0_2.index t = ![t.val, 0])

/-- The shorter float type changes no value, so the stored weight is the argument. -/
theorem stored (f : Valuation τ sig (Elt Ideal)) : StableHlo.after (hostOps0 (F := Ideal)) f (Proc.devRef .tc main_v0)
    = f (Proc.devRef .tc main_arg1) := by
  after_results_simp; rfl

/-- The block written at point `t` is the reference's block of rows. -/
theorem point (t : Fin cfg0.N) (y : S512x1024.Idx) (i : S8704x1024.Idx) (h0 : (i 0).val = t.val * 512 + (y 0).val)
    (h1 : (i 1).val = (y 1).val) :
    k0_pay1 (iblk m c 0 t) (iblk m c 1 t) y
    = Reference9Ideal.Read.val_main_v2 (F := Ideal) (m ((c : Thread nD τ).loc main_arg0)) (m ((c : Thread nD τ).loc main_arg1)) i := by
  rw [rows, Reference9Ideal.Read.val_main_v2_apply]
  refine Finset.sum_congr rfl fun k _ => ?_
  have e0 : iblk m c 0 t (ix2 (y 0) k)
      = m ((c : Thread nD τ).loc main_arg0) (Reference9Ideal.Read.lidx_main_v2 i k) := by
    blk_simp [iblk]
    rw [V_main_arg0]
    refine congrArg _ ?_
    blk_ext [index0, h0]
  have e1 : iblk m c 1 t (ix2 (y 1) k)
      = m ((c : Thread nD τ).loc main_arg1) (Reference9Ideal.Read.ridx_main_v2 i k) := by
    blk_simp [iblk]
    have e : V m c main_v0 = m ((c : Thread nD τ).loc main_arg1) := stored _
    rw [e]
    refine congrArg _ ?_
    blk_ext [index1, h1]
  rw [e0, e1]

/-- The array the call leaves is the reference's product. -/
theorem arr : (dats m 0 c).arrAt 2 cfg0.N
    = Reference9Ideal.Read.val_main_v2 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine point m c t y _ ?_ ?_
  · blk_simp [index2]
  · blk_simp [index2]

end Cert.Kernel9Ideal.Hand

namespace Cert

open Idealize.ShloMosaic Idealize.ShloMosaic.TcCoe
open Idealize.SL.Sem

theorem alg9 : algebraic_Kernel9Ideal_Reference9Ideal := by
  intro m g m' g' hpre hargs
  refine ⟨fun c => (Kernel9Ideal.Gen.dats m 0 c).arrAt 2 Kernel9Ideal.cfg0.N, Kernel9Ideal.Value.run_blocks m g, ?_⟩
  refine (θ_run Reference9Ideal.defs _ _).mono (fun r h c => ?_) (Reference9Ideal.Value.run (F := Ideal) m' g')
  obtain ⟨e0, hrest⟩ := h c
  obtain ⟨a0, a1⟩ := hargs c
  refine ⟨e0.trans ?_, hrest⟩
  rw [Reference9Ideal.Read.val_main_v2_eq, a0, a1]
  exact (Kernel9Ideal.Hand.arr m c).symm

end Cert

end
-- ==== Proof.InForward.lean ====
module

public import proofs.«01_k».proof.Proof.Gen.Kernel10Ideal.Value
public import proofs.«01_k».proof.Proof.Gen.Reference10Ideal.Read
public import proofs.«01_k».proof.Defs
public import Idealize.ShloMosaic.Lib.Pipeline.ValueKit
public import Idealize.ShloMosaic.Lib.Pointwise

/-! Input projection: the call goes over the rows in 17 blocks of 512 with the whole weight in place. The reference is one
product. -/

@[expose] public section

set_option maxRecDepth 16384

noncomputable section

namespace Cert.Kernel10Ideal.Hand

open Cert.Kernel10Ideal Cert.Kernel10Ideal.Gen
open Idealize.ShloMosaic Idealize.ShloMosaic.TcCoe Idealize.ShloMosaic.Tactic
open Idealize.SL.Sem

/-- One block of rows times the weight. -/
theorem rows (a : Vec Ideal S512x1024 .f32) (w : Vec Ideal S1024x2560 .bf16) (j : S512x2560.Idx) :
    k0_pay1 a w j = ∑ k : Fin 1024, a (ix2 (j 0) k) * w (ix2 k (j 1)) := by
  unfold k0_pay1
  pointwise

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![t.val, 0] :=
  (by decide +kernel : ∀ t : Fin grid0.N, win0_2.index t = ![t.val, 0])

/-- The shorter float type changes no value, so the stored weight is the argument. -/
theorem stored (f : Valuation τ sig (Elt Ideal)) : StableHlo.after (hostOps0 (F := Ideal)) f (Proc.devRef .tc main_v0)
    = f (Proc.devRef .tc main_arg1) := by
  after_results_simp; rfl

/-- The block written at point `t` is the reference's block of rows. -/
theorem point (t : Fin cfg0.N) (y : S512x2560.Idx) (i : S8704x2560.Idx) (h0 : (i 0).val = t.val * 512 + (y 0).val)
    (h1 : (i 1).val = (y 1).val) :
    k0_pay1 (iblk m c 0 t) (iblk m c 1 t) y
    = Reference10Ideal.Read.val_main_v0 (F := Ideal) (m ((c : Thread nD τ).loc main_arg0)) (m ((c : Thread nD τ).loc main_arg1)) i := by
  rw [rows, Reference10Ideal.Read.val_main_v0_apply]
  refine Finset.sum_congr rfl fun k _ => ?_
  have e0 : iblk m c 0 t (ix2 (y 0) k)
      = m ((c : Thread nD τ).loc main_arg0) (Reference10Ideal.Read.lidx_main_v0 i k) := by
    blk_simp [iblk]
    rw [V_main_arg0]
    refine congrArg _ ?_
    blk_ext [index0, h0]
  have e1 : iblk m c 1 t (ix2 k (y 1))
      = m ((c : Thread nD τ).loc main_arg1) (Reference10Ideal.Read.ridx_main_v0 i k) := by
    blk_simp [iblk]
    have e : V m c main_v0 = m ((c : Thread nD τ).loc main_arg1) := stored _
    rw [e]
    refine congrArg _ ?_
    blk_ext [index1, h1]
  rw [e0, e1]

/-- The array the call leaves is the reference's product. -/
theorem arr : (dats m 0 c).arrAt 2 cfg0.N
    = Reference10Ideal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine point m c t y _ ?_ ?_
  · blk_simp [index2]
  · blk_simp [index2]

end Cert.Kernel10Ideal.Hand

namespace Cert

open Idealize.ShloMosaic Idealize.ShloMosaic.TcCoe
open Idealize.SL.Sem

theorem alg10 : algebraic_Kernel10Ideal_Reference10Ideal := by
  intro m g m' g' hpre hargs
  refine ⟨fun c => (Kernel10Ideal.Gen.dats m 0 c).arrAt 2 Kernel10Ideal.cfg0.N, Kernel10Ideal.Value.run_blocks m g, ?_⟩
  refine (θ_run Reference10Ideal.defs _ _).mono (fun r h c => ?_) (Reference10Ideal.Value.run (F := Ideal) m' g')
  obtain ⟨e0, hrest⟩ := h c
  obtain ⟨a0, a1⟩ := hargs c
  refine ⟨e0.trans ?_, hrest⟩
  rw [Reference10Ideal.Read.val_main_v0_eq, a0, a1]
  exact (Kernel10Ideal.Hand.arr m c).symm

end Cert

end
-- ==== Proof.OutForward.lean ====
module

public import proofs.«01_k».proof.Proof.Gen.Kernel11Ideal.Value
public import proofs.«01_k».proof.Proof.Gen.Reference11Ideal.Read
public import proofs.«01_k».proof.Defs
public import Idealize.ShloMosaic.Lib.Pipeline.ValueKit
public import Idealize.ShloMosaic.Lib.Pointwise

/-! Output projection: the call goes over the rows in 17 blocks of 512 with the whole weight in place. The reference is one
product. -/

@[expose] public section

set_option maxRecDepth 16384

noncomputable section

namespace Cert.Kernel11Ideal.Hand

open Cert.Kernel11Ideal Cert.Kernel11Ideal.Gen
open Idealize.ShloMosaic Idealize.ShloMosaic.TcCoe Idealize.ShloMosaic.Tactic
open Idealize.SL.Sem

/-- One block of rows times the weight. -/
theorem rows (a : Vec Ideal S512x1024 .f32) (w : Vec Ideal S1024x1024 .bf16) (j : S512x1024.Idx) :
    k0_pay1 a w j = ∑ k : Fin 1024, a (ix2 (j 0) k) * w (ix2 k (j 1)) := by
  unfold k0_pay1
  pointwise

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![0, 0] :=
  (by decide +kernel : ∀ t : Fin grid0.N, win0_1.index t = ![0, 0])

theorem index2 : ∀ t : Fin cfg0.N, win0_2.index t = ![t.val, 0] :=
  (by decide +kernel : ∀ t : Fin grid0.N, win0_2.index t = ![t.val, 0])

/-- The shorter float type changes no value, so the stored weight is the argument. -/
theorem stored (f : Valuation τ sig (Elt Ideal)) : StableHlo.after (hostOps0 (F := Ideal)) f (Proc.devRef .tc main_v0)
    = f (Proc.devRef .tc main_arg1) := by
  after_results_simp; rfl

/-- The block written at point `t` is the reference's block of rows. -/
theorem point (t : Fin cfg0.N) (y : S512x1024.Idx) (i : S8704x1024.Idx) (h0 : (i 0).val = t.val * 512 + (y 0).val)
    (h1 : (i 1).val = (y 1).val) :
    k0_pay1 (iblk m c 0 t) (iblk m c 1 t) y
    = Reference11Ideal.Read.val_main_v0 (F := Ideal) (m ((c : Thread nD τ).loc main_arg0)) (m ((c : Thread nD τ).loc main_arg1)) i := by
  rw [rows, Reference11Ideal.Read.val_main_v0_apply]
  refine Finset.sum_congr rfl fun k _ => ?_
  have e0 : iblk m c 0 t (ix2 (y 0) k)
      = m ((c : Thread nD τ).loc main_arg0) (Reference11Ideal.Read.lidx_main_v0 i k) := by
    blk_simp [iblk]
    rw [V_main_arg0]
    refine congrArg _ ?_
    blk_ext [index0, h0]
  have e1 : iblk m c 1 t (ix2 k (y 1))
      = m ((c : Thread nD τ).loc main_arg1) (Reference11Ideal.Read.ridx_main_v0 i k) := by
    blk_simp [iblk]
    have e : V m c main_v0 = m ((c : Thread nD τ).loc main_arg1) := stored _
    rw [e]
    refine congrArg _ ?_
    blk_ext [index1, h1]
  rw [e0, e1]

/-- The array the call leaves is the reference's product. -/
theorem arr : (dats m 0 c).arrAt 2 cfg0.N
    = Reference11Ideal.Read.val_main_v0 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  refine point m c t y _ ?_ ?_
  · blk_simp [index2]
  · blk_simp [index2]

end Cert.Kernel11Ideal.Hand

namespace Cert

open Idealize.ShloMosaic Idealize.ShloMosaic.TcCoe
open Idealize.SL.Sem

theorem alg11 : algebraic_Kernel11Ideal_Reference11Ideal := by
  intro m g m' g' hpre hargs
  refine ⟨fun c => (Kernel11Ideal.Gen.dats m 0 c).arrAt 2 Kernel11Ideal.cfg0.N, Kernel11Ideal.Value.run_blocks m g, ?_⟩
  refine (θ_run Reference11Ideal.defs _ _).mono (fun r h c => ?_) (Reference11Ideal.Value.run (F := Ideal) m' g')
  obtain ⟨e0, hrest⟩ := h c
  obtain ⟨a0, a1⟩ := hargs c
  refine ⟨e0.trans ?_, hrest⟩
  rw [Reference11Ideal.Read.val_main_v0_eq, a0, a1]
  exact (Kernel11Ideal.Hand.arr m c).symm

end Cert

end
-- ==== Proof.MixRef.lean ====
/- The attention's forward pass as the reference program computes it at finite arguments: scores, softmax rows and the
   weighted means of the values. The latent rows come first (keys 0 … 4,351), then the context rows (keys from 4,096). -/
module

public import proofs.«01_k».proof.Proof.Finite
public import proofs.«01_k».proof.Proof.Gen.Reference12Ideal.Read
public import Idealize.ShloMosaic.Lib.KernelVsHost

@[expose] public section

set_option maxRecDepth 16384

noncomputable section

namespace Cert.MixRef

open Cert.Reference12Ideal Cert.Reference12Ideal.Gen Cert.Reference12Ideal.Read Cert.Model Idealize.ShloMosaic

/-- A query or key array, and a value array, of extended reals. -/
abbrev Wide := (⟨S2x4352x4x96, .f32⟩ : BufTy).Contents (Elt Ideal)
abbrev Slim := (⟨S2x4352x4x64, .f32⟩ : BufTy).Contents (Elt Ideal)

/-- The three argument arrays hold the queries, keys and values of the call `A`, and the program's scale is the call's. -/
structure Fits (A : Call) (x0 x1 : Wide) (x2 : Slim) : Prop where
  q : ∀ i, x0 i = (A.q (i 0).val (i 1).val (i 2).val (i 3).val : EReal)
  k : ∀ i, x1 i = (A.k (i 0).val (i 1).val (i 2).val (i 3).val : EReal)
  v : ∀ i, x2 i = (A.v (i 0).val (i 1).val (i 2).val (i 3).val : EReal)
  c : Ideal.ofBits .f32 0x3DD105EC#32 = (A.c : EReal)

variable {A : Call} {x0 x1 : Wide} {x2 : Slim}

/-- The attention's output: row `r`'s mean of the values under its probabilities. -/
def mixed (A : Call) (b h r w : ℕ) : ℝ :=
  if r < 4096 then ∑ j : Fin 4352, prob A 0 4352 b h r j.val * A.v b j.val h w
  else ∑ j : Fin 256, prob A 4096 256 b h r (4096 + j.val) * A.v b (4096 + j.val) h w

/-! ## The latent rows -/

theorem score_lat (H : Fits A x0 x1 x2) (i : S2x4x4096x4352.Idx) :
    val_main_v3 (F := Ideal) x0 x1 i = (score A (i 0).val (i 1).val (i 2).val (i 3).val : EReal) := by
  rw [val_main_v3_apply, val_main_v1_apply, val_main_v2_apply, val_main_cst_apply]
  simp only [val_main_v0_apply, H.q, H.k, Ideal.mulf_def, Ideal.ofBits_def, H.c, ← EReal.coe_mul, coe_sum]
  rfl

/-- The number the program subtracts from a latent row's scores. -/
def mlat (x0 x1 : Wide) (b h r : ℕ) : ℝ := entry (s := S2x4x4096) (val_main_v6 (F := Ideal) x0 x1) (fun a => ![b, h, r] a)

theorem max_lat (H : Fits A x0 x1 x2) (i : S2x4x4096.Idx) :
    val_main_v6 (F := Ideal) x0 x1 i = (mlat x0 x1 (i 0).val (i 1).val (i 2).val : EReal) := by
  have hx : ∃ r : ℝ, val_main_v6 (F := Ideal) x0 x1 i = (r : EReal) := by
    rw [val_main_v6_apply, val_main_v5_apply, val_main_cst_1_apply]
    obtain ⟨r, hr⟩ := hostMax_real (val_main_v3 (F := Ideal) x0 x1) (val_main_cst_0 (F := Ideal))
      reducesTo_S2x4x4096x4352_S2x4x4096_d3 (by decide) h_S_ (by decide)
      (by rw [val_main_cst_0_apply]; exact ofBits_bot) (fun i => ⟨_, score_lat H i⟩) i
    refine ⟨r, ?_⟩
    rw [Ideal.maximumf_def, Ideal.ofBits_def, ofBits_bot]
    exact (max_eq_right bot_le).trans hr
  have he : (fun a => (i a).val) = fun a => ![(i 0).val, (i 1).val, (i 2).val] a := funext fun a => match a with
    | ⟨0, _⟩ => rfl
    | ⟨1, _⟩ => rfl
    | ⟨2, _⟩ => rfl
  rw [mlat, ← he]
  exact entry_eq _ i hx

theorem exp_lat (H : Fits A x0 x1 x2) (i : S2x4x4096x4352.Idx) :
    val_main_v10 (F := Ideal) x0 x1 i
      = (Real.exp (score A (i 0).val (i 1).val (i 2).val (i 3).val - mlat x0 x1 (i 0).val (i 1).val (i 2).val) : EReal) := by
  rw [val_main_v10_apply, val_main_v9_apply, score_lat H, val_main_v8_apply, val_main_v7_apply, max_lat H, Ideal.subf_def,
    Ideal.hostUnary_exp_def, ← EReal.coe_sub, Ideal.exp_coe]

/-- A latent row's sum of shifted exponentials. -/
def llat (A : Call) (x0 x1 : Wide) (b h r : ℕ) : ℝ := ∑ k : Fin 4352, Real.exp (score A b h r (0 + k.val) - mlat x0 x1 b h r)

theorem sum_lat (H : Fits A x0 x1 x2) (i : S2x4x4096.Idx) :
    val_main_v11 (F := Ideal) x0 x1 i = (llat A x0 x1 (i 0).val (i 1).val (i 2).val : EReal) := by
  rw [val_main_v11_apply, val_main_cst_2_apply, Ideal.ofBits_def, Ideal.ofBits_zero_f32, zero_add, llat]
  simp only [Nat.zero_add, exp_lat H, coe_sum]

theorem llat_ne (A : Call) (x0 x1 : Wide) (b h r : ℕ) : llat A x0 x1 b h r ≠ 0 :=
  (denom_shift_pos A 0 4352 b h _ _ (by decide)).ne'

theorem prob_lat (H : Fits A x0 x1 x2) (i : S2x4x4096x4352.Idx) :
    val_main_v14 (F := Ideal) x0 x1 i = (prob A 0 4352 (i 0).val (i 1).val (i 2).val (i 3).val : EReal) := by
  rw [val_main_v14_apply, exp_lat H, val_main_v13_apply, val_main_v12_apply, sum_lat H, Ideal.hostDivf_def]
  exact (div_real _ _ (llat_ne A x0 x1 _ _ _)).trans (congrArg (fun r : ℝ => (r : EReal)) (prob_shift A 0 4352 _ _ _ _ _))

theorem mixed_lat (H : Fits A x0 x1 x2) (i : S2x4096x4x64.Idx) :
    val_main_v16 (F := Ideal) x0 x1 x2 i = (mixed A (i 0).val (i 2).val (i 1).val (i 3).val : EReal) := by
  have hi : (i 1).val < 4096 := (i 1).isLt
  rw [val_main_v16_apply, val_main_v15_apply, mixed, if_pos hi]
  simp only [prob_lat H, H.v, ← EReal.coe_mul, coe_sum]
  exact congrArg (fun r : ℝ => (r : EReal)) (Finset.sum_congr rfl fun k _ => mul_comm _ _)

/-! ## The context rows -/

theorem score_ctx (H : Fits A x0 x1 x2) (i : S2x4x256x256.Idx) :
    val_main_v22 (F := Ideal) x0 x1 i = (score A (i 0).val (i 1).val (4096 + (i 2).val) (4096 + (i 3).val) : EReal) := by
  rw [val_main_v22_apply, val_main_v20_apply, val_main_v21_apply, val_main_cst_3_apply]
  simp only [val_main_v17_apply, val_main_v18_apply, H.q, H.k, Ideal.mulf_def, Ideal.ofBits_def, H.c, ← EReal.coe_mul, coe_sum]
  rfl

/-- The number the program subtracts from a context row's scores. -/
def mctx (x0 x1 : Wide) (b h r : ℕ) : ℝ := entry (s := S2x4x256) (val_main_v25 (F := Ideal) x0 x1) (fun a => ![b, h, r] a)

theorem max_ctx (H : Fits A x0 x1 x2) (i : S2x4x256.Idx) :
    val_main_v25 (F := Ideal) x0 x1 i = (mctx x0 x1 (i 0).val (i 1).val (i 2).val : EReal) := by
  have hx : ∃ r : ℝ, val_main_v25 (F := Ideal) x0 x1 i = (r : EReal) := by
    rw [val_main_v25_apply, val_main_v24_apply, val_main_cst_5_apply]
    obtain ⟨r, hr⟩ := hostMax_real (val_main_v22 (F := Ideal) x0 x1) (val_main_cst_4 (F := Ideal))
      reducesTo_S2x4x256x256_S2x4x256_d3 (by decide) h_S_ (by decide)
      (by rw [val_main_cst_4_apply]; exact ofBits_bot) (fun i => ⟨_, score_ctx H i⟩) i
    refine ⟨r, ?_⟩
    rw [Ideal.maximumf_def, Ideal.ofBits_def, ofBits_bot]
    exact (max_eq_right bot_le).trans hr
  have he : (fun a => (i a).val) = fun a => ![(i 0).val, (i 1).val, (i 2).val] a := funext fun a => match a with
    | ⟨0, _⟩ => rfl
    | ⟨1, _⟩ => rfl
    | ⟨2, _⟩ => rfl
  rw [mctx, ← he]
  exact entry_eq _ i hx

theorem exp_ctx (H : Fits A x0 x1 x2) (i : S2x4x256x256.Idx) :
    val_main_v29 (F := Ideal) x0 x1 i
      = (Real.exp (score A (i 0).val (i 1).val (4096 + (i 2).val) (4096 + (i 3).val) - mctx x0 x1 (i 0).val (i 1).val (i 2).val) : EReal) := by
  rw [val_main_v29_apply, val_main_v28_apply, score_ctx H, val_main_v27_apply, val_main_v26_apply, max_ctx H, Ideal.subf_def,
    Ideal.hostUnary_exp_def, ← EReal.coe_sub, Ideal.exp_coe]

/-- A context row's sum of shifted exponentials. -/
def lctx (A : Call) (x0 x1 : Wide) (b h r : ℕ) : ℝ := ∑ k : Fin 256, Real.exp (score A b h (4096 + r) (4096 + k.val) - mctx x0 x1 b h r)

theorem sum_ctx (H : Fits A x0 x1 x2) (i : S2x4x256.Idx) :
    val_main_v30 (F := Ideal) x0 x1 i = (lctx A x0 x1 (i 0).val (i 1).val (i 2).val : EReal) := by
  rw [val_main_v30_apply, val_main_cst_6_apply, Ideal.ofBits_def, Ideal.ofBits_zero_f32, zero_add, lctx]
  simp only [exp_ctx H, coe_sum]

theorem lctx_ne (A : Call) (x0 x1 : Wide) (b h r : ℕ) : lctx A x0 x1 b h r ≠ 0 :=
  (denom_shift_pos A 4096 256 b h _ _ (by decide)).ne'

theorem prob_ctx (H : Fits A x0 x1 x2) (i : S2x4x256x256.Idx) :
    val_main_v33 (F := Ideal) x0 x1 i = (prob A 4096 256 (i 0).val (i 1).val (4096 + (i 2).val) (4096 + (i 3).val) : EReal) := by
  rw [val_main_v33_apply, exp_ctx H, val_main_v32_apply, val_main_v31_apply, sum_ctx H, Ideal.hostDivf_def]
  exact (div_real _ _ (lctx_ne A x0 x1 _ _ _)).trans (congrArg (fun r : ℝ => (r : EReal)) (prob_shift A 4096 256 _ _ _ _ _))

theorem mixed_ctx (H : Fits A x0 x1 x2) (i : S2x256x4x64.Idx) :
    val_main_v35 (F := Ideal) x0 x1 x2 i = (mixed A (i 0).val (i 2).val (4096 + (i 1).val) (i 3).val : EReal) := by
  rw [val_main_v35_apply, val_main_v34_apply, mixed, if_neg (by omega)]
  simp only [prob_ctx H, val_main_v19_apply, H.v, ← EReal.coe_mul, coe_sum]
  exact congrArg (fun r : ℝ => (r : EReal)) (Finset.sum_congr rfl fun k _ => mul_comm _ _)

/-! ## Both -/

/-- The latent rows, then the context rows. -/
theorem rows (H : Fits A x0 x1 x2) (i : S2x4352x4x64.Idx) :
    val_main_v36 (F := Ideal) x0 x1 x2 i = (mixed A (i 0).val (i 2).val (i 1).val (i 3).val : EReal) := by
  have hi : (i 1).val < 4352 := (i 1).isLt
  unfold val_main_v36
  by_cases h : (i 1).val < 4096
  · refine (concatenate_pair_apply_left (t := S2x4352x4x64) (s₁ := S2x4096x4x64) (s₂ := S2x256x4x64) 1 _ _ _ i rfl
      (fun a => match a with
        | ⟨0, _⟩ => ⟨(i 0).val, (i 0).isLt⟩
        | ⟨1, _⟩ => ⟨(i 1).val, h⟩
        | ⟨2, _⟩ => ⟨(i 2).val, (i 2).isLt⟩
        | ⟨3, _⟩ => ⟨(i 3).val, (i 3).isLt⟩)
      (fun b => match b with
        | ⟨0, _⟩ => rfl
        | ⟨1, _⟩ => rfl
        | ⟨2, _⟩ => rfl
        | ⟨3, _⟩ => rfl)).trans ?_
    exact mixed_lat H _
  · refine (concatenate_pair_apply_right (t := S2x4352x4x64) (s₁ := S2x4096x4x64) (s₂ := S2x256x4x64) 1 _ _ _ i rfl rfl
      (fun a => match a with
        | ⟨0, _⟩ => ⟨(i 0).val, (i 0).isLt⟩
        | ⟨1, _⟩ => ⟨(i 1).val - 4096, by show (i 1).val - 4096 < 256; omega⟩
        | ⟨2, _⟩ => ⟨(i 2).val, (i 2).isLt⟩
        | ⟨3, _⟩ => ⟨(i 3).val, (i 3).isLt⟩)
      (fun b => match b with
        | ⟨0, _⟩ => fun _ => rfl
        | ⟨1, _⟩ => fun hb => absurd rfl hb
        | ⟨2, _⟩ => fun _ => rfl
        | ⟨3, _⟩ => fun _ => rfl) (by show (i 1).val - 4096 + 4096 = (i 1).val; omega)).trans ?_
    refine (mixed_ctx H _).trans ?_
    have hr : 4096 + ((i 1).val - 4096) = (i 1).val := by omega
    show (mixed A (i 0).val (i 2).val (4096 + ((i 1).val - 4096)) (i 3).val : EReal) = _
    rw [hr]

/-- The program's result. -/
theorem result (H : Fits A x0 x1 x2) (i : S2x4x1x4352x64.Idx) :
    val_main_v38 (F := Ideal) x0 x1 x2 i = (mixed A (i 0).val (i 1).val (i 3).val (i 4).val : EReal) := by
  rw [val_main_v38_apply, val_main_v37_apply, rows H]

end Cert.MixRef

end
-- ==== Proof.MixTile.lean ====
/- The attention's forward pass on one tile of 256 query rows: four groups of 64 rows, each the softmax of its scores
   against the keys in view times the values. With real queries, keys and values each entry is the reference's mean. -/
module

public import proofs.«01_k».proof.Proof.Gen.Kernel12Ideal.Skeleton
public import proofs.«01_k».proof.Proof.MixRef
public import Idealize.ShloMosaic.PureOps.Ideal
public import Idealize.ShloMosaic.Lib.Pointwise
public import Idealize.ShloMosaic.Lib.KernelVsHost

@[expose] public section

set_option maxRecDepth 16384

noncomputable section

namespace Cert.MixTile

open Cert.Kernel12Ideal Cert.Kernel12Ideal.Gen Cert.Model Cert.MixRef
open Idealize.ShloMosaic Idealize.ShloMosaic.TcCoe Idealize.ShloMosaic.Tactic

/-- The weighted mean of real values under shifted exponentials, as the kernel forms it, is the mean under the probabilities. -/
theorem weighted (A : Call) (a n b h r w : ℕ) (m : ℝ) (hn : 0 < n) (e v : Fin n → EReal) (l : EReal)
    (he : ∀ j, e j = (Real.exp (score A b h r (a + j.val) - m) : EReal)) (hv : ∀ j, v j = (A.v b (a + j.val) h w : EReal))
    (hl : l = ∑ j, e j) :
    (∑ j, e j * v j) * Ideal.div 1 l = ((∑ j : Fin n, prob A a n b h r (a + j.val) * A.v b (a + j.val) h w : ℝ) : EReal) := by
  have hp := (denom_shift_pos A a n b h r m hn).ne'
  simp only [hl, he, hv]
  rw [coe_sum, ← EReal.coe_one, div_real _ _ hp]
  simp only [← EReal.coe_mul, coe_sum]
  refine congrArg (fun r : ℝ => (r : EReal)) ?_
  rw [Finset.sum_mul]
  refine Finset.sum_congr rfl fun j _ => ?_
  rw [← prob_shift A a n b h r _ m]
  ring

/-! ## The latent rows, which attend to all keys -/

/-- The operands hold the call's keys and values in view and, from row `R` on, its queries. -/
structure HoldsLat (A : Call) (b h R : ℕ) {n : ℕ} (kt : FVec Ideal S96x4352 .bf16) (vt : FVec Ideal S64x4352 .bf16)
    (q : Fin n → Fin 96 → EReal) : Prop where
  q : ∀ r d, q r d = (A.q b (R + r.val) h d.val : EReal)
  k : ∀ d j, kt (ix2 d j) = (A.k b (0 + j.val) h d.val : EReal)
  v : ∀ w j, vt (ix2 w j) = (A.v b (0 + j.val) h w.val : EReal)
  c : Ideal.ofBits .f32 0x3DD105EC#32 = (A.c : EReal)

section Lat

variable (kt : FVec Ideal S96x4352 .bf16) (vt : FVec Ideal S64x4352 .bf16) (q : FVec Ideal S64x96 .bf16) (r : Fin 64)

theorem scoresLat (j : Fin 4352) :
    k0_pay346 kt q (ix2 r j) = (∑ d : Fin 96, q (ix2 r d) * kt (ix2 d j)) * Ideal.ofBits .f32 0x3DD105EC#32 := by
  unfold k0_pay346
  pointwise

theorem expsLat (j : Fin 4352) :
    k0_pay348 kt q (ix2 r j) = Ideal.exp (k0_pay346 kt q (ix2 r j) - k0_pay347 kt q (ix2 r 0)) := by
  unfold k0_pay348
  pointwise

theorem sumsLat : k0_pay349 kt q (ix2 r 0) = ∑ j : Fin 4352, k0_pay348 kt q (ix2 r j) := by
  unfold k0_pay349
  pointwise

theorem meansLat (w : Fin 64) :
    k0_pay350 kt vt q (ix2 r w)
      = (∑ j : Fin 4352, k0_pay348 kt q (ix2 r j) * vt (ix2 w j)) * Ideal.div 1 (k0_pay349 kt q (ix2 r 0)) := by
  unfold k0_pay350
  pointwise

/-- The number subtracted from a row of finite scores is finite. -/
theorem topsLat (hx : ∀ j, ∃ x : ℝ, k0_pay346 kt q (ix2 r j) = (x : EReal)) :
    ∃ m : ℝ, k0_pay347 kt q (ix2 r 0) = (m : EReal) := by
  obtain ⟨m, hm⟩ := fold_max_real Finset.univ (fun j : Fin 4352 => k0_pay346 kt q (ix2 r j)) ⟨0, Finset.mem_univ _⟩ hx
  refine ⟨m, ?_⟩
  rw [← hm, ← ofBits_bot]
  unfold k0_pay347
  pointwise

variable {kt vt q} {A : Call} {b h R : ℕ}

theorem groupLat (H : HoldsLat A b h R kt vt fun (r : Fin 64) d => q (ix2 r d)) (w : Fin 64) :
    k0_pay350 kt vt q (ix2 r w)
      = ((∑ j : Fin 4352, prob A 0 4352 b h (R + r.val) (0 + j.val) * A.v b (0 + j.val) h w.val : ℝ) : EReal) := by
  have hs : ∀ j : Fin 4352, k0_pay346 kt q (ix2 r j) = (score A b h (R + r.val) (0 + j.val) : EReal) := fun j => by
    rw [scoresLat]
    simp only [H.q, H.k, H.c, ← EReal.coe_mul, coe_sum]
    rfl
  obtain ⟨m, hm⟩ := topsLat kt q r fun j => ⟨_, hs j⟩
  have he : ∀ j : Fin 4352, k0_pay348 kt q (ix2 r j) = (Real.exp (score A b h (R + r.val) (0 + j.val) - m) : EReal) := fun j => by
    rw [expsLat, hs, hm, ← EReal.coe_sub, Ideal.exp_coe]
  exact (meansLat kt vt q r w).trans (weighted A 0 4352 b h (R + r.val) w.val m (by decide) (fun j => k0_pay348 kt q (ix2 r j))
    (fun j => vt (ix2 w j)) _ he (fun j => H.v w j) (sumsLat kt q r))

end Lat

/-- A tile of 256 rows: four groups of 64. -/
def tileLat (kt : FVec Ideal S96x4352 .bf16) (vt : FVec Ideal S64x4352 .bf16) (q : FVec Ideal S256x96 .bf16) :
    FVec Ideal S1x1x1x256x64 .f32 :=
  shapeCast S1x1x1x256x64 (shapeCast S1x256x64 (concatenate S256x64 0
    [⟨S64x64, k0_pay350 kt vt (extractStridedSlice S64x96 ![0, 0] q slices_S256x96_o0_0_S64x96)⟩,
     ⟨S64x64, k0_pay350 kt vt (extractStridedSlice S64x96 ![64, 0] q slices_S256x96_o64_0_S64x96)⟩,
     ⟨S64x64, k0_pay350 kt vt (extractStridedSlice S64x96 ![128, 0] q slices_S256x96_o128_0_S64x96)⟩,
     ⟨S64x64, k0_pay350 kt vt (extractStridedSlice S64x96 ![192, 0] q slices_S256x96_o192_0_S64x96)⟩]
    concatenates_S64x64_S64x64_S64x64_S64x64_S256x64_d0) shapeCasts_S256x64_S1x256x64) shapeCasts_S1x256x64_S1x1x1x256x64

theorem firstLat (k : Vec Ideal S1x1x96x4352 .bf16) (v : Vec Ideal S1x1x64x4352 .bf16) (q : Vec Ideal S1x1x1x256x96 .f32) :
    k0_pay334 (k0_pay309 k) (k0_pay310 v) (k0_pay311 q) (k0_pay316 (k0_pay309 k) (k0_pay310 v) q) (k0_pay322 (k0_pay309 k) (k0_pay310 v) q) (k0_pay324 q)
      = tileLat (k0_pay309 k) (k0_pay310 v) (k0_pay311 q) := rfl

theorem secondLat (k : Vec Ideal S1x1x96x4352 .bf16) (v : Vec Ideal S1x1x64x4352 .bf16) (q : Vec Ideal S1x1x1x256x96 .f32) :
    k0_pay2 (k0_pay343 k v q) (k0_pay350 (k0_pay336 k) (k0_pay337 v) (k0_pay345 q)) (k0_pay356 (k0_pay336 k) (k0_pay337 v) (k0_pay338 q))
        (k0_pay363 (k0_pay337 v) (k0_pay360 (k0_pay336 k) (k0_pay338 q))) (k0_pay364 (k0_pay360 (k0_pay336 k) (k0_pay338 q)))
      = tileLat (k0_pay336 k) (k0_pay337 v) (k0_pay338 q) := rfl

theorem cut_applyLat (q : FVec Ideal S256x96 .bf16) (o : ℕ) (ho : o + 64 ≤ 256) (h : S256x96.Slices ![o, 0] S64x96) (r : Fin 64) (d : Fin 96) :
    extractStridedSlice S64x96 ![o, 0] q h (ix2 r d) = q (ix2 ⟨o + r.val, by omega⟩ d) :=
  extractStridedSlice_apply _ _ _ _ _ fun a => match a with
    | ⟨0, _⟩ => rfl
    | ⟨1, _⟩ => (Nat.zero_add _).symm

/-- The queries of one group of a tile. -/
theorem HoldsCutLat {A : Call} {b h R : ℕ} {kt : FVec Ideal S96x4352 .bf16} {vt : FVec Ideal S64x4352 .bf16} {q : FVec Ideal S256x96 .bf16}
    (H : HoldsLat A b h R kt vt fun (r : Fin 256) d => q (ix2 r d)) (o : ℕ) (ho : o + 64 ≤ 256) (hs : S256x96.Slices ![o, 0] S64x96) :
    HoldsLat A b h (R + o) kt vt fun (r : Fin 64) d => extractStridedSlice S64x96 ![o, 0] q hs (ix2 r d) where
  q r d := by
    show extractStridedSlice S64x96 ![o, 0] q hs (ix2 r d) = _
    rw [cut_applyLat q o ho hs r d, H.q, Nat.add_assoc]
  k := H.k
  v := H.v
  c := H.c

/-- One entry of a tile. -/
theorem tile_applyLat {A : Call} {b h R : ℕ} {kt : FVec Ideal S96x4352 .bf16} {vt : FVec Ideal S64x4352 .bf16} {q : FVec Ideal S256x96 .bf16}
    (H : HoldsLat A b h R kt vt fun (r : Fin 256) d => q (ix2 r d)) (r : Fin 256) (w : Fin 64) :
    tileLat kt vt q (ix5 0 0 0 r w)
      = ((∑ j : Fin 4352, prob A 0 4352 b h (R + r.val) (0 + j.val) * A.v b (0 + j.val) h w.val : ℝ) : EReal) := by
  have hr := r.isLt
  obtain ⟨x, hx⟩ : ∃ x : EReal,
      x = ((∑ j : Fin 4352, prob A 0 4352 b h (R + r.val) (0 + j.val) * A.v b (0 + j.val) h w.val : ℝ) : EReal) := ⟨_, rfl⟩
  have key : ∀ (o : ℕ) (ho : o + 64 ≤ 256) (hs : S256x96.Slices ![o, 0] S64x96) (s : Fin 64), o + s.val = r.val →
      k0_pay350 kt vt (extractStridedSlice S64x96 ![o, 0] q hs) (ix2 s w) = x :=
    fun o ho hs s e => by rw [groupLat s (HoldsCutLat H o ho hs) w, Nat.add_assoc, e, hx]
  rw [← hx]
  clear hx H
  unfold tileLat
  pointwise
  split
  · exact key 0 (by omega) _ _ (by simp)
  · split
    · exact key 64 (by omega) _ _ (by simp only []; omega)
    · split
      · exact key 128 (by omega) _ _ (by simp only []; omega)
      · exact key 192 (by omega) _ _ (by simp only []; omega)

/-! ## The context rows, which attend to the keys from 4,096 on -/

/-- The operands hold the call's keys and values in view and, from row `R` on, its queries. -/
structure HoldsCtx (A : Call) (b h R : ℕ) {n : ℕ} (kt : FVec Ideal S96x256 .bf16) (vt : FVec Ideal S64x256 .bf16)
    (q : Fin n → Fin 96 → EReal) : Prop where
  q : ∀ r d, q r d = (A.q b (R + r.val) h d.val : EReal)
  k : ∀ d j, kt (ix2 d j) = (A.k b (4096 + j.val) h d.val : EReal)
  v : ∀ w j, vt (ix2 w j) = (A.v b (4096 + j.val) h w.val : EReal)
  c : Ideal.ofBits .f32 0x3DD105EC#32 = (A.c : EReal)

section Ctx

variable (kt : FVec Ideal S96x256 .bf16) (vt : FVec Ideal S64x256 .bf16) (q : FVec Ideal S64x96 .bf16) (r : Fin 64)

theorem scoresCtx (j : Fin 256) :
    k0_pay705 kt q (ix2 r j) = (∑ d : Fin 96, q (ix2 r d) * kt (ix2 d j)) * Ideal.ofBits .f32 0x3DD105EC#32 := by
  unfold k0_pay705
  pointwise

theorem expsCtx (j : Fin 256) :
    k0_pay707 kt q (ix2 r j) = Ideal.exp (k0_pay705 kt q (ix2 r j) - k0_pay706 kt q (ix2 r 0)) := by
  unfold k0_pay707
  pointwise

theorem sumsCtx : k0_pay708 kt q (ix2 r 0) = ∑ j : Fin 256, k0_pay707 kt q (ix2 r j) := by
  unfold k0_pay708
  pointwise

theorem meansCtx (w : Fin 64) :
    k0_pay709 kt vt q (ix2 r w)
      = (∑ j : Fin 256, k0_pay707 kt q (ix2 r j) * vt (ix2 w j)) * Ideal.div 1 (k0_pay708 kt q (ix2 r 0)) := by
  unfold k0_pay709
  pointwise

/-- The number subtracted from a row of finite scores is finite. -/
theorem topsCtx (hx : ∀ j, ∃ x : ℝ, k0_pay705 kt q (ix2 r j) = (x : EReal)) :
    ∃ m : ℝ, k0_pay706 kt q (ix2 r 0) = (m : EReal) := by
  obtain ⟨m, hm⟩ := fold_max_real Finset.univ (fun j : Fin 256 => k0_pay705 kt q (ix2 r j)) ⟨0, Finset.mem_univ _⟩ hx
  refine ⟨m, ?_⟩
  rw [← hm, ← ofBits_bot]
  unfold k0_pay706
  pointwise

variable {kt vt q} {A : Call} {b h R : ℕ}

theorem groupCtx (H : HoldsCtx A b h R kt vt fun (r : Fin 64) d => q (ix2 r d)) (w : Fin 64) :
    k0_pay709 kt vt q (ix2 r w)
      = ((∑ j : Fin 256, prob A 4096 256 b h (R + r.val) (4096 + j.val) * A.v b (4096 + j.val) h w.val : ℝ) : EReal) := by
  have hs : ∀ j : Fin 256, k0_pay705 kt q (ix2 r j) = (score A b h (R + r.val) (4096 + j.val) : EReal) := fun j => by
    rw [scoresCtx]
    simp only [H.q, H.k, H.c, ← EReal.coe_mul, coe_sum]
    rfl
  obtain ⟨m, hm⟩ := topsCtx kt q r fun j => ⟨_, hs j⟩
  have he : ∀ j : Fin 256, k0_pay707 kt q (ix2 r j) = (Real.exp (score A b h (R + r.val) (4096 + j.val) - m) : EReal) := fun j => by
    rw [expsCtx, hs, hm, ← EReal.coe_sub, Ideal.exp_coe]
  exact (meansCtx kt vt q r w).trans (weighted A 4096 256 b h (R + r.val) w.val m (by decide) (fun j => k0_pay707 kt q (ix2 r j))
    (fun j => vt (ix2 w j)) _ he (fun j => H.v w j) (sumsCtx kt q r))

end Ctx

/-- A tile of 256 rows: four groups of 64. -/
def tileCtx (kt : FVec Ideal S96x256 .bf16) (vt : FVec Ideal S64x256 .bf16) (q : FVec Ideal S256x96 .bf16) :
    FVec Ideal S1x1x1x256x64 .f32 :=
  shapeCast S1x1x1x256x64 (shapeCast S1x256x64 (concatenate S256x64 0
    [⟨S64x64, k0_pay709 kt vt (extractStridedSlice S64x96 ![0, 0] q slices_S256x96_o0_0_S64x96)⟩,
     ⟨S64x64, k0_pay709 kt vt (extractStridedSlice S64x96 ![64, 0] q slices_S256x96_o64_0_S64x96)⟩,
     ⟨S64x64, k0_pay709 kt vt (extractStridedSlice S64x96 ![128, 0] q slices_S256x96_o128_0_S64x96)⟩,
     ⟨S64x64, k0_pay709 kt vt (extractStridedSlice S64x96 ![192, 0] q slices_S256x96_o192_0_S64x96)⟩]
    concatenates_S64x64_S64x64_S64x64_S64x64_S256x64_d0) shapeCasts_S256x64_S1x256x64) shapeCasts_S1x256x64_S1x1x1x256x64

theorem firstCtx (k : Vec Ideal S1x1x96x256 .bf16) (v : Vec Ideal S1x1x64x256 .bf16) (q : Vec Ideal S1x1x1x256x96 .f32) :
    k0_pay693 (k0_pay668 k) (k0_pay669 v) (k0_pay670 q) (k0_pay675 (k0_pay668 k) (k0_pay669 v) q) (k0_pay681 (k0_pay668 k) (k0_pay669 v) q) (k0_pay683 q)
      = tileCtx (k0_pay668 k) (k0_pay669 v) (k0_pay670 q) := rfl

theorem secondCtx (k : Vec Ideal S1x1x96x256 .bf16) (v : Vec Ideal S1x1x64x256 .bf16) (q : Vec Ideal S1x1x1x256x96 .f32) :
    k0_pay4 (k0_pay702 k v q) (k0_pay709 (k0_pay695 k) (k0_pay696 v) (k0_pay704 q)) (k0_pay715 (k0_pay695 k) (k0_pay696 v) (k0_pay697 q))
        (k0_pay722 (k0_pay696 v) (k0_pay719 (k0_pay695 k) (k0_pay697 q))) (k0_pay723 (k0_pay719 (k0_pay695 k) (k0_pay697 q)))
      = tileCtx (k0_pay695 k) (k0_pay696 v) (k0_pay697 q) := rfl

theorem cut_applyCtx (q : FVec Ideal S256x96 .bf16) (o : ℕ) (ho : o + 64 ≤ 256) (h : S256x96.Slices ![o, 0] S64x96) (r : Fin 64) (d : Fin 96) :
    extractStridedSlice S64x96 ![o, 0] q h (ix2 r d) = q (ix2 ⟨o + r.val, by omega⟩ d) :=
  extractStridedSlice_apply _ _ _ _ _ fun a => match a with
    | ⟨0, _⟩ => rfl
    | ⟨1, _⟩ => (Nat.zero_add _).symm

/-- The queries of one group of a tile. -/
theorem HoldsCutCtx {A : Call} {b h R : ℕ} {kt : FVec Ideal S96x256 .bf16} {vt : FVec Ideal S64x256 .bf16} {q : FVec Ideal S256x96 .bf16}
    (H : HoldsCtx A b h R kt vt fun (r : Fin 256) d => q (ix2 r d)) (o : ℕ) (ho : o + 64 ≤ 256) (hs : S256x96.Slices ![o, 0] S64x96) :
    HoldsCtx A b h (R + o) kt vt fun (r : Fin 64) d => extractStridedSlice S64x96 ![o, 0] q hs (ix2 r d) where
  q r d := by
    show extractStridedSlice S64x96 ![o, 0] q hs (ix2 r d) = _
    rw [cut_applyCtx q o ho hs r d, H.q, Nat.add_assoc]
  k := H.k
  v := H.v
  c := H.c

/-- One entry of a tile. -/
theorem tile_applyCtx {A : Call} {b h R : ℕ} {kt : FVec Ideal S96x256 .bf16} {vt : FVec Ideal S64x256 .bf16} {q : FVec Ideal S256x96 .bf16}
    (H : HoldsCtx A b h R kt vt fun (r : Fin 256) d => q (ix2 r d)) (r : Fin 256) (w : Fin 64) :
    tileCtx kt vt q (ix5 0 0 0 r w)
      = ((∑ j : Fin 256, prob A 4096 256 b h (R + r.val) (4096 + j.val) * A.v b (4096 + j.val) h w.val : ℝ) : EReal) := by
  have hr := r.isLt
  obtain ⟨x, hx⟩ : ∃ x : EReal,
      x = ((∑ j : Fin 256, prob A 4096 256 b h (R + r.val) (4096 + j.val) * A.v b (4096 + j.val) h w.val : ℝ) : EReal) := ⟨_, rfl⟩
  have key : ∀ (o : ℕ) (ho : o + 64 ≤ 256) (hs : S256x96.Slices ![o, 0] S64x96) (s : Fin 64), o + s.val = r.val →
      k0_pay709 kt vt (extractStridedSlice S64x96 ![o, 0] q hs) (ix2 s w) = x :=
    fun o ho hs s e => by rw [groupCtx s (HoldsCutCtx H o ho hs) w, Nat.add_assoc, e, hx]
  rw [← hx]
  clear hx H
  unfold tileCtx
  pointwise
  split
  · exact key 0 (by omega) _ _ (by simp)
  · split
    · exact key 64 (by omega) _ _ (by simp only []; omega)
    · split
      · exact key 128 (by omega) _ _ (by simp only []; omega)
      · exact key 192 (by omega) _ _ (by simp only []; omega)

end Cert.MixTile

end
-- ==== Proof.MixForward.lean ====
/- The attention's forward call: at point `t` the rows from `256 * (t % 17)` of head `t / 17`, for both batches. The array it
   leaves is the reference's. -/
module

public import proofs.«01_k».proof.Proof.MixTile
public import proofs.«01_k».proof.Proof.Gen.Kernel12Ideal.Value
public import proofs.«01_k».proof.Proof.Gen.Reference12Ideal.Run
public import Idealize.ShloMosaic.Lib.Pipeline.ValueKit
public import Idealize.ShloMosaic.Lib.WritesUnit
public import Idealize.ShloMosaic.Lib.WholeRead

@[expose] public section

set_option maxRecDepth 16384

noncomputable section

namespace Cert.Kernel12Ideal.Hand

open Cert.Kernel12Ideal Cert.Kernel12Ideal.Gen Cert.Model Cert.MixTile
open Cert.MixRef (mixed Fits)
open Idealize.ShloMosaic Idealize.ShloMosaic.TcCoe Idealize.ShloMosaic.Tactic
open Idealize.SL.Sem

/-! ## The arrays the windows read -/

theorem after_q (f : Valuation τ sig (Elt Ideal)) : StableHlo.after (hostOps0 (F := Ideal)) f (Proc.devRef .tc main_v5)
    = broadcastInDim S2x4x1x4352x96 ![0, 1, 3, 4] bcast_S2x4x4352x96_S2x4x1x4352x96_0_1_3_4
        (transpose S2x4x4352x96 [0, 2, 1, 3] (f (Proc.devRef .tc main_arg0)) transposes_S2x4352x4x96_S2x4x4352x96_0_2_1_3) := by
  after_results_simp
theorem after_k (f : Valuation τ sig (Elt Ideal)) : StableHlo.after (hostOps0 (F := Ideal)) f (Proc.devRef .tc main_v7)
    = transpose S2x4x96x4352 [0, 2, 3, 1] (f (Proc.devRef .tc main_arg1)) transposes_S2x4352x4x96_S2x4x96x4352_0_2_3_1 := by
  after_results_simp; rfl
theorem after_v (f : Valuation τ sig (Elt Ideal)) : StableHlo.after (hostOps0 (F := Ideal)) f (Proc.devRef .tc main_v9)
    = transpose S2x4x64x4352 [0, 2, 3, 1] (f (Proc.devRef .tc main_arg2)) transposes_S2x4352x4x64_S2x4x64x4352_0_2_3_1 := by
  after_results_simp; rfl

/-- The queries by head, at an index. -/
theorem byHead (x : S2x4352x4x96.Idx → EReal) (i : S2x4x1x4352x96.Idx) :
    broadcastInDim S2x4x1x4352x96 ![0, 1, 3, 4] bcast_S2x4x4352x96_S2x4x1x4352x96_0_1_3_4
        (transpose S2x4x4352x96 [0, 2, 1, 3] x transposes_S2x4352x4x96_S2x4x4352x96_0_2_1_3) i
      = x (fun a => match a with
        | ⟨0, _⟩ => ⟨(i 0).val, (i 0).isLt⟩
        | ⟨1, _⟩ => ⟨(i 3).val, (i 3).isLt⟩
        | ⟨2, _⟩ => ⟨(i 1).val, (i 1).isLt⟩
        | ⟨3, _⟩ => ⟨(i 4).val, (i 4).isLt⟩) :=
  (broadcastInDim_apply _ bcast_S2x4x4352x96_S2x4x1x4352x96_0_1_3_4 _ i
    (fun a => match a with
      | ⟨0, _⟩ => ⟨(i 0).val, (i 0).isLt⟩
      | ⟨1, _⟩ => ⟨(i 1).val, (i 1).isLt⟩
      | ⟨2, _⟩ => ⟨(i 3).val, (i 3).isLt⟩
      | ⟨3, _⟩ => ⟨(i 4).val, (i 4).isLt⟩)
    (fun a => match a with
      | ⟨0, _⟩ => (if_neg (show ¬ (2 : ℕ) = 1 by decide)).symm
      | ⟨1, _⟩ => (if_neg (show ¬ (4 : ℕ) = 1 by decide)).symm
      | ⟨2, _⟩ => (if_neg (show ¬ (4352 : ℕ) = 1 by decide)).symm
      | ⟨3, _⟩ => (if_neg (show ¬ (96 : ℕ) = 1 by decide)).symm)).trans
  (transpose_apply [0, 2, 1, 3] x transposes_S2x4352x4x96_S2x4x4352x96_0_2_1_3 _ _
    (fun b => match b with
      | ⟨0, _⟩ => rfl
      | ⟨1, _⟩ => rfl
      | ⟨2, _⟩ => rfl
      | ⟨3, _⟩ => rfl))

/-- The keys by head with the rows last, at an index. -/
theorem last96 (x : S2x4352x4x96.Idx → EReal) (i : S2x4x96x4352.Idx) :
    transpose S2x4x96x4352 [0, 2, 3, 1] x transposes_S2x4352x4x96_S2x4x96x4352_0_2_3_1 i
      = x (fun a => match a with
        | ⟨0, _⟩ => ⟨(i 0).val, (i 0).isLt⟩
        | ⟨1, _⟩ => ⟨(i 3).val, (i 3).isLt⟩
        | ⟨2, _⟩ => ⟨(i 1).val, (i 1).isLt⟩
        | ⟨3, _⟩ => ⟨(i 2).val, (i 2).isLt⟩) :=
  transpose_apply [0, 2, 3, 1] x transposes_S2x4352x4x96_S2x4x96x4352_0_2_3_1 _ _
    (fun b => match b with
      | ⟨0, _⟩ => rfl
      | ⟨1, _⟩ => rfl
      | ⟨2, _⟩ => rfl
      | ⟨3, _⟩ => rfl)

/-- The values by head with the rows last, at an index. -/
theorem last64 (x : S2x4352x4x64.Idx → EReal) (i : S2x4x64x4352.Idx) :
    transpose S2x4x64x4352 [0, 2, 3, 1] x transposes_S2x4352x4x64_S2x4x64x4352_0_2_3_1 i
      = x (fun a => match a with
        | ⟨0, _⟩ => ⟨(i 0).val, (i 0).isLt⟩
        | ⟨1, _⟩ => ⟨(i 3).val, (i 3).isLt⟩
        | ⟨2, _⟩ => ⟨(i 1).val, (i 1).isLt⟩
        | ⟨3, _⟩ => ⟨(i 2).val, (i 2).isLt⟩) :=
  transpose_apply [0, 2, 3, 1] x transposes_S2x4352x4x64_S2x4x64x4352_0_2_3_1 _ _
    (fun b => match b with
      | ⟨0, _⟩ => rfl
      | ⟨1, _⟩ => rfl
      | ⟨2, _⟩ => rfl
      | ⟨3, _⟩ => rfl)

/-! ## Where the blocks lie -/

theorem index0 : ∀ t : Fin cfg0.N, win0_0.index t = ![0, t.val / 17, 0, t.val % 17, 0] :=
  (by decide +kernel : ∀ t : Fin grid0.N, win0_0.index t = ![0, t.val / 17, 0, t.val % 17, 0])
theorem index1 : ∀ t : Fin cfg0.N, win0_1.index t = ![0, t.val / 17, 0, 0] :=
  (by decide +kernel : ∀ t : Fin grid0.N, win0_1.index t = ![0, t.val / 17, 0, 0])
theorem index2 : ∀ t : Fin cfg0.N, win0_2.index t = ![0, t.val / 17, 0, 0] :=
  (by decide +kernel : ∀ t : Fin grid0.N, win0_2.index t = ![0, t.val / 17, 0, 0])
theorem index7 : ∀ t : Fin cfg0.N, win0_7.index t = ![0, t.val / 17, 0, t.val % 17, 0] :=
  (by decide +kernel : ∀ t : Fin grid0.N, win0_7.index t = ![0, t.val / 17, 0, t.val % 17, 0])

/-- The blocks hold rows `R …` of the queries of head `h` and that head's keys and values, for both batches. -/
structure Blocks (A : Call) (h R : ℕ) (X0 : Vec Ideal S2x1x1x256x96 .f32) (X1 : Vec Ideal S2x1x96x4352 .bf16)
    (X2 : Vec Ideal S2x1x64x4352 .bf16) : Prop where
  c : Ideal.ofBits FTy.f32 0x3DD105EC#32 = (A.c : EReal)
  q : ∀ (b : Fin 2) (r : Fin 256) (d : Fin 96), X0 (ix5 b 0 0 r d) = (A.q b.val (R + r.val) h d.val : EReal)
  k : ∀ (b : Fin 2) (d : Fin 96) (j : Fin 4352), X1 (ix4 b 0 d j) = (A.k b.val j.val h d.val : EReal)
  v : ∀ (b : Fin 2) (w : Fin 64) (j : Fin 4352), X2 (ix4 b 0 w j) = (A.v b.val j.val h w.val : EReal)

variable {A : Call} (m : (ℓ : Loc nD τ sig) → Buf (Elt Ideal) ℓ) (c : Dev nD) (t : Fin cfg0.N)

abbrev FitsAt (A : Call) (m : (ℓ : Loc nD τ sig) → Buf (Elt Ideal) ℓ) (c : Dev nD) : Prop :=
  Fits A (m ((c : Thread nD τ).loc main_arg0)) (m ((c : Thread nD τ).loc main_arg1)) (m ((c : Thread nD τ).loc main_arg2))

theorem iblk0_at (H : FitsAt A m c) (b : Fin 2) (r : Fin 256) (d : Fin 96) :
    iblk m c 0 t (ix5 b 0 0 r d) = (A.q b.val (256 * (t.val % 17) + r.val) (t.val / 17) d.val : EReal) := by
  show V m c main_v5 ((win0_0.rect t).emb (ix5 b 0 0 r d)) = _
  have e : V m c main_v5 = _ := after_q _
  rw [e]
  refine (byHead _ _).trans ((H.q _).trans ?_)
  have h0 : ((win0_0.rect t).emb (ix5 b 0 0 r d) 0).val = b.val := by
    refine (win0_0.rect_emb_val t (ix5 b 0 0 r d) 0 rfl).trans ?_
    rw [index0]
    show 0 * 2 + b.val = _
    omega
  have h3 : ((win0_0.rect t).emb (ix5 b 0 0 r d) 3).val = 256 * (t.val % 17) + r.val := by
    refine (win0_0.rect_emb_val t (ix5 b 0 0 r d) 3 rfl).trans ?_
    rw [index0]
    show t.val % 17 * 256 + r.val = _
    omega
  have h1 : ((win0_0.rect t).emb (ix5 b 0 0 r d) 1).val = t.val / 17 := by
    refine (win0_0.rect_emb_val t (ix5 b 0 0 r d) 1 rfl).trans ?_
    rw [index0]
    show t.val / 17 * 1 + 0 = _
    omega
  have h4 : ((win0_0.rect t).emb (ix5 b 0 0 r d) 4).val = d.val := by
    refine (win0_0.rect_emb_val t (ix5 b 0 0 r d) 4 rfl).trans ?_
    rw [index0]
    show 0 * 96 + d.val = _
    omega
  show ((A.q ((win0_0.rect t).emb (ix5 b 0 0 r d) 0).val ((win0_0.rect t).emb (ix5 b 0 0 r d) 3).val ((win0_0.rect t).emb (ix5 b 0 0 r d) 1).val ((win0_0.rect t).emb (ix5 b 0 0 r d) 4).val : ℝ) : EReal) = _
  rw [h0, h3, h1, h4]

theorem iblk1_at (H : FitsAt A m c) (b : Fin 2) (d : Fin 96) (j : Fin 4352) :
    iblk m c 1 t (ix4 b 0 d j) = (A.k b.val j.val (t.val / 17) d.val : EReal) := by
  show V m c main_v7 ((win0_1.rect t).emb (ix4 b 0 d j)) = _
  have e : V m c main_v7 = _ := after_k _
  rw [e]
  refine (last96 _ _).trans ((H.k _).trans ?_)
  have h0 : ((win0_1.rect t).emb (ix4 b 0 d j) 0).val = b.val := by
    refine (win0_1.rect_emb_val t (ix4 b 0 d j) 0 rfl).trans ?_
    rw [index1]
    show 0 * 2 + b.val = _
    omega
  have h3 : ((win0_1.rect t).emb (ix4 b 0 d j) 3).val = j.val := by
    refine (win0_1.rect_emb_val t (ix4 b 0 d j) 3 rfl).trans ?_
    rw [index1]
    show 0 * 4352 + j.val = _
    omega
  have h1 : ((win0_1.rect t).emb (ix4 b 0 d j) 1).val = t.val / 17 := by
    refine (win0_1.rect_emb_val t (ix4 b 0 d j) 1 rfl).trans ?_
    rw [index1]
    show t.val / 17 * 1 + 0 = _
    omega
  have h2 : ((win0_1.rect t).emb (ix4 b 0 d j) 2).val = d.val := by
    refine (win0_1.rect_emb_val t (ix4 b 0 d j) 2 rfl).trans ?_
    rw [index1]
    show 0 * 96 + d.val = _
    omega
  show ((A.k ((win0_1.rect t).emb (ix4 b 0 d j) 0).val ((win0_1.rect t).emb (ix4 b 0 d j) 3).val ((win0_1.rect t).emb (ix4 b 0 d j) 1).val ((win0_1.rect t).emb (ix4 b 0 d j) 2).val : ℝ) : EReal) = _
  rw [h0, h3, h1, h2]

theorem iblk2_at (H : FitsAt A m c) (b : Fin 2) (d : Fin 64) (j : Fin 4352) :
    iblk m c 2 t (ix4 b 0 d j) = (A.v b.val j.val (t.val / 17) d.val : EReal) := by
  show V m c main_v9 ((win0_2.rect t).emb (ix4 b 0 d j)) = _
  have e : V m c main_v9 = _ := after_v _
  rw [e]
  refine (last64 _ _).trans ((H.v _).trans ?_)
  have h0 : ((win0_2.rect t).emb (ix4 b 0 d j) 0).val = b.val := by
    refine (win0_2.rect_emb_val t (ix4 b 0 d j) 0 rfl).trans ?_
    rw [index2]
    show 0 * 2 + b.val = _
    omega
  have h3 : ((win0_2.rect t).emb (ix4 b 0 d j) 3).val = j.val := by
    refine (win0_2.rect_emb_val t (ix4 b 0 d j) 3 rfl).trans ?_
    rw [index2]
    show 0 * 4352 + j.val = _
    omega
  have h1 : ((win0_2.rect t).emb (ix4 b 0 d j) 1).val = t.val / 17 := by
    refine (win0_2.rect_emb_val t (ix4 b 0 d j) 1 rfl).trans ?_
    rw [index2]
    show t.val / 17 * 1 + 0 = _
    omega
  have h2 : ((win0_2.rect t).emb (ix4 b 0 d j) 2).val = d.val := by
    refine (win0_2.rect_emb_val t (ix4 b 0 d j) 2 rfl).trans ?_
    rw [index2]
    show 0 * 64 + d.val = _
    omega
  show ((A.v ((win0_2.rect t).emb (ix4 b 0 d j) 0).val ((win0_2.rect t).emb (ix4 b 0 d j) 3).val ((win0_2.rect t).emb (ix4 b 0 d j) 1).val ((win0_2.rect t).emb (ix4 b 0 d j) 2).val : ℝ) : EReal) = _
  rw [h0, h3, h1, h2]

theorem blocksAt (H : FitsAt A m c) : Blocks A (t.val / 17) (256 * (t.val % 17)) (iblk m c 0 t) (iblk m c 1 t) (iblk m c 2 t) where
  c := H.c
  q b r d := iblk0_at m c t H b r d
  k b d j := iblk1_at m c t H b d j
  v b w j := iblk2_at m c t H b w j

/-! ## The loads of a point -/

section Loads

variable {h R : ℕ} {X0 : Vec Ideal S2x1x1x256x96 .f32} {X1 : Vec Ideal S2x1x96x4352 .bf16} {X2 : Vec Ideal S2x1x64x4352 .bf16}
    {a0 : Memref sig .tc .vmem S2x1x1x256x96 .f32} {a1 : Memref sig .tc .vmem S2x1x96x4352 .bf16} {a2 : Memref sig .tc .vmem S2x1x64x4352 .bf16}

theorem Blocks.lat0 (B : Blocks A h R X0 X1 X2) (h0 : a0.IsWhole) (h1 : a1.IsWhole) (h2 : a2.IsWhole) :
    HoldsLat A 0 h R
      (k0_pay309 (View.readAt (Elt Ideal) a1.view (Rect.unit (s := S2x1x96x4352) ![0, 0, 0, 0] ![1, 1, 96, 4352] inb_S2x1x96x4352_S1x1x96x4352_0_0_0_0).toLoadRect (h1.unread X1)))
      (k0_pay310 (View.readAt (Elt Ideal) a2.view (Rect.unit (s := S2x1x64x4352) ![0, 0, 0, 0] ![1, 1, 64, 4352] inb_S2x1x64x4352_S1x1x64x4352_0_0_0_0).toLoadRect (h2.unread X2)))
      fun (r : Fin 256) d => k0_pay311 (View.readAt (Elt Ideal) a0.view (Rect.unit (s := S2x1x1x256x96) ![0, 0, 0, 0, 0] ![1, 1, 1, 256, 96] inb_S2x1x1x256x96_S1x1x1x256x96_0_0_0_0_0).toLoadRect (h0.unread X0)) (ix2 r d) where
  c := B.c
  k d j := by
    unfold k0_pay309
    pointwise
    rw [h1.readAt_unread X1]
    refine Eq.trans (congrArg X1 (funext fun a => Fin.ext ?_)) (B.k 0 d j)
    fin_cases a <;> simp [Rect.toLoadRect, LoadRect.idx, Rect.unit]
  v d j := by
    unfold k0_pay310
    pointwise
    rw [h2.readAt_unread X2]
    refine Eq.trans (congrArg X2 (funext fun a => Fin.ext ?_)) (B.v 0 d j)
    fin_cases a <;> simp [Rect.toLoadRect, LoadRect.idx, Rect.unit]
  q r d := by
    unfold k0_pay311
    pointwise
    rw [h0.readAt_unread X0]
    refine Eq.trans (congrArg X0 (funext fun a => Fin.ext ?_)) (B.q 0 r d)
    fin_cases a <;> simp [Rect.toLoadRect, LoadRect.idx, Rect.unit]

theorem Blocks.lat1 (B : Blocks A h R X0 X1 X2) (h0 : a0.IsWhole) (h1 : a1.IsWhole) (h2 : a2.IsWhole) :
    HoldsLat A 1 h R
      (k0_pay336 (View.readAt (Elt Ideal) a1.view (Rect.unit (s := S2x1x96x4352) ![1, 0, 0, 0] ![1, 1, 96, 4352] inb_S2x1x96x4352_S1x1x96x4352_1_0_0_0).toLoadRect (h1.unread X1)))
      (k0_pay337 (View.readAt (Elt Ideal) a2.view (Rect.unit (s := S2x1x64x4352) ![1, 0, 0, 0] ![1, 1, 64, 4352] inb_S2x1x64x4352_S1x1x64x4352_1_0_0_0).toLoadRect (h2.unread X2)))
      fun (r : Fin 256) d => k0_pay338 (View.readAt (Elt Ideal) a0.view (Rect.unit (s := S2x1x1x256x96) ![1, 0, 0, 0, 0] ![1, 1, 1, 256, 96] inb_S2x1x1x256x96_S1x1x1x256x96_1_0_0_0_0).toLoadRect (h0.unread X0)) (ix2 r d) where
  c := B.c
  k d j := by
    unfold k0_pay336
    pointwise
    rw [h1.readAt_unread X1]
    refine Eq.trans (congrArg X1 (funext fun a => Fin.ext ?_)) (B.k 1 d j)
    fin_cases a <;> simp [Rect.toLoadRect, LoadRect.idx, Rect.unit]
  v d j := by
    unfold k0_pay337
    pointwise
    rw [h2.readAt_unread X2]
    refine Eq.trans (congrArg X2 (funext fun a => Fin.ext ?_)) (B.v 1 d j)
    fin_cases a <;> simp [Rect.toLoadRect, LoadRect.idx, Rect.unit]
  q r d := by
    unfold k0_pay338
    pointwise
    rw [h0.readAt_unread X0]
    refine Eq.trans (congrArg X0 (funext fun a => Fin.ext ?_)) (B.q 1 r d)
    fin_cases a <;> simp [Rect.toLoadRect, LoadRect.idx, Rect.unit]

theorem Blocks.ctx0 (B : Blocks A h R X0 X1 X2) (h0 : a0.IsWhole) (h1 : a1.IsWhole) (h2 : a2.IsWhole) :
    HoldsCtx A 0 h R
      (k0_pay668 (View.readAt (Elt Ideal) a1.view (Rect.unit (s := S2x1x96x4352) ![0, 0, 0, 4096] ![1, 1, 96, 256] inb_S2x1x96x4352_S1x1x96x256_0_0_0_4096).toLoadRect (h1.unread X1)))
      (k0_pay669 (View.readAt (Elt Ideal) a2.view (Rect.unit (s := S2x1x64x4352) ![0, 0, 0, 4096] ![1, 1, 64, 256] inb_S2x1x64x4352_S1x1x64x256_0_0_0_4096).toLoadRect (h2.unread X2)))
      fun (r : Fin 256) d => k0_pay670 (View.readAt (Elt Ideal) a0.view (Rect.unit (s := S2x1x1x256x96) ![0, 0, 0, 0, 0] ![1, 1, 1, 256, 96] inb_S2x1x1x256x96_S1x1x1x256x96_0_0_0_0_0).toLoadRect (h0.unread X0)) (ix2 r d) where
  c := B.c
  k d j := by
    unfold k0_pay668
    pointwise
    rw [h1.readAt_unread X1]
    refine Eq.trans (congrArg X1 (funext fun a => Fin.ext ?_)) (B.k 0 d ⟨4096 + j.val, by omega⟩)
    fin_cases a <;> simp [Rect.toLoadRect, LoadRect.idx, Rect.unit]
  v d j := by
    unfold k0_pay669
    pointwise
    rw [h2.readAt_unread X2]
    refine Eq.trans (congrArg X2 (funext fun a => Fin.ext ?_)) (B.v 0 d ⟨4096 + j.val, by omega⟩)
    fin_cases a <;> simp [Rect.toLoadRect, LoadRect.idx, Rect.unit]
  q r d := by
    unfold k0_pay670
    pointwise
    rw [h0.readAt_unread X0]
    refine Eq.trans (congrArg X0 (funext fun a => Fin.ext ?_)) (B.q 0 r d)
    fin_cases a <;> simp [Rect.toLoadRect, LoadRect.idx, Rect.unit]

theorem Blocks.ctx1 (B : Blocks A h R X0 X1 X2) (h0 : a0.IsWhole) (h1 : a1.IsWhole) (h2 : a2.IsWhole) :
    HoldsCtx A 1 h R
      (k0_pay695 (View.readAt (Elt Ideal) a1.view (Rect.unit (s := S2x1x96x4352) ![1, 0, 0, 4096] ![1, 1, 96, 256] inb_S2x1x96x4352_S1x1x96x256_1_0_0_4096).toLoadRect (h1.unread X1)))
      (k0_pay696 (View.readAt (Elt Ideal) a2.view (Rect.unit (s := S2x1x64x4352) ![1, 0, 0, 4096] ![1, 1, 64, 256] inb_S2x1x64x4352_S1x1x64x256_1_0_0_4096).toLoadRect (h2.unread X2)))
      fun (r : Fin 256) d => k0_pay697 (View.readAt (Elt Ideal) a0.view (Rect.unit (s := S2x1x1x256x96) ![1, 0, 0, 0, 0] ![1, 1, 1, 256, 96] inb_S2x1x1x256x96_S1x1x1x256x96_1_0_0_0_0).toLoadRect (h0.unread X0)) (ix2 r d) where
  c := B.c
  k d j := by
    unfold k0_pay695
    pointwise
    rw [h1.readAt_unread X1]
    refine Eq.trans (congrArg X1 (funext fun a => Fin.ext ?_)) (B.k 1 d ⟨4096 + j.val, by omega⟩)
    fin_cases a <;> simp [Rect.toLoadRect, LoadRect.idx, Rect.unit]
  v d j := by
    unfold k0_pay696
    pointwise
    rw [h2.readAt_unread X2]
    refine Eq.trans (congrArg X2 (funext fun a => Fin.ext ?_)) (B.v 1 d ⟨4096 + j.val, by omega⟩)
    fin_cases a <;> simp [Rect.toLoadRect, LoadRect.idx, Rect.unit]
  q r d := by
    unfold k0_pay697
    pointwise
    rw [h0.readAt_unread X0]
    refine Eq.trans (congrArg X0 (funext fun a => Fin.ext ?_)) (B.q 1 r d)
    fin_cases a <;> simp [Rect.toLoadRect, LoadRect.idx, Rect.unit]

end Loads

theorem two (b : Fin 2) : b = 0 ∨ b = 1 := by omega

theorem mixedLat (A : Call) (b h r w : ℕ) (hr : r < 4096) :
    ∑ j : Fin 4352, prob A 0 4352 b h r (0 + j.val) * A.v b (0 + j.val) h w = mixed A b h r w := by
  rw [mixed, if_pos hr]
  simp only [Nat.zero_add]

theorem mixedCtx (A : Call) (b h r w : ℕ) (hr : 4096 ≤ r) :
    ∑ j : Fin 256, prob A 4096 256 b h r (4096 + j.val) * A.v b (4096 + j.val) h w = mixed A b h r w := by
  rw [mixed, if_neg (by omega)]

/-! ## What a point writes -/

theorem at_A (H : FitsAt A m c) (h0 : t.val % 68 = 0) (h1 : ¬(t.val % 17 = 16)) (h2 : ¬t.val % 17 = 16) (b : Fin 2) (r : Fin 256) (w : Fin 64) :
    (outsAt0 m c t.val t.isLt).1 (ix5 b 0 0 r w) = (mixed A b.val (t.val / 17) (256 * (t.val % 17) + r.val) w.val : EReal) := by
  have hr : 256 * (t.val % 17) + r.val < 4096 := by omega
  have B := blocksAt m c t H
  rw [← mixedLat A b.val (t.val / 17) _ w.val hr, outsAt0_A m c t h0 h1 h2]
  dsimp only
  unfold out0_A_7
  rcases two b with rfl | rfl
  · refine (View.read_writes_cons_unit_of_not_mem VO0_7 _ inb_S2x1x1x256x64_S1x1x1x256x64_1_0_0_0_0 _ _ _ rfl 0 (Or.inl Nat.zero_lt_one)).trans ?_
    refine (View.read_writes_cons_unit_of_mem VO0_7 _ inb_S2x1x1x256x64_S1x1x1x256x64_0_0_0_0_0 _ _ _ (ix5 0 0 0 r w) rfl (fun a => ?_)).trans ?_
    · fin_cases a <;> simp
    · exact (congrFun (firstLat _ _ _) _).trans (tile_applyLat (B.lat0 (hs0_0 t) (hs0_1 t) (hs0_2 t)) r w)
  · refine (View.read_writes_cons_unit_of_mem VO0_7 _ inb_S2x1x1x256x64_S1x1x1x256x64_1_0_0_0_0 _ _ _ (ix5 0 0 0 r w) rfl (fun a => ?_)).trans ?_
    · fin_cases a <;> simp
    · exact (congrFun (secondLat _ _ _) _).trans (tile_applyLat (B.lat1 (hs0_0 t) (hs0_1 t) (hs0_2 t)) r w)

theorem at_B (H : FitsAt A m c) (h0 : ¬t.val % 68 = 0) (h1 : ¬(t.val % 17 = 16)) (h2 : ¬t.val % 17 = 16) (b : Fin 2) (r : Fin 256) (w : Fin 64) :
    (outsAt0 m c t.val t.isLt).1 (ix5 b 0 0 r w) = (mixed A b.val (t.val / 17) (256 * (t.val % 17) + r.val) w.val : EReal) := by
  have hr : 256 * (t.val % 17) + r.val < 4096 := by omega
  have B := blocksAt m c t H
  rw [← mixedLat A b.val (t.val / 17) _ w.val hr, outsAt0_B m c t h0 h1 h2]
  dsimp only
  unfold out0_B_7
  rcases two b with rfl | rfl
  · refine (View.read_writes_cons_unit_of_not_mem VO0_7 _ inb_S2x1x1x256x64_S1x1x1x256x64_1_0_0_0_0 _ _ _ rfl 0 (Or.inl Nat.zero_lt_one)).trans ?_
    refine (View.read_writes_cons_unit_of_mem VO0_7 _ inb_S2x1x1x256x64_S1x1x1x256x64_0_0_0_0_0 _ _ _ (ix5 0 0 0 r w) rfl (fun a => ?_)).trans ?_
    · fin_cases a <;> simp
    · exact (congrFun (firstLat _ _ _) _).trans (tile_applyLat (B.lat0 (hs0_0 t) (hs0_1 t) (hs0_2 t)) r w)
  · refine (View.read_writes_cons_unit_of_mem VO0_7 _ inb_S2x1x1x256x64_S1x1x1x256x64_1_0_0_0_0 _ _ _ (ix5 0 0 0 r w) rfl (fun a => ?_)).trans ?_
    · fin_cases a <;> simp
    · exact (congrFun (secondLat _ _ _) _).trans (tile_applyLat (B.lat1 (hs0_0 t) (hs0_1 t) (hs0_2 t)) r w)

theorem at_C (H : FitsAt A m c) (h0 : ¬t.val % 68 = 0) (h1 : ¬¬(t.val % 17 = 16)) (h2 : t.val % 17 = 16) (b : Fin 2) (r : Fin 256) (w : Fin 64) :
    (outsAt0 m c t.val t.isLt).1 (ix5 b 0 0 r w) = (mixed A b.val (t.val / 17) (256 * (t.val % 17) + r.val) w.val : EReal) := by
  have hr : 4096 ≤ 256 * (t.val % 17) + r.val := by omega
  have B := blocksAt m c t H
  rw [← mixedCtx A b.val (t.val / 17) _ w.val hr, outsAt0_C m c t h0 h1 h2]
  dsimp only
  unfold out0_C_7
  rcases two b with rfl | rfl
  · refine (View.read_writes_cons_unit_of_not_mem VO0_7 _ inb_S2x1x1x256x64_S1x1x1x256x64_1_0_0_0_0 _ _ _ rfl 0 (Or.inl Nat.zero_lt_one)).trans ?_
    refine (View.read_writes_cons_unit_of_mem VO0_7 _ inb_S2x1x1x256x64_S1x1x1x256x64_0_0_0_0_0 _ _ _ (ix5 0 0 0 r w) rfl (fun a => ?_)).trans ?_
    · fin_cases a <;> simp
    · exact (congrFun (firstCtx _ _ _) _).trans (tile_applyCtx (B.ctx0 (hs0_0 t) (hs0_1 t) (hs0_2 t)) r w)
  · refine (View.read_writes_cons_unit_of_mem VO0_7 _ inb_S2x1x1x256x64_S1x1x1x256x64_1_0_0_0_0 _ _ _ (ix5 0 0 0 r w) rfl (fun a => ?_)).trans ?_
    · fin_cases a <;> simp
    · exact (congrFun (secondCtx _ _ _) _).trans (tile_applyCtx (B.ctx1 (hs0_0 t) (hs0_1 t) (hs0_2 t)) r w)

theorem at_any (H : FitsAt A m c) (b : Fin 2) (r : Fin 256) (w : Fin 64) :
    (outsAt0 m c t.val t.isLt).1 (ix5 b 0 0 r w) = (mixed A b.val (t.val / 17) (256 * (t.val % 17) + r.val) w.val : EReal) := by
  by_cases h2 : t.val % 17 = 16
  · exact at_C m c t H (by omega) (not_not.mpr h2) h2 b r w
  · by_cases h0 : t.val % 68 = 0
    · exact at_A m c t H h0 h2 h2 b r w
    · exact at_B m c t H h0 h2 h2 b r w

/-- An entry of the block point `t` writes, at its place in the array. -/
theorem at_place (H : FitsAt A m c) (y : S2x1x1x256x64.Idx) (i : S2x4x1x4352x64.Idx) (h0 : (i 0).val = (y 0).val)
    (h1 : (i 1).val = t.val / 17) (h3 : (i 3).val = 256 * (t.val % 17) + (y 3).val) (h4 : (i 4).val = (y 4).val) :
    (outsAt0 m c t.val t.isLt).1 y = (mixed A (i 0).val (i 1).val (i 3).val (i 4).val : EReal) := by
  have z1 : (y 1).val < 1 := (y 1).isLt
  have z2 : (y 2).val < 1 := (y 2).isLt
  obtain ⟨b, hb⟩ : ∃ b : Fin 2, b = y 0 := ⟨_, rfl⟩
  obtain ⟨r, hr⟩ : ∃ r : Fin 256, r = y 3 := ⟨_, rfl⟩
  obtain ⟨d, hd⟩ : ∃ d : Fin 64, d = y 4 := ⟨_, rfl⟩
  have ey : y = ix5 b 0 0 r d := by
    funext a
    fin_cases a
    · exact hb.symm
    · exact Fin.ext (show (y 1).val = 0 by omega)
    · exact Fin.ext (show (y 2).val = 0 by omega)
    · exact hr.symm
    · exact hd.symm
  refine (congrArg (outsAt0 m c t.val t.isLt).1 ey).trans ((at_any m c t H b r d).trans ?_)
  rw [h0, h1, h3, h4, hb, hr, hd]

/-- The array the call leaves. -/
theorem arr7 (H : FitsAt A m c) (i : S2x4x1x4352x64.Idx) :
    (dats m 0 c).arrAt 7 cfg0.N i = (mixed A (i 0).val (i 1).val (i 3).val (i 4).val : EReal) := by
  refine (dats m 0 c).arrAt_forall_of_cover 7 (fun (i : S2x4x1x4352x64.Idx) (v : EReal) => v = (mixed A (i 0).val (i 1).val (i 3).val (i 4).val : EReal)) ?_ ?_ i
  · intro t hf y
    rw [Value.flushed7]
    have hi : ∀ a, (((cfg0.win 7).blk t).view.emb y a).val = ![0, t.val / 17, 0, t.val % 17, 0] a * ![2, 1, 1, 256, 64] a + (y a).val := fun a => by
      rw [← index7 t]
      exact win0_7.rect_emb_val t y a rfl
    have z1 : (y 1).val < 1 := (y 1).isLt
    refine at_place m c t H y _ ?_ ?_ ?_ ?_
    · refine (hi 0).trans ?_
      show 0 * 2 + (y 0).val = _
      omega
    · refine (hi 1).trans ?_
      show t.val / 17 * 1 + (y 1).val = _
      omega
    · refine (hi 3).trans ?_
      show t.val % 17 * 256 + (y 3).val = _
      omega
    · refine (hi 4).trans ?_
      show 0 * 64 + (y 4).val = _
      omega
  · intro i
    change S2x4x1x4352x64.Idx at i
    have i1 : (i 1).val < 4 := (i 1).isLt
    have i2 : (i 2).val < 1 := (i 2).isLt
    have i3 : (i 3).val < 4352 := (i 3).isLt
    have hN : 17 * (i 1).val + (i 3).val / 256 < cfg0.N := by show 17 * (i 1).val + (i 3).val / 256 < 68; omega
    obtain ⟨t, ht⟩ : ∃ t : Fin cfg0.N, t.val = 17 * (i 1).val + (i 3).val / 256 := ⟨⟨17 * (i 1).val + (i 3).val / 256, hN⟩, rfl⟩
    obtain ⟨y, hy⟩ : ∃ y : S2x1x1x256x64.Idx, y = ix5 (i 0) 0 0 (⟨(i 3).val % 256, Nat.mod_lt _ (by decide)⟩ : Fin 256) (i 4) := ⟨_, rfl⟩
    refine ⟨t, flush0_7 t, ?_⟩
    have ei : i = ((cfg0.win 7).blk t).view.emb y := by
      funext a
      apply Fin.ext
      have hi : (((cfg0.win 7).blk t).view.emb y a).val = ![0, t.val / 17, 0, t.val % 17, 0] a * ![2, 1, 1, 256, 64] a + (y a).val := by
        rw [← index7 t]
        exact win0_7.rect_emb_val t y a rfl
      rw [hi, hy]
      fin_cases a
      · show (i 0).val = 0 * 2 + (i 0).val
        omega
      · show (i 1).val = t.val / 17 * 1 + 0
        omega
      · show (i 2).val = 0 * 1 + 0
        omega
      · show (i 3).val = t.val % 17 * 256 + (i 3).val % 256
        omega
      · show (i 4).val = 0 * 64 + (i 4).val
        omega
    rw [ei]
    exact ((cfg0.win 7).blk t).view.emb_mem_set y

end Cert.Kernel12Ideal.Hand

end
-- ==== Proof.MixAlgebraic.lean ====
/- The attention's forward call and the reference end with the same array, from finite queries, keys and values. -/
module

public import proofs.«01_k».proof.Defs
public import proofs.«01_k».proof.Proof.Algebraic
public import proofs.«01_k».proof.Proof.MixForward

@[expose] public section

set_option maxRecDepth 16384

noncomputable section

namespace Cert

open Cert.Model Cert.Algebraic
open Cert.MixRef (Wide Slim Fits)
open Idealize.ShloMosaic Idealize.ShloMosaic.TcCoe
open Idealize.SL.Sem

instance : Pre_finite_in.Facts := ⟨by decide, by decide⟩

/-- The call the three arguments hold; no gradient arrives. -/
def mixCall (x0 x1 : Wide) (x2 : Slim) : Call where
  q b r h d := entry x0 ![b, r, h, d]
  k b r h d := entry x1 ![b, r, h, d]
  v b r h d := entry x2 ![b, r, h, d]
  g _ _ _ _ := 0
  c := ofBits_scale.choose

theorem mixFits (x0 x1 : Wide) (x2 : Slim) (h0 : ∀ i, ∃ r : ℝ, x0 i = (r : EReal)) (h1 : ∀ i, ∃ r : ℝ, x1 i = (r : EReal))
    (h2 : ∀ i, ∃ r : ℝ, x2 i = (r : EReal)) : Fits (mixCall x0 x1 x2) x0 x1 x2 where
  q i := entry_at x0 i _ (by funext a; fin_cases a <;> rfl) (h0 i)
  k i := entry_at x1 i _ (by funext a; fin_cases a <;> rfl) (h1 i)
  v i := entry_at x2 i _ (by funext a; fin_cases a <;> rfl) (h2 i)
  c := ofBits_scale.choose_spec

theorem alg12 : algebraic_Kernel12Ideal_Reference12Ideal_pre_finite_in := by
  intro m g m' g' hpre hargs
  refine ⟨fun c => (Kernel12Ideal.Gen.dats m 0 c).arrAt 7 Kernel12Ideal.cfg0.N, ?_, ?_⟩
  · exact (θ_run Kernel12Ideal.defs _ _).mono (fun r h c => ⟨(h c).1, (h c).2.2.2.2⟩) (Kernel12Ideal.Value.run_blocks m g)
  refine (θ_run Reference12Ideal.defs _ _).mono (fun r h c => ?_) (Reference12Ideal.Value.run (F := Ideal) m' g')
  obtain ⟨e0, hrest⟩ := h c
  obtain ⟨a0, a1, a2, -⟩ := hargs c
  obtain ⟨p0, p1, p2⟩ := hpre c
  have H := mixFits _ _ _ (fun i => real_of_lt _ (congrFun p0 i)) (fun i => real_of_lt _ (congrFun p1 i)) (fun i => real_of_lt _ (congrFun p2 i))
  refine ⟨e0.trans ?_, hrest⟩
  rw [Reference12Ideal.Read.val_main_v38_eq, a0, a1, a2]
  exact funext fun i => (MixRef.result H i).trans (Kernel12Ideal.Hand.arr7 m c H i).symm

end Cert

end
-- ==== Proof.Optimiser13.lean ====
module

public import proofs.«01_k».proof.Proof.Gen.Kernel13Ideal.Value
public import proofs.«01_k».proof.Proof.Gen.Reference13Ideal.Read
public import proofs.«01_k».proof.Defs
public import Idealize.ShloMosaic.Lib.Pipeline.ValueKit
public import Idealize.ShloMosaic.Lib.Pointwise

/-! The optimiser's call on arrays of 1 rows of 1024: the whole arrays are one block. Every entry of
the step and of the two new moments is the reference's formula at that entry. -/

@[expose] public section

set_option maxRecDepth 16384

noncomputable section

namespace Cert.Kernel13Ideal.Hand

open Cert.Kernel13Ideal Cert.Kernel13Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S1x1024.Idx) (i : S1x1024.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S1x1024.Idx) (i : S1x1024.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S1x1024.Idx) (i : S1x1024.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S1x1024.Idx) (i : S1x1024.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S1x1024.Idx) (i : S1x1024.Idx) (h0 : (i 0).val = (y 0).val) (h1 : (i 1).val = (y 1).val) :
    k0_pay3 (iblk m c 1 t) (iblk m c 2 t) (iblk m c 3 t) (iblk m c 0 t) y = Reference13Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference13Ideal.Read.val_main_v23_apply, Reference13Ideal.Read.val_main_v22_apply, Reference13Ideal.Read.val_main_cst_7_apply, Reference13Ideal.Read.val_main_v21_apply, Reference13Ideal.Read.val_main_v20_apply, Reference13Ideal.Read.val_main_v19_apply, Reference13Ideal.Read.val_main_cst_6_apply, Reference13Ideal.Read.val_main_v18_apply, Reference13Ideal.Read.val_main_v17_apply, Reference13Ideal.Read.val_main_v16_apply, Reference13Ideal.Read.val_main_cst_5_apply, Reference13Ideal.Read.val_main_v15_apply, Reference13Ideal.Read.val_main_v14_apply, Reference13Ideal.Read.val_main_v13_apply, Reference13Ideal.Read.val_main_cst_4_apply, Reference13Ideal.Read.val_main_v12_apply, Reference13Ideal.Read.val_main_v11_apply, Reference13Ideal.Read.val_main_cst_3_apply, Reference13Ideal.Read.val_main_v4_apply, Reference13Ideal.Read.val_main_v3_apply, Reference13Ideal.Read.val_main_v2_apply, Reference13Ideal.Read.val_main_v1_apply, Reference13Ideal.Read.val_main_v0_apply, Reference13Ideal.Read.val_main_cst_apply, Reference13Ideal.Read.val_main_cst_0_apply, Reference13Ideal.Read.val_main_v10_apply, Reference13Ideal.Read.val_main_v9_apply, Reference13Ideal.Read.val_main_v8_apply, Reference13Ideal.Read.val_main_v7_apply, Reference13Ideal.Read.val_main_v6_apply, Reference13Ideal.Read.val_main_v5_apply, Reference13Ideal.Read.val_main_cst_1_apply, Reference13Ideal.Read.val_main_cst_2_apply]
  simp only [e0, e1, e2, e3]
  rfl

theorem moment (t : Fin cfg0.N) (y : S1x1024.Idx) (i : S1x1024.Idx) (h0 : (i 0).val = (y 0).val) (h1 : (i 1).val = (y 1).val) :
    k0_pay1 (iblk m c 1 t) (iblk m c 2 t) y = Reference13Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference13Ideal.Read.val_main_v4_apply, Reference13Ideal.Read.val_main_v3_apply, Reference13Ideal.Read.val_main_v2_apply, Reference13Ideal.Read.val_main_v1_apply, Reference13Ideal.Read.val_main_v0_apply, Reference13Ideal.Read.val_main_cst_apply, Reference13Ideal.Read.val_main_cst_0_apply]
  simp only [e0, e1, e2, e3]
  rfl

theorem square (t : Fin cfg0.N) (y : S1x1024.Idx) (i : S1x1024.Idx) (h0 : (i 0).val = (y 0).val) (h1 : (i 1).val = (y 1).val) :
    k0_pay2 (iblk m c 1 t) (iblk m c 3 t) y = Reference13Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference13Ideal.Read.val_main_v10_apply, Reference13Ideal.Read.val_main_v9_apply, Reference13Ideal.Read.val_main_v8_apply, Reference13Ideal.Read.val_main_v7_apply, Reference13Ideal.Read.val_main_v6_apply, Reference13Ideal.Read.val_main_v5_apply, Reference13Ideal.Read.val_main_cst_1_apply, Reference13Ideal.Read.val_main_cst_2_apply]
  simp only [e0, e1, e2, e3]
  rfl

theorem delta_arr : (dats m 0 c).arrAt 4 cfg0.N = Reference13Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference13Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference13Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel13Ideal.Hand

namespace Cert

open Idealize.ShloMosaic Idealize.ShloMosaic.TcCoe
open Idealize.SL.Sem

theorem alg13 : algebraic_Kernel13Ideal_Reference13Ideal := by
  intro m g m' g' hpre hargs
  refine ⟨fun c => (Kernel13Ideal.Gen.dats m 0 c).arrAt 4 Kernel13Ideal.cfg0.N,
    fun c => (Kernel13Ideal.Gen.dats m 0 c).arrAt 5 Kernel13Ideal.cfg0.N,
    fun c => (Kernel13Ideal.Gen.dats m 0 c).arrAt 6 Kernel13Ideal.cfg0.N, Kernel13Ideal.Value.run_blocks m g, ?_⟩
  refine (θ_run Reference13Ideal.defs _ _).mono (fun r h c => ?_) (Reference13Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference13Ideal.Read.val_main_v23_eq, a0, a1, a2, a3]
    exact (Kernel13Ideal.Hand.delta_arr m c).symm
  · rw [Reference13Ideal.Read.val_main_v4_eq, a1, a2]
    exact (Kernel13Ideal.Hand.moment_arr m c).symm
  · rw [Reference13Ideal.Read.val_main_v10_eq, a1, a3]
    exact (Kernel13Ideal.Hand.square_arr m c).symm

end Cert

end
-- ==== Proof.Optimiser14.lean ====
module

public import proofs.«01_k».proof.Proof.Gen.Kernel14Ideal.Value
public import proofs.«01_k».proof.Proof.Gen.Reference14Ideal.Read
public import proofs.«01_k».proof.Defs
public import Idealize.ShloMosaic.Lib.Pipeline.ValueKit
public import Idealize.ShloMosaic.Lib.Pointwise

/-! The optimiser's call on arrays of 2048 rows of 1536: 16 blocks of 128 rows. Every entry of
the step and of the two new moments is the reference's formula at that entry. -/

@[expose] public section

set_option maxRecDepth 16384

noncomputable section

namespace Cert.Kernel14Ideal.Hand

open Cert.Kernel14Ideal Cert.Kernel14Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![t.val, 0] :=
  (by decide +kernel : ∀ t : Fin grid0.N, win0_1.index t = ![t.val, 0])

theorem index2 : ∀ t : Fin cfg0.N, win0_2.index t = ![t.val, 0] :=
  (by decide +kernel : ∀ t : Fin grid0.N, win0_2.index t = ![t.val, 0])

theorem index3 : ∀ t : Fin cfg0.N, win0_3.index t = ![t.val, 0] :=
  (by decide +kernel : ∀ t : Fin grid0.N, win0_3.index t = ![t.val, 0])

theorem index4 : ∀ t : Fin cfg0.N, win0_4.index t = ![t.val, 0] :=
  (by decide +kernel : ∀ t : Fin grid0.N, win0_4.index t = ![t.val, 0])

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

theorem blk0 (t : Fin cfg0.N) (y : S128x1536.Idx) (i : S2048x1536.Idx) (h0 : (i 0).val = t.val * 128 + (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S128x1536.Idx) (i : S2048x1536.Idx) (h0 : (i 0).val = t.val * 128 + (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S128x1536.Idx) (i : S2048x1536.Idx) (h0 : (i 0).val = t.val * 128 + (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S128x1536.Idx) (i : S2048x1536.Idx) (h0 : (i 0).val = t.val * 128 + (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S128x1536.Idx) (i : S2048x1536.Idx) (h0 : (i 0).val = t.val * 128 + (y 0).val) (h1 : (i 1).val = (y 1).val) :
    k0_pay3 (iblk m c 1 t) (iblk m c 2 t) (iblk m c 3 t) (iblk m c 0 t) y = Reference14Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference14Ideal.Read.val_main_v23_apply, Reference14Ideal.Read.val_main_v22_apply, Reference14Ideal.Read.val_main_cst_7_apply, Reference14Ideal.Read.val_main_v21_apply, Reference14Ideal.Read.val_main_v20_apply, Reference14Ideal.Read.val_main_v19_apply, Reference14Ideal.Read.val_main_cst_6_apply, Reference14Ideal.Read.val_main_v18_apply, Reference14Ideal.Read.val_main_v17_apply, Reference14Ideal.Read.val_main_v16_apply, Reference14Ideal.Read.val_main_cst_5_apply, Reference14Ideal.Read.val_main_v15_apply, Reference14Ideal.Read.val_main_v14_apply, Reference14Ideal.Read.val_main_v13_apply, Reference14Ideal.Read.val_main_cst_4_apply, Reference14Ideal.Read.val_main_v12_apply, Reference14Ideal.Read.val_main_v11_apply, Reference14Ideal.Read.val_main_cst_3_apply, Reference14Ideal.Read.val_main_v4_apply, Reference14Ideal.Read.val_main_v3_apply, Reference14Ideal.Read.val_main_v2_apply, Reference14Ideal.Read.val_main_v1_apply, Reference14Ideal.Read.val_main_v0_apply, Reference14Ideal.Read.val_main_cst_apply, Reference14Ideal.Read.val_main_cst_0_apply, Reference14Ideal.Read.val_main_v10_apply, Reference14Ideal.Read.val_main_v9_apply, Reference14Ideal.Read.val_main_v8_apply, Reference14Ideal.Read.val_main_v7_apply, Reference14Ideal.Read.val_main_v6_apply, Reference14Ideal.Read.val_main_v5_apply, Reference14Ideal.Read.val_main_cst_1_apply, Reference14Ideal.Read.val_main_cst_2_apply]
  simp only [e0, e1, e2, e3]
  rfl

theorem moment (t : Fin cfg0.N) (y : S128x1536.Idx) (i : S2048x1536.Idx) (h0 : (i 0).val = t.val * 128 + (y 0).val) (h1 : (i 1).val = (y 1).val) :
    k0_pay1 (iblk m c 1 t) (iblk m c 2 t) y = Reference14Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference14Ideal.Read.val_main_v4_apply, Reference14Ideal.Read.val_main_v3_apply, Reference14Ideal.Read.val_main_v2_apply, Reference14Ideal.Read.val_main_v1_apply, Reference14Ideal.Read.val_main_v0_apply, Reference14Ideal.Read.val_main_cst_apply, Reference14Ideal.Read.val_main_cst_0_apply]
  simp only [e0, e1, e2, e3]
  rfl

theorem square (t : Fin cfg0.N) (y : S128x1536.Idx) (i : S2048x1536.Idx) (h0 : (i 0).val = t.val * 128 + (y 0).val) (h1 : (i 1).val = (y 1).val) :
    k0_pay2 (iblk m c 1 t) (iblk m c 3 t) y = Reference14Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference14Ideal.Read.val_main_v10_apply, Reference14Ideal.Read.val_main_v9_apply, Reference14Ideal.Read.val_main_v8_apply, Reference14Ideal.Read.val_main_v7_apply, Reference14Ideal.Read.val_main_v6_apply, Reference14Ideal.Read.val_main_v5_apply, Reference14Ideal.Read.val_main_cst_1_apply, Reference14Ideal.Read.val_main_cst_2_apply]
  simp only [e0, e1, e2, e3]
  rfl

theorem delta_arr : (dats m 0 c).arrAt 4 cfg0.N = Reference14Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference14Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference14Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel14Ideal.Hand

namespace Cert

open Idealize.ShloMosaic Idealize.ShloMosaic.TcCoe
open Idealize.SL.Sem

theorem alg14 : algebraic_Kernel14Ideal_Reference14Ideal := by
  intro m g m' g' hpre hargs
  refine ⟨fun c => (Kernel14Ideal.Gen.dats m 0 c).arrAt 4 Kernel14Ideal.cfg0.N,
    fun c => (Kernel14Ideal.Gen.dats m 0 c).arrAt 5 Kernel14Ideal.cfg0.N,
    fun c => (Kernel14Ideal.Gen.dats m 0 c).arrAt 6 Kernel14Ideal.cfg0.N, Kernel14Ideal.Value.run_blocks m g, ?_⟩
  refine (θ_run Reference14Ideal.defs _ _).mono (fun r h c => ?_) (Reference14Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference14Ideal.Read.val_main_v23_eq, a0, a1, a2, a3]
    exact (Kernel14Ideal.Hand.delta_arr m c).symm
  · rw [Reference14Ideal.Read.val_main_v4_eq, a1, a2]
    exact (Kernel14Ideal.Hand.moment_arr m c).symm
  · rw [Reference14Ideal.Read.val_main_v10_eq, a1, a3]
    exact (Kernel14Ideal.Hand.square_arr m c).symm

end Cert

end
-- ==== Proof.Optimiser15.lean ====
module

public import proofs.«01_k».proof.Proof.Gen.Kernel15Ideal.Value
public import proofs.«01_k».proof.Proof.Gen.Reference15Ideal.Read
public import proofs.«01_k».proof.Defs
public import Idealize.ShloMosaic.Lib.Pipeline.ValueKit
public import Idealize.ShloMosaic.Lib.Pointwise

/-! The optimiser's call on arrays of 2 rows of 6144: the whole arrays are one block. Every entry of
the step and of the two new moments is the reference's formula at that entry. -/

@[expose] public section

set_option maxRecDepth 16384

noncomputable section

namespace Cert.Kernel15Ideal.Hand

open Cert.Kernel15Ideal Cert.Kernel15Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S2x6144.Idx) (i : S2x6144.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S2x6144.Idx) (i : S2x6144.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S2x6144.Idx) (i : S2x6144.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S2x6144.Idx) (i : S2x6144.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S2x6144.Idx) (i : S2x6144.Idx) (h0 : (i 0).val = (y 0).val) (h1 : (i 1).val = (y 1).val) :
    k0_pay3 (iblk m c 1 t) (iblk m c 2 t) (iblk m c 3 t) (iblk m c 0 t) y = Reference15Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference15Ideal.Read.val_main_v23_apply, Reference15Ideal.Read.val_main_v22_apply, Reference15Ideal.Read.val_main_cst_7_apply, Reference15Ideal.Read.val_main_v21_apply, Reference15Ideal.Read.val_main_v20_apply, Reference15Ideal.Read.val_main_v19_apply, Reference15Ideal.Read.val_main_cst_6_apply, Reference15Ideal.Read.val_main_v18_apply, Reference15Ideal.Read.val_main_v17_apply, Reference15Ideal.Read.val_main_v16_apply, Reference15Ideal.Read.val_main_cst_5_apply, Reference15Ideal.Read.val_main_v15_apply, Reference15Ideal.Read.val_main_v14_apply, Reference15Ideal.Read.val_main_v13_apply, Reference15Ideal.Read.val_main_cst_4_apply, Reference15Ideal.Read.val_main_v12_apply, Reference15Ideal.Read.val_main_v11_apply, Reference15Ideal.Read.val_main_cst_3_apply, Reference15Ideal.Read.val_main_v4_apply, Reference15Ideal.Read.val_main_v3_apply, Reference15Ideal.Read.val_main_v2_apply, Reference15Ideal.Read.val_main_v1_apply, Reference15Ideal.Read.val_main_v0_apply, Reference15Ideal.Read.val_main_cst_apply, Reference15Ideal.Read.val_main_cst_0_apply, Reference15Ideal.Read.val_main_v10_apply, Reference15Ideal.Read.val_main_v9_apply, Reference15Ideal.Read.val_main_v8_apply, Reference15Ideal.Read.val_main_v7_apply, Reference15Ideal.Read.val_main_v6_apply, Reference15Ideal.Read.val_main_v5_apply, Reference15Ideal.Read.val_main_cst_1_apply, Reference15Ideal.Read.val_main_cst_2_apply]
  simp only [e0, e1, e2, e3]
  rfl

theorem moment (t : Fin cfg0.N) (y : S2x6144.Idx) (i : S2x6144.Idx) (h0 : (i 0).val = (y 0).val) (h1 : (i 1).val = (y 1).val) :
    k0_pay1 (iblk m c 1 t) (iblk m c 2 t) y = Reference15Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference15Ideal.Read.val_main_v4_apply, Reference15Ideal.Read.val_main_v3_apply, Reference15Ideal.Read.val_main_v2_apply, Reference15Ideal.Read.val_main_v1_apply, Reference15Ideal.Read.val_main_v0_apply, Reference15Ideal.Read.val_main_cst_apply, Reference15Ideal.Read.val_main_cst_0_apply]
  simp only [e0, e1, e2, e3]
  rfl

theorem square (t : Fin cfg0.N) (y : S2x6144.Idx) (i : S2x6144.Idx) (h0 : (i 0).val = (y 0).val) (h1 : (i 1).val = (y 1).val) :
    k0_pay2 (iblk m c 1 t) (iblk m c 3 t) y = Reference15Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference15Ideal.Read.val_main_v10_apply, Reference15Ideal.Read.val_main_v9_apply, Reference15Ideal.Read.val_main_v8_apply, Reference15Ideal.Read.val_main_v7_apply, Reference15Ideal.Read.val_main_v6_apply, Reference15Ideal.Read.val_main_v5_apply, Reference15Ideal.Read.val_main_cst_1_apply, Reference15Ideal.Read.val_main_cst_2_apply]
  simp only [e0, e1, e2, e3]
  rfl

theorem delta_arr : (dats m 0 c).arrAt 4 cfg0.N = Reference15Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference15Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference15Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel15Ideal.Hand

namespace Cert

open Idealize.ShloMosaic Idealize.ShloMosaic.TcCoe
open Idealize.SL.Sem

theorem alg15 : algebraic_Kernel15Ideal_Reference15Ideal := by
  intro m g m' g' hpre hargs
  refine ⟨fun c => (Kernel15Ideal.Gen.dats m 0 c).arrAt 4 Kernel15Ideal.cfg0.N,
    fun c => (Kernel15Ideal.Gen.dats m 0 c).arrAt 5 Kernel15Ideal.cfg0.N,
    fun c => (Kernel15Ideal.Gen.dats m 0 c).arrAt 6 Kernel15Ideal.cfg0.N, Kernel15Ideal.Value.run_blocks m g, ?_⟩
  refine (θ_run Reference15Ideal.defs _ _).mono (fun r h c => ?_) (Reference15Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference15Ideal.Read.val_main_v23_eq, a0, a1, a2, a3]
    exact (Kernel15Ideal.Hand.delta_arr m c).symm
  · rw [Reference15Ideal.Read.val_main_v4_eq, a1, a2]
    exact (Kernel15Ideal.Hand.moment_arr m c).symm
  · rw [Reference15Ideal.Read.val_main_v10_eq, a1, a3]
    exact (Kernel15Ideal.Hand.square_arr m c).symm

end Cert

end
-- ==== Proof.Optimiser16.lean ====
module

public import proofs.«01_k».proof.Proof.Gen.Kernel16Ideal.Value
public import proofs.«01_k».proof.Proof.Gen.Reference16Ideal.Read
public import proofs.«01_k».proof.Defs
public import Idealize.ShloMosaic.Lib.Pipeline.ValueKit
public import Idealize.ShloMosaic.Lib.Pointwise

/-! The optimiser's call on arrays of 2 rows of 1024: the whole arrays are one block. Every entry of
the step and of the two new moments is the reference's formula at that entry. -/

@[expose] public section

set_option maxRecDepth 16384

noncomputable section

namespace Cert.Kernel16Ideal.Hand

open Cert.Kernel16Ideal Cert.Kernel16Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S2x1024.Idx) (i : S2x1024.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S2x1024.Idx) (i : S2x1024.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S2x1024.Idx) (i : S2x1024.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S2x1024.Idx) (i : S2x1024.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S2x1024.Idx) (i : S2x1024.Idx) (h0 : (i 0).val = (y 0).val) (h1 : (i 1).val = (y 1).val) :
    k0_pay3 (iblk m c 1 t) (iblk m c 2 t) (iblk m c 3 t) (iblk m c 0 t) y = Reference16Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference16Ideal.Read.val_main_v23_apply, Reference16Ideal.Read.val_main_v22_apply, Reference16Ideal.Read.val_main_cst_7_apply, Reference16Ideal.Read.val_main_v21_apply, Reference16Ideal.Read.val_main_v20_apply, Reference16Ideal.Read.val_main_v19_apply, Reference16Ideal.Read.val_main_cst_6_apply, Reference16Ideal.Read.val_main_v18_apply, Reference16Ideal.Read.val_main_v17_apply, Reference16Ideal.Read.val_main_v16_apply, Reference16Ideal.Read.val_main_cst_5_apply, Reference16Ideal.Read.val_main_v15_apply, Reference16Ideal.Read.val_main_v14_apply, Reference16Ideal.Read.val_main_v13_apply, Reference16Ideal.Read.val_main_cst_4_apply, Reference16Ideal.Read.val_main_v12_apply, Reference16Ideal.Read.val_main_v11_apply, Reference16Ideal.Read.val_main_cst_3_apply, Reference16Ideal.Read.val_main_v4_apply, Reference16Ideal.Read.val_main_v3_apply, Reference16Ideal.Read.val_main_v2_apply, Reference16Ideal.Read.val_main_v1_apply, Reference16Ideal.Read.val_main_v0_apply, Reference16Ideal.Read.val_main_cst_apply, Reference16Ideal.Read.val_main_cst_0_apply, Reference16Ideal.Read.val_main_v10_apply, Reference16Ideal.Read.val_main_v9_apply, Reference16Ideal.Read.val_main_v8_apply, Reference16Ideal.Read.val_main_v7_apply, Reference16Ideal.Read.val_main_v6_apply, Reference16Ideal.Read.val_main_v5_apply, Reference16Ideal.Read.val_main_cst_1_apply, Reference16Ideal.Read.val_main_cst_2_apply]
  simp only [e0, e1, e2, e3]
  rfl

theorem moment (t : Fin cfg0.N) (y : S2x1024.Idx) (i : S2x1024.Idx) (h0 : (i 0).val = (y 0).val) (h1 : (i 1).val = (y 1).val) :
    k0_pay1 (iblk m c 1 t) (iblk m c 2 t) y = Reference16Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference16Ideal.Read.val_main_v4_apply, Reference16Ideal.Read.val_main_v3_apply, Reference16Ideal.Read.val_main_v2_apply, Reference16Ideal.Read.val_main_v1_apply, Reference16Ideal.Read.val_main_v0_apply, Reference16Ideal.Read.val_main_cst_apply, Reference16Ideal.Read.val_main_cst_0_apply]
  simp only [e0, e1, e2, e3]
  rfl

theorem square (t : Fin cfg0.N) (y : S2x1024.Idx) (i : S2x1024.Idx) (h0 : (i 0).val = (y 0).val) (h1 : (i 1).val = (y 1).val) :
    k0_pay2 (iblk m c 1 t) (iblk m c 3 t) y = Reference16Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference16Ideal.Read.val_main_v10_apply, Reference16Ideal.Read.val_main_v9_apply, Reference16Ideal.Read.val_main_v8_apply, Reference16Ideal.Read.val_main_v7_apply, Reference16Ideal.Read.val_main_v6_apply, Reference16Ideal.Read.val_main_v5_apply, Reference16Ideal.Read.val_main_cst_1_apply, Reference16Ideal.Read.val_main_cst_2_apply]
  simp only [e0, e1, e2, e3]
  rfl

theorem delta_arr : (dats m 0 c).arrAt 4 cfg0.N = Reference16Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference16Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference16Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel16Ideal.Hand

namespace Cert

open Idealize.ShloMosaic Idealize.ShloMosaic.TcCoe
open Idealize.SL.Sem

theorem alg16 : algebraic_Kernel16Ideal_Reference16Ideal := by
  intro m g m' g' hpre hargs
  refine ⟨fun c => (Kernel16Ideal.Gen.dats m 0 c).arrAt 4 Kernel16Ideal.cfg0.N,
    fun c => (Kernel16Ideal.Gen.dats m 0 c).arrAt 5 Kernel16Ideal.cfg0.N,
    fun c => (Kernel16Ideal.Gen.dats m 0 c).arrAt 6 Kernel16Ideal.cfg0.N, Kernel16Ideal.Value.run_blocks m g, ?_⟩
  refine (θ_run Reference16Ideal.defs _ _).mono (fun r h c => ?_) (Reference16Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference16Ideal.Read.val_main_v23_eq, a0, a1, a2, a3]
    exact (Kernel16Ideal.Hand.delta_arr m c).symm
  · rw [Reference16Ideal.Read.val_main_v4_eq, a1, a2]
    exact (Kernel16Ideal.Hand.moment_arr m c).symm
  · rw [Reference16Ideal.Read.val_main_v10_eq, a1, a3]
    exact (Kernel16Ideal.Hand.square_arr m c).symm

end Cert

end
-- ==== Proof.Optimiser17.lean ====
module

public import proofs.«01_k».proof.Proof.Gen.Kernel17Ideal.Value
public import proofs.«01_k».proof.Proof.Gen.Reference17Ideal.Read
public import proofs.«01_k».proof.Defs
public import Idealize.ShloMosaic.Lib.Pipeline.ValueKit
public import Idealize.ShloMosaic.Lib.Pointwise

/-! The optimiser's call on arrays of 2048 rows of 600: 8 blocks of 256 rows. Every entry of
the step and of the two new moments is the reference's formula at that entry. -/

@[expose] public section

set_option maxRecDepth 16384

noncomputable section

namespace Cert.Kernel17Ideal.Hand

open Cert.Kernel17Ideal Cert.Kernel17Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![t.val, 0] :=
  (by decide +kernel : ∀ t : Fin grid0.N, win0_1.index t = ![t.val, 0])

theorem index2 : ∀ t : Fin cfg0.N, win0_2.index t = ![t.val, 0] :=
  (by decide +kernel : ∀ t : Fin grid0.N, win0_2.index t = ![t.val, 0])

theorem index3 : ∀ t : Fin cfg0.N, win0_3.index t = ![t.val, 0] :=
  (by decide +kernel : ∀ t : Fin grid0.N, win0_3.index t = ![t.val, 0])

theorem index4 : ∀ t : Fin cfg0.N, win0_4.index t = ![t.val, 0] :=
  (by decide +kernel : ∀ t : Fin grid0.N, win0_4.index t = ![t.val, 0])

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

theorem blk0 (t : Fin cfg0.N) (y : S256x600.Idx) (i : S2048x600.Idx) (h0 : (i 0).val = t.val * 256 + (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S256x600.Idx) (i : S2048x600.Idx) (h0 : (i 0).val = t.val * 256 + (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S256x600.Idx) (i : S2048x600.Idx) (h0 : (i 0).val = t.val * 256 + (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S256x600.Idx) (i : S2048x600.Idx) (h0 : (i 0).val = t.val * 256 + (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S256x600.Idx) (i : S2048x600.Idx) (h0 : (i 0).val = t.val * 256 + (y 0).val) (h1 : (i 1).val = (y 1).val) :
    k0_pay3 (iblk m c 1 t) (iblk m c 2 t) (iblk m c 3 t) (iblk m c 0 t) y = Reference17Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference17Ideal.Read.val_main_v23_apply, Reference17Ideal.Read.val_main_v22_apply, Reference17Ideal.Read.val_main_cst_7_apply, Reference17Ideal.Read.val_main_v21_apply, Reference17Ideal.Read.val_main_v20_apply, Reference17Ideal.Read.val_main_v19_apply, Reference17Ideal.Read.val_main_cst_6_apply, Reference17Ideal.Read.val_main_v18_apply, Reference17Ideal.Read.val_main_v17_apply, Reference17Ideal.Read.val_main_v16_apply, Reference17Ideal.Read.val_main_cst_5_apply, Reference17Ideal.Read.val_main_v15_apply, Reference17Ideal.Read.val_main_v14_apply, Reference17Ideal.Read.val_main_v13_apply, Reference17Ideal.Read.val_main_cst_4_apply, Reference17Ideal.Read.val_main_v12_apply, Reference17Ideal.Read.val_main_v11_apply, Reference17Ideal.Read.val_main_cst_3_apply, Reference17Ideal.Read.val_main_v4_apply, Reference17Ideal.Read.val_main_v3_apply, Reference17Ideal.Read.val_main_v2_apply, Reference17Ideal.Read.val_main_v1_apply, Reference17Ideal.Read.val_main_v0_apply, Reference17Ideal.Read.val_main_cst_apply, Reference17Ideal.Read.val_main_cst_0_apply, Reference17Ideal.Read.val_main_v10_apply, Reference17Ideal.Read.val_main_v9_apply, Reference17Ideal.Read.val_main_v8_apply, Reference17Ideal.Read.val_main_v7_apply, Reference17Ideal.Read.val_main_v6_apply, Reference17Ideal.Read.val_main_v5_apply, Reference17Ideal.Read.val_main_cst_1_apply, Reference17Ideal.Read.val_main_cst_2_apply]
  simp only [e0, e1, e2, e3]
  rfl

theorem moment (t : Fin cfg0.N) (y : S256x600.Idx) (i : S2048x600.Idx) (h0 : (i 0).val = t.val * 256 + (y 0).val) (h1 : (i 1).val = (y 1).val) :
    k0_pay1 (iblk m c 1 t) (iblk m c 2 t) y = Reference17Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference17Ideal.Read.val_main_v4_apply, Reference17Ideal.Read.val_main_v3_apply, Reference17Ideal.Read.val_main_v2_apply, Reference17Ideal.Read.val_main_v1_apply, Reference17Ideal.Read.val_main_v0_apply, Reference17Ideal.Read.val_main_cst_apply, Reference17Ideal.Read.val_main_cst_0_apply]
  simp only [e0, e1, e2, e3]
  rfl

theorem square (t : Fin cfg0.N) (y : S256x600.Idx) (i : S2048x600.Idx) (h0 : (i 0).val = t.val * 256 + (y 0).val) (h1 : (i 1).val = (y 1).val) :
    k0_pay2 (iblk m c 1 t) (iblk m c 3 t) y = Reference17Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference17Ideal.Read.val_main_v10_apply, Reference17Ideal.Read.val_main_v9_apply, Reference17Ideal.Read.val_main_v8_apply, Reference17Ideal.Read.val_main_v7_apply, Reference17Ideal.Read.val_main_v6_apply, Reference17Ideal.Read.val_main_v5_apply, Reference17Ideal.Read.val_main_cst_1_apply, Reference17Ideal.Read.val_main_cst_2_apply]
  simp only [e0, e1, e2, e3]
  rfl

theorem delta_arr : (dats m 0 c).arrAt 4 cfg0.N = Reference17Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference17Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference17Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel17Ideal.Hand

namespace Cert

open Idealize.ShloMosaic Idealize.ShloMosaic.TcCoe
open Idealize.SL.Sem

theorem alg17 : algebraic_Kernel17Ideal_Reference17Ideal := by
  intro m g m' g' hpre hargs
  refine ⟨fun c => (Kernel17Ideal.Gen.dats m 0 c).arrAt 4 Kernel17Ideal.cfg0.N,
    fun c => (Kernel17Ideal.Gen.dats m 0 c).arrAt 5 Kernel17Ideal.cfg0.N,
    fun c => (Kernel17Ideal.Gen.dats m 0 c).arrAt 6 Kernel17Ideal.cfg0.N, Kernel17Ideal.Value.run_blocks m g, ?_⟩
  refine (θ_run Reference17Ideal.defs _ _).mono (fun r h c => ?_) (Reference17Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference17Ideal.Read.val_main_v23_eq, a0, a1, a2, a3]
    exact (Kernel17Ideal.Hand.delta_arr m c).symm
  · rw [Reference17Ideal.Read.val_main_v4_eq, a1, a2]
    exact (Kernel17Ideal.Hand.moment_arr m c).symm
  · rw [Reference17Ideal.Read.val_main_v10_eq, a1, a3]
    exact (Kernel17Ideal.Hand.square_arr m c).symm

end Cert

end
-- ==== Proof.Optimiser18.lean ====
module

public import proofs.«01_k».proof.Proof.Gen.Kernel18Ideal.Value
public import proofs.«01_k».proof.Proof.Gen.Reference18Ideal.Read
public import proofs.«01_k».proof.Defs
public import Idealize.ShloMosaic.Lib.Pipeline.ValueKit
public import Idealize.ShloMosaic.Lib.Pointwise

/-! The optimiser's call on arrays of 2 rows of 64: the whole arrays are one block. Every entry of
the step and of the two new moments is the reference's formula at that entry. -/

@[expose] public section

set_option maxRecDepth 16384

noncomputable section

namespace Cert.Kernel18Ideal.Hand

open Cert.Kernel18Ideal Cert.Kernel18Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S2x64.Idx) (i : S2x64.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S2x64.Idx) (i : S2x64.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S2x64.Idx) (i : S2x64.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S2x64.Idx) (i : S2x64.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S2x64.Idx) (i : S2x64.Idx) (h0 : (i 0).val = (y 0).val) (h1 : (i 1).val = (y 1).val) :
    k0_pay3 (iblk m c 1 t) (iblk m c 2 t) (iblk m c 3 t) (iblk m c 0 t) y = Reference18Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference18Ideal.Read.val_main_v23_apply, Reference18Ideal.Read.val_main_v22_apply, Reference18Ideal.Read.val_main_cst_7_apply, Reference18Ideal.Read.val_main_v21_apply, Reference18Ideal.Read.val_main_v20_apply, Reference18Ideal.Read.val_main_v19_apply, Reference18Ideal.Read.val_main_cst_6_apply, Reference18Ideal.Read.val_main_v18_apply, Reference18Ideal.Read.val_main_v17_apply, Reference18Ideal.Read.val_main_v16_apply, Reference18Ideal.Read.val_main_cst_5_apply, Reference18Ideal.Read.val_main_v15_apply, Reference18Ideal.Read.val_main_v14_apply, Reference18Ideal.Read.val_main_v13_apply, Reference18Ideal.Read.val_main_cst_4_apply, Reference18Ideal.Read.val_main_v12_apply, Reference18Ideal.Read.val_main_v11_apply, Reference18Ideal.Read.val_main_cst_3_apply, Reference18Ideal.Read.val_main_v4_apply, Reference18Ideal.Read.val_main_v3_apply, Reference18Ideal.Read.val_main_v2_apply, Reference18Ideal.Read.val_main_v1_apply, Reference18Ideal.Read.val_main_v0_apply, Reference18Ideal.Read.val_main_cst_apply, Reference18Ideal.Read.val_main_cst_0_apply, Reference18Ideal.Read.val_main_v10_apply, Reference18Ideal.Read.val_main_v9_apply, Reference18Ideal.Read.val_main_v8_apply, Reference18Ideal.Read.val_main_v7_apply, Reference18Ideal.Read.val_main_v6_apply, Reference18Ideal.Read.val_main_v5_apply, Reference18Ideal.Read.val_main_cst_1_apply, Reference18Ideal.Read.val_main_cst_2_apply]
  simp only [e0, e1, e2, e3]
  rfl

theorem moment (t : Fin cfg0.N) (y : S2x64.Idx) (i : S2x64.Idx) (h0 : (i 0).val = (y 0).val) (h1 : (i 1).val = (y 1).val) :
    k0_pay1 (iblk m c 1 t) (iblk m c 2 t) y = Reference18Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference18Ideal.Read.val_main_v4_apply, Reference18Ideal.Read.val_main_v3_apply, Reference18Ideal.Read.val_main_v2_apply, Reference18Ideal.Read.val_main_v1_apply, Reference18Ideal.Read.val_main_v0_apply, Reference18Ideal.Read.val_main_cst_apply, Reference18Ideal.Read.val_main_cst_0_apply]
  simp only [e0, e1, e2, e3]
  rfl

theorem square (t : Fin cfg0.N) (y : S2x64.Idx) (i : S2x64.Idx) (h0 : (i 0).val = (y 0).val) (h1 : (i 1).val = (y 1).val) :
    k0_pay2 (iblk m c 1 t) (iblk m c 3 t) y = Reference18Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference18Ideal.Read.val_main_v10_apply, Reference18Ideal.Read.val_main_v9_apply, Reference18Ideal.Read.val_main_v8_apply, Reference18Ideal.Read.val_main_v7_apply, Reference18Ideal.Read.val_main_v6_apply, Reference18Ideal.Read.val_main_v5_apply, Reference18Ideal.Read.val_main_cst_1_apply, Reference18Ideal.Read.val_main_cst_2_apply]
  simp only [e0, e1, e2, e3]
  rfl

theorem delta_arr : (dats m 0 c).arrAt 4 cfg0.N = Reference18Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference18Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference18Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel18Ideal.Hand

namespace Cert

open Idealize.ShloMosaic Idealize.ShloMosaic.TcCoe
open Idealize.SL.Sem

theorem alg18 : algebraic_Kernel18Ideal_Reference18Ideal := by
  intro m g m' g' hpre hargs
  refine ⟨fun c => (Kernel18Ideal.Gen.dats m 0 c).arrAt 4 Kernel18Ideal.cfg0.N,
    fun c => (Kernel18Ideal.Gen.dats m 0 c).arrAt 5 Kernel18Ideal.cfg0.N,
    fun c => (Kernel18Ideal.Gen.dats m 0 c).arrAt 6 Kernel18Ideal.cfg0.N, Kernel18Ideal.Value.run_blocks m g, ?_⟩
  refine (θ_run Reference18Ideal.defs _ _).mono (fun r h c => ?_) (Reference18Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference18Ideal.Read.val_main_v23_eq, a0, a1, a2, a3]
    exact (Kernel18Ideal.Hand.delta_arr m c).symm
  · rw [Reference18Ideal.Read.val_main_v4_eq, a1, a2]
    exact (Kernel18Ideal.Hand.moment_arr m c).symm
  · rw [Reference18Ideal.Read.val_main_v10_eq, a1, a3]
    exact (Kernel18Ideal.Hand.square_arr m c).symm

end Cert

end
-- ==== Proof.Optimiser19.lean ====
module

public import proofs.«01_k».proof.Proof.Gen.Kernel19Ideal.Value
public import proofs.«01_k».proof.Proof.Gen.Reference19Ideal.Read
public import proofs.«01_k».proof.Defs
public import Idealize.ShloMosaic.Lib.Pipeline.ValueKit
public import Idealize.ShloMosaic.Lib.Pointwise

/-! The optimiser's call on arrays of 2 rows of 192: the whole arrays are one block. Every entry of
the step and of the two new moments is the reference's formula at that entry. -/

@[expose] public section

set_option maxRecDepth 16384

noncomputable section

namespace Cert.Kernel19Ideal.Hand

open Cert.Kernel19Ideal Cert.Kernel19Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S2x192.Idx) (i : S2x192.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S2x192.Idx) (i : S2x192.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S2x192.Idx) (i : S2x192.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S2x192.Idx) (i : S2x192.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S2x192.Idx) (i : S2x192.Idx) (h0 : (i 0).val = (y 0).val) (h1 : (i 1).val = (y 1).val) :
    k0_pay3 (iblk m c 1 t) (iblk m c 2 t) (iblk m c 3 t) (iblk m c 0 t) y = Reference19Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference19Ideal.Read.val_main_v23_apply, Reference19Ideal.Read.val_main_v22_apply, Reference19Ideal.Read.val_main_cst_7_apply, Reference19Ideal.Read.val_main_v21_apply, Reference19Ideal.Read.val_main_v20_apply, Reference19Ideal.Read.val_main_v19_apply, Reference19Ideal.Read.val_main_cst_6_apply, Reference19Ideal.Read.val_main_v18_apply, Reference19Ideal.Read.val_main_v17_apply, Reference19Ideal.Read.val_main_v16_apply, Reference19Ideal.Read.val_main_cst_5_apply, Reference19Ideal.Read.val_main_v15_apply, Reference19Ideal.Read.val_main_v14_apply, Reference19Ideal.Read.val_main_v13_apply, Reference19Ideal.Read.val_main_cst_4_apply, Reference19Ideal.Read.val_main_v12_apply, Reference19Ideal.Read.val_main_v11_apply, Reference19Ideal.Read.val_main_cst_3_apply, Reference19Ideal.Read.val_main_v4_apply, Reference19Ideal.Read.val_main_v3_apply, Reference19Ideal.Read.val_main_v2_apply, Reference19Ideal.Read.val_main_v1_apply, Reference19Ideal.Read.val_main_v0_apply, Reference19Ideal.Read.val_main_cst_apply, Reference19Ideal.Read.val_main_cst_0_apply, Reference19Ideal.Read.val_main_v10_apply, Reference19Ideal.Read.val_main_v9_apply, Reference19Ideal.Read.val_main_v8_apply, Reference19Ideal.Read.val_main_v7_apply, Reference19Ideal.Read.val_main_v6_apply, Reference19Ideal.Read.val_main_v5_apply, Reference19Ideal.Read.val_main_cst_1_apply, Reference19Ideal.Read.val_main_cst_2_apply]
  simp only [e0, e1, e2, e3]
  rfl

theorem moment (t : Fin cfg0.N) (y : S2x192.Idx) (i : S2x192.Idx) (h0 : (i 0).val = (y 0).val) (h1 : (i 1).val = (y 1).val) :
    k0_pay1 (iblk m c 1 t) (iblk m c 2 t) y = Reference19Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference19Ideal.Read.val_main_v4_apply, Reference19Ideal.Read.val_main_v3_apply, Reference19Ideal.Read.val_main_v2_apply, Reference19Ideal.Read.val_main_v1_apply, Reference19Ideal.Read.val_main_v0_apply, Reference19Ideal.Read.val_main_cst_apply, Reference19Ideal.Read.val_main_cst_0_apply]
  simp only [e0, e1, e2, e3]
  rfl

theorem square (t : Fin cfg0.N) (y : S2x192.Idx) (i : S2x192.Idx) (h0 : (i 0).val = (y 0).val) (h1 : (i 1).val = (y 1).val) :
    k0_pay2 (iblk m c 1 t) (iblk m c 3 t) y = Reference19Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference19Ideal.Read.val_main_v10_apply, Reference19Ideal.Read.val_main_v9_apply, Reference19Ideal.Read.val_main_v8_apply, Reference19Ideal.Read.val_main_v7_apply, Reference19Ideal.Read.val_main_v6_apply, Reference19Ideal.Read.val_main_v5_apply, Reference19Ideal.Read.val_main_cst_1_apply, Reference19Ideal.Read.val_main_cst_2_apply]
  simp only [e0, e1, e2, e3]
  rfl

theorem delta_arr : (dats m 0 c).arrAt 4 cfg0.N = Reference19Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference19Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference19Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel19Ideal.Hand

namespace Cert

open Idealize.ShloMosaic Idealize.ShloMosaic.TcCoe
open Idealize.SL.Sem

theorem alg19 : algebraic_Kernel19Ideal_Reference19Ideal := by
  intro m g m' g' hpre hargs
  refine ⟨fun c => (Kernel19Ideal.Gen.dats m 0 c).arrAt 4 Kernel19Ideal.cfg0.N,
    fun c => (Kernel19Ideal.Gen.dats m 0 c).arrAt 5 Kernel19Ideal.cfg0.N,
    fun c => (Kernel19Ideal.Gen.dats m 0 c).arrAt 6 Kernel19Ideal.cfg0.N, Kernel19Ideal.Value.run_blocks m g, ?_⟩
  refine (θ_run Reference19Ideal.defs _ _).mono (fun r h c => ?_) (Reference19Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference19Ideal.Read.val_main_v23_eq, a0, a1, a2, a3]
    exact (Kernel19Ideal.Hand.delta_arr m c).symm
  · rw [Reference19Ideal.Read.val_main_v4_eq, a1, a2]
    exact (Kernel19Ideal.Hand.moment_arr m c).symm
  · rw [Reference19Ideal.Read.val_main_v10_eq, a1, a3]
    exact (Kernel19Ideal.Hand.square_arr m c).symm

end Cert

end
-- ==== Proof.Optimiser20.lean ====
module

public import proofs.«01_k».proof.Proof.Gen.Kernel20Ideal.Value
public import proofs.«01_k».proof.Proof.Gen.Reference20Ideal.Read
public import proofs.«01_k».proof.Defs
public import Idealize.ShloMosaic.Lib.Pipeline.ValueKit
public import Idealize.ShloMosaic.Lib.Pointwise

/-! The optimiser's call on arrays of 384 rows of 96: the whole arrays are one block. Every entry of
the step and of the two new moments is the reference's formula at that entry. -/

@[expose] public section

set_option maxRecDepth 16384

noncomputable section

namespace Cert.Kernel20Ideal.Hand

open Cert.Kernel20Ideal Cert.Kernel20Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S384x96.Idx) (i : S384x96.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S384x96.Idx) (i : S384x96.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S384x96.Idx) (i : S384x96.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S384x96.Idx) (i : S384x96.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S384x96.Idx) (i : S384x96.Idx) (h0 : (i 0).val = (y 0).val) (h1 : (i 1).val = (y 1).val) :
    k0_pay3 (iblk m c 1 t) (iblk m c 2 t) (iblk m c 3 t) (iblk m c 0 t) y = Reference20Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference20Ideal.Read.val_main_v23_apply, Reference20Ideal.Read.val_main_v22_apply, Reference20Ideal.Read.val_main_cst_7_apply, Reference20Ideal.Read.val_main_v21_apply, Reference20Ideal.Read.val_main_v20_apply, Reference20Ideal.Read.val_main_v19_apply, Reference20Ideal.Read.val_main_cst_6_apply, Reference20Ideal.Read.val_main_v18_apply, Reference20Ideal.Read.val_main_v17_apply, Reference20Ideal.Read.val_main_v16_apply, Reference20Ideal.Read.val_main_cst_5_apply, Reference20Ideal.Read.val_main_v15_apply, Reference20Ideal.Read.val_main_v14_apply, Reference20Ideal.Read.val_main_v13_apply, Reference20Ideal.Read.val_main_cst_4_apply, Reference20Ideal.Read.val_main_v12_apply, Reference20Ideal.Read.val_main_v11_apply, Reference20Ideal.Read.val_main_cst_3_apply, Reference20Ideal.Read.val_main_v4_apply, Reference20Ideal.Read.val_main_v3_apply, Reference20Ideal.Read.val_main_v2_apply, Reference20Ideal.Read.val_main_v1_apply, Reference20Ideal.Read.val_main_v0_apply, Reference20Ideal.Read.val_main_cst_apply, Reference20Ideal.Read.val_main_cst_0_apply, Reference20Ideal.Read.val_main_v10_apply, Reference20Ideal.Read.val_main_v9_apply, Reference20Ideal.Read.val_main_v8_apply, Reference20Ideal.Read.val_main_v7_apply, Reference20Ideal.Read.val_main_v6_apply, Reference20Ideal.Read.val_main_v5_apply, Reference20Ideal.Read.val_main_cst_1_apply, Reference20Ideal.Read.val_main_cst_2_apply]
  simp only [e0, e1, e2, e3]
  rfl

theorem moment (t : Fin cfg0.N) (y : S384x96.Idx) (i : S384x96.Idx) (h0 : (i 0).val = (y 0).val) (h1 : (i 1).val = (y 1).val) :
    k0_pay1 (iblk m c 1 t) (iblk m c 2 t) y = Reference20Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference20Ideal.Read.val_main_v4_apply, Reference20Ideal.Read.val_main_v3_apply, Reference20Ideal.Read.val_main_v2_apply, Reference20Ideal.Read.val_main_v1_apply, Reference20Ideal.Read.val_main_v0_apply, Reference20Ideal.Read.val_main_cst_apply, Reference20Ideal.Read.val_main_cst_0_apply]
  simp only [e0, e1, e2, e3]
  rfl

theorem square (t : Fin cfg0.N) (y : S384x96.Idx) (i : S384x96.Idx) (h0 : (i 0).val = (y 0).val) (h1 : (i 1).val = (y 1).val) :
    k0_pay2 (iblk m c 1 t) (iblk m c 3 t) y = Reference20Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference20Ideal.Read.val_main_v10_apply, Reference20Ideal.Read.val_main_v9_apply, Reference20Ideal.Read.val_main_v8_apply, Reference20Ideal.Read.val_main_v7_apply, Reference20Ideal.Read.val_main_v6_apply, Reference20Ideal.Read.val_main_v5_apply, Reference20Ideal.Read.val_main_cst_1_apply, Reference20Ideal.Read.val_main_cst_2_apply]
  simp only [e0, e1, e2, e3]
  rfl

theorem delta_arr : (dats m 0 c).arrAt 4 cfg0.N = Reference20Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference20Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference20Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel20Ideal.Hand

namespace Cert

open Idealize.ShloMosaic Idealize.ShloMosaic.TcCoe
open Idealize.SL.Sem

theorem alg20 : algebraic_Kernel20Ideal_Reference20Ideal := by
  intro m g m' g' hpre hargs
  refine ⟨fun c => (Kernel20Ideal.Gen.dats m 0 c).arrAt 4 Kernel20Ideal.cfg0.N,
    fun c => (Kernel20Ideal.Gen.dats m 0 c).arrAt 5 Kernel20Ideal.cfg0.N,
    fun c => (Kernel20Ideal.Gen.dats m 0 c).arrAt 6 Kernel20Ideal.cfg0.N, Kernel20Ideal.Value.run_blocks m g, ?_⟩
  refine (θ_run Reference20Ideal.defs _ _).mono (fun r h c => ?_) (Reference20Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference20Ideal.Read.val_main_v23_eq, a0, a1, a2, a3]
    exact (Kernel20Ideal.Hand.delta_arr m c).symm
  · rw [Reference20Ideal.Read.val_main_v4_eq, a1, a2]
    exact (Kernel20Ideal.Hand.moment_arr m c).symm
  · rw [Reference20Ideal.Read.val_main_v10_eq, a1, a3]
    exact (Kernel20Ideal.Hand.square_arr m c).symm

end Cert

end
-- ==== Proof.Optimiser21.lean ====
module

public import proofs.«01_k».proof.Proof.Gen.Kernel21Ideal.Value
public import proofs.«01_k».proof.Proof.Gen.Reference21Ideal.Read
public import proofs.«01_k».proof.Defs
public import Idealize.ShloMosaic.Lib.Pipeline.ValueKit
public import Idealize.ShloMosaic.Lib.Pointwise

/-! The optimiser's call on arrays of 2 rows of 128: the whole arrays are one block. Every entry of
the step and of the two new moments is the reference's formula at that entry. -/

@[expose] public section

set_option maxRecDepth 16384

noncomputable section

namespace Cert.Kernel21Ideal.Hand

open Cert.Kernel21Ideal Cert.Kernel21Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S2x128.Idx) (i : S2x128.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S2x128.Idx) (i : S2x128.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S2x128.Idx) (i : S2x128.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S2x128.Idx) (i : S2x128.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S2x128.Idx) (i : S2x128.Idx) (h0 : (i 0).val = (y 0).val) (h1 : (i 1).val = (y 1).val) :
    k0_pay3 (iblk m c 1 t) (iblk m c 2 t) (iblk m c 3 t) (iblk m c 0 t) y = Reference21Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference21Ideal.Read.val_main_v23_apply, Reference21Ideal.Read.val_main_v22_apply, Reference21Ideal.Read.val_main_cst_7_apply, Reference21Ideal.Read.val_main_v21_apply, Reference21Ideal.Read.val_main_v20_apply, Reference21Ideal.Read.val_main_v19_apply, Reference21Ideal.Read.val_main_cst_6_apply, Reference21Ideal.Read.val_main_v18_apply, Reference21Ideal.Read.val_main_v17_apply, Reference21Ideal.Read.val_main_v16_apply, Reference21Ideal.Read.val_main_cst_5_apply, Reference21Ideal.Read.val_main_v15_apply, Reference21Ideal.Read.val_main_v14_apply, Reference21Ideal.Read.val_main_v13_apply, Reference21Ideal.Read.val_main_cst_4_apply, Reference21Ideal.Read.val_main_v12_apply, Reference21Ideal.Read.val_main_v11_apply, Reference21Ideal.Read.val_main_cst_3_apply, Reference21Ideal.Read.val_main_v4_apply, Reference21Ideal.Read.val_main_v3_apply, Reference21Ideal.Read.val_main_v2_apply, Reference21Ideal.Read.val_main_v1_apply, Reference21Ideal.Read.val_main_v0_apply, Reference21Ideal.Read.val_main_cst_apply, Reference21Ideal.Read.val_main_cst_0_apply, Reference21Ideal.Read.val_main_v10_apply, Reference21Ideal.Read.val_main_v9_apply, Reference21Ideal.Read.val_main_v8_apply, Reference21Ideal.Read.val_main_v7_apply, Reference21Ideal.Read.val_main_v6_apply, Reference21Ideal.Read.val_main_v5_apply, Reference21Ideal.Read.val_main_cst_1_apply, Reference21Ideal.Read.val_main_cst_2_apply]
  simp only [e0, e1, e2, e3]
  rfl

theorem moment (t : Fin cfg0.N) (y : S2x128.Idx) (i : S2x128.Idx) (h0 : (i 0).val = (y 0).val) (h1 : (i 1).val = (y 1).val) :
    k0_pay1 (iblk m c 1 t) (iblk m c 2 t) y = Reference21Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference21Ideal.Read.val_main_v4_apply, Reference21Ideal.Read.val_main_v3_apply, Reference21Ideal.Read.val_main_v2_apply, Reference21Ideal.Read.val_main_v1_apply, Reference21Ideal.Read.val_main_v0_apply, Reference21Ideal.Read.val_main_cst_apply, Reference21Ideal.Read.val_main_cst_0_apply]
  simp only [e0, e1, e2, e3]
  rfl

theorem square (t : Fin cfg0.N) (y : S2x128.Idx) (i : S2x128.Idx) (h0 : (i 0).val = (y 0).val) (h1 : (i 1).val = (y 1).val) :
    k0_pay2 (iblk m c 1 t) (iblk m c 3 t) y = Reference21Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference21Ideal.Read.val_main_v10_apply, Reference21Ideal.Read.val_main_v9_apply, Reference21Ideal.Read.val_main_v8_apply, Reference21Ideal.Read.val_main_v7_apply, Reference21Ideal.Read.val_main_v6_apply, Reference21Ideal.Read.val_main_v5_apply, Reference21Ideal.Read.val_main_cst_1_apply, Reference21Ideal.Read.val_main_cst_2_apply]
  simp only [e0, e1, e2, e3]
  rfl

theorem delta_arr : (dats m 0 c).arrAt 4 cfg0.N = Reference21Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference21Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference21Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel21Ideal.Hand

namespace Cert

open Idealize.ShloMosaic Idealize.ShloMosaic.TcCoe
open Idealize.SL.Sem

theorem alg21 : algebraic_Kernel21Ideal_Reference21Ideal := by
  intro m g m' g' hpre hargs
  refine ⟨fun c => (Kernel21Ideal.Gen.dats m 0 c).arrAt 4 Kernel21Ideal.cfg0.N,
    fun c => (Kernel21Ideal.Gen.dats m 0 c).arrAt 5 Kernel21Ideal.cfg0.N,
    fun c => (Kernel21Ideal.Gen.dats m 0 c).arrAt 6 Kernel21Ideal.cfg0.N, Kernel21Ideal.Value.run_blocks m g, ?_⟩
  refine (θ_run Reference21Ideal.defs _ _).mono (fun r h c => ?_) (Reference21Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference21Ideal.Read.val_main_v23_eq, a0, a1, a2, a3]
    exact (Kernel21Ideal.Hand.delta_arr m c).symm
  · rw [Reference21Ideal.Read.val_main_v4_eq, a1, a2]
    exact (Kernel21Ideal.Hand.moment_arr m c).symm
  · rw [Reference21Ideal.Read.val_main_v10_eq, a1, a3]
    exact (Kernel21Ideal.Hand.square_arr m c).symm

end Cert

end
-- ==== Proof.Optimiser22.lean ====
module

public import proofs.«01_k».proof.Proof.Gen.Kernel22Ideal.Value
public import proofs.«01_k».proof.Proof.Gen.Reference22Ideal.Read
public import proofs.«01_k».proof.Defs
public import Idealize.ShloMosaic.Lib.Pipeline.ValueKit
public import Idealize.ShloMosaic.Lib.Pointwise

/-! The optimiser's call on arrays of 256 rows of 128: the whole arrays are one block. Every entry of
the step and of the two new moments is the reference's formula at that entry. -/

@[expose] public section

set_option maxRecDepth 16384

noncomputable section

namespace Cert.Kernel22Ideal.Hand

open Cert.Kernel22Ideal Cert.Kernel22Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S256x128.Idx) (i : S256x128.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S256x128.Idx) (i : S256x128.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S256x128.Idx) (i : S256x128.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S256x128.Idx) (i : S256x128.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S256x128.Idx) (i : S256x128.Idx) (h0 : (i 0).val = (y 0).val) (h1 : (i 1).val = (y 1).val) :
    k0_pay3 (iblk m c 1 t) (iblk m c 2 t) (iblk m c 3 t) (iblk m c 0 t) y = Reference22Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference22Ideal.Read.val_main_v23_apply, Reference22Ideal.Read.val_main_v22_apply, Reference22Ideal.Read.val_main_cst_7_apply, Reference22Ideal.Read.val_main_v21_apply, Reference22Ideal.Read.val_main_v20_apply, Reference22Ideal.Read.val_main_v19_apply, Reference22Ideal.Read.val_main_cst_6_apply, Reference22Ideal.Read.val_main_v18_apply, Reference22Ideal.Read.val_main_v17_apply, Reference22Ideal.Read.val_main_v16_apply, Reference22Ideal.Read.val_main_cst_5_apply, Reference22Ideal.Read.val_main_v15_apply, Reference22Ideal.Read.val_main_v14_apply, Reference22Ideal.Read.val_main_v13_apply, Reference22Ideal.Read.val_main_cst_4_apply, Reference22Ideal.Read.val_main_v12_apply, Reference22Ideal.Read.val_main_v11_apply, Reference22Ideal.Read.val_main_cst_3_apply, Reference22Ideal.Read.val_main_v4_apply, Reference22Ideal.Read.val_main_v3_apply, Reference22Ideal.Read.val_main_v2_apply, Reference22Ideal.Read.val_main_v1_apply, Reference22Ideal.Read.val_main_v0_apply, Reference22Ideal.Read.val_main_cst_apply, Reference22Ideal.Read.val_main_cst_0_apply, Reference22Ideal.Read.val_main_v10_apply, Reference22Ideal.Read.val_main_v9_apply, Reference22Ideal.Read.val_main_v8_apply, Reference22Ideal.Read.val_main_v7_apply, Reference22Ideal.Read.val_main_v6_apply, Reference22Ideal.Read.val_main_v5_apply, Reference22Ideal.Read.val_main_cst_1_apply, Reference22Ideal.Read.val_main_cst_2_apply]
  simp only [e0, e1, e2, e3]
  rfl

theorem moment (t : Fin cfg0.N) (y : S256x128.Idx) (i : S256x128.Idx) (h0 : (i 0).val = (y 0).val) (h1 : (i 1).val = (y 1).val) :
    k0_pay1 (iblk m c 1 t) (iblk m c 2 t) y = Reference22Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference22Ideal.Read.val_main_v4_apply, Reference22Ideal.Read.val_main_v3_apply, Reference22Ideal.Read.val_main_v2_apply, Reference22Ideal.Read.val_main_v1_apply, Reference22Ideal.Read.val_main_v0_apply, Reference22Ideal.Read.val_main_cst_apply, Reference22Ideal.Read.val_main_cst_0_apply]
  simp only [e0, e1, e2, e3]
  rfl

theorem square (t : Fin cfg0.N) (y : S256x128.Idx) (i : S256x128.Idx) (h0 : (i 0).val = (y 0).val) (h1 : (i 1).val = (y 1).val) :
    k0_pay2 (iblk m c 1 t) (iblk m c 3 t) y = Reference22Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference22Ideal.Read.val_main_v10_apply, Reference22Ideal.Read.val_main_v9_apply, Reference22Ideal.Read.val_main_v8_apply, Reference22Ideal.Read.val_main_v7_apply, Reference22Ideal.Read.val_main_v6_apply, Reference22Ideal.Read.val_main_v5_apply, Reference22Ideal.Read.val_main_cst_1_apply, Reference22Ideal.Read.val_main_cst_2_apply]
  simp only [e0, e1, e2, e3]
  rfl

theorem delta_arr : (dats m 0 c).arrAt 4 cfg0.N = Reference22Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference22Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference22Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel22Ideal.Hand

namespace Cert

open Idealize.ShloMosaic Idealize.ShloMosaic.TcCoe
open Idealize.SL.Sem

theorem alg22 : algebraic_Kernel22Ideal_Reference22Ideal := by
  intro m g m' g' hpre hargs
  refine ⟨fun c => (Kernel22Ideal.Gen.dats m 0 c).arrAt 4 Kernel22Ideal.cfg0.N,
    fun c => (Kernel22Ideal.Gen.dats m 0 c).arrAt 5 Kernel22Ideal.cfg0.N,
    fun c => (Kernel22Ideal.Gen.dats m 0 c).arrAt 6 Kernel22Ideal.cfg0.N, Kernel22Ideal.Value.run_blocks m g, ?_⟩
  refine (θ_run Reference22Ideal.defs _ _).mono (fun r h c => ?_) (Reference22Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference22Ideal.Read.val_main_v23_eq, a0, a1, a2, a3]
    exact (Kernel22Ideal.Hand.delta_arr m c).symm
  · rw [Reference22Ideal.Read.val_main_v4_eq, a1, a2]
    exact (Kernel22Ideal.Hand.moment_arr m c).symm
  · rw [Reference22Ideal.Read.val_main_v10_eq, a1, a3]
    exact (Kernel22Ideal.Hand.square_arr m c).symm

end Cert

end
-- ==== Proof.Optimiser23.lean ====
module

public import proofs.«01_k».proof.Proof.Gen.Kernel23Ideal.Value
public import proofs.«01_k».proof.Proof.Gen.Reference23Ideal.Read
public import proofs.«01_k».proof.Defs
public import Idealize.ShloMosaic.Lib.Pipeline.ValueKit
public import Idealize.ShloMosaic.Lib.Pointwise

/-! The optimiser's call on arrays of 4 rows of 64: the whole arrays are one block. Every entry of
the step and of the two new moments is the reference's formula at that entry. -/

@[expose] public section

set_option maxRecDepth 16384

noncomputable section

namespace Cert.Kernel23Ideal.Hand

open Cert.Kernel23Ideal Cert.Kernel23Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0] :=
  (by decide +kernel : ∀ t : Fin grid0.N, win0_0.index t = ![0, 0])

theorem index1 : ∀ t : Fin cfg0.N, win0_1.index t = ![0, 0] :=
  (by decide +kernel : ∀ t : Fin grid0.N, win0_1.index t = ![0, 0])

theorem index2 : ∀ t : Fin cfg0.N, win0_2.index t = ![0, 0] :=
  (by decide +kernel : ∀ t : Fin grid0.N, win0_2.index t = ![0, 0])

theorem index3 : ∀ t : Fin cfg0.N, win0_3.index t = ![0, 0] :=
  (by decide +kernel : ∀ t : Fin grid0.N, win0_3.index t = ![0, 0])

theorem index4 : ∀ t : Fin cfg0.N, win0_4.index t = ![0, 0] :=
  (by decide +kernel : ∀ t : Fin grid0.N, win0_4.index t = ![0, 0])

theorem index5 : ∀ t : Fin cfg0.N, win0_5.index t = ![0, 0] :=
  (by decide +kernel : ∀ t : Fin grid0.N, win0_5.index t = ![0, 0])

theorem index6 : ∀ t : Fin cfg0.N, win0_6.index t = ![0, 0] :=
  (by decide +kernel : ∀ t : Fin grid0.N, win0_6.index t = ![0, 0])

theorem blk0 (t : Fin cfg0.N) (y : S4x64.Idx) (i : S4x64.Idx) (h0 : (i 0).val = (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S4x64.Idx) (i : S4x64.Idx) (h0 : (i 0).val = (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S4x64.Idx) (i : S4x64.Idx) (h0 : (i 0).val = (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S4x64.Idx) (i : S4x64.Idx) (h0 : (i 0).val = (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S4x64.Idx) (i : S4x64.Idx) (h0 : (i 0).val = (y 0).val) (h1 : (i 1).val = (y 1).val) :
    k0_pay3 (iblk m c 1 t) (iblk m c 2 t) (iblk m c 3 t) (iblk m c 0 t) y = Reference23Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference23Ideal.Read.val_main_v23_apply, Reference23Ideal.Read.val_main_v22_apply, Reference23Ideal.Read.val_main_cst_7_apply, Reference23Ideal.Read.val_main_v21_apply, Reference23Ideal.Read.val_main_v20_apply, Reference23Ideal.Read.val_main_v19_apply, Reference23Ideal.Read.val_main_cst_6_apply, Reference23Ideal.Read.val_main_v18_apply, Reference23Ideal.Read.val_main_v17_apply, Reference23Ideal.Read.val_main_v16_apply, Reference23Ideal.Read.val_main_cst_5_apply, Reference23Ideal.Read.val_main_v15_apply, Reference23Ideal.Read.val_main_v14_apply, Reference23Ideal.Read.val_main_v13_apply, Reference23Ideal.Read.val_main_cst_4_apply, Reference23Ideal.Read.val_main_v12_apply, Reference23Ideal.Read.val_main_v11_apply, Reference23Ideal.Read.val_main_cst_3_apply, Reference23Ideal.Read.val_main_v4_apply, Reference23Ideal.Read.val_main_v3_apply, Reference23Ideal.Read.val_main_v2_apply, Reference23Ideal.Read.val_main_v1_apply, Reference23Ideal.Read.val_main_v0_apply, Reference23Ideal.Read.val_main_cst_apply, Reference23Ideal.Read.val_main_cst_0_apply, Reference23Ideal.Read.val_main_v10_apply, Reference23Ideal.Read.val_main_v9_apply, Reference23Ideal.Read.val_main_v8_apply, Reference23Ideal.Read.val_main_v7_apply, Reference23Ideal.Read.val_main_v6_apply, Reference23Ideal.Read.val_main_v5_apply, Reference23Ideal.Read.val_main_cst_1_apply, Reference23Ideal.Read.val_main_cst_2_apply]
  simp only [e0, e1, e2, e3]
  rfl

theorem moment (t : Fin cfg0.N) (y : S4x64.Idx) (i : S4x64.Idx) (h0 : (i 0).val = (y 0).val) (h1 : (i 1).val = (y 1).val) :
    k0_pay1 (iblk m c 1 t) (iblk m c 2 t) y = Reference23Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference23Ideal.Read.val_main_v4_apply, Reference23Ideal.Read.val_main_v3_apply, Reference23Ideal.Read.val_main_v2_apply, Reference23Ideal.Read.val_main_v1_apply, Reference23Ideal.Read.val_main_v0_apply, Reference23Ideal.Read.val_main_cst_apply, Reference23Ideal.Read.val_main_cst_0_apply]
  simp only [e0, e1, e2, e3]
  rfl

theorem square (t : Fin cfg0.N) (y : S4x64.Idx) (i : S4x64.Idx) (h0 : (i 0).val = (y 0).val) (h1 : (i 1).val = (y 1).val) :
    k0_pay2 (iblk m c 1 t) (iblk m c 3 t) y = Reference23Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference23Ideal.Read.val_main_v10_apply, Reference23Ideal.Read.val_main_v9_apply, Reference23Ideal.Read.val_main_v8_apply, Reference23Ideal.Read.val_main_v7_apply, Reference23Ideal.Read.val_main_v6_apply, Reference23Ideal.Read.val_main_v5_apply, Reference23Ideal.Read.val_main_cst_1_apply, Reference23Ideal.Read.val_main_cst_2_apply]
  simp only [e0, e1, e2, e3]
  rfl

theorem delta_arr : (dats m 0 c).arrAt 4 cfg0.N = Reference23Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference23Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference23Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel23Ideal.Hand

namespace Cert

open Idealize.ShloMosaic Idealize.ShloMosaic.TcCoe
open Idealize.SL.Sem

theorem alg23 : algebraic_Kernel23Ideal_Reference23Ideal := by
  intro m g m' g' hpre hargs
  refine ⟨fun c => (Kernel23Ideal.Gen.dats m 0 c).arrAt 4 Kernel23Ideal.cfg0.N,
    fun c => (Kernel23Ideal.Gen.dats m 0 c).arrAt 5 Kernel23Ideal.cfg0.N,
    fun c => (Kernel23Ideal.Gen.dats m 0 c).arrAt 6 Kernel23Ideal.cfg0.N, Kernel23Ideal.Value.run_blocks m g, ?_⟩
  refine (θ_run Reference23Ideal.defs _ _).mono (fun r h c => ?_) (Reference23Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference23Ideal.Read.val_main_v23_eq, a0, a1, a2, a3]
    exact (Kernel23Ideal.Hand.delta_arr m c).symm
  · rw [Reference23Ideal.Read.val_main_v4_eq, a1, a2]
    exact (Kernel23Ideal.Hand.moment_arr m c).symm
  · rw [Reference23Ideal.Read.val_main_v10_eq, a1, a3]
    exact (Kernel23Ideal.Hand.square_arr m c).symm

end Cert

end
-- ==== Proof.Optimiser24.lean ====
module

public import proofs.«01_k».proof.Proof.Gen.Kernel24Ideal.Value
public import proofs.«01_k».proof.Proof.Gen.Reference24Ideal.Read
public import proofs.«01_k».proof.Defs
public import Idealize.ShloMosaic.Lib.Pipeline.ValueKit
public import Idealize.ShloMosaic.Lib.Pointwise

/-! The optimiser's call on arrays of 512 rows of 1024: 4 blocks of 128 rows. Every entry of
the step and of the two new moments is the reference's formula at that entry. -/

@[expose] public section

set_option maxRecDepth 16384

noncomputable section

namespace Cert.Kernel24Ideal.Hand

open Cert.Kernel24Ideal Cert.Kernel24Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![t.val, 0] :=
  (by decide +kernel : ∀ t : Fin grid0.N, win0_1.index t = ![t.val, 0])

theorem index2 : ∀ t : Fin cfg0.N, win0_2.index t = ![t.val, 0] :=
  (by decide +kernel : ∀ t : Fin grid0.N, win0_2.index t = ![t.val, 0])

theorem index3 : ∀ t : Fin cfg0.N, win0_3.index t = ![t.val, 0] :=
  (by decide +kernel : ∀ t : Fin grid0.N, win0_3.index t = ![t.val, 0])

theorem index4 : ∀ t : Fin cfg0.N, win0_4.index t = ![t.val, 0] :=
  (by decide +kernel : ∀ t : Fin grid0.N, win0_4.index t = ![t.val, 0])

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

theorem blk0 (t : Fin cfg0.N) (y : S128x1024.Idx) (i : S512x1024.Idx) (h0 : (i 0).val = t.val * 128 + (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S128x1024.Idx) (i : S512x1024.Idx) (h0 : (i 0).val = t.val * 128 + (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S128x1024.Idx) (i : S512x1024.Idx) (h0 : (i 0).val = t.val * 128 + (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S128x1024.Idx) (i : S512x1024.Idx) (h0 : (i 0).val = t.val * 128 + (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S128x1024.Idx) (i : S512x1024.Idx) (h0 : (i 0).val = t.val * 128 + (y 0).val) (h1 : (i 1).val = (y 1).val) :
    k0_pay3 (iblk m c 1 t) (iblk m c 2 t) (iblk m c 3 t) (iblk m c 0 t) y = Reference24Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference24Ideal.Read.val_main_v23_apply, Reference24Ideal.Read.val_main_v22_apply, Reference24Ideal.Read.val_main_cst_7_apply, Reference24Ideal.Read.val_main_v21_apply, Reference24Ideal.Read.val_main_v20_apply, Reference24Ideal.Read.val_main_v19_apply, Reference24Ideal.Read.val_main_cst_6_apply, Reference24Ideal.Read.val_main_v18_apply, Reference24Ideal.Read.val_main_v17_apply, Reference24Ideal.Read.val_main_v16_apply, Reference24Ideal.Read.val_main_cst_5_apply, Reference24Ideal.Read.val_main_v15_apply, Reference24Ideal.Read.val_main_v14_apply, Reference24Ideal.Read.val_main_v13_apply, Reference24Ideal.Read.val_main_cst_4_apply, Reference24Ideal.Read.val_main_v12_apply, Reference24Ideal.Read.val_main_v11_apply, Reference24Ideal.Read.val_main_cst_3_apply, Reference24Ideal.Read.val_main_v4_apply, Reference24Ideal.Read.val_main_v3_apply, Reference24Ideal.Read.val_main_v2_apply, Reference24Ideal.Read.val_main_v1_apply, Reference24Ideal.Read.val_main_v0_apply, Reference24Ideal.Read.val_main_cst_apply, Reference24Ideal.Read.val_main_cst_0_apply, Reference24Ideal.Read.val_main_v10_apply, Reference24Ideal.Read.val_main_v9_apply, Reference24Ideal.Read.val_main_v8_apply, Reference24Ideal.Read.val_main_v7_apply, Reference24Ideal.Read.val_main_v6_apply, Reference24Ideal.Read.val_main_v5_apply, Reference24Ideal.Read.val_main_cst_1_apply, Reference24Ideal.Read.val_main_cst_2_apply]
  simp only [e0, e1, e2, e3]
  rfl

theorem moment (t : Fin cfg0.N) (y : S128x1024.Idx) (i : S512x1024.Idx) (h0 : (i 0).val = t.val * 128 + (y 0).val) (h1 : (i 1).val = (y 1).val) :
    k0_pay1 (iblk m c 1 t) (iblk m c 2 t) y = Reference24Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference24Ideal.Read.val_main_v4_apply, Reference24Ideal.Read.val_main_v3_apply, Reference24Ideal.Read.val_main_v2_apply, Reference24Ideal.Read.val_main_v1_apply, Reference24Ideal.Read.val_main_v0_apply, Reference24Ideal.Read.val_main_cst_apply, Reference24Ideal.Read.val_main_cst_0_apply]
  simp only [e0, e1, e2, e3]
  rfl

theorem square (t : Fin cfg0.N) (y : S128x1024.Idx) (i : S512x1024.Idx) (h0 : (i 0).val = t.val * 128 + (y 0).val) (h1 : (i 1).val = (y 1).val) :
    k0_pay2 (iblk m c 1 t) (iblk m c 3 t) y = Reference24Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference24Ideal.Read.val_main_v10_apply, Reference24Ideal.Read.val_main_v9_apply, Reference24Ideal.Read.val_main_v8_apply, Reference24Ideal.Read.val_main_v7_apply, Reference24Ideal.Read.val_main_v6_apply, Reference24Ideal.Read.val_main_v5_apply, Reference24Ideal.Read.val_main_cst_1_apply, Reference24Ideal.Read.val_main_cst_2_apply]
  simp only [e0, e1, e2, e3]
  rfl

theorem delta_arr : (dats m 0 c).arrAt 4 cfg0.N = Reference24Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference24Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference24Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel24Ideal.Hand

namespace Cert

open Idealize.ShloMosaic Idealize.ShloMosaic.TcCoe
open Idealize.SL.Sem

theorem alg24 : algebraic_Kernel24Ideal_Reference24Ideal := by
  intro m g m' g' hpre hargs
  refine ⟨fun c => (Kernel24Ideal.Gen.dats m 0 c).arrAt 4 Kernel24Ideal.cfg0.N,
    fun c => (Kernel24Ideal.Gen.dats m 0 c).arrAt 5 Kernel24Ideal.cfg0.N,
    fun c => (Kernel24Ideal.Gen.dats m 0 c).arrAt 6 Kernel24Ideal.cfg0.N, Kernel24Ideal.Value.run_blocks m g, ?_⟩
  refine (θ_run Reference24Ideal.defs _ _).mono (fun r h c => ?_) (Reference24Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference24Ideal.Read.val_main_v23_eq, a0, a1, a2, a3]
    exact (Kernel24Ideal.Hand.delta_arr m c).symm
  · rw [Reference24Ideal.Read.val_main_v4_eq, a1, a2]
    exact (Kernel24Ideal.Hand.moment_arr m c).symm
  · rw [Reference24Ideal.Read.val_main_v10_eq, a1, a3]
    exact (Kernel24Ideal.Hand.square_arr m c).symm

end Cert

end
-- ==== Proof.Optimiser25.lean ====
module

public import proofs.«01_k».proof.Proof.Gen.Kernel25Ideal.Value
public import proofs.«01_k».proof.Proof.Gen.Reference25Ideal.Read
public import proofs.«01_k».proof.Defs
public import Idealize.ShloMosaic.Lib.Pipeline.ValueKit
public import Idealize.ShloMosaic.Lib.Pointwise

/-! The optimiser's call on arrays of 2048 rows of 1024: 16 blocks of 128 rows. Every entry of
the step and of the two new moments is the reference's formula at that entry. -/

@[expose] public section

set_option maxRecDepth 16384

noncomputable section

namespace Cert.Kernel25Ideal.Hand

open Cert.Kernel25Ideal Cert.Kernel25Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])

theorem index1 : ∀ t : Fin cfg0.N, win0_1.index t = ![t.val, 0] :=
  (by decide +kernel : ∀ t : Fin grid0.N, win0_1.index t = ![t.val, 0])

theorem index2 : ∀ t : Fin cfg0.N, win0_2.index t = ![t.val, 0] :=
  (by decide +kernel : ∀ t : Fin grid0.N, win0_2.index t = ![t.val, 0])

theorem index3 : ∀ t : Fin cfg0.N, win0_3.index t = ![t.val, 0] :=
  (by decide +kernel : ∀ t : Fin grid0.N, win0_3.index t = ![t.val, 0])

theorem index4 : ∀ t : Fin cfg0.N, win0_4.index t = ![t.val, 0] :=
  (by decide +kernel : ∀ t : Fin grid0.N, win0_4.index t = ![t.val, 0])

theorem index5 : ∀ t : Fin cfg0.N, win0_5.index t = ![t.val, 0] :=
  (by decide +kernel : ∀ t : Fin grid0.N, win0_5.index t = ![t.val, 0])

theorem index6 : ∀ t : Fin cfg0.N, win0_6.index t = ![t.val, 0] :=
  (by decide +kernel : ∀ t : Fin grid0.N, win0_6.index t = ![t.val, 0])

theorem blk0 (t : Fin cfg0.N) (y : S128x1024.Idx) (i : S2048x1024.Idx) (h0 : (i 0).val = t.val * 128 + (y 0).val) (h1 : (i 1).val = (y 1).val) :
    iblk m c 0 t y = m ((c : Thread nD τ).loc main_arg0) i := by
  blk_simp [iblk]
  rw [V_main_arg0]
  refine congrArg _ ?_
  blk_ext [index0, h0, h1]

theorem blk1 (t : Fin cfg0.N) (y : S128x1024.Idx) (i : S2048x1024.Idx) (h0 : (i 0).val = t.val * 128 + (y 0).val) (h1 : (i 1).val = (y 1).val) :
    iblk m c 1 t y = m ((c : Thread nD τ).loc main_arg1) i := by
  blk_simp [iblk]
  rw [V_main_arg1]
  refine congrArg _ ?_
  blk_ext [index1, h0, h1]

theorem blk2 (t : Fin cfg0.N) (y : S128x1024.Idx) (i : S2048x1024.Idx) (h0 : (i 0).val = t.val * 128 + (y 0).val) (h1 : (i 1).val = (y 1).val) :
    iblk m c 2 t y = m ((c : Thread nD τ).loc main_arg2) i := by
  blk_simp [iblk]
  rw [V_main_arg2]
  refine congrArg _ ?_
  blk_ext [index2, h0, h1]

theorem blk3 (t : Fin cfg0.N) (y : S128x1024.Idx) (i : S2048x1024.Idx) (h0 : (i 0).val = t.val * 128 + (y 0).val) (h1 : (i 1).val = (y 1).val) :
    iblk m c 3 t y = m ((c : Thread nD τ).loc main_arg3) i := by
  blk_simp [iblk]
  rw [V_main_arg3]
  refine congrArg _ ?_
  blk_ext [index3, h0, h1]

theorem delta (t : Fin cfg0.N) (y : S128x1024.Idx) (i : S2048x1024.Idx) (h0 : (i 0).val = t.val * 128 + (y 0).val) (h1 : (i 1).val = (y 1).val) :
    k0_pay3 (iblk m c 1 t) (iblk m c 2 t) (iblk m c 3 t) (iblk m c 0 t) y = Reference25Ideal.Read.val_main_v23 (F := Ideal) (m ((c : Thread nD τ).loc main_arg0)) (m ((c : Thread nD τ).loc main_arg1)) (m ((c : Thread nD τ).loc main_arg2)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay3 k0_pay1 k0_pay2
  pointwise
  simp only [Reference25Ideal.Read.val_main_v23_apply, Reference25Ideal.Read.val_main_v22_apply, Reference25Ideal.Read.val_main_cst_7_apply, Reference25Ideal.Read.val_main_v21_apply, Reference25Ideal.Read.val_main_v20_apply, Reference25Ideal.Read.val_main_v19_apply, Reference25Ideal.Read.val_main_cst_6_apply, Reference25Ideal.Read.val_main_v18_apply, Reference25Ideal.Read.val_main_v17_apply, Reference25Ideal.Read.val_main_v16_apply, Reference25Ideal.Read.val_main_cst_5_apply, Reference25Ideal.Read.val_main_v15_apply, Reference25Ideal.Read.val_main_v14_apply, Reference25Ideal.Read.val_main_v13_apply, Reference25Ideal.Read.val_main_cst_4_apply, Reference25Ideal.Read.val_main_v12_apply, Reference25Ideal.Read.val_main_v11_apply, Reference25Ideal.Read.val_main_cst_3_apply, Reference25Ideal.Read.val_main_v4_apply, Reference25Ideal.Read.val_main_v3_apply, Reference25Ideal.Read.val_main_v2_apply, Reference25Ideal.Read.val_main_v1_apply, Reference25Ideal.Read.val_main_v0_apply, Reference25Ideal.Read.val_main_cst_apply, Reference25Ideal.Read.val_main_cst_0_apply, Reference25Ideal.Read.val_main_v10_apply, Reference25Ideal.Read.val_main_v9_apply, Reference25Ideal.Read.val_main_v8_apply, Reference25Ideal.Read.val_main_v7_apply, Reference25Ideal.Read.val_main_v6_apply, Reference25Ideal.Read.val_main_v5_apply, Reference25Ideal.Read.val_main_cst_1_apply, Reference25Ideal.Read.val_main_cst_2_apply]
  simp only [e0, e1, e2, e3]
  rfl

theorem moment (t : Fin cfg0.N) (y : S128x1024.Idx) (i : S2048x1024.Idx) (h0 : (i 0).val = t.val * 128 + (y 0).val) (h1 : (i 1).val = (y 1).val) :
    k0_pay1 (iblk m c 1 t) (iblk m c 2 t) y = Reference25Ideal.Read.val_main_v4 (F := Ideal) (m ((c : Thread nD τ).loc main_arg1)) (m ((c : Thread nD τ).loc main_arg2)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay1
  pointwise
  simp only [Reference25Ideal.Read.val_main_v4_apply, Reference25Ideal.Read.val_main_v3_apply, Reference25Ideal.Read.val_main_v2_apply, Reference25Ideal.Read.val_main_v1_apply, Reference25Ideal.Read.val_main_v0_apply, Reference25Ideal.Read.val_main_cst_apply, Reference25Ideal.Read.val_main_cst_0_apply]
  simp only [e0, e1, e2, e3]
  rfl

theorem square (t : Fin cfg0.N) (y : S128x1024.Idx) (i : S2048x1024.Idx) (h0 : (i 0).val = t.val * 128 + (y 0).val) (h1 : (i 1).val = (y 1).val) :
    k0_pay2 (iblk m c 1 t) (iblk m c 3 t) y = Reference25Ideal.Read.val_main_v10 (F := Ideal) (m ((c : Thread nD τ).loc main_arg1)) (m ((c : Thread nD τ).loc main_arg3)) i := by
  have e0 := blk0 m c t y i h0 h1
  have e1 := blk1 m c t y i h0 h1
  have e2 := blk2 m c t y i h0 h1
  have e3 := blk3 m c t y i h0 h1
  generalize iblk m c 0 t = x0 at *
  generalize iblk m c 1 t = x1 at *
  generalize iblk m c 2 t = x2 at *
  generalize iblk m c 3 t = x3 at *
  unfold k0_pay2
  pointwise
  simp only [Reference25Ideal.Read.val_main_v10_apply, Reference25Ideal.Read.val_main_v9_apply, Reference25Ideal.Read.val_main_v8_apply, Reference25Ideal.Read.val_main_v7_apply, Reference25Ideal.Read.val_main_v6_apply, Reference25Ideal.Read.val_main_v5_apply, Reference25Ideal.Read.val_main_cst_1_apply, Reference25Ideal.Read.val_main_cst_2_apply]
  simp only [e0, e1, e2, e3]
  rfl

theorem delta_arr : (dats m 0 c).arrAt 4 cfg0.N = Reference25Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  refine delta m c t y _ ?_ ?_
  · blk_simp [index4]
  · blk_simp [index4]

theorem moment_arr : (dats m 0 c).arrAt 5 cfg0.N = Reference25Ideal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  refine moment m c t y _ ?_ ?_
  · blk_simp [index5]
  · blk_simp [index5]

theorem square_arr : (dats m 0 c).arrAt 6 cfg0.N = Reference25Ideal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  refine square m c t y _ ?_ ?_
  · blk_simp [index6]
  · blk_simp [index6]

end Cert.Kernel25Ideal.Hand

namespace Cert

open Idealize.ShloMosaic Idealize.ShloMosaic.TcCoe
open Idealize.SL.Sem

theorem alg25 : algebraic_Kernel25Ideal_Reference25Ideal := by
  intro m g m' g' hpre hargs
  refine ⟨fun c => (Kernel25Ideal.Gen.dats m 0 c).arrAt 4 Kernel25Ideal.cfg0.N,
    fun c => (Kernel25Ideal.Gen.dats m 0 c).arrAt 5 Kernel25Ideal.cfg0.N,
    fun c => (Kernel25Ideal.Gen.dats m 0 c).arrAt 6 Kernel25Ideal.cfg0.N, Kernel25Ideal.Value.run_blocks m g, ?_⟩
  refine (θ_run Reference25Ideal.defs _ _).mono (fun r h c => ?_) (Reference25Ideal.Value.run (F := Ideal) m' g')
  obtain ⟨e0, e1, e2, hrest⟩ := h c
  obtain ⟨a0, a1, a2, a3⟩ := hargs c
  refine ⟨e0.trans ?_, e1.trans ?_, e2.trans ?_, hrest⟩
  · rw [Reference25Ideal.Read.val_main_v23_eq, a0, a1, a2, a3]
    exact (Kernel25Ideal.Hand.delta_arr m c).symm
  · rw [Reference25Ideal.Read.val_main_v4_eq, a1, a2]
    exact (Kernel25Ideal.Hand.moment_arr m c).symm
  · rw [Reference25Ideal.Read.val_main_v10_eq, a1, a3]
    exact (Kernel25Ideal.Hand.square_arr m c).symm

end Cert

end
-- ==== Proof.Parts26.lean ====
module

public import proofs.«01_k».proof.Proof.Gen.Kernel26Ideal.Value
public import proofs.«01_k».proof.Proof.Gen.Reference26Ideal.Read
public import proofs.«01_k».proof.Defs
public import Idealize.ShloMosaic.Lib.Pipeline.ValueKit
public import Idealize.ShloMosaic.Lib.Pointwise

/-! The sum of 8 parts of 472 rows of 128: the whole array is one block. The call adds the parts in
turn; that is their sum. -/

@[expose] public section

set_option maxRecDepth 16384

noncomputable section

namespace Cert.Kernel26Ideal.Hand

open Cert.Kernel26Ideal Cert.Kernel26Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0, 0] :=
  (by decide +kernel : ∀ t : Fin grid0.N, win0_0.index t = ![0, 0, 0])

theorem index1 : ∀ t : Fin cfg0.N, win0_1.index t = ![0, 0] :=
  (by decide +kernel : ∀ t : Fin grid0.N, win0_1.index t = ![0, 0])

theorem blk0 (t : Fin cfg0.N) (y : S8x472x128.Idx) (i : S8x472x128.Idx) (h0 : (i 0).val = (y 0).val) (h1 : (i 1).val = (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 472) (y1 : Fin 128) (k : Fin 8) : EReal := iblk m c 0 t (ix3 k y0 y1)

/-- The sum of the parts at a row and column of a block. -/
theorem total (t : Fin cfg0.N) (y0 : Fin 472) (y1 : Fin 128) (i : S472x128.Idx) (h0 : (i 0).val = y0.val) (h1 : (i 1).val = y1.val) :
    entry m c t y0 y1 0 + entry m c t y0 y1 1 + entry m c t y0 y1 2 + entry m c t y0 y1 3 + entry m c t y0 y1 4 + entry m c t y0 y1 5 + entry m c t y0 y1 6 + entry m c t y0 y1 7 = Reference26Ideal.Read.val_main_v0 (F := Ideal) (m ((c : Thread nD τ).loc main_arg0)) i := by
  rw [Reference26Ideal.Read.val_main_v0_apply]
  have hs : ∀ k : Fin 8, @Eq EReal (m ((c : Thread nD τ).loc main_arg0) (Reference26Ideal.Read.idx_main_v0 i k)) (entry m c t y0 y1 k) := fun k =>
    (blk0 m c t (ix3 k y0 y1) (Reference26Ideal.Read.idx_main_v0 i k) rfl h0 h1).symm
  have hz : @Eq EReal (Reference26Ideal.Read.val_main_cst (F := Ideal) (Shape.Idx.first Reference26Ideal.Gen.h_S_)) 0 := Ideal.ofBits_zero_f32
  refine Eq.trans ?_ (congrArg₂ (fun a b : EReal => a + b) hz.symm (Finset.sum_congr rfl fun k _ => (hs k).symm))
  beta_reduce
  rw [zero_add]
  simp only [Fin.sum_univ_eight]

theorem total_arr : (dats m 0 c).arrAt 1 cfg0.N = Reference26Ideal.Read.val_main_v0 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = (y 0).val := by rw [← he]; blk_simp [index1]
  have h1 : (i 1).val = (y 1).val := by rw [← he]; blk_simp [index1]
  unfold k0_pay1
  pointwise
  exact total m c t (y 0) (y 1) i h0 h1

end Cert.Kernel26Ideal.Hand

namespace Cert

open Idealize.ShloMosaic Idealize.ShloMosaic.TcCoe
open Idealize.SL.Sem

theorem alg26 : algebraic_Kernel26Ideal_Reference26Ideal := by
  intro m g m' g' hpre hargs
  refine ⟨fun c => (Kernel26Ideal.Gen.dats m 0 c).arrAt 1 Kernel26Ideal.cfg0.N, Kernel26Ideal.Value.run_blocks m g, ?_⟩
  refine (θ_run Reference26Ideal.defs _ _).mono (fun r h c => ?_) (Reference26Ideal.Value.run (F := Ideal) m' g')
  obtain ⟨e0, hrest⟩ := h c
  refine ⟨e0.trans ?_, hrest⟩
  rw [Reference26Ideal.Read.val_main_v0_eq, hargs c]
  exact (Kernel26Ideal.Hand.total_arr m c).symm

end Cert

end
-- ==== Proof.Parts27.lean ====
module

public import proofs.«01_k».proof.Proof.Gen.Kernel27Ideal.Value
public import proofs.«01_k».proof.Proof.Gen.Reference27Ideal.Read
public import proofs.«01_k».proof.Defs
public import Idealize.ShloMosaic.Lib.Pipeline.ValueKit
public import Idealize.ShloMosaic.Lib.Pointwise

/-! The sum of 32 parts of 2 rows of 6144: the whole array is one block. The call adds the parts in
turn; that is their sum. -/

@[expose] public section

set_option maxRecDepth 16384

noncomputable section

namespace Cert.Kernel27Ideal.Hand

open Cert.Kernel27Ideal Cert.Kernel27Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0, 0] :=
  (by decide +kernel : ∀ t : Fin grid0.N, win0_0.index t = ![0, 0, 0])

theorem index1 : ∀ t : Fin cfg0.N, win0_1.index t = ![0, 0] :=
  (by decide +kernel : ∀ t : Fin grid0.N, win0_1.index t = ![0, 0])

theorem blk0 (t : Fin cfg0.N) (y : S32x2x6144.Idx) (i : S32x2x6144.Idx) (h0 : (i 0).val = (y 0).val) (h1 : (i 1).val = (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 2) (y1 : Fin 6144) (k : Fin 32) : EReal := iblk m c 0 t (ix3 k y0 y1)

/-- A sum over the parts, written out. -/
theorem many (f : Fin 32 → EReal) : f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 + f 31 = ∑ k, f k := by
  simp only [Fin.sum_univ_castSucc, Fin.sum_univ_zero, zero_add]
  rfl

/-- The sum of the parts at a row and column of a block. -/
theorem total (t : Fin cfg0.N) (y0 : Fin 2) (y1 : Fin 6144) (i : S2x6144.Idx) (h0 : (i 0).val = y0.val) (h1 : (i 1).val = y1.val) :
    entry m c t y0 y1 0 + entry m c t y0 y1 1 + entry m c t y0 y1 2 + entry m c t y0 y1 3 + entry m c t y0 y1 4 + entry m c t y0 y1 5 + entry m c t y0 y1 6 + entry m c t y0 y1 7 + entry m c t y0 y1 8 + entry m c t y0 y1 9 + entry m c t y0 y1 10 + entry m c t y0 y1 11 + entry m c t y0 y1 12 + entry m c t y0 y1 13 + entry m c t y0 y1 14 + entry m c t y0 y1 15 + entry m c t y0 y1 16 + entry m c t y0 y1 17 + entry m c t y0 y1 18 + entry m c t y0 y1 19 + entry m c t y0 y1 20 + entry m c t y0 y1 21 + entry m c t y0 y1 22 + entry m c t y0 y1 23 + entry m c t y0 y1 24 + entry m c t y0 y1 25 + entry m c t y0 y1 26 + entry m c t y0 y1 27 + entry m c t y0 y1 28 + entry m c t y0 y1 29 + entry m c t y0 y1 30 + entry m c t y0 y1 31 = Reference27Ideal.Read.val_main_v0 (F := Ideal) (m ((c : Thread nD τ).loc main_arg0)) i := by
  rw [Reference27Ideal.Read.val_main_v0_apply]
  have hs : ∀ k : Fin 32, @Eq EReal (m ((c : Thread nD τ).loc main_arg0) (Reference27Ideal.Read.idx_main_v0 i k)) (entry m c t y0 y1 k) := fun k =>
    (blk0 m c t (ix3 k y0 y1) (Reference27Ideal.Read.idx_main_v0 i k) rfl h0 h1).symm
  have hz : @Eq EReal (Reference27Ideal.Read.val_main_cst (F := Ideal) (Shape.Idx.first Reference27Ideal.Gen.h_S_)) 0 := Ideal.ofBits_zero_f32
  refine Eq.trans ?_ (congrArg₂ (fun a b : EReal => a + b) hz.symm (Finset.sum_congr rfl fun k _ => (hs k).symm))
  beta_reduce
  rw [zero_add]
  exact many (entry m c t y0 y1)

set_option maxHeartbeats 4000000 in
theorem total_arr : (dats m 0 c).arrAt 1 cfg0.N = Reference27Ideal.Read.val_main_v0 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = (y 0).val := by rw [← he]; blk_simp [index1]
  have h1 : (i 1).val = (y 1).val := by rw [← he]; blk_simp [index1]
  have ht := total m c t (y 0) (y 1) i h0 h1
  unfold entry at ht
  generalize iblk m c 0 t = x at ht ⊢
  unfold k0_pay1 k0_pay2 k0_pay3 k0_pay4
  pointwise
  exact ht

end Cert.Kernel27Ideal.Hand

namespace Cert

open Idealize.ShloMosaic Idealize.ShloMosaic.TcCoe
open Idealize.SL.Sem

theorem alg27 : algebraic_Kernel27Ideal_Reference27Ideal := by
  intro m g m' g' hpre hargs
  refine ⟨fun c => (Kernel27Ideal.Gen.dats m 0 c).arrAt 1 Kernel27Ideal.cfg0.N, Kernel27Ideal.Value.run_blocks m g, ?_⟩
  refine (θ_run Reference27Ideal.defs _ _).mono (fun r h c => ?_) (Reference27Ideal.Value.run (F := Ideal) m' g')
  obtain ⟨e0, hrest⟩ := h c
  refine ⟨e0.trans ?_, hrest⟩
  rw [Reference27Ideal.Read.val_main_v0_eq, hargs c]
  exact (Kernel27Ideal.Hand.total_arr m c).symm

end Cert

end
-- ==== Proof.Parts28.lean ====
module

public import proofs.«01_k».proof.Proof.Gen.Kernel28Ideal.Value
public import proofs.«01_k».proof.Proof.Gen.Reference28Ideal.Read
public import proofs.«01_k».proof.Defs
public import Idealize.ShloMosaic.Lib.Pipeline.ValueKit
public import Idealize.ShloMosaic.Lib.Pointwise

/-! The sum of 4 parts of 1 rows of 1024: the whole array is one block. The call adds the parts in
turn; that is their sum. -/

@[expose] public section

set_option maxRecDepth 16384

noncomputable section

namespace Cert.Kernel28Ideal.Hand

open Cert.Kernel28Ideal Cert.Kernel28Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0, 0] :=
  (by decide +kernel : ∀ t : Fin grid0.N, win0_0.index t = ![0, 0, 0])

theorem index1 : ∀ t : Fin cfg0.N, win0_1.index t = ![0, 0] :=
  (by decide +kernel : ∀ t : Fin grid0.N, win0_1.index t = ![0, 0])

theorem blk0 (t : Fin cfg0.N) (y : S4x1x1024.Idx) (i : S4x1x1024.Idx) (h0 : (i 0).val = (y 0).val) (h1 : (i 1).val = (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 1) (y1 : Fin 1024) (k : Fin 4) : EReal := iblk m c 0 t (ix3 k y0 y1)

/-- The sum of the parts at a row and column of a block. -/
theorem total (t : Fin cfg0.N) (y0 : Fin 1) (y1 : Fin 1024) (i : S1x1024.Idx) (h0 : (i 0).val = y0.val) (h1 : (i 1).val = y1.val) :
    entry m c t y0 y1 0 + entry m c t y0 y1 1 + entry m c t y0 y1 2 + entry m c t y0 y1 3 = Reference28Ideal.Read.val_main_v0 (F := Ideal) (m ((c : Thread nD τ).loc main_arg0)) i := by
  rw [Reference28Ideal.Read.val_main_v0_apply]
  have hs : ∀ k : Fin 4, @Eq EReal (m ((c : Thread nD τ).loc main_arg0) (Reference28Ideal.Read.idx_main_v0 i k)) (entry m c t y0 y1 k) := fun k =>
    (blk0 m c t (ix3 k y0 y1) (Reference28Ideal.Read.idx_main_v0 i k) rfl h0 h1).symm
  have hz : @Eq EReal (Reference28Ideal.Read.val_main_cst (F := Ideal) (Shape.Idx.first Reference28Ideal.Gen.h_S_)) 0 := Ideal.ofBits_zero_f32
  refine Eq.trans ?_ (congrArg₂ (fun a b : EReal => a + b) hz.symm (Finset.sum_congr rfl fun k _ => (hs k).symm))
  beta_reduce
  rw [zero_add]
  simp only [Fin.sum_univ_four]

theorem total_arr : (dats m 0 c).arrAt 1 cfg0.N = Reference28Ideal.Read.val_main_v0 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = (y 0).val := by rw [← he]; blk_simp [index1]
  have h1 : (i 1).val = (y 1).val := by rw [← he]; blk_simp [index1]
  unfold k0_pay1
  pointwise
  exact total m c t 0 (y 1) i (Nat.lt_one_iff.1 (i 0).isLt) h1

end Cert.Kernel28Ideal.Hand

namespace Cert

open Idealize.ShloMosaic Idealize.ShloMosaic.TcCoe
open Idealize.SL.Sem

theorem alg28 : algebraic_Kernel28Ideal_Reference28Ideal := by
  intro m g m' g' hpre hargs
  refine ⟨fun c => (Kernel28Ideal.Gen.dats m 0 c).arrAt 1 Kernel28Ideal.cfg0.N, Kernel28Ideal.Value.run_blocks m g, ?_⟩
  refine (θ_run Reference28Ideal.defs _ _).mono (fun r h c => ?_) (Reference28Ideal.Value.run (F := Ideal) m' g')
  obtain ⟨e0, hrest⟩ := h c
  refine ⟨e0.trans ?_, hrest⟩
  rw [Reference28Ideal.Read.val_main_v0_eq, hargs c]
  exact (Kernel28Ideal.Hand.total_arr m c).symm

end Cert

end
-- ==== Proof.Parts29.lean ====
module

public import proofs.«01_k».proof.Proof.Gen.Kernel29Ideal.Value
public import proofs.«01_k».proof.Proof.Gen.Reference29Ideal.Read
public import proofs.«01_k».proof.Defs
public import Idealize.ShloMosaic.Lib.Pipeline.ValueKit
public import Idealize.ShloMosaic.Lib.Pointwise

/-! The sum of 4 parts of 1024 rows of 600: 4 blocks of 256 rows. The call adds the parts in
turn; that is their sum. -/

@[expose] public section

set_option maxRecDepth 16384

noncomputable section

namespace Cert.Kernel29Ideal.Hand

open Cert.Kernel29Ideal Cert.Kernel29Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])

theorem index1 : ∀ t : Fin cfg0.N, win0_1.index t = ![t.val, 0] :=
  (by decide +kernel : ∀ t : Fin grid0.N, win0_1.index t = ![t.val, 0])

theorem blk0 (t : Fin cfg0.N) (y : S4x256x600.Idx) (i : S4x1024x600.Idx) (h0 : (i 0).val = (y 0).val) (h1 : (i 1).val = t.val * 256 + (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 256) (y1 : Fin 600) (k : Fin 4) : EReal := iblk m c 0 t (ix3 k y0 y1)

/-- The sum of the parts at a row and column of a block. -/
theorem total (t : Fin cfg0.N) (y0 : Fin 256) (y1 : Fin 600) (i : S1024x600.Idx) (h0 : (i 0).val = t.val * 256 + y0.val) (h1 : (i 1).val = y1.val) :
    entry m c t y0 y1 0 + entry m c t y0 y1 1 + entry m c t y0 y1 2 + entry m c t y0 y1 3 = Reference29Ideal.Read.val_main_v1 (F := Ideal) (m ((c : Thread nD τ).loc main_arg0)) i := by
  rw [Reference29Ideal.Read.val_main_v1_apply]
  have hs : ∀ k : Fin 4, @Eq EReal (Reference29Ideal.Read.val_main_v0 (F := Ideal) (m ((c : Thread nD τ).loc main_arg0)) (Reference29Ideal.Read.idx_main_v1 i k)) (entry m c t y0 y1 k) := fun k =>
    (blk0 m c t (ix3 k y0 y1) (Reference29Ideal.Read.idx_main_v1 i k) rfl h0 h1).symm
  have hz : @Eq EReal (Reference29Ideal.Read.val_main_cst (F := Ideal) (Shape.Idx.first Reference29Ideal.Gen.h_S_)) 0 := Ideal.ofBits_zero_f32
  refine Eq.trans ?_ (congrArg₂ (fun a b : EReal => a + b) hz.symm (Finset.sum_congr rfl fun k _ => (hs k).symm))
  beta_reduce
  rw [zero_add]
  simp only [Fin.sum_univ_four]

theorem total_arr : (dats m 0 c).arrAt 1 cfg0.N = Reference29Ideal.Read.val_main_v1 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = t.val * 256 + (y 0).val := by rw [← he]; blk_simp [index1]
  have h1 : (i 1).val = (y 1).val := by rw [← he]; blk_simp [index1]
  unfold k0_pay1
  pointwise
  exact total m c t (y 0) (y 1) i h0 h1

end Cert.Kernel29Ideal.Hand

namespace Cert

open Idealize.ShloMosaic Idealize.ShloMosaic.TcCoe
open Idealize.SL.Sem

theorem alg29 : algebraic_Kernel29Ideal_Reference29Ideal := by
  intro m g m' g' hpre hargs
  refine ⟨fun c => (Kernel29Ideal.Gen.dats m 0 c).arrAt 1 Kernel29Ideal.cfg0.N, Kernel29Ideal.Value.run_blocks m g, ?_⟩
  refine (θ_run Reference29Ideal.defs _ _).mono (fun r h c => ?_) (Reference29Ideal.Value.run (F := Ideal) m' g')
  obtain ⟨e0, hrest⟩ := h c
  refine ⟨e0.trans ?_, hrest⟩
  rw [Reference29Ideal.Read.val_main_v1_eq, hargs c]
  exact (Kernel29Ideal.Hand.total_arr m c).symm

end Cert

end
-- ==== Proof.Parts30.lean ====
module

public import proofs.«01_k».proof.Proof.Gen.Kernel30Ideal.Value
public import proofs.«01_k».proof.Proof.Gen.Reference30Ideal.Read
public import proofs.«01_k».proof.Defs
public import Idealize.ShloMosaic.Lib.Pipeline.ValueKit
public import Idealize.ShloMosaic.Lib.Pointwise

/-! The sum of 4 parts of 192 rows of 96: the whole array is one block. The call adds the parts in
turn; that is their sum. -/

@[expose] public section

set_option maxRecDepth 16384

noncomputable section

namespace Cert.Kernel30Ideal.Hand

open Cert.Kernel30Ideal Cert.Kernel30Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0, 0] :=
  (by decide +kernel : ∀ t : Fin grid0.N, win0_0.index t = ![0, 0, 0])

theorem index1 : ∀ t : Fin cfg0.N, win0_1.index t = ![0, 0] :=
  (by decide +kernel : ∀ t : Fin grid0.N, win0_1.index t = ![0, 0])

theorem blk0 (t : Fin cfg0.N) (y : S4x192x96.Idx) (i : S4x192x96.Idx) (h0 : (i 0).val = (y 0).val) (h1 : (i 1).val = (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 192) (y1 : Fin 96) (k : Fin 4) : EReal := iblk m c 0 t (ix3 k y0 y1)

/-- The sum of the parts at a row and column of a block. -/
theorem total (t : Fin cfg0.N) (y0 : Fin 192) (y1 : Fin 96) (i : S192x96.Idx) (h0 : (i 0).val = y0.val) (h1 : (i 1).val = y1.val) :
    entry m c t y0 y1 0 + entry m c t y0 y1 1 + entry m c t y0 y1 2 + entry m c t y0 y1 3 = Reference30Ideal.Read.val_main_v1 (F := Ideal) (m ((c : Thread nD τ).loc main_arg0)) i := by
  rw [Reference30Ideal.Read.val_main_v1_apply]
  have hs : ∀ k : Fin 4, @Eq EReal (Reference30Ideal.Read.val_main_v0 (F := Ideal) (m ((c : Thread nD τ).loc main_arg0)) (Reference30Ideal.Read.idx_main_v1 i k)) (entry m c t y0 y1 k) := fun k =>
    (blk0 m c t (ix3 k y0 y1) (Reference30Ideal.Read.idx_main_v1 i k) rfl h0 h1).symm
  have hz : @Eq EReal (Reference30Ideal.Read.val_main_cst (F := Ideal) (Shape.Idx.first Reference30Ideal.Gen.h_S_)) 0 := Ideal.ofBits_zero_f32
  refine Eq.trans ?_ (congrArg₂ (fun a b : EReal => a + b) hz.symm (Finset.sum_congr rfl fun k _ => (hs k).symm))
  beta_reduce
  rw [zero_add]
  simp only [Fin.sum_univ_four]

theorem total_arr : (dats m 0 c).arrAt 1 cfg0.N = Reference30Ideal.Read.val_main_v1 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = (y 0).val := by rw [← he]; blk_simp [index1]
  have h1 : (i 1).val = (y 1).val := by rw [← he]; blk_simp [index1]
  unfold k0_pay1
  pointwise
  exact total m c t (y 0) (y 1) i h0 h1

end Cert.Kernel30Ideal.Hand

namespace Cert

open Idealize.ShloMosaic Idealize.ShloMosaic.TcCoe
open Idealize.SL.Sem

theorem alg30 : algebraic_Kernel30Ideal_Reference30Ideal := by
  intro m g m' g' hpre hargs
  refine ⟨fun c => (Kernel30Ideal.Gen.dats m 0 c).arrAt 1 Kernel30Ideal.cfg0.N, Kernel30Ideal.Value.run_blocks m g, ?_⟩
  refine (θ_run Reference30Ideal.defs _ _).mono (fun r h c => ?_) (Reference30Ideal.Value.run (F := Ideal) m' g')
  obtain ⟨e0, hrest⟩ := h c
  refine ⟨e0.trans ?_, hrest⟩
  rw [Reference30Ideal.Read.val_main_v1_eq, hargs c]
  exact (Kernel30Ideal.Hand.total_arr m c).symm

end Cert

end
-- ==== Proof.Parts31.lean ====
module

public import proofs.«01_k».proof.Proof.Gen.Kernel31Ideal.Value
public import proofs.«01_k».proof.Proof.Gen.Reference31Ideal.Read
public import proofs.«01_k».proof.Defs
public import Idealize.ShloMosaic.Lib.Pipeline.ValueKit
public import Idealize.ShloMosaic.Lib.Pointwise

/-! The sum of 4 parts of 128 rows of 128: the whole array is one block. The call adds the parts in
turn; that is their sum. -/

@[expose] public section

set_option maxRecDepth 16384

noncomputable section

namespace Cert.Kernel31Ideal.Hand

open Cert.Kernel31Ideal Cert.Kernel31Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0, 0] :=
  (by decide +kernel : ∀ t : Fin grid0.N, win0_0.index t = ![0, 0, 0])

theorem index1 : ∀ t : Fin cfg0.N, win0_1.index t = ![0, 0] :=
  (by decide +kernel : ∀ t : Fin grid0.N, win0_1.index t = ![0, 0])

theorem blk0 (t : Fin cfg0.N) (y : S4x128x128.Idx) (i : S4x128x128.Idx) (h0 : (i 0).val = (y 0).val) (h1 : (i 1).val = (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 128) (y1 : Fin 128) (k : Fin 4) : EReal := iblk m c 0 t (ix3 k y0 y1)

/-- The sum of the parts at a row and column of a block. -/
theorem total (t : Fin cfg0.N) (y0 : Fin 128) (y1 : Fin 128) (i : S128x128.Idx) (h0 : (i 0).val = y0.val) (h1 : (i 1).val = y1.val) :
    entry m c t y0 y1 0 + entry m c t y0 y1 1 + entry m c t y0 y1 2 + entry m c t y0 y1 3 = Reference31Ideal.Read.val_main_v1 (F := Ideal) (m ((c : Thread nD τ).loc main_arg0)) i := by
  rw [Reference31Ideal.Read.val_main_v1_apply]
  have hs : ∀ k : Fin 4, @Eq EReal (Reference31Ideal.Read.val_main_v0 (F := Ideal) (m ((c : Thread nD τ).loc main_arg0)) (Reference31Ideal.Read.idx_main_v1 i k)) (entry m c t y0 y1 k) := fun k =>
    (blk0 m c t (ix3 k y0 y1) (Reference31Ideal.Read.idx_main_v1 i k) rfl h0 h1).symm
  have hz : @Eq EReal (Reference31Ideal.Read.val_main_cst (F := Ideal) (Shape.Idx.first Reference31Ideal.Gen.h_S_)) 0 := Ideal.ofBits_zero_f32
  refine Eq.trans ?_ (congrArg₂ (fun a b : EReal => a + b) hz.symm (Finset.sum_congr rfl fun k _ => (hs k).symm))
  beta_reduce
  rw [zero_add]
  simp only [Fin.sum_univ_four]

theorem total_arr : (dats m 0 c).arrAt 1 cfg0.N = Reference31Ideal.Read.val_main_v1 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = (y 0).val := by rw [← he]; blk_simp [index1]
  have h1 : (i 1).val = (y 1).val := by rw [← he]; blk_simp [index1]
  unfold k0_pay1
  pointwise
  exact total m c t (y 0) (y 1) i h0 h1

end Cert.Kernel31Ideal.Hand

namespace Cert

open Idealize.ShloMosaic Idealize.ShloMosaic.TcCoe
open Idealize.SL.Sem

theorem alg31 : algebraic_Kernel31Ideal_Reference31Ideal := by
  intro m g m' g' hpre hargs
  refine ⟨fun c => (Kernel31Ideal.Gen.dats m 0 c).arrAt 1 Kernel31Ideal.cfg0.N, Kernel31Ideal.Value.run_blocks m g, ?_⟩
  refine (θ_run Reference31Ideal.defs _ _).mono (fun r h c => ?_) (Reference31Ideal.Value.run (F := Ideal) m' g')
  obtain ⟨e0, hrest⟩ := h c
  refine ⟨e0.trans ?_, hrest⟩
  rw [Reference31Ideal.Read.val_main_v1_eq, hargs c]
  exact (Kernel31Ideal.Hand.total_arr m c).symm

end Cert

end
-- ==== Proof.Parts32.lean ====
module

public import proofs.«01_k».proof.Proof.Gen.Kernel32Ideal.Value
public import proofs.«01_k».proof.Proof.Gen.Reference32Ideal.Read
public import proofs.«01_k».proof.Defs
public import Idealize.ShloMosaic.Lib.Pipeline.ValueKit
public import Idealize.ShloMosaic.Lib.Pointwise

/-! The sum of 4 parts of 256 rows of 1024: the whole array is one block. The call adds the parts in
turn; that is their sum. -/

@[expose] public section

set_option maxRecDepth 16384

noncomputable section

namespace Cert.Kernel32Ideal.Hand

open Cert.Kernel32Ideal Cert.Kernel32Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, 0, 0] :=
  (by decide +kernel : ∀ t : Fin grid0.N, win0_0.index t = ![0, 0, 0])

theorem index1 : ∀ t : Fin cfg0.N, win0_1.index t = ![0, 0] :=
  (by decide +kernel : ∀ t : Fin grid0.N, win0_1.index t = ![0, 0])

theorem blk0 (t : Fin cfg0.N) (y : S4x256x1024.Idx) (i : S4x256x1024.Idx) (h0 : (i 0).val = (y 0).val) (h1 : (i 1).val = (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 256) (y1 : Fin 1024) (k : Fin 4) : EReal := iblk m c 0 t (ix3 k y0 y1)

/-- The sum of the parts at a row and column of a block. -/
theorem total (t : Fin cfg0.N) (y0 : Fin 256) (y1 : Fin 1024) (i : S256x1024.Idx) (h0 : (i 0).val = y0.val) (h1 : (i 1).val = y1.val) :
    entry m c t y0 y1 0 + entry m c t y0 y1 1 + entry m c t y0 y1 2 + entry m c t y0 y1 3 = Reference32Ideal.Read.val_main_v1 (F := Ideal) (m ((c : Thread nD τ).loc main_arg0)) i := by
  rw [Reference32Ideal.Read.val_main_v1_apply]
  have hs : ∀ k : Fin 4, @Eq EReal (Reference32Ideal.Read.val_main_v0 (F := Ideal) (m ((c : Thread nD τ).loc main_arg0)) (Reference32Ideal.Read.idx_main_v1 i k)) (entry m c t y0 y1 k) := fun k =>
    (blk0 m c t (ix3 k y0 y1) (Reference32Ideal.Read.idx_main_v1 i k) rfl h0 h1).symm
  have hz : @Eq EReal (Reference32Ideal.Read.val_main_cst (F := Ideal) (Shape.Idx.first Reference32Ideal.Gen.h_S_)) 0 := Ideal.ofBits_zero_f32
  refine Eq.trans ?_ (congrArg₂ (fun a b : EReal => a + b) hz.symm (Finset.sum_congr rfl fun k _ => (hs k).symm))
  beta_reduce
  rw [zero_add]
  simp only [Fin.sum_univ_four]

theorem total_arr : (dats m 0 c).arrAt 1 cfg0.N = Reference32Ideal.Read.val_main_v1 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = (y 0).val := by rw [← he]; blk_simp [index1]
  have h1 : (i 1).val = (y 1).val := by rw [← he]; blk_simp [index1]
  unfold k0_pay1
  pointwise
  exact total m c t (y 0) (y 1) i h0 h1

end Cert.Kernel32Ideal.Hand

namespace Cert

open Idealize.ShloMosaic Idealize.ShloMosaic.TcCoe
open Idealize.SL.Sem

theorem alg32 : algebraic_Kernel32Ideal_Reference32Ideal := by
  intro m g m' g' hpre hargs
  refine ⟨fun c => (Kernel32Ideal.Gen.dats m 0 c).arrAt 1 Kernel32Ideal.cfg0.N, Kernel32Ideal.Value.run_blocks m g, ?_⟩
  refine (θ_run Reference32Ideal.defs _ _).mono (fun r h c => ?_) (Reference32Ideal.Value.run (F := Ideal) m' g')
  obtain ⟨e0, hrest⟩ := h c
  refine ⟨e0.trans ?_, hrest⟩
  rw [Reference32Ideal.Read.val_main_v1_eq, hargs c]
  exact (Kernel32Ideal.Hand.total_arr m c).symm

end Cert

end
-- ==== Proof.Parts33.lean ====
module

public import proofs.«01_k».proof.Proof.Gen.Kernel33Ideal.Value
public import proofs.«01_k».proof.Proof.Gen.Reference33Ideal.Read
public import proofs.«01_k».proof.Defs
public import Idealize.ShloMosaic.Lib.Pipeline.ValueKit
public import Idealize.ShloMosaic.Lib.Pointwise

/-! The sum of 4 parts of 1024 rows of 1024: 4 blocks of 256 rows. The call adds the parts in
turn; that is their sum. -/

@[expose] public section

set_option maxRecDepth 16384

noncomputable section

namespace Cert.Kernel33Ideal.Hand

open Cert.Kernel33Ideal Cert.Kernel33Ideal.Gen
open Idealize.ShloMosaic Idealize.ShloMosaic.TcCoe Idealize.ShloMosaic.Tactic
open Idealize.SL.Sem

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])

theorem index1 : ∀ t : Fin cfg0.N, win0_1.index t = ![t.val, 0] :=
  (by decide +kernel : ∀ t : Fin grid0.N, win0_1.index t = ![t.val, 0])

theorem blk0 (t : Fin cfg0.N) (y : S4x256x1024.Idx) (i : S4x1024x1024.Idx) (h0 : (i 0).val = (y 0).val) (h1 : (i 1).val = t.val * 256 + (y 1).val) (h2 : (i 2).val = (y 2).val) :
    iblk m c 0 t y = m ((c : Thread nD τ).loc main_arg0) i := by
  blk_simp [iblk]
  rw [V_main_arg0]
  refine congrArg _ ?_
  blk_ext [index0, h0, h1, h2]

/-- A part's entry at a row and column of a block. -/
def entry (t : Fin cfg0.N) (y0 : Fin 256) (y1 : Fin 1024) (k : Fin 4) : EReal := iblk m c 0 t (ix3 k y0 y1)

/-- The sum of the parts at a row and column of a block. -/
theorem total (t : Fin cfg0.N) (y0 : Fin 256) (y1 : Fin 1024) (i : S1024x1024.Idx) (h0 : (i 0).val = t.val * 256 + y0.val) (h1 : (i 1).val = y1.val) :
    entry m c t y0 y1 0 + entry m c t y0 y1 1 + entry m c t y0 y1 2 + entry m c t y0 y1 3 = Reference33Ideal.Read.val_main_v1 (F := Ideal) (m ((c : Thread nD τ).loc main_arg0)) i := by
  rw [Reference33Ideal.Read.val_main_v1_apply]
  have hs : ∀ k : Fin 4, @Eq EReal (Reference33Ideal.Read.val_main_v0 (F := Ideal) (m ((c : Thread nD τ).loc main_arg0)) (Reference33Ideal.Read.idx_main_v1 i k)) (entry m c t y0 y1 k) := fun k =>
    (blk0 m c t (ix3 k y0 y1) (Reference33Ideal.Read.idx_main_v1 i k) rfl h0 h1).symm
  have hz : @Eq EReal (Reference33Ideal.Read.val_main_cst (F := Ideal) (Shape.Idx.first Reference33Ideal.Gen.h_S_)) 0 := Ideal.ofBits_zero_f32
  refine Eq.trans ?_ (congrArg₂ (fun a b : EReal => a + b) hz.symm (Finset.sum_congr rfl fun k _ => (hs k).symm))
  beta_reduce
  rw [zero_add]
  simp only [Fin.sum_univ_four]

theorem total_arr : (dats m 0 c).arrAt 1 cfg0.N = Reference33Ideal.Read.val_main_v1 (F := Ideal) (m ((c : Thread nD τ).loc main_arg0)) := by
  refine (dats m 0 c).arrAt_eq_of_covers 1 _ (by decide +kernel) fun t hf y => ?_
  blk_simp
  rw [after0_1]
  frame_out
  generalize he : ((View.whole main_v0).slice (win0_1.rect t)).emb y = i
  have h0 : (i 0).val = t.val * 256 + (y 0).val := by rw [← he]; blk_simp [index1]
  have h1 : (i 1).val = (y 1).val := by rw [← he]; blk_simp [index1]
  unfold k0_pay1
  pointwise
  exact total m c t (y 0) (y 1) i h0 h1

end Cert.Kernel33Ideal.Hand

namespace Cert

open Idealize.ShloMosaic Idealize.ShloMosaic.TcCoe
open Idealize.SL.Sem

theorem alg33 : algebraic_Kernel33Ideal_Reference33Ideal := by
  intro m g m' g' hpre hargs
  refine ⟨fun c => (Kernel33Ideal.Gen.dats m 0 c).arrAt 1 Kernel33Ideal.cfg0.N, Kernel33Ideal.Value.run_blocks m g, ?_⟩
  refine (θ_run Reference33Ideal.defs _ _).mono (fun r h c => ?_) (Reference33Ideal.Value.run (F := Ideal) m' g')
  obtain ⟨e0, hrest⟩ := h c
  refine ⟨e0.trans ?_, hrest⟩
  rw [Reference33Ideal.Read.val_main_v1_eq, hargs c]
  exact (Kernel33Ideal.Hand.total_arr m c).symm

end Cert

end
-- ==== Proof.lean ====
module

public import proofs.«01_k».proof.Defs
public import proofs.«01_k».proof.Proof.Frames
public import proofs.«01_k».proof.Proof.Algebraic
public import proofs.«01_k».proof.Proof.CallFrames
public import proofs.«01_k».proof.Proof.FfBackward
public import proofs.«01_k».proof.Proof.FfWeight1
public import proofs.«01_k».proof.Proof.FfWeight2
public import proofs.«01_k».proof.Proof.FfForward
public import proofs.«01_k».proof.Proof.InWeight
public import proofs.«01_k».proof.Proof.InRows
public import proofs.«01_k».proof.Proof.OutWeight
public import proofs.«01_k».proof.Proof.OutRows
public import proofs.«01_k».proof.Proof.InForward
public import proofs.«01_k».proof.Proof.OutForward
public import proofs.«01_k».proof.Proof.MixAlgebraic
public import proofs.«01_k».proof.Proof.Optimiser13
public import proofs.«01_k».proof.Proof.Optimiser14
public import proofs.«01_k».proof.Proof.Optimiser15
public import proofs.«01_k».proof.Proof.Optimiser16
public import proofs.«01_k».proof.Proof.Optimiser17
public import proofs.«01_k».proof.Proof.Optimiser18
public import proofs.«01_k».proof.Proof.Optimiser19
public import proofs.«01_k».proof.Proof.Optimiser20
public import proofs.«01_k».proof.Proof.Optimiser21
public import proofs.«01_k».proof.Proof.Optimiser22
public import proofs.«01_k».proof.Proof.Optimiser23
public import proofs.«01_k».proof.Proof.Optimiser24
public import proofs.«01_k».proof.Proof.Optimiser25
public import proofs.«01_k».proof.Proof.Parts26
public import proofs.«01_k».proof.Proof.Parts27
public import proofs.«01_k».proof.Proof.Parts28
public import proofs.«01_k».proof.Proof.Parts29
public import proofs.«01_k».proof.Proof.Parts30
public import proofs.«01_k».proof.Proof.Parts31
public import proofs.«01_k».proof.Proof.Parts32
public import proofs.«01_k».proof.Proof.Parts33

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    ⟨by decide, by decide⟩,
    ⟨by decide, by decide⟩,
    Cert.Frames.kernel, Cert.Frames.kernelIdeal, fun m g _ => Cert.Frames.kernelIdeal m g trivial,
    Cert.Frames.referenceIdeal, fun m g _ => Cert.Frames.referenceIdeal m g trivial,
    Cert.CallFrames.kernel2, Cert.CallFrames.kernel2Ideal, Cert.CallFrames.reference2Ideal,
    Cert.CallFrames.kernel3, Cert.CallFrames.kernel3Ideal, Cert.CallFrames.reference3Ideal,
    Cert.CallFrames.kernel4, Cert.CallFrames.kernel4Ideal, Cert.CallFrames.reference4Ideal,
    Cert.CallFrames.kernel5, Cert.CallFrames.kernel5Ideal, Cert.CallFrames.reference5Ideal,
    Cert.CallFrames.kernel6, Cert.CallFrames.kernel6Ideal, Cert.CallFrames.reference6Ideal,
    Cert.CallFrames.kernel7, Cert.CallFrames.kernel7Ideal, Cert.CallFrames.reference7Ideal,
    Cert.CallFrames.kernel8, Cert.CallFrames.kernel8Ideal, Cert.CallFrames.reference8Ideal,
    Cert.CallFrames.kernel9, Cert.CallFrames.kernel9Ideal, Cert.CallFrames.reference9Ideal,
    Cert.CallFrames.kernel10, Cert.CallFrames.kernel10Ideal, Cert.CallFrames.reference10Ideal,
    Cert.CallFrames.kernel11, Cert.CallFrames.kernel11Ideal, Cert.CallFrames.reference11Ideal,
    Cert.CallFrames.kernel12, Cert.CallFrames.kernel12Ideal, fun m g _ => Cert.CallFrames.kernel12Ideal m g trivial,
    Cert.CallFrames.reference12Ideal, fun m g _ => Cert.CallFrames.reference12Ideal m g trivial,
    Cert.CallFrames.kernel13, Cert.CallFrames.kernel13Ideal, Cert.CallFrames.reference13Ideal,
    Cert.CallFrames.kernel14, Cert.CallFrames.kernel14Ideal, Cert.CallFrames.reference14Ideal,
    Cert.CallFrames.kernel15, Cert.CallFrames.kernel15Ideal, Cert.CallFrames.reference15Ideal,
    Cert.CallFrames.kernel16, Cert.CallFrames.kernel16Ideal, Cert.CallFrames.reference16Ideal,
    Cert.CallFrames.kernel17, Cert.CallFrames.kernel17Ideal, Cert.CallFrames.reference17Ideal,
    Cert.CallFrames.kernel18, Cert.CallFrames.kernel18Ideal, Cert.CallFrames.reference18Ideal,
    Cert.CallFrames.kernel19, Cert.CallFrames.kernel19Ideal, Cert.CallFrames.reference19Ideal,
    Cert.CallFrames.kernel20, Cert.CallFrames.kernel20Ideal, Cert.CallFrames.reference20Ideal,
    Cert.CallFrames.kernel21, Cert.CallFrames.kernel21Ideal, Cert.CallFrames.reference21Ideal,
    Cert.CallFrames.kernel22, Cert.CallFrames.kernel22Ideal, Cert.CallFrames.reference22Ideal,
    Cert.CallFrames.kernel23, Cert.CallFrames.kernel23Ideal, Cert.CallFrames.reference23Ideal,
    Cert.CallFrames.kernel24, Cert.CallFrames.kernel24Ideal, Cert.CallFrames.reference24Ideal,
    Cert.CallFrames.kernel25, Cert.CallFrames.kernel25Ideal, Cert.CallFrames.reference25Ideal,
    Cert.CallFrames.kernel26, Cert.CallFrames.kernel26Ideal, Cert.CallFrames.reference26Ideal,
    Cert.CallFrames.kernel27, Cert.CallFrames.kernel27Ideal, Cert.CallFrames.reference27Ideal,
    Cert.CallFrames.kernel28, Cert.CallFrames.kernel28Ideal, Cert.CallFrames.reference28Ideal,
    Cert.CallFrames.kernel29, Cert.CallFrames.kernel29Ideal, Cert.CallFrames.reference29Ideal,
    Cert.CallFrames.kernel30, Cert.CallFrames.kernel30Ideal, Cert.CallFrames.reference30Ideal,
    Cert.CallFrames.kernel31, Cert.CallFrames.kernel31Ideal, Cert.CallFrames.reference31Ideal,
    Cert.CallFrames.kernel32, Cert.CallFrames.kernel32Ideal, Cert.CallFrames.reference32Ideal,
    Cert.CallFrames.kernel33, Cert.CallFrames.kernel33Ideal, Cert.CallFrames.reference33Ideal,
    trivial, Cert.Algebraic.claim,
    trivial, Cert.alg2,
    trivial, Cert.alg3,
    trivial, Cert.alg4,
    trivial, Cert.alg5,
    trivial, Cert.alg6,
    trivial, Cert.alg7,
    trivial, Cert.alg8,
    trivial, Cert.alg9,
    trivial, Cert.alg10,
    trivial, Cert.alg11,
    trivial, Cert.alg12,
    trivial, Cert.alg13,
    trivial, Cert.alg14,
    trivial, Cert.alg15,
    trivial, Cert.alg16,
    trivial, Cert.alg17,
    trivial, Cert.alg18,
    trivial, Cert.alg19,
    trivial, Cert.alg20,
    trivial, Cert.alg21,
    trivial, Cert.alg22,
    trivial, Cert.alg23,
    trivial, Cert.alg24,
    trivial, Cert.alg25,
    trivial, Cert.alg26,
    trivial, Cert.alg27,
    trivial, Cert.alg28,
    trivial, Cert.alg29,
    trivial, Cert.alg30,
    trivial, Cert.alg31,
    trivial, Cert.alg32,
    trivial, Cert.alg33⟩

end Cert.Proof

end
